-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresReferenceIdeal (m : (ℓ : Loc Cert.ScoresReferenceIdeal.nD Cert.ScoresReferenceIdeal.τ Cert.ScoresReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_norm_in_range [hPre_norm_in_range : Cert.Pre_norm_in_range.Facts] (m : (ℓ : Loc Cert.QkvIdeal.nD Cert.QkvIdeal.τ Cert.QkvIdeal.sig) → Buf (Elt Ideal) ℓ) : Prop :=
  ∀ c : Dev Cert.QkvIdeal.nD,
    (Cert.Pre_norm_in_range.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_norm_in_range [hPre_norm_in_range : Cert.Pre_norm_in_range.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_norm_in_range.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvIdeal_pre_norm_in_range [hQkvIdeal : Cert.QkvIdeal.Facts] [hPre_norm_in_range : Cert.Pre_norm_in_range.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_norm_in_range m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def quiescent_NormReferenceIdeal_pre_norm_in_range [hNormReferenceIdeal : Cert.NormReferenceIdeal.Facts] [hPre_norm_in_range : Cert.Pre_norm_in_range.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_norm_in_range m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def preserves_Kernel_KernelIdeal : Prop :=
  True

def algebraic_KernelIdeal_ReferenceIdeal_on_attn_only [hKernelIdeal : Cert.KernelIdeal.Facts] [hReferenceIdeal : Cert.ReferenceIdeal.Facts] [hOn_attn_only : Cert.On_attn_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![3968, 4096]⟩ : Shape).Idx, (Cert.On_attn_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v1_0) i = v0 c i)
          ∧ (∀ i : (⟨2, ![3968, 4096]⟩ : Shape).Idx, (Cert.On_attn_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v1_1) i = v1 c i)
          ∧ (∀ i : (⟨3, ![2, 3968, 16]⟩ : Shape).Idx, (Cert.On_attn_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.KernelIdeal.nD Cert.KernelIdeal.τ).loc Cert.KernelIdeal.main_v1_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![3968, 4096]⟩ : Shape).Idx, (Cert.On_attn_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v0_0) i = v0 c i)
          ∧ (∀ i : (⟨2, ![3968, 4096]⟩ : Shape).Idx, (Cert.On_attn_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v0_1) i = v1 c i)
          ∧ (∀ i : (⟨3, ![2, 3968, 16]⟩ : Shape).Idx, (Cert.On_attn_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.ReferenceIdeal.nD Cert.ReferenceIdeal.τ).loc Cert.ReferenceIdeal.main_v0_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_Scores_ScoresIdeal : Prop :=
  True

def algebraic_ScoresIdeal_ScoresReferenceIdeal [hScoresIdeal : Cert.ScoresIdeal.Facts] [hScoresReferenceIdeal : Cert.ScoresReferenceIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)
      ∧ m' ((c.tc : Thread Cert.ScoresReferenceIdeal.nD Cert.ScoresReferenceIdeal.τ).loc Cert.ScoresReferenceIdeal.main_arg1) = m ((c.tc : Thread Cert.ScoresIdeal.nD Cert.ScoresIdeal.τ).loc Cert.ScoresIdeal.main_arg1)
      ∧ m' ((c.tc : Thread Cert.ScoresReferenceIdeal.nD Cert.ScoresReferenceIdeal.τ).loc Cert.ScoresReferenceIdeal.main_arg2) = m ((c.tc : Thread Cert.ScoresIdeal.nD Cert.ScoresIdeal.τ).loc Cert.ScoresIdeal.main_arg2)) →
    ∃ (v0 : (c : Dev Cert.ScoresIdeal.nD) → Buf (Elt Ideal) ((c.tc : Thread Cert.ScoresIdeal.nD Cert.ScoresIdeal.τ).loc Cert.ScoresIdeal.main_v0)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v0) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v0) = v0 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1)
          ∧ r.2.mem ((c.tc : Thread Cert.ScoresReferenceIdeal.nD Cert.ScoresReferenceIdeal.τ).loc Cert.ScoresReferenceIdeal.main_arg2) = m' ((c.tc : Thread Cert.ScoresReferenceIdeal.nD Cert.ScoresReferenceIdeal.τ).loc Cert.ScoresReferenceIdeal.main_arg2))

def preserves_Qkv_QkvIdeal : Prop :=
  True

def algebraic_QkvIdeal_NormReferenceIdeal_pre_norm_in_range [hQkvIdeal : Cert.QkvIdeal.Facts] [hNormReferenceIdeal : Cert.NormReferenceIdeal.Facts] [hPre_norm_in_range : Cert.Pre_norm_in_range.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_QkvIdeal_norm_in_range m →
    (∀ c : Dev Cert.QkvIdeal.nD,
      m' ((c.tc : Thread Cert.NormReferenceIdeal.nD Cert.NormReferenceIdeal.τ).loc Cert.NormReferenceIdeal.main_arg0) = m ((c.tc : Thread Cert.QkvIdeal.nD Cert.QkvIdeal.τ).loc Cert.QkvIdeal.main_arg0)
      ∧ m' ((c.tc : Thread Cert.NormReferenceIdeal.nD Cert.NormReferenceIdeal.τ).loc Cert.NormReferenceIdeal.main_arg1) = m ((c.tc : Thread Cert.QkvIdeal.nD Cert.QkvIdeal.τ).loc Cert.QkvIdeal.main_arg1)
      ∧ m' ((c.tc : Thread Cert.NormReferenceIdeal.nD Cert.NormReferenceIdeal.τ).loc Cert.NormReferenceIdeal.main_arg2) = m ((c.tc : Thread Cert.QkvIdeal.nD Cert.QkvIdeal.τ).loc Cert.QkvIdeal.main_arg2)
      ∧ m' ((c.tc : Thread Cert.NormReferenceIdeal.nD Cert.NormReferenceIdeal.τ).loc Cert.NormReferenceIdeal.main_arg3) = m ((c.tc : Thread Cert.QkvIdeal.nD Cert.QkvIdeal.τ).loc Cert.QkvIdeal.main_arg3)
      ∧ m' ((c.tc : Thread Cert.NormReferenceIdeal.nD Cert.NormReferenceIdeal.τ).loc Cert.NormReferenceIdeal.main_arg4) = m ((c.tc : Thread Cert.QkvIdeal.nD Cert.QkvIdeal.τ).loc Cert.QkvIdeal.main_arg4)
      ∧ m' ((c.tc : Thread Cert.NormReferenceIdeal.nD Cert.NormReferenceIdeal.τ).loc Cert.NormReferenceIdeal.main_arg5) = m ((c.tc : Thread Cert.QkvIdeal.nD Cert.QkvIdeal.τ).loc Cert.QkvIdeal.main_arg5)
      ∧ m' ((c.tc : Thread Cert.NormReferenceIdeal.nD Cert.NormReferenceIdeal.τ).loc Cert.NormReferenceIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v0_0) = v0 c
          ∧ r.2.mem ((c.tc : Thread Cert.NormReferenceIdeal.nD Cert.NormReferenceIdeal.τ).loc Cert.NormReferenceIdeal.main_v0_1) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5)
          ∧ r.2.mem ((c.tc : Thread Cert.NormReferenceIdeal.nD Cert.NormReferenceIdeal.τ).loc Cert.NormReferenceIdeal.main_arg6) = m' ((c.tc : Thread Cert.NormReferenceIdeal.nD Cert.NormReferenceIdeal.τ).loc Cert.NormReferenceIdeal.main_arg6))

def Claim : Prop :=
  ∃ (hKernel : Cert.Kernel.Facts) (hKernelIdeal : Cert.KernelIdeal.Facts) (hReferenceIdeal : Cert.ReferenceIdeal.Facts) (hOut : Cert.Out.Facts) (hOutIdeal : Cert.OutIdeal.Facts) (hOutReferenceIdeal : Cert.OutReferenceIdeal.Facts) (hScores : Cert.Scores.Facts) (hScoresIdeal : Cert.ScoresIdeal.Facts) (hScoresReferenceIdeal : Cert.ScoresReferenceIdeal.Facts) (hQkv : Cert.Qkv.Facts) (hQkvIdeal : Cert.QkvIdeal.Facts) (hNormReferenceIdeal : Cert.NormReferenceIdeal.Facts) (hPre_in_range : Cert.Pre_in_range.Facts) (hPre_norm_in_range : Cert.Pre_norm_in_range.Facts) (hOn_attn_only : Cert.On_attn_only.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Out (hOut := hOut)
    ∧ quiescent_OutIdeal (hOutIdeal := hOutIdeal)
    ∧ quiescent_OutReferenceIdeal (hOutReferenceIdeal := hOutReferenceIdeal)
    ∧ quiescent_Scores (hScores := hScores)
    ∧ quiescent_ScoresIdeal (hScoresIdeal := hScoresIdeal)
    ∧ quiescent_ScoresReferenceIdeal (hScoresReferenceIdeal := hScoresReferenceIdeal)
    ∧ quiescent_Qkv (hQkv := hQkv)
    ∧ quiescent_QkvIdeal (hQkvIdeal := hQkvIdeal)
    ∧ quiescent_QkvIdeal_pre_norm_in_range (hQkvIdeal := hQkvIdeal) (hPre_norm_in_range := hPre_norm_in_range)
    ∧ quiescent_NormReferenceIdeal (hNormReferenceIdeal := hNormReferenceIdeal)
    ∧ quiescent_NormReferenceIdeal_pre_norm_in_range (hNormReferenceIdeal := hNormReferenceIdeal) (hPre_norm_in_range := hPre_norm_in_range)
    ∧ preserves_Kernel_KernelIdeal
    ∧ algebraic_KernelIdeal_ReferenceIdeal_on_attn_only (hKernelIdeal := hKernelIdeal) (hReferenceIdeal := hReferenceIdeal) (hOn_attn_only := hOn_attn_only)
    ∧ algebraic_KernelIdeal_ReferenceIdeal_pre_in_range (hKernelIdeal := hKernelIdeal) (hReferenceIdeal := hReferenceIdeal) (hPre_in_range := hPre_in_range)
    ∧ preserves_Out_OutIdeal
    ∧ algebraic_OutIdeal_OutReferenceIdeal (hOutIdeal := hOutIdeal) (hOutReferenceIdeal := hOutReferenceIdeal)
    ∧ preserves_Scores_ScoresIdeal
    ∧ algebraic_ScoresIdeal_ScoresReferenceIdeal (hScoresIdeal := hScoresIdeal) (hScoresReferenceIdeal := hScoresReferenceIdeal)
    ∧ preserves_Qkv_QkvIdeal
    ∧ algebraic_QkvIdeal_NormReferenceIdeal_pre_norm_in_range (hQkvIdeal := hQkvIdeal) (hNormReferenceIdeal := hNormReferenceIdeal) (hPre_norm_in_range := hPre_norm_in_range)
-- ==== On_attn_only.lean ====
abbrev S3968x4096 : Shape := ⟨2, ![3968, 4096]⟩
abbrev S2x8448x128 : Shape := ⟨3, ![2, 8448, 128]⟩
abbrev S2x128x8448 : Shape := ⟨3, ![2, 128, 8448]⟩
abbrev S2x8448x1 : Shape := ⟨3, ![2, 8448, 1]⟩
abbrev S2x136x3968 : Shape := ⟨3, ![2, 136, 3968]⟩
abbrev S_ : Shape := ⟨0, ![]⟩
abbrev S2x3968x16 : Shape := ⟨3, ![2, 3968, 16]⟩

class Facts : Prop where
  bcast_S_S3968x4096 : S_.BroadcastsInDim S3968x4096 (![] : Fin 0 → Fin S3968x4096.rank)
  bcast_S_S2x3968x16 : S_.BroadcastsInDim S2x3968x16 (![] : Fin 0 → Fin S2x3968x16.rank)

variable [Facts]

def fn {F : FTy → Type} [FloatOps F] (main_arg0 : FVec F S3968x4096 .bf16) (main_arg1 : FVec F S2x8448x128 .bf16) (main_arg2 : FVec F S2x128x8448 .bf16) (main_arg3 : FVec F S2x8448x1 .f32) (main_arg4 : FVec F S2x8448x1 .f32) (main_arg5 : FVec F S2x136x3968 .f32) : IVec S3968x4096 1 × IVec S3968x4096 1 × IVec S2x3968x16 1 :=
  let main_c : IVec S_ 1 := constantI S_ 1 1#1
  let main_v0 : IVec S3968x4096 1 := broadcastInDim S3968x4096 ![] bcast_S_S3968x4096 main_c
  let main_c_0 : IVec S_ 1 := constantI S_ 1 0#1
  let main_v1 : IVec S3968x4096 1 := broadcastInDim S3968x4096 ![] bcast_S_S3968x4096 main_c_0
  let main_c_1 : IVec S_ 1 := constantI S_ 1 0#1
  let main_v2 : IVec S2x3968x16 1 := broadcastInDim S2x3968x16 ![] bcast_S_S2x3968x16 main_c_1
  (main_v0, main_v1, main_v2)
-- ==== Pre_in_range.lean ====
abbrev S3968x4096 : Shape := ⟨2, ![3968, 4096]⟩
abbrev S2x8448x128 : Shape := ⟨3, ![2, 8448, 128]⟩
abbrev S2x128x8448 : Shape := ⟨3, ![2, 128, 8448]⟩
abbrev S2x8448x1 : Shape := ⟨3, ![2, 8448, 1]⟩
abbrev S2x136x3968 : Shape := ⟨3, ![2, 136, 3968]⟩
abbrev S_ : Shape := ⟨0, ![]⟩

class Facts : Prop where
  bcast_S_S3968x4096 : S_.BroadcastsInDim S3968x4096 (![] : Fin 0 → Fin S3968x4096.rank)
  bcast_S_S2x8448x128 : S_.BroadcastsInDim S2x8448x128 (![] : Fin 0 → Fin S2x8448x128.rank)
  bcast_S_S2x128x8448 : S_.BroadcastsInDim S2x128x8448 (![] : Fin 0 → Fin S2x128x8448.rank)
  bcast_S_S2x8448x1 : S_.BroadcastsInDim S2x8448x1 (![] : Fin 0 → Fin S2x8448x1.rank)

variable [Facts]

def fn {F : FTy → Type} [FloatOps F] (main_arg0 : FVec F S3968x4096 .bf16) (main_arg1 : FVec F S2x8448x128 .bf16) (main_arg2 : FVec F S2x128x8448 .bf16) (main_arg3 : FVec F S2x8448x1 .f32) (main_arg4 : FVec F S2x8448x1 .f32) (main_arg5 : FVec F S2x136x3968 .f32) : IVec S3968x4096 1 × IVec S2x8448x128 1 × IVec S2x128x8448 1 × IVec S2x8448x1 1 × IVec S2x8448x1 1 :=
  let main_v0 : FVec F S3968x4096 .bf16 := Host.absf main_arg0
  let main_cst : FVec F S_ .bf16 := constant S_ .bf16 0x7F80#16
  let main_v1 : FVec F S3968x4096 .bf16 := broadcastInDim S3968x4096 ![] bcast_S_S3968x4096 main_cst
  let main_v2 : IVec S3968x4096 1 := cmpf .olt main_v0 main_v1
  let main_v3 : FVec F S2x8448x128 .bf16 := Host.absf main_arg1
  let main_cst_0 : FVec F S_ .bf16 := constant S_ .bf16 0x7F80#16
  let main_v4 : FVec F S2x8448x128 .bf16 := broadcastInDim S2x8448x128 ![] bcast_S_S2x8448x128 main_cst_0
  let main_v5 : IVec S2x8448x128 1 := cmpf .olt main_v3 main_v4
  let main_v6 : FVec F S2x128x8448 .bf16 := Host.absf main_arg2
  let main_cst_1 : FVec F S_ .bf16 := constant S_ .bf16 0x43E0#16
  let main_v7 : FVec F S2x128x8448 .bf16 := broadcastInDim S2x128x8448 ![] bcast_S_S2x128x8448 main_cst_1
  let main_v8 : IVec S2x128x8448 1 := cmpf .ole main_v6 main_v7
  let main_v9 : FVec F S2x8448x1 .f32 := Host.absf main_arg3
  let main_cst_2 : FVec F S_ .f32 := constant S_ .f32 0x7F800000#32
  let main_v10 : FVec F S2x8448x1 .f32 := broadcastInDim S2x8448x1 ![] bcast_S_S2x8448x1 main_cst_2
  let main_v11 : IVec S2x8448x1 1 := cmpf .olt main_v9 main_v10
  let main_v12 : FVec F S2x8448x1 .f32 := Host.absf main_arg4
  let main_cst_3 : FVec F S_ .f32 := constant S_ .f32 0x7E000000#32
  let main_v13 : FVec F S2x8448x1 .f32 := broadcastInDim S2x8448x1 ![] bcast_S_S2x8448x1 main_cst_3
  let main_v14 : IVec S2x8448x1 1 := cmpf .ole main_v12 main_v13
  (main_v2, main_v5, main_v8, main_v11, main_v14)
-- ==== Pre_norm_in_range.lean ====
abbrev S3968x3584 : Shape := ⟨2, ![3968, 3584]⟩
abbrev S1x3584 : Shape := ⟨2, ![1, 3584]⟩
abbrev S3584x4608 : Shape := ⟨2, ![3584, 4608]⟩
abbrev S28x4608 : Shape := ⟨2, ![28, 4608]⟩
abbrev S3968x128 : Shape := ⟨2, ![3968, 128]⟩
abbrev S2x128 : Shape := ⟨2, ![2, 128]⟩
abbrev S_ : Shape := ⟨0, ![]⟩

class Facts : Prop where
  bcast_S_S1x3584 : S_.BroadcastsInDim S1x3584 (![] : Fin 0 → Fin S1x3584.rank)

variable [Facts]

def fn {F : FTy → Type} [FloatOps F] (main_arg0 : FVec F S3968x3584 .bf16) (main_arg1 : FVec F S1x3584 .f32) (main_arg2 : FVec F S3584x4608 .fp8e4m3) (main_arg3 : FVec F S28x4608 .f32) (main_arg4 : FVec F S3968x128 .f32) (main_arg5 : FVec F S3968x128 .f32) (main_arg6 : FVec F S2x128 .f32) : IVec S1x3584 1 :=
  let main_v0 : FVec F S1x3584 .f32 := Host.absf main_arg1
  let main_cst : FVec F S_ .f32 := constant S_ .f32 0x7F7FFFFF#32
  let main_v1 : FVec F S1x3584 .f32 := broadcastInDim S1x3584 ![] bcast_S_S1x3584 main_cst
  let main_v2 : IVec S1x3584 1 := cmpf .ole main_v0 main_v1
  main_v2
-- ==== Kernel.lean ====
abbrev S3968x4096 : Shape := ⟨2, ![3968, 4096]⟩
abbrev S2x8448x128 : Shape := ⟨3, ![2, 8448, 128]⟩
abbrev S2x128x8448 : Shape := ⟨3, ![2, 128, 8448]⟩
abbrev S2x8448x1 : Shape := ⟨3, ![2, 8448, 1]⟩
abbrev S2x136x3968 : Shape := ⟨3, ![2, 136, 3968]⟩
abbrev S62 : Shape := ⟨1, ![62]⟩
abbrev S2x3968x16 : Shape := ⟨3, ![2, 3968, 16]⟩
abbrev S128x2048 : Shape := ⟨2, ![128, 2048]⟩
abbrev S1 : Shape := ⟨1, ![1]⟩
abbrev S1x8448x128 : Shape := ⟨3, ![1, 8448, 128]⟩
abbrev S1x128x8448 : Shape := ⟨3, ![1, 128, 8448]⟩
abbrev S1x8448x1 : Shape := ⟨3, ![1, 8448, 1]⟩
abbrev S1x136x128 : Shape := ⟨3, ![1, 136, 128]⟩
abbrev S1x128x16 : Shape := ⟨3, ![1, 128, 16]⟩
abbrev S16x128 : Shape := ⟨2, ![16, 128]⟩
abbrev S16x128x128 : Shape := ⟨3, ![16, 128, 128]⟩
abbrev S256x128 : Shape := ⟨2, ![256, 128]⟩
abbrev S1x256x128 : Shape := ⟨3, ![1, 256, 128]⟩
abbrev S1x128x256 : Shape := ⟨3, ![1, 128, 256]⟩
abbrev S128x256 : Shape := ⟨2, ![128, 256]⟩
abbrev S1x256x1 : Shape := ⟨3, ![1, 256, 1]⟩
abbrev S256x1 : Shape := ⟨2, ![256, 1]⟩
abbrev S1x1x128 : Shape := ⟨3, ![1, 1, 128]⟩
abbrev S1x128 : Shape := ⟨2, ![1, 128]⟩
abbrev S64x128 : Shape := ⟨2, ![64, 128]⟩
abbrev S128x128 : Shape := ⟨2, ![128, 128]⟩
abbrev S128 : Shape := ⟨1, ![128]⟩
abbrev S1x128x128 : Shape := ⟨3, ![1, 128, 128]⟩
abbrev S128x1 : Shape := ⟨2, ![128, 1]⟩
abbrev S1x128x1 : Shape := ⟨3, ![1, 128, 1]⟩

abbrev nBuf : Space → Nat
  | .hbm => 9
  | .vmem => 21
  | .smem => 1
  | _ => 0

abbrev bufTy : (tb : Table) → Fin (tcTables nBuf tb) → BufTy
  | .hbm, ⟨0, _⟩ => ⟨S3968x4096, .bf16⟩
  | .hbm, ⟨1, _⟩ => ⟨S2x8448x128, .bf16⟩
  | .hbm, ⟨2, _⟩ => ⟨S2x128x8448, .bf16⟩
  | .hbm, ⟨3, _⟩ => ⟨S2x8448x1, .f32⟩
  | .hbm, ⟨4, _⟩ => ⟨S2x8448x1, .f32⟩
  | .hbm, ⟨5, _⟩ => ⟨S2x136x3968, .f32⟩
  | .hbm, ⟨6, _⟩ => ⟨S3968x4096, .bf16⟩
  | .hbm, ⟨7, _⟩ => ⟨S3968x4096, .fp8e4m3⟩
  | .hbm, ⟨8, _⟩ => ⟨S2x3968x16, .f32⟩
  | .local _ .vmem, ⟨0, _⟩ => ⟨S128x2048, .bf16⟩
  | .local _ .vmem, ⟨1, _⟩ => ⟨S128x2048, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x128x8448, .bf16⟩
  | .local _ .vmem, ⟨5, _⟩ => ⟨S1x128x8448, .bf16⟩
  | .local _ .vmem, ⟨6, _⟩ => ⟨S1x8448x1, .f32⟩
  | .local _ .vmem, ⟨7, _⟩ => ⟨S1x8448x1, .f32⟩
  | .local _ .vmem, ⟨8, _⟩ => ⟨S1x8448x1, .f32⟩
  | .local _ .vmem, ⟨9, _⟩ => ⟨S1x8448x1, .f32⟩
  | .local _ .vmem, ⟨10, _⟩ => ⟨S1x136x128, .f32⟩
  | .local _ .vmem, ⟨11, _⟩ => ⟨S1x136x128, .f32⟩
  | .local _ .vmem, ⟨12, _⟩ => ⟨S128x2048, .bf16⟩
  | .local _ .vmem, ⟨13, _⟩ => ⟨S128x2048, .bf16⟩
  | .local _ .vmem, ⟨14, _⟩ => ⟨S128x2048, .fp8e4m3⟩
  | .local _ .vmem, ⟨15, _⟩ => ⟨S128x2048, .fp8e4m3⟩
  | .local _ .vmem, ⟨16, _⟩ => ⟨S1x128x16, .f32⟩
  | .local _ .vmem, ⟨17, _⟩ => ⟨S1x128x16, .f32⟩
  | .local _ .vmem, ⟨18, _⟩ => ⟨S16x128, .f32⟩
  | .local _ .vmem, ⟨19, _⟩ => ⟨S16x128, .f32⟩
  | .local _ .vmem, ⟨20, _⟩ => ⟨S16x128x128, .f32⟩
  | .local _ .smem, ⟨0, _⟩ => ⟨S62, .i32⟩
  | _, _ => ⟨S3968x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![62], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_20 : BitVec 32 := 0#32
  let c4352_i32 : BitVec 32 := 4352#32
  let c31_i32 : BitVec 32 := 31#32
  let c0_i32 : BitVec 32 := 0#32
  let v2 : BitVec 1 := Scalar.cmpi .eq c31_i32 c0_i32
  let c1_i32 : BitVec 32 := 1#32
  let v3 : BitVec 32 := Scalar.select v2 c1_i32 c31_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v12 : BitVec 32 := Scalar.muli v11 c128_i32
  let v13 : BitVec 32 := Scalar.addi c4352_i32 v12
  let c128_i32_11 : BitVec 32 := 128#32
  let v29 : BitVec 32 := Scalar.addi v13 c128_i32_11
  let c256_i32 : BitVec 32 := 256#32
  let v30 : BitVec 32 := Scalar.addi v29 c256_i32
  let c1_i32_12 : BitVec 32 := 1#32
  let v31 : BitVec 32 := Scalar.subi v30 c1_i32_12
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c256_i32_13 : BitVec 32 := 256#32
  let c0_i32_16 : BitVec 32 := 0#32
  let v38 : BitVec 1 := Scalar.cmpi .sgt c256_i32_13 c0_i32_16
  let v39 : BitVec 32 := Scalar.extui v38
  let c0_i32_17 : BitVec 32 := 0#32
  let v40 : BitVec 1 := Scalar.cmpi .slt c256_i32_13 c0_i32_17
  let v41 : BitVec 32 := Scalar.extui v40
  let v42 : BitVec 32 := Scalar.subi v39 v41
  let v43 : BitVec 1 := Scalar.cmpi .ne v37 v42
  let v44 : BitVec 32 := Scalar.remsi v31 c256_i32_13
  let c0_i32_18 : BitVec 32 := 0#32
  let v45 : BitVec 1 := Scalar.cmpi .ne v44 c0_i32_18
  let v46 : BitVec 1 := Scalar.andi v43 v45
  let v32 : BitVec 32 := Scalar.divsi v31 c256_i32_13
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_22 : BitVec 32 := 1#32
  let v51 : BitVec 32 := Scalar.divsi v49 c1_i32_22
  let v52 : BitVec 32 := Scalar.muli v51 c1_i32_22
  let v53 : BitVec 32 := Scalar.addi c0_i32_20 v52
  let c1_i32_23 : BitVec 32 := 1#32
  ⟨c0_i32_20, v53, c1_i32_23⟩

def k0_mult1 (v1 : BitVec 32) (k0_t1 : Fin (k0_t1_loop v1).trips) : BitVec 32 :=
  let c0_i32_20 : BitVec 32 := 0#32
  let c1_i32_23 : BitVec 32 := 1#32
  let arg14 : BitVec 32 := Scf.iv c0_i32_20 c1_i32_23 k0_t1
  let c256_i32_408 : BitVec 32 := 256#32
  let v872 : BitVec 32 := Scalar.muli arg14 c256_i32_408
  v872
def k0_off2 (v1 : BitVec 32) (k0_t1 : Fin (k0_t1_loop v1).trips) : Fin 3 → Nat :=
  let c0_409 : Index := 0#32
  let c0_i32_20 : BitVec 32 := 0#32
  let c1_i32_23 : BitVec 32 := 1#32
  let arg14 : BitVec 32 := Scf.iv c0_i32_20 c1_i32_23 k0_t1
  let c256_i32_408 : BitVec 32 := 256#32
  let v872 : BitVec 32 := Scalar.muli arg14 c256_i32_408
  let v873 : BitVec 32 := v872
  let v874 : Index := Scalar.indexCast v873
  let c0_410 : Index := 0#32
  ![0, v874.toNat, 0]
def k0_off3 (v1 : BitVec 32) (k0_t1 : Fin (k0_t1_loop v1).trips) : Fin 3 → Nat :=
  let c0_411 : Index := 0#32
  let c0_412 : Index := 0#32
  let c0_i32_20 : BitVec 32 := 0#32
  let c1_i32_23 : BitVec 32 := 1#32
  let arg14 : BitVec 32 := Scf.iv c0_i32_20 c1_i32_23 k0_t1
  let c256_i32_408 : BitVec 32 := 256#32
  let v872 : BitVec 32 := Scalar.muli arg14 c256_i32_408
  let v873 : BitVec 32 := v872
  let v877 : Index := Scalar.indexCast v873
  ![0, 0, v877.toNat]
def k0_off4 (v1 : BitVec 32) (k0_t1 : Fin (k0_t1_loop v1).trips) : Fin 3 → Nat :=
  let c0_413 : Index := 0#32
  let c0_i32_20 : BitVec 32 := 0#32
  let c1_i32_23 : BitVec 32 := 1#32
  let arg14 : BitVec 32 := Scf.iv c0_i32_20 c1_i32_23 k0_t1
  let c256_i32_408 : BitVec 32 := 256#32
  let v872 : BitVec 32 := Scalar.muli arg14 c256_i32_408
  let v873 : BitVec 32 := v872
  let v880 : Index := Scalar.indexCast v873
  let c0_414 : Index := 0#32
  ![0, v880.toNat, 0]
def k0_off5 (v1 : BitVec 32) (k0_t1 : Fin (k0_t1_loop v1).trips) (c0_i32_417 : BitVec 32) : Fin 3 → Nat :=
  let c0_418 : Index := 0#32
  let c0_i32_20 : BitVec 32 := 0#32
  let c1_i32_23 : BitVec 32 := 1#32
  let arg14 : BitVec 32 := Scf.iv c0_i32_20 c1_i32_23 k0_t1
  let c4_i32 : BitVec 32 := 4#32
  let v889 : BitVec 32 := Scalar.muli arg14 c4_i32
  let v890 : BitVec 32 := Scalar.addi v889 c0_i32_417
  let v891 : Index := Scalar.indexCast v890
  let c0_419 : Index := 0#32
  ![0, v891.toNat, 0]
@[reducible] def k0_t2_loop (v1 : BitVec 32) : Scf.Loop 32 :=
  let c0_i32_20 : BitVec 32 := 0#32
  let c4352_i32 : BitVec 32 := 4352#32
  let c31_i32 : BitVec 32 := 31#32
  let c0_i32 : BitVec 32 := 0#32
  let v2 : BitVec 1 := Scalar.cmpi .eq c31_i32 c0_i32
  let c1_i32 : BitVec 32 := 1#32
  let v3 : BitVec 32 := Scalar.select v2 c1_i32 c31_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v12 : BitVec 32 := Scalar.muli v11 c128_i32
  let v13 : BitVec 32 := Scalar.addi c4352_i32 v12
  let c128_i32_11 : BitVec 32 := 128#32
  let v29 : BitVec 32 := Scalar.addi v13 c128_i32_11
  let c256_i32 : BitVec 32 := 256#32
  let v30 : BitVec 32 := Scalar.addi v29 c256_i32
  let c1_i32_12 : BitVec 32 := 1#32
  let v31 : BitVec 32 := Scalar.subi v30 c1_i32_12
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c256_i32_13 : BitVec 32 := 256#32
  let c0_i32_16 : BitVec 32 := 0#32
  let v38 : BitVec 1 := Scalar.cmpi .sgt c256_i32_13 c0_i32_16
  let v39 : BitVec 32 := Scalar.extui v38
  let c0_i32_17 : BitVec 32 := 0#32
  let v40 : BitVec 1 := Scalar.cmpi .slt c256_i32_13 c0_i32_17
  let v41 : BitVec 32 := Scalar.extui v40
  let v42 : BitVec 32 := Scalar.subi v39 v41
  let v43 : BitVec 1 := Scalar.cmpi .ne v37 v42
  let v44 : BitVec 32 := Scalar.remsi v31 c256_i32_13
  let c0_i32_18 : BitVec 32 := 0#32
  let v45 : BitVec 1 := Scalar.cmpi .ne v44 c0_i32_18
  let v46 : BitVec 1 := Scalar.andi v43 v45
  let v32 : BitVec 32 := Scalar.divsi v31 c256_i32_13
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_22 : BitVec 32 := 1#32
  let v51 : BitVec 32 := Scalar.divsi v49 c1_i32_22
  let v52 : BitVec 32 := Scalar.muli v51 c1_i32_22
  let v53 : BitVec 32 := Scalar.addi c0_i32_20 v52
  let v50 : BitVec 32 := Scalar.addi c0_i32_20 v49
  let c1_i32_24 : BitVec 32 := 1#32
  ⟨v53, v50, c1_i32_24⟩
def k0_mult2 (v1 : BitVec 32) (k0_t2 : Fin (k0_t2_loop v1).trips) : BitVec 32 :=
  let c0_i32_20 : BitVec 32 := 0#32
  let c4352_i32 : BitVec 32 := 4352#32
  let c31_i32 : BitVec 32 := 31#32
  let c0_i32 : BitVec 32 := 0#32
  let v2 : BitVec 1 := Scalar.cmpi .eq c31_i32 c0_i32
  let c1_i32 : BitVec 32 := 1#32
  let v3 : BitVec 32 := Scalar.select v2 c1_i32 c31_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v12 : BitVec 32 := Scalar.muli v11 c128_i32
  let v13 : BitVec 32 := Scalar.addi c4352_i32 v12
  let c128_i32_11 : BitVec 32 := 128#32
  let v29 : BitVec 32 := Scalar.addi v13 c128_i32_11
  let c256_i32 : BitVec 32 := 256#32
  let v30 : BitVec 32 := Scalar.addi v29 c256_i32
  let c1_i32_12 : BitVec 32 := 1#32
  let v31 : BitVec 32 := Scalar.subi v30 c1_i32_12
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c256_i32_13 : BitVec 32 := 256#32
  let c0_i32_16 : BitVec 32 := 0#32
  let v38 : BitVec 1 := Scalar.cmpi .sgt c256_i32_13 c0_i32_16
  let v39 : BitVec 32 := Scalar.extui v38
  let c0_i32_17 : BitVec 32 := 0#32
  let v40 : BitVec 1 := Scalar.cmpi .slt c256_i32_13 c0_i32_17
  let v41 : BitVec 32 := Scalar.extui v40
  let v42 : BitVec 32 := Scalar.subi v39 v41
  let v43 : BitVec 1 := Scalar.cmpi .ne v37 v42
  let v44 : BitVec 32 := Scalar.remsi v31 c256_i32_13
  let c0_i32_18 : BitVec 32 := 0#32
  let v45 : BitVec 1 := Scalar.cmpi .ne v44 c0_i32_18
  let v46 : BitVec 1 := Scalar.andi v43 v45
  let v32 : BitVec 32 := Scalar.divsi v31 c256_i32_13
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_22 : BitVec 32 := 1#32
  let v51 : BitVec 32 := Scalar.divsi v49 c1_i32_22
  let v52 : BitVec 32 := Scalar.muli v51 c1_i32_22
  let v53 : BitVec 32 := Scalar.addi c0_i32_20 v52
  let c1_i32_24 : BitVec 32 := 1#32
  let arg14 : BitVec 32 := Scf.iv v53 c1_i32_24 k0_t2
  let c256_i32_408 : BitVec 32 := 256#32
  let v872 : BitVec 32 := Scalar.muli arg14 c256_i32_408
  v872
def k0_off6 (v1 : BitVec 32) (k0_t2 : Fin (k0_t2_loop v1).trips) : Fin 3 → Nat :=
  let c0_409 : Index := 0#32
  let c0_i32_20 : BitVec 32 := 0#32
  let c4352_i32 : BitVec 32 := 4352#32
  let c31_i32 : BitVec 32 := 31#32
  let c0_i32 : BitVec 32 := 0#32
  let v2 : BitVec 1 := Scalar.cmpi .eq c31_i32 c0_i32
  let c1_i32 : BitVec 32 := 1#32
  let v3 : BitVec 32 := Scalar.select v2 c1_i32 c31_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v12 : BitVec 32 := Scalar.muli v11 c128_i32
  let v13 : BitVec 32 := Scalar.addi c4352_i32 v12
  let c128_i32_11 : BitVec 32 := 128#32
  let v29 : BitVec 32 := Scalar.addi v13 c128_i32_11
  let c256_i32 : BitVec 32 := 256#32
  let v30 : BitVec 32 := Scalar.addi v29 c256_i32
  let c1_i32_12 : BitVec 32 := 1#32
  let v31 : BitVec 32 := Scalar.subi v30 c1_i32_12
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c256_i32_13 : BitVec 32 := 256#32
  let c0_i32_16 : BitVec 32 := 0#32
  let v38 : BitVec 1 := Scalar.cmpi .sgt c256_i32_13 c0_i32_16
  let v39 : BitVec 32 := Scalar.extui v38
  let c0_i32_17 : BitVec 32 := 0#32
  let v40 : BitVec 1 := Scalar.cmpi .slt c256_i32_13 c0_i32_17
  let v41 : BitVec 32 := Scalar.extui v40
  let v42 : BitVec 32 := Scalar.subi v39 v41
  let v43 : BitVec 1 := Scalar.cmpi .ne v37 v42
  let v44 : BitVec 32 := Scalar.remsi v31 c256_i32_13
  let c0_i32_18 : BitVec 32 := 0#32
  let v45 : BitVec 1 := Scalar.cmpi .ne v44 c0_i32_18
  let v46 : BitVec 1 := Scalar.andi v43 v45
  let v32 : BitVec 32 := Scalar.divsi v31 c256_i32_13
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_22 : BitVec 32 := 1#32
  let v51 : BitVec 32 := Scalar.divsi v49 c1_i32_22
  let v52 : BitVec 32 := Scalar.muli v51 c1_i32_22
  let v53 : BitVec 32 := Scalar.addi c0_i32_20 v52
  let c1_i32_24 : BitVec 32 := 1#32
  let arg14 : BitVec 32 := Scf.iv v53 c1_i32_24 k0_t2
  let c256_i32_408 : BitVec 32 := 256#32
  let v872 : BitVec 32 := Scalar.muli arg14 c256_i32_408
  let v873 : BitVec 32 := v872
  let v874 : Index := Scalar.indexCast v873
  let c0_410 : Index := 0#32
  ![0, v874.toNat, 0]
def k0_off7 (v1 : BitVec 32) (k0_t2 : Fin (k0_t2_loop v1).trips) : Fin 3 → Nat :=
  let c0_411 : Index := 0#32
  let c0_412 : Index := 0#32
  let c0_i32_20 : BitVec 32 := 0#32
  let c4352_i32 : BitVec 32 := 4352#32
  let c31_i32 : BitVec 32 := 31#32
  let c0_i32 : BitVec 32 := 0#32
  let v2 : BitVec 1 := Scalar.cmpi .eq c31_i32 c0_i32
  let c1_i32 : BitVec 32 := 1#32
  let v3 : BitVec 32 := Scalar.select v2 c1_i32 c31_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v12 : BitVec 32 := Scalar.muli v11 c128_i32
  let v13 : BitVec 32 := Scalar.addi c4352_i32 v12
  let c128_i32_11 : BitVec 32 := 128#32
  let v29 : BitVec 32 := Scalar.addi v13 c128_i32_11
  let c256_i32 : BitVec 32 := 256#32
  let v30 : BitVec 32 := Scalar.addi v29 c256_i32
  let c1_i32_12 : BitVec 32 := 1#32
  let v31 : BitVec 32 := Scalar.subi v30 c1_i32_12
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c256_i32_13 : BitVec 32 := 256#32
  let c0_i32_16 : BitVec 32 := 0#32
  let v38 : BitVec 1 := Scalar.cmpi .sgt c256_i32_13 c0_i32_16
  let v39 : BitVec 32 := Scalar.extui v38
  let c0_i32_17 : BitVec 32 := 0#32
  let v40 : BitVec 1 := Scalar.cmpi .slt c256_i32_13 c0_i32_17
  let v41 : BitVec 32 := Scalar.extui v40
  let v42 : BitVec 32 := Scalar.subi v39 v41
  let v43 : BitVec 1 := Scalar.cmpi .ne v37 v42
  let v44 : BitVec 32 := Scalar.remsi v31 c256_i32_13
  let c0_i32_18 : BitVec 32 := 0#32
  let v45 : BitVec 1 := Scalar.cmpi .ne v44 c0_i32_18
  let v46 : BitVec 1 := Scalar.andi v43 v45
  let v32 : BitVec 32 := Scalar.divsi v31 c256_i32_13
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_22 : BitVec 32 := 1#32
  let v51 : BitVec 32 := Scalar.divsi v49 c1_i32_22
  let v52 : BitVec 32 := Scalar.muli v51 c1_i32_22
  let v53 : BitVec 32 := Scalar.addi c0_i32_20 v52
  let c1_i32_24 : BitVec 32 := 1#32
  let arg14 : BitVec 32 := Scf.iv v53 c1_i32_24 k0_t2
  let c256_i32_408 : BitVec 32 := 256#32
  let v872 : BitVec 32 := Scalar.muli arg14 c256_i32_408
  let v873 : BitVec 32 := v872
  let v877 : Index := Scalar.indexCast v873
  ![0, 0, v877.toNat]
def k0_off8 (v1 : BitVec 32) (k0_t2 : Fin (k0_t2_loop v1).trips) : Fin 3 → Nat :=
  let c0_413 : Index := 0#32
  let c0_i32_20 : BitVec 32 := 0#32
  let c4352_i32 : BitVec 32 := 4352#32
  let c31_i32 : BitVec 32 := 31#32
  let c0_i32 : BitVec 32 := 0#32
  let v2 : BitVec 1 := Scalar.cmpi .eq c31_i32 c0_i32
  let c1_i32 : BitVec 32 := 1#32
  let v3 : BitVec 32 := Scalar.select v2 c1_i32 c31_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v12 : BitVec 32 := Scalar.muli v11 c128_i32
  let v13 : BitVec 32 := Scalar.addi c4352_i32 v12
  let c128_i32_11 : BitVec 32 := 128#32
  let v29 : BitVec 32 := Scalar.addi v13 c128_i32_11
  let c256_i32 : BitVec 32 := 256#32
  let v30 : BitVec 32 := Scalar.addi v29 c256_i32
  let c1_i32_12 : BitVec 32 := 1#32
  let v31 : BitVec 32 := Scalar.subi v30 c1_i32_12
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c256_i32_13 : BitVec 32 := 256#32
  let c0_i32_16 : BitVec 32 := 0#32
  let v38 : BitVec 1 := Scalar.cmpi .sgt c256_i32_13 c0_i32_16
  let v39 : BitVec 32 := Scalar.extui v38
  let c0_i32_17 : BitVec 32 := 0#32
  let v40 : BitVec 1 := Scalar.cmpi .slt c256_i32_13 c0_i32_17
  let v41 : BitVec 32 := Scalar.extui v40
  let v42 : BitVec 32 := Scalar.subi v39 v41
  let v43 : BitVec 1 := Scalar.cmpi .ne v37 v42
  let v44 : BitVec 32 := Scalar.remsi v31 c256_i32_13
  let c0_i32_18 : BitVec 32 := 0#32
  let v45 : BitVec 1 := Scalar.cmpi .ne v44 c0_i32_18
  let v46 : BitVec 1 := Scalar.andi v43 v45
  let v32 : BitVec 32 := Scalar.divsi v31 c256_i32_13
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_22 : BitVec 32 := 1#32
  let v51 : BitVec 32 := Scalar.divsi v49 c1_i32_22
  let v52 : BitVec 32 := Scalar.muli v51 c1_i32_22
  let v53 : BitVec 32 := Scalar.addi c0_i32_20 v52
  let c1_i32_24 : BitVec 32 := 1#32
  let arg14 : BitVec 32 := Scf.iv v53 c1_i32_24 k0_t2
  let c256_i32_408 : BitVec 32 := 256#32
  let v872 : BitVec 32 := Scalar.muli arg14 c256_i32_408
  let v873 : BitVec 32 := v872
  let v880 : Index := Scalar.indexCast v873
  let c0_414 : Index := 0#32
  ![0, v880.toNat, 0]
def k0_off9 (v1 : BitVec 32) (k0_t2 : Fin (k0_t2_loop v1).trips) (c0_i32_417 : BitVec 32) : Fin 3 → Nat :=
  let c0_418 : Index := 0#32
  let c0_i32_20 : BitVec 32 := 0#32
  let c4352_i32 : BitVec 32 := 4352#32
  let c31_i32 : BitVec 32 := 31#32
  let c0_i32 : BitVec 32 := 0#32
  let v2 : BitVec 1 := Scalar.cmpi .eq c31_i32 c0_i32
  let c1_i32 : BitVec 32 := 1#32
  let v3 : BitVec 32 := Scalar.select v2 c1_i32 c31_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v12 : BitVec 32 := Scalar.muli v11 c128_i32
  let v13 : BitVec 32 := Scalar.addi c4352_i32 v12
  let c128_i32_11 : BitVec 32 := 128#32
  let v29 : BitVec 32 := Scalar.addi v13 c128_i32_11
  let c256_i32 : BitVec 32 := 256#32
  let v30 : BitVec 32 := Scalar.addi v29 c256_i32
  let c1_i32_12 : BitVec 32 := 1#32
  let v31 : BitVec 32 := Scalar.subi v30 c1_i32_12
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c256_i32_13 : BitVec 32 := 256#32
  let c0_i32_16 : BitVec 32 := 0#32
  let v38 : BitVec 1 := Scalar.cmpi .sgt c256_i32_13 c0_i32_16
  let v39 : BitVec 32 := Scalar.extui v38
  let c0_i32_17 : BitVec 32 := 0#32
  let v40 : BitVec 1 := Scalar.cmpi .slt c256_i32_13 c0_i32_17
  let v41 : BitVec 32 := Scalar.extui v40
  let v42 : BitVec 32 := Scalar.subi v39 v41
  let v43 : BitVec 1 := Scalar.cmpi .ne v37 v42
  let v44 : BitVec 32 := Scalar.remsi v31 c256_i32_13
  let c0_i32_18 : BitVec 32 := 0#32
  let v45 : BitVec 1 := Scalar.cmpi .ne v44 c0_i32_18
  let v46 : BitVec 1 := Scalar.andi v43 v45
  let v32 : BitVec 32 := Scalar.divsi v31 c256_i32_13
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_22 : BitVec 32 := 1#32
  let v51 : BitVec 32 := Scalar.divsi v49 c1_i32_22
  let v52 : BitVec 32 := Scalar.muli v51 c1_i32_22
  let v53 : BitVec 32 := Scalar.addi c0_i32_20 v52
  let c1_i32_24 : BitVec 32 := 1#32
  let arg14 : BitVec 32 := Scf.iv v53 c1_i32_24 k0_t2
  let c4_i32 : BitVec 32 := 4#32
  let v889 : BitVec 32 := Scalar.muli arg14 c4_i32
  let v890 : BitVec 32 := Scalar.addi v889 c0_i32_417
  let v891 : Index := Scalar.indexCast v890
  let c0_419 : Index := 0#32
  ![0, v891.toNat, 0]

def k0_chk1 (v1 : BitVec 32) : Prop :=
  ((k0_t1_loop v1).OK) ∧
  (∀ k0_t1 : Fin (k0_t1_loop v1).trips, 256 ∣ (k0_mult1 v1 k0_t1).toNat) ∧
  (∀ k0_t1 : Fin (k0_t1_loop v1).trips, ∀ a, (k0_off2 v1 k0_t1) a + S1x256x128.size a ≤ S1x8448x128.size a) ∧
  (∀ k0_t1 : Fin (k0_t1_loop v1).trips, ∀ a, (k0_off3 v1 k0_t1) a + S1x128x256.size a ≤ S1x128x8448.size a) ∧
  (∀ k0_t1 : Fin (k0_t1_loop v1).trips, ∀ a, (k0_off4 v1 k0_t1) a + S1x256x1.size a ≤ S1x8448x1.size a) ∧
  (∀ k0_t1 : Fin (k0_t1_loop v1).trips, ∀ (r : Fin 4), ∀ a, (k0_off5 v1 k0_t1 (BitVec.ofNat 32 r.val)) a + S1x1x128.size a ≤ S1x136x128.size a) ∧
  ((k0_t2_loop v1).OK) ∧
  (∀ k0_t2 : Fin (k0_t2_loop v1).trips, 256 ∣ (k0_mult2 v1 k0_t2).toNat) ∧
  (∀ k0_t2 : Fin (k0_t2_loop v1).trips, ∀ a, (k0_off6 v1 k0_t2) a + S1x256x128.size a ≤ S1x8448x128.size a) ∧
  (∀ k0_t2 : Fin (k0_t2_loop v1).trips, ∀ a, (k0_off7 v1 k0_t2) a + S1x128x256.size a ≤ S1x128x8448.size a) ∧
  (∀ k0_t2 : Fin (k0_t2_loop v1).trips, ∀ a, (k0_off8 v1 k0_t2) a + S1x256x1.size a ≤ S1x8448x1.size a) ∧
  (∀ k0_t2 : Fin (k0_t2_loop v1).trips, ∀ (r : Fin 4), ∀ a, (k0_off9 v1 k0_t2 (BitVec.ofNat 32 r.val)) a + S1x1x128.size a ≤ S1x136x128.size a)
theorem k0_t1_ok : ∀ (v1 : BitVec 32) (k0_hw1 : k0_chk1 v1), (k0_t1_loop v1).OK := fun v1 k0_hw1 => k0_hw1.1
theorem k0_mult1_dvd : ∀ (v1 : BitVec 32) (k0_hw1 : k0_chk1 v1) (k0_t1 : Fin (k0_t1_loop v1).trips), 256 ∣ (k0_mult1 v1 k0_t1).toNat := fun v1 k0_hw1 k0_t1 => k0_hw1.2.1 k0_t1
theorem k0_off2_inb : ∀ (v1 : BitVec 32) (k0_hw1 : k0_chk1 v1) (k0_t1 : Fin (k0_t1_loop v1).trips), ∀ a, (k0_off2 v1 k0_t1) a + S1x256x128.size a ≤ S1x8448x128.size a := fun v1 k0_hw1 k0_t1 => k0_hw1.2.2.1 k0_t1
theorem k0_off3_inb : ∀ (v1 : BitVec 32) (k0_hw1 : k0_chk1 v1) (k0_t1 : Fin (k0_t1_loop v1).trips), ∀ a, (k0_off3 v1 k0_t1) a + S1x128x256.size a ≤ S1x128x8448.size a := fun v1 k0_hw1 k0_t1 => k0_hw1.2.2.2.1 k0_t1
theorem k0_off4_inb : ∀ (v1 : BitVec 32) (k0_hw1 : k0_chk1 v1) (k0_t1 : Fin (k0_t1_loop v1).trips), ∀ a, (k0_off4 v1 k0_t1) a + S1x256x1.size a ≤ S1x8448x1.size a := fun v1 k0_hw1 k0_t1 => k0_hw1.2.2.2.2.1 k0_t1
theorem k0_off5_inb : ∀ (v1 : BitVec 32) (k0_hw1 : k0_chk1 v1) (k0_t1 : Fin (k0_t1_loop v1).trips), ∀ (r : Fin 4), ∀ a, (k0_off5 v1 k0_t1 (BitVec.ofNat 32 r.val)) a + S1x1x128.size a ≤ S1x136x128.size a := fun v1 k0_hw1 k0_t1 r => k0_hw1.2.2.2.2.2.1 k0_t1 r
theorem k0_t2_ok : ∀ (v1 : BitVec 32) (k0_hw1 : k0_chk1 v1), (k0_t2_loop v1).OK := fun v1 k0_hw1 => k0_hw1.2.2.2.2.2.2.1
theorem k0_mult2_dvd : ∀ (v1 : BitVec 32) (k0_hw1 : k0_chk1 v1) (k0_t2 : Fin (k0_t2_loop v1).trips), 256 ∣ (k0_mult2 v1 k0_t2).toNat := fun v1 k0_hw1 k0_t2 => k0_hw1.2.2.2.2.2.2.2.1 k0_t2
theorem k0_off6_inb : ∀ (v1 : BitVec 32) (k0_hw1 : k0_chk1 v1) (k0_t2 : Fin (k0_t2_loop v1).trips), ∀ a, (k0_off6 v1 k0_t2) a + S1x256x128.size a ≤ S1x8448x128.size a := fun v1 k0_hw1 k0_t2 => k0_hw1.2.2.2.2.2.2.2.2.1 k0_t2
theorem k0_off7_inb : ∀ (v1 : BitVec 32) (k0_hw1 : k0_chk1 v1) (k0_t2 : Fin (k0_t2_loop v1).trips), ∀ a, (k0_off7 v1 k0_t2) a + S1x128x256.size a ≤ S1x128x8448.size a := fun v1 k0_hw1 k0_t2 => k0_hw1.2.2.2.2.2.2.2.2.2.1 k0_t2
theorem k0_off8_inb : ∀ (v1 : BitVec 32) (k0_hw1 : k0_chk1 v1) (k0_t2 : Fin (k0_t2_loop v1).trips), ∀ a, (k0_off8 v1 k0_t2) a + S1x256x1.size a ≤ S1x8448x1.size a := fun v1 k0_hw1 k0_t2 => k0_hw1.2.2.2.2.2.2.2.2.2.2.1 k0_t2
theorem k0_off9_inb : ∀ (v1 : BitVec 32) (k0_hw1 : k0_chk1 v1) (k0_t2 : Fin (k0_t2_loop v1).trips), ∀ (r : Fin 4), ∀ a, (k0_off9 v1 k0_t2 (BitVec.ofNat 32 r.val)) a + S1x1x128.size a ≤ S1x136x128.size a := fun v1 k0_hw1 k0_t2 r => k0_hw1.2.2.2.2.2.2.2.2.2.2.2 k0_t2 r

def cc0_transform_0 (k0_off1_inb : ∀ i : grid0.Coords, ∀ a, (k0_off1 i) a + S1.size a ≤ S62.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S62) ![v0.toNat] S1.size (k0_off1_inb i)) numel1_S1
  let c31_i32 : BitVec 32 := 31#32
  let c0_i32 : BitVec 32 := 0#32
  let v2 : BitVec 1 := Scalar.cmpi .eq c31_i32 c0_i32
  let c1_i32 : BitVec 32 := 1#32
  let v3 : BitVec 32 := Scalar.select v2 c1_i32 c31_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let v12 : Index := Scalar.indexCast arg0
  let v13 : BitVec 32 := pf.at 0 (Rect.unit (s := S62) ![v12.toNat] S1.size (k0_off1_inb i)) numel1_S1
  let c31_i32_3 : BitVec 32 := 31#32
  let v14 : BitVec 32 := Scalar.divsi v13 c31_i32_3
  let c0_i32_4 : BitVec 32 := 0#32
  let v15 : BitVec 1 := Scalar.cmpi .sgt v13 c0_i32_4
  let v16 : BitVec 32 := Scalar.extui v15
  let c0_i32_5 : BitVec 32 := 0#32
  let v17 : BitVec 1 := Scalar.cmpi .slt v13 c0_i32_5
  let v18 : BitVec 32 := Scalar.extui v17
  let v19 : BitVec 32 := Scalar.subi v16 v18
  let c0_i32_6 : BitVec 32 := 0#32
  let v20 : BitVec 1 := Scalar.cmpi .sgt c31_i32_3 c0_i32_6
  let v21 : BitVec 32 := Scalar.extui v20
  let c0_i32_7 : BitVec 32 := 0#32
  let v22 : BitVec 1 := Scalar.cmpi .slt c31_i32_3 c0_i32_7
  let v23 : BitVec 32 := Scalar.extui v22
  let v24 : BitVec 32 := Scalar.subi v21 v23
  let v25 : BitVec 1 := Scalar.cmpi .ne v19 v24
  let v26 : BitVec 32 := Scalar.remsi v13 c31_i32_3
  let c0_i32_8 : BitVec 32 := 0#32
  let v27 : BitVec 1 := Scalar.cmpi .ne v26 c0_i32_8
  let v28 : BitVec 1 := Scalar.andi v25 v27
  let c1_i32_9 : BitVec 32 := 1#32
  let v29 : BitVec 32 := Scalar.subi v14 c1_i32_9
  let v30 : BitVec 32 := Scalar.select v28 v29 v14
  let c0_i32_10 : BitVec 32 := 0#32
  ![v11.toNat, v30.toNat]

def cc0_transform_1 (k0_off1_inb : ∀ i : grid0.Coords, ∀ a, (k0_off1 i) a + S1.size a ≤ S62.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S62) ![v0.toNat] S1.size (k0_off1_inb i)) numel1_S1
  let c31_i32 : BitVec 32 := 31#32
  let v2 : BitVec 32 := Scalar.divsi v1 c31_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c31_i32 c0_i32_1
  let v9 : BitVec 32 := Scalar.extui v8
  let c0_i32_2 : BitVec 32 := 0#32
  let v10 : BitVec 1 := Scalar.cmpi .slt c31_i32 c0_i32_2
  let v11 : BitVec 32 := Scalar.extui v10
  let v12 : BitVec 32 := Scalar.subi v9 v11
  let v13 : BitVec 1 := Scalar.cmpi .ne v7 v12
  let v14 : BitVec 32 := Scalar.remsi v1 c31_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_2 (k0_off1_inb : ∀ i : grid0.Coords, ∀ a, (k0_off1 i) a + S1.size a ≤ S62.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S62) ![v0.toNat] S1.size (k0_off1_inb i)) numel1_S1
  let c31_i32 : BitVec 32 := 31#32
  let v2 : BitVec 32 := Scalar.divsi v1 c31_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c31_i32 c0_i32_1
  let v9 : BitVec 32 := Scalar.extui v8
  let c0_i32_2 : BitVec 32 := 0#32
  let v10 : BitVec 1 := Scalar.cmpi .slt c31_i32 c0_i32_2
  let v11 : BitVec 32 := Scalar.extui v10
  let v12 : BitVec 32 := Scalar.subi v9 v11
  let v13 : BitVec 1 := Scalar.cmpi .ne v7 v12
  let v14 : BitVec 32 := Scalar.remsi v1 c31_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_3 (k0_off1_inb : ∀ i : grid0.Coords, ∀ a, (k0_off1 i) a + S1.size a ≤ S62.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S62) ![v0.toNat] S1.size (k0_off1_inb i)) numel1_S1
  let c31_i32 : BitVec 32 := 31#32
  let v2 : BitVec 32 := Scalar.divsi v1 c31_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c31_i32 c0_i32_1
  let v9 : BitVec 32 := Scalar.extui v8
  let c0_i32_2 : BitVec 32 := 0#32
  let v10 : BitVec 1 := Scalar.cmpi .slt c31_i32 c0_i32_2
  let v11 : BitVec 32 := Scalar.extui v10
  let v12 : BitVec 32 := Scalar.subi v9 v11
  let v13 : BitVec 1 := Scalar.cmpi .ne v7 v12
  let v14 : BitVec 32 := Scalar.remsi v1 c31_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_4 (k0_off1_inb : ∀ i : grid0.Coords, ∀ a, (k0_off1 i) a + S1.size a ≤ S62.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S62) ![v0.toNat] S1.size (k0_off1_inb i)) numel1_S1
  let c31_i32 : BitVec 32 := 31#32
  let v2 : BitVec 32 := Scalar.divsi v1 c31_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c31_i32 c0_i32_1
  let v9 : BitVec 32 := Scalar.extui v8
  let c0_i32_2 : BitVec 32 := 0#32
  let v10 : BitVec 1 := Scalar.cmpi .slt c31_i32 c0_i32_2
  let v11 : BitVec 32 := Scalar.extui v10
  let v12 : BitVec 32 := Scalar.subi v9 v11
  let v13 : BitVec 1 := Scalar.cmpi .ne v7 v12
  let v14 : BitVec 32 := Scalar.remsi v1 c31_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_5 (k0_off1_inb : ∀ i : grid0.Coords, ∀ a, (k0_off1 i) a + S1.size a ≤ S62.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S62) ![v0.toNat] S1.size (k0_off1_inb i)) numel1_S1
  let c31_i32 : BitVec 32 := 31#32
  let v2 : BitVec 32 := Scalar.divsi v1 c31_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c31_i32 c0_i32_1
  let v9 : BitVec 32 := Scalar.extui v8
  let c0_i32_2 : BitVec 32 := 0#32
  let v10 : BitVec 1 := Scalar.cmpi .slt c31_i32 c0_i32_2
  let v11 : BitVec 32 := Scalar.extui v10
  let v12 : BitVec 32 := Scalar.subi v9 v11
  let v13 : BitVec 1 := Scalar.cmpi .ne v7 v12
  let v14 : BitVec 32 := Scalar.remsi v1 c31_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let v20 : BitVec 32 := pf.at 0 (Rect.unit (s := S62) ![v19.toNat] S1.size (k0_off1_inb i)) numel1_S1
  let c31_i32_4 : BitVec 32 := 31#32
  let c0_i32_5 : BitVec 32 := 0#32
  let v21 : BitVec 1 := Scalar.cmpi .eq c31_i32_4 c0_i32_5
  let c1_i32_6 : BitVec 32 := 1#32
  let v22 : BitVec 32 := Scalar.select v21 c1_i32_6 c31_i32_4
  let v23 : BitVec 32 := Scalar.remsi v20 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let c0_i32_11 : BitVec 32 := 0#32
  ![v18.toNat, c0_i32_10.toNat, v30.toNat]

def cc0_transform_6 (k0_off1_inb : ∀ i : grid0.Coords, ∀ a, (k0_off1 i) a + S1.size a ≤ S62.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S62) ![v0.toNat] S1.size (k0_off1_inb i)) numel1_S1
  let c31_i32 : BitVec 32 := 31#32
  let c0_i32 : BitVec 32 := 0#32
  let v2 : BitVec 1 := Scalar.cmpi .eq c31_i32 c0_i32
  let c1_i32 : BitVec 32 := 1#32
  let v3 : BitVec 32 := Scalar.select v2 c1_i32 c31_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let v12 : Index := Scalar.indexCast arg0
  let v13 : BitVec 32 := pf.at 0 (Rect.unit (s := S62) ![v12.toNat] S1.size (k0_off1_inb i)) numel1_S1
  let c31_i32_3 : BitVec 32 := 31#32
  let v14 : BitVec 32 := Scalar.divsi v13 c31_i32_3
  let c0_i32_4 : BitVec 32 := 0#32
  let v15 : BitVec 1 := Scalar.cmpi .sgt v13 c0_i32_4
  let v16 : BitVec 32 := Scalar.extui v15
  let c0_i32_5 : BitVec 32 := 0#32
  let v17 : BitVec 1 := Scalar.cmpi .slt v13 c0_i32_5
  let v18 : BitVec 32 := Scalar.extui v17
  let v19 : BitVec 32 := Scalar.subi v16 v18
  let c0_i32_6 : BitVec 32 := 0#32
  let v20 : BitVec 1 := Scalar.cmpi .sgt c31_i32_3 c0_i32_6
  let v21 : BitVec 32 := Scalar.extui v20
  let c0_i32_7 : BitVec 32 := 0#32
  let v22 : BitVec 1 := Scalar.cmpi .slt c31_i32_3 c0_i32_7
  let v23 : BitVec 32 := Scalar.extui v22
  let v24 : BitVec 32 := Scalar.subi v21 v23
  let v25 : BitVec 1 := Scalar.cmpi .ne v19 v24
  let v26 : BitVec 32 := Scalar.remsi v13 c31_i32_3
  let c0_i32_8 : BitVec 32 := 0#32
  let v27 : BitVec 1 := Scalar.cmpi .ne v26 c0_i32_8
  let v28 : BitVec 1 := Scalar.andi v25 v27
  let c1_i32_9 : BitVec 32 := 1#32
  let v29 : BitVec 32 := Scalar.subi v14 c1_i32_9
  let v30 : BitVec 32 := Scalar.select v28 v29 v14
  let c0_i32_10 : BitVec 32 := 0#32
  ![v11.toNat, v30.toNat]

def cc0_transform_7 (k0_off1_inb : ∀ i : grid0.Coords, ∀ a, (k0_off1 i) a + S1.size a ≤ S62.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S62) ![v0.toNat] S1.size (k0_off1_inb i)) numel1_S1
  let c31_i32 : BitVec 32 := 31#32
  let c0_i32 : BitVec 32 := 0#32
  let v2 : BitVec 1 := Scalar.cmpi .eq c31_i32 c0_i32
  let c1_i32 : BitVec 32 := 1#32
  let v3 : BitVec 32 := Scalar.select v2 c1_i32 c31_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let v12 : Index := Scalar.indexCast arg0
  let v13 : BitVec 32 := pf.at 0 (Rect.unit (s := S62) ![v12.toNat] S1.size (k0_off1_inb i)) numel1_S1
  let c31_i32_3 : BitVec 32 := 31#32
  let v14 : BitVec 32 := Scalar.divsi v13 c31_i32_3
  let c0_i32_4 : BitVec 32 := 0#32
  let v15 : BitVec 1 := Scalar.cmpi .sgt v13 c0_i32_4
  let v16 : BitVec 32 := Scalar.extui v15
  let c0_i32_5 : BitVec 32 := 0#32
  let v17 : BitVec 1 := Scalar.cmpi .slt v13 c0_i32_5
  let v18 : BitVec 32 := Scalar.extui v17
  let v19 : BitVec 32 := Scalar.subi v16 v18
  let c0_i32_6 : BitVec 32 := 0#32
  let v20 : BitVec 1 := Scalar.cmpi .sgt c31_i32_3 c0_i32_6
  let v21 : BitVec 32 := Scalar.extui v20
  let c0_i32_7 : BitVec 32 := 0#32
  let v22 : BitVec 1 := Scalar.cmpi .slt c31_i32_3 c0_i32_7
  let v23 : BitVec 32 := Scalar.extui v22
  let v24 : BitVec 32 := Scalar.subi v21 v23
  let v25 : BitVec 1 := Scalar.cmpi .ne v19 v24
  let v26 : BitVec 32 := Scalar.remsi v13 c31_i32_3
  let c0_i32_8 : BitVec 32 := 0#32
  let v27 : BitVec 1 := Scalar.cmpi .ne v26 c0_i32_8
  let v28 : BitVec 1 := Scalar.andi v25 v27
  let c1_i32_9 : BitVec 32 := 1#32
  let v29 : BitVec 32 := Scalar.subi v14 c1_i32_9
  let v30 : BitVec 32 := Scalar.select v28 v29 v14
  let c0_i32_10 : BitVec 32 := 0#32
  ![v11.toNat, v30.toNat]

def cc0_transform_8 (k0_off1_inb : ∀ i : grid0.Coords, ∀ a, (k0_off1 i) a + S1.size a ≤ S62.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S62) ![v0.toNat] S1.size (k0_off1_inb i)) numel1_S1
  let c31_i32 : BitVec 32 := 31#32
  let v2 : BitVec 32 := Scalar.divsi v1 c31_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c31_i32 c0_i32_1
  let v9 : BitVec 32 := Scalar.extui v8
  let c0_i32_2 : BitVec 32 := 0#32
  let v10 : BitVec 1 := Scalar.cmpi .slt c31_i32 c0_i32_2
  let v11 : BitVec 32 := Scalar.extui v10
  let v12 : BitVec 32 := Scalar.subi v9 v11
  let v13 : BitVec 1 := Scalar.cmpi .ne v7 v12
  let v14 : BitVec 32 := Scalar.remsi v1 c31_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let v20 : BitVec 32 := pf.at 0 (Rect.unit (s := S62) ![v19.toNat] S1.size (k0_off1_inb i)) numel1_S1
  let c31_i32_4 : BitVec 32 := 31#32
  let c0_i32_5 : BitVec 32 := 0#32
  let v21 : BitVec 1 := Scalar.cmpi .eq c31_i32_4 c0_i32_5
  let c1_i32_6 : BitVec 32 := 1#32
  let v22 : BitVec 32 := Scalar.select v21 c1_i32_6 c31_i32_4
  let v23 : BitVec 32 := Scalar.remsi v20 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let c0_i32_11 : BitVec 32 := 0#32
  ![v18.toNat, v30.toNat, c0_i32_10.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8448x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8448x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x136x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S3968x4096 : Shape := ⟨2, ![3968, 4096]⟩
abbrev S2x8448x128 : Shape := ⟨3, ![2, 8448, 128]⟩
abbrev S2x128x8448 : Shape := ⟨3, ![2, 128, 8448]⟩
abbrev S2x8448x1 : Shape := ⟨3, ![2, 8448, 1]⟩
abbrev S2x136x3968 : Shape := ⟨3, ![2, 136, 3968]⟩
abbrev S2x3968x16 : Shape := ⟨3, ![2, 3968, 16]⟩
abbrev S3968x2x16x128 : Shape := ⟨4, ![3968, 2, 16, 128]⟩
abbrev S2x16x3968x128 : Shape := ⟨4, ![2, 16, 3968, 128]⟩
abbrev S2x63488x128 : Shape := ⟨3, ![2, 63488, 128]⟩
abbrev S2x8320x128 : Shape := ⟨3, ![2, 8320, 128]⟩
abbrev S2x128x8320 : Shape := ⟨3, ![2, 128, 8320]⟩
abbrev S2x8320x1 : Shape := ⟨3, ![2, 8320, 1]⟩
abbrev S2x1x1x8320 : Shape := ⟨4, ![2, 1, 1, 8320]⟩
abbrev S2x3968x8320 : Shape := ⟨3, ![2, 3968, 8320]⟩
abbrev S2x130x3968 : Shape := ⟨3, ![2, 130, 3968]⟩
abbrev S2x130x1x3968 : Shape := ⟨4, ![2, 130, 1, 3968]⟩
abbrev S2x130x64x3968 : Shape := ⟨4, ![2, 130, 64, 3968]⟩
abbrev S2x8320x3968 : Shape := ⟨3, ![2, 8320, 3968]⟩
abbrev S2x63488x8320 : Shape := ⟨3, ![2, 63488, 8320]⟩
abbrev S2x16x3968x8320 : Shape := ⟨4, ![2, 16, 3968, 8320]⟩
abbrev S2x1x3968x8320 : Shape := ⟨4, ![2, 1, 3968, 8320]⟩
abbrev S2x16x3968 : Shape := ⟨3, ![2, 16, 3968]⟩
abbrev S2x16x3968x1 : Shape := ⟨4, ![2, 16, 3968, 1]⟩
abbrev S2x16x3968x256 : Shape := ⟨4, ![2, 16, 3968, 256]⟩

abbrev nBuf : Space → Nat
  | .hbm => 9
  | .vmem => 9
  | .smem => 0
  | _ => 0

abbrev bufTy : (tb : Table) → Fin (tcTables nBuf tb) → BufTy
  | .hbm, ⟨0, _⟩ => ⟨S3968x4096, .bf16⟩
  | .hbm, ⟨1, _⟩ => ⟨S2x8448x128, .bf16⟩
  | .hbm, ⟨2, _⟩ => ⟨S2x128x8448, .bf16⟩
  | .hbm, ⟨3, _⟩ => ⟨S2x8448x1, .f32⟩
  | .hbm, ⟨4, _⟩ => ⟨S2x8448x1, .f32⟩
  | .hbm, ⟨5, _⟩ => ⟨S2x136x3968, .f32⟩
  | .hbm, ⟨6, _⟩ => ⟨S3968x4096, .bf16⟩
  | .hbm, ⟨7, _⟩ => ⟨S3968x4096, .fp8e4m3⟩
  | .hbm, ⟨8, _⟩ => ⟨S2x3968x16, .f32⟩
  | .local _ .vmem, ⟨0, _⟩ => ⟨S3968x4096, .bf16⟩
  | .local _ .vmem, ⟨1, _⟩ => ⟨S2x8448x128, .bf16⟩
  | .local _ .vmem, ⟨2, _⟩ => ⟨S2x128x8448, .bf16⟩
  | .local _ .vmem, ⟨3, _⟩ => ⟨S2x8448x1, .f32⟩
  | .local _ .vmem, ⟨4, _⟩ => ⟨S2x8448x1, .f32⟩
  | .local _ .vmem, ⟨5, _⟩ => ⟨S2x136x3968, .f32⟩
  | .local _ .vmem, ⟨6, _⟩ => ⟨S3968x4096, .bf16⟩
  | .local _ .vmem, ⟨7, _⟩ => ⟨S3968x4096, .fp8e4m3⟩
  | .local _ .vmem, ⟨8, _⟩ => ⟨S2x3968x16, .f32⟩
  | _, _ => ⟨S3968x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S3968x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8448x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x8448 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8448x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8448x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x136x3968 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3968x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3968x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x3968x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Out.lean ====
abbrev S3968x4096 : Shape := ⟨2, ![3968, 4096]⟩
abbrev S3968x32 : Shape := ⟨2, ![3968, 32]⟩
abbrev S4096x3584 : Shape := ⟨2, ![4096, 3584]⟩
abbrev S32x28 : Shape := ⟨2, ![32, 28]⟩
abbrev S3968x3584 : Shape := ⟨2, ![3968, 3584]⟩
abbrev S32x28x128 : Shape := ⟨3, ![32, 28, 128]⟩
abbrev S32x3584 : Shape := ⟨2, ![32, 3584]⟩
abbrev S512x4096 : Shape := ⟨2, ![512, 4096]⟩
abbrev S512x32 : Shape := ⟨2, ![512, 32]⟩
abbrev S4096x512 : Shape := ⟨2, ![4096, 512]⟩
abbrev S32x512 : Shape := ⟨2, ![32, 512]⟩
abbrev S512x512 : Shape := ⟨2, ![512, 512]⟩
abbrev S4096x4096 : Shape := ⟨2, ![4096, 4096]⟩
abbrev S512x128 : Shape := ⟨2, ![512, 128]⟩
abbrev S512x1 : Shape := ⟨2, ![512, 1]⟩
abbrev S128x512 : Shape := ⟨2, ![128, 512]⟩
abbrev S1x512 : Shape := ⟨2, ![1, 512]⟩

abbrev nBuf : Space → Nat
  | .hbm => 8
  | .vmem => 14
  | .smem => 0
  | _ => 0

abbrev bufTy : (tb : Table) → Fin (tcTables nBuf tb) → BufTy
  | .hbm, ⟨0, _⟩ => ⟨S3968x4096, .fp8e4m3⟩
  | .hbm, ⟨1, _⟩ => ⟨S3968x32, .f32⟩
  | .hbm, ⟨2, _⟩ => ⟨S4096x3584, .fp8e4m3⟩
  | .hbm, ⟨3, _⟩ => ⟨S32x28, .f32⟩
  | .hbm, ⟨4, _⟩ => ⟨S3968x3584, .bf16⟩
  | .hbm, ⟨5, _⟩ => ⟨S32x28x128, .f32⟩
  | .hbm, ⟨6, _⟩ => ⟨S32x3584, .f32⟩
  | .hbm, ⟨7, _⟩ => ⟨S3968x3584, .bf16⟩
  | .local _ .vmem, ⟨0, _⟩ => ⟨S512x4096, .fp8e4m3⟩
  | .local _ .vmem, ⟨1, _⟩ => ⟨S512x4096, .fp8e4m3⟩
  | .local _ .vmem, ⟨2, _⟩ => ⟨S512x32, .f32⟩
  | .local _ .vmem, ⟨3, _⟩ => ⟨S512x32, .f32⟩
  | .local _ .vmem, ⟨4, _⟩ => ⟨S4096x512, .fp8e4m3⟩
  | .local _ .vmem, ⟨5, _⟩ => ⟨S4096x512, .fp8e4m3⟩
  | .local _ .vmem, ⟨6, _⟩ => ⟨S32x512, .f32⟩
  | .local _ .vmem, ⟨7, _⟩ => ⟨S32x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S4096x4096, .bf16⟩
  | .local _ .vmem, ⟨13, _⟩ => ⟨S4096x512, .bf16⟩
  | _, _ => ⟨S3968x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![7, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v25 : Index := Scalar.indexCast v1
  let c0_14 : Index := 0#32
  ![v25.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c128_17 : Index := 128#32
  ![v35.toNat, 128]
def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v45 : Index := Scalar.indexCast v1
  let c256_20 : Index := 256#32
  ![v45.toNat, 256]
def k0_off4 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v55 : Index := Scalar.indexCast v1
  let c384_23 : Index := 384#32
  ![v55.toNat, 384]
def k0_off5 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v65 : Index := Scalar.indexCast v1
  let c512_26 : Index := 512#32
  ![v65.toNat, 512]
def k0_off6 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v75 : Index := Scalar.indexCast v1
  let c640_29 : Index := 640#32
  ![v75.toNat, 640]
def k0_off7 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v85 : Index := Scalar.indexCast v1
  let c768_32 : Index := 768#32
  ![v85.toNat, 768]
def k0_off8 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v95 : Index := Scalar.indexCast v1
  let c896_35 : Index := 896#32
  ![v95.toNat, 896]
def k0_off9 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v105 : Index := Scalar.indexCast v1
  let c1024_38 : Index := 1024#32
  ![v105.toNat, 1024]
def k0_off10 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v115 : Index := Scalar.indexCast v1
  let c1152_41 : Index := 1152#32
  ![v115.toNat, 1152]
def k0_off11 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v125 : Index := Scalar.indexCast v1
  let c1280_44 : Index := 1280#32
  ![v125.toNat, 1280]
def k0_off12 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v135 : Index := Scalar.indexCast v1
  let c1408_47 : Index := 1408#32
  ![v135.toNat, 1408]
def k0_off13 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v145 : Index := Scalar.indexCast v1
  let c1536_50 : Index := 1536#32
  ![v145.toNat, 1536]
def k0_off14 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v155 : Index := Scalar.indexCast v1
  let c1664_53 : Index := 1664#32
  ![v155.toNat, 1664]
def k0_off15 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v165 : Index := Scalar.indexCast v1
  let c1792_56 : Index := 1792#32
  ![v165.toNat, 1792]
def k0_off16 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v175 : Index := Scalar.indexCast v1
  let c1920_59 : Index := 1920#32
  ![v175.toNat, 1920]
def k0_off17 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v185 : Index := Scalar.indexCast v1
  let c2048_62 : Index := 2048#32
  ![v185.toNat, 2048]
def k0_off18 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v195 : Index := Scalar.indexCast v1
  let c2176_65 : Index := 2176#32
  ![v195.toNat, 2176]
def k0_off19 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v205 : Index := Scalar.indexCast v1
  let c2304_68 : Index := 2304#32
  ![v205.toNat, 2304]
def k0_off20 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v215 : Index := Scalar.indexCast v1
  let c2432_71 : Index := 2432#32
  ![v215.toNat, 2432]
def k0_off21 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v225 : Index := Scalar.indexCast v1
  let c2560_74 : Index := 2560#32
  ![v225.toNat, 2560]
def k0_off22 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v235 : Index := Scalar.indexCast v1
  let c2688_77 : Index := 2688#32
  ![v235.toNat, 2688]
def k0_off23 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v245 : Index := Scalar.indexCast v1
  let c2816_80 : Index := 2816#32
  ![v245.toNat, 2816]
def k0_off24 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v255 : Index := Scalar.indexCast v1
  let c2944_83 : Index := 2944#32
  ![v255.toNat, 2944]
def k0_off25 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v265 : Index := Scalar.indexCast v1
  let c3072_86 : Index := 3072#32
  ![v265.toNat, 3072]
def k0_off26 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v275 : Index := Scalar.indexCast v1
  let c3200_89 : Index := 3200#32
  ![v275.toNat, 3200]
def k0_off27 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v285 : Index := Scalar.indexCast v1
  let c3328_92 : Index := 3328#32
  ![v285.toNat, 3328]
def k0_off28 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v295 : Index := Scalar.indexCast v1
  let c3456_95 : Index := 3456#32
  ![v295.toNat, 3456]
def k0_off29 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v305 : Index := Scalar.indexCast v1
  let c3584_98 : Index := 3584#32
  ![v305.toNat, 3584]
def k0_off30 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v315 : Index := Scalar.indexCast v1
  let c3712_101 : Index := 3712#32
  ![v315.toNat, 3712]
def k0_off31 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v325 : Index := Scalar.indexCast v1
  let c3840_104 : Index := 3840#32
  ![v325.toNat, 3840]
def k0_off32 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v335 : Index := Scalar.indexCast v1
  let c3968_107 : Index := 3968#32
  ![v335.toNat, 3968]
def k0_off33 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v8 : Index := Scalar.indexCast v1
  let c0 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutReferenceIdeal.lean ====
abbrev S3968x4096 : Shape := ⟨2, ![3968, 4096]⟩
abbrev S3968x32 : Shape := ⟨2, ![3968, 32]⟩
abbrev S4096x3584 : Shape := ⟨2, ![4096, 3584]⟩
abbrev S32x28 : Shape := ⟨2, ![32, 28]⟩
abbrev S3968x3584 : Shape := ⟨2, ![3968, 3584]⟩
abbrev S3968x32x128 : Shape := ⟨3, ![3968, 32, 128]⟩
abbrev S3968x32x1 : Shape := ⟨3, ![3968, 32, 1]⟩
abbrev S32x1x28x1 : Shape := ⟨4, ![32, 1, 28, 1]⟩
abbrev S32x128x28x128 : Shape := ⟨4, ![32, 128, 28, 128]⟩

abbrev nBuf : Space → Nat
  | .hbm => 6
  | .vmem => 6
  | .smem => 0
  | _ => 0

abbrev bufTy : (tb : Table) → Fin (tcTables nBuf tb) → BufTy
  | .hbm, ⟨0, _⟩ => ⟨S3968x4096, .fp8e4m3⟩
  | .hbm, ⟨1, _⟩ => ⟨S3968x32, .f32⟩
  | .hbm, ⟨2, _⟩ => ⟨S4096x3584, .fp8e4m3⟩
  | .hbm, ⟨3, _⟩ => ⟨S32x28, .f32⟩
  | .hbm, ⟨4, _⟩ => ⟨S3968x3584, .bf16⟩
  | .hbm, ⟨5, _⟩ => ⟨S3968x3584, .bf16⟩
  | .local _ .vmem, ⟨0, _⟩ => ⟨S3968x4096, .fp8e4m3⟩
  | .local _ .vmem, ⟨1, _⟩ => ⟨S3968x32, .f32⟩
  | .local _ .vmem, ⟨2, _⟩ => ⟨S4096x3584, .fp8e4m3⟩
  | .local _ .vmem, ⟨3, _⟩ => ⟨S32x28, .f32⟩
  | .local _ .vmem, ⟨4, _⟩ => ⟨S3968x3584, .bf16⟩
  | .local _ .vmem, ⟨5, _⟩ => ⟨S3968x3584, .bf16⟩
  | _, _ => ⟨S3968x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3968x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3968x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3968x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3968x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Scores.lean ====
abbrev S3968x4096 : Shape := ⟨2, ![3968, 4096]⟩
abbrev S2x544x128 : Shape := ⟨3, ![2, 544, 128]⟩
abbrev S2x544x1 : Shape := ⟨3, ![2, 544, 1]⟩
abbrev S2x3968x130 : Shape := ⟨3, ![2, 3968, 130]⟩
abbrev S128x2048 : Shape := ⟨2, ![128, 2048]⟩
abbrev S1x544x128 : Shape := ⟨3, ![1, 544, 128]⟩
abbrev S1x544x1 : Shape := ⟨3, ![1, 544, 1]⟩
abbrev S1x128x130 : Shape := ⟨3, ![1, 128, 130]⟩
abbrev S544x128 : Shape := ⟨2, ![544, 128]⟩
abbrev S128x128 : Shape := ⟨2, ![128, 128]⟩
abbrev S544x1 : Shape := ⟨2, ![544, 1]⟩
abbrev S128 : Shape := ⟨1, ![128]⟩
abbrev S1x128 : Shape := ⟨2, ![1, 128]⟩
abbrev S136x128 : Shape := ⟨2, ![136, 128]⟩
abbrev S128x136 : Shape := ⟨2, ![128, 136]⟩
abbrev S128x130 : Shape := ⟨2, ![128, 130]⟩

abbrev nBuf : Space → Nat
  | .hbm => 4
  | .vmem => 9
  | .smem => 0
  | _ => 0

abbrev bufTy : (tb : Table) → Fin (tcTables nBuf tb) → BufTy
  | .hbm, ⟨0, _⟩ => ⟨S3968x4096, .bf16⟩
  | .hbm, ⟨1, _⟩ => ⟨S2x544x128, .bf16⟩
  | .hbm, ⟨2, _⟩ => ⟨S2x544x1, .f32⟩
  | .hbm, ⟨3, _⟩ => ⟨S2x3968x130, .f32⟩
  | .local _ .vmem, ⟨0, _⟩ => ⟨S128x2048, .bf16⟩
  | .local _ .vmem, ⟨1, _⟩ => ⟨S128x2048, .bf16⟩
  | .local _ .vmem, ⟨2, _⟩ => ⟨S1x544x128, .bf16⟩
  | .local _ .vmem, ⟨3, _⟩ => ⟨S1x544x128, .bf16⟩
  | .local _ .vmem, ⟨4, _⟩ => ⟨S1x544x1, .f32⟩
  | .local _ .vmem, ⟨5, _⟩ => ⟨S1x544x1, .f32⟩
  | .local _ .vmem, ⟨6, _⟩ => ⟨S1x128x130, .f32⟩
  | .local _ .vmem, ⟨7, _⟩ => ⟨S1x128x130, .f32⟩
  | .local _ .vmem, ⟨8, _⟩ => ⟨S544x128, .f32⟩
  | _, _ => ⟨S3968x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 31], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x544x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x544x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x130 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ScoresReferenceIdeal.lean ====
abbrev S3968x4096 : Shape := ⟨2, ![3968, 4096]⟩
abbrev S2x544x128 : Shape := ⟨3, ![2, 544, 128]⟩
abbrev S2x544x1 : Shape := ⟨3, ![2, 544, 1]⟩
abbrev S2x3968x130 : Shape := ⟨3, ![2, 3968, 130]⟩
abbrev S3968x2x16x128 : Shape := ⟨4, ![3968, 2, 16, 128]⟩
abbrev S2x16x3968x128 : Shape := ⟨4, ![2, 16, 3968, 128]⟩
abbrev S2x63488x128 : Shape := ⟨3, ![2, 63488, 128]⟩
abbrev S2x4x136x128 : Shape := ⟨4, ![2, 4, 136, 128]⟩
abbrev S2x4x130x128 : Shape := ⟨4, ![2, 4, 130, 128]⟩
abbrev S2x520x128 : Shape := ⟨3, ![2, 520, 128]⟩
abbrev S2x4x136 : Shape := ⟨3, ![2, 4, 136]⟩
abbrev S2x4x130 : Shape := ⟨3, ![2, 4, 130]⟩
abbrev S2x1x1x520 : Shape := ⟨4, ![2, 1, 1, 520]⟩
abbrev S4x130 : Shape := ⟨2, ![4, 130]⟩
abbrev S520 : Shape := ⟨1, ![520]⟩
abbrev S3968x520 : Shape := ⟨2, ![3968, 520]⟩
abbrev S1x520 : Shape := ⟨2, ![1, 520]⟩
abbrev S2x63488x520 : Shape := ⟨3, ![2, 63488, 520]⟩
abbrev S2x16x3968x520 : Shape := ⟨4, ![2, 16, 3968, 520]⟩
abbrev S1x1x3968x520 : Shape := ⟨4, ![1, 1, 3968, 520]⟩
abbrev S2x16x3968 : Shape := ⟨3, ![2, 16, 3968]⟩
abbrev S2x16x3968x1 : Shape := ⟨4, ![2, 16, 3968, 1]⟩
abbrev S2x3968x520 : Shape := ⟨3, ![2, 3968, 520]⟩
abbrev S2x3968x1 : Shape := ⟨3, ![2, 3968, 1]⟩
abbrev S2x3968x129 : Shape := ⟨3, ![2, 3968, 129]⟩

abbrev nBuf : Space → Nat
  | .hbm => 4
  | .vmem => 4
  | .smem => 0
  | _ => 0

abbrev bufTy : (tb : Table) → Fin (tcTables nBuf tb) → BufTy
  | .hbm, ⟨0, _⟩ => ⟨S3968x4096, .bf16⟩
  | .hbm, ⟨1, _⟩ => ⟨S2x544x128, .bf16⟩
  | .hbm, ⟨2, _⟩ => ⟨S2x544x1, .f32⟩
  | .hbm, ⟨3, _⟩ => ⟨S2x3968x130, .f32⟩
  | .local _ .vmem, ⟨0, _⟩ => ⟨S3968x4096, .bf16⟩
  | .local _ .vmem, ⟨1, _⟩ => ⟨S2x544x128, .bf16⟩
  | .local _ .vmem, ⟨2, _⟩ => ⟨S2x544x1, .f32⟩
  | .local _ .vmem, ⟨3, _⟩ => ⟨S2x3968x130, .f32⟩
  | _, _ => ⟨S3968x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3968x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x544x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x544x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3968x130 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Qkv.lean ====
abbrev S3968x3584 : Shape := ⟨2, ![3968, 3584]⟩
abbrev S1x3584 : Shape := ⟨2, ![1, 3584]⟩
abbrev S3584x4608 : Shape := ⟨2, ![3584, 4608]⟩
abbrev S28x4608 : Shape := ⟨2, ![28, 4608]⟩
abbrev S3968x128 : Shape := ⟨2, ![3968, 128]⟩
abbrev S2x128 : Shape := ⟨2, ![2, 128]⟩
abbrev S3968x28 : Shape := ⟨2, ![3968, 28]⟩
abbrev S3968x4096 : Shape := ⟨2, ![3968, 4096]⟩
abbrev S2x3968x128 : Shape := ⟨3, ![2, 3968, 128]⟩
abbrev S2x3968x1 : Shape := ⟨3, ![2, 3968, 1]⟩
abbrev S2x248x128 : Shape := ⟨3, ![2, 248, 128]⟩
abbrev S2x248x1 : Shape := ⟨3, ![2, 248, 1]⟩
abbrev S512x3584 : Shape := ⟨2, ![512, 3584]⟩
abbrev S3584x512 : Shape := ⟨2, ![3584, 512]⟩
abbrev S28x512 : Shape := ⟨2, ![28, 512]⟩
abbrev S512x128 : Shape := ⟨2, ![512, 128]⟩
abbrev S512x28 : Shape := ⟨2, ![512, 28]⟩
abbrev S512x512 : Shape := ⟨2, ![512, 512]⟩
abbrev S2x512x128 : Shape := ⟨3, ![2, 512, 128]⟩
abbrev S2x512x1 : Shape := ⟨3, ![2, 512, 1]⟩
abbrev S2x32x128 : Shape := ⟨3, ![2, 32, 128]⟩
abbrev S2x32x1 : Shape := ⟨3, ![2, 32, 1]⟩
abbrev S4096x3584 : Shape := ⟨2, ![4096, 3584]⟩
abbrev S32x3584 : Shape := ⟨2, ![32, 3584]⟩
abbrev S32 : Shape := ⟨1, ![32]⟩
abbrev S32x1 : Shape := ⟨2, ![32, 1]⟩
abbrev S32x128 : Shape := ⟨2, ![32, 128]⟩
abbrev S32x256 : Shape := ⟨2, ![32, 256]⟩
abbrev S128x512 : Shape := ⟨2, ![128, 512]⟩
abbrev S1x512 : Shape := ⟨2, ![1, 512]⟩
abbrev S512 : Shape := ⟨1, ![512]⟩
abbrev S512x1 : Shape := ⟨2, ![512, 1]⟩
abbrev S1x512x128 : Shape := ⟨3, ![1, 512, 128]⟩
abbrev S1x512x1 : Shape := ⟨3, ![1, 512, 1]⟩
abbrev S32x16x128 : Shape := ⟨3, ![32, 16, 128]⟩
abbrev S1x128 : Shape := ⟨2, ![1, 128]⟩
abbrev S1x32x128 : Shape := ⟨3, ![1, 32, 128]⟩
abbrev S1x32x1 : Shape := ⟨3, ![1, 32, 1]⟩

abbrev nBuf : Space → Nat
  | .hbm => 16
  | .vmem => 33
  | .smem => 0
  | _ => 0

abbrev bufTy : (tb : Table) → Fin (tcTables nBuf tb) → BufTy
  | .hbm, ⟨0, _⟩ => ⟨S3968x3584, .bf16⟩
  | .hbm, ⟨1, _⟩ => ⟨S1x3584, .f32⟩
  | .hbm, ⟨2, _⟩ => ⟨S3584x4608, .fp8e4m3⟩
  | .hbm, ⟨3, _⟩ => ⟨S28x4608, .f32⟩
  | .hbm, ⟨4, _⟩ => ⟨S3968x128, .f32⟩
  | .hbm, ⟨5, _⟩ => ⟨S3968x128, .f32⟩
  | .hbm, ⟨6, _⟩ => ⟨S2x128, .f32⟩
  | .hbm, ⟨7, _⟩ => ⟨S3968x3584, .fp8e4m3⟩
  | .hbm, ⟨8, _⟩ => ⟨S3968x28, .f32⟩
  | .hbm, ⟨9, _⟩ => ⟨S3968x4096, .bf16⟩
  | .hbm, ⟨10, _⟩ => ⟨S2x3968x128, .i8⟩
  | .hbm, ⟨11, _⟩ => ⟨S2x3968x1, .f32⟩
  | .hbm, ⟨12, _⟩ => ⟨S2x3968x128, .i8⟩
  | .hbm, ⟨13, _⟩ => ⟨S2x3968x1, .f32⟩
  | .hbm, ⟨14, _⟩ => ⟨S2x248x128, .i8⟩
  | .hbm, ⟨15, _⟩ => ⟨S2x248x1, .f32⟩
  | .local _ .vmem, ⟨0, _⟩ => ⟨S512x3584, .bf16⟩
  | .local _ .vmem, ⟨1, _⟩ => ⟨S512x3584, .bf16⟩
  | .local _ .vmem, ⟨2, _⟩ => ⟨S1x3584, .f32⟩
  | .local _ .vmem, ⟨3, _⟩ => ⟨S3584x512, .fp8e4m3⟩
  | .local _ .vmem, ⟨4, _⟩ => ⟨S3584x512, .fp8e4m3⟩
  | .local _ .vmem, ⟨5, _⟩ => ⟨S28x512, .f32⟩
  | .local _ .vmem, ⟨6, _⟩ => ⟨S28x512, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S2x128, .f32⟩
  | .local _ .vmem, ⟨12, _⟩ => ⟨S512x3584, .fp8e4m3⟩
  | .local _ .vmem, ⟨13, _⟩ => ⟨S512x3584, .fp8e4m3⟩
  | .local _ .vmem, ⟨14, _⟩ => ⟨S512x28, .f32⟩
  | .local _ .vmem, ⟨15, _⟩ => ⟨S512x28, .f32⟩
  | .local _ .vmem, ⟨16, _⟩ => ⟨S512x512, .bf16⟩
  | .local _ .vmem, ⟨17, _⟩ => ⟨S512x512, .bf16⟩
  | .local _ .vmem, ⟨18, _⟩ => ⟨S2x512x128, .i8⟩
  | .local _ .vmem, ⟨19, _⟩ => ⟨S2x512x128, .i8⟩
  | .local _ .vmem, ⟨20, _⟩ => ⟨S2x512x1, .f32⟩
  | .local _ .vmem, ⟨21, _⟩ => ⟨S2x512x1, .f32⟩
  | .local _ .vmem, ⟨22, _⟩ => ⟨S2x512x128, .i8⟩
  | .local _ .vmem, ⟨23, _⟩ => ⟨S2x512x128, .i8⟩
  | .local _ .vmem, ⟨24, _⟩ => ⟨S2x512x1, .f32⟩
  | .local _ .vmem, ⟨25, _⟩ => ⟨S2x512x1, .f32⟩
  | .local _ .vmem, ⟨26, _⟩ => ⟨S2x32x128, .i8⟩
  | .local _ .vmem, ⟨27, _⟩ => ⟨S2x32x128, .i8⟩
  | .local _ .vmem, ⟨28, _⟩ => ⟨S2x32x1, .f32⟩
  | .local _ .vmem, ⟨29, _⟩ => ⟨S2x32x1, .f32⟩
  | .local _ .vmem, ⟨30, _⟩ => ⟨S4096x3584, .bf16⟩
  | .local _ .vmem, ⟨31, _⟩ => ⟨S3584x512, .bf16⟩
  | .local _ .vmem, ⟨32, _⟩ => ⟨S2x128, .f32⟩
  | _, _ => ⟨S3968x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![9, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_12 : BitVec 32 := 0#32
  let c16_i32 : BitVec 32 := 16#32
  let v20 : BitVec 32 := Scalar.addi c0_i32_12 c16_i32
  let c1_i32 : BitVec 32 := 1#32
  ⟨c0_i32_12, v20, c1_i32⟩
def k0_mult2 (k0_t1 : Fin k0_t1_loop.trips) : BitVec 32 :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  v21
def k0_off1 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v23 : Index := Scalar.indexCast v22
  let c0_14 : Index := 0#32
  ![v23.toNat, 0]
def k0_off2 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v81 : Index := Scalar.indexCast v22
  let c0_32 : Index := 0#32
  ![v81.toNat, 0]
def k0_off3 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v83 : Index := Scalar.indexCast v22
  let c0_33 : Index := 0#32
  ![v83.toNat, 0]
def k0_off4 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v89 : BitVec 32 := Scalar.addi v1 v22
  let v90 : Index := Scalar.indexCast v89
  let c0_34 : Index := 0#32
  ![v90.toNat, 0]
def k0_off5 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v134 : Index := Scalar.indexCast v22
  let c128 : Index := 128#32
  ![v134.toNat, 128]
def k0_off6 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v136 : Index := Scalar.indexCast v22
  let c1 : Index := 1#32
  ![v136.toNat, 1]
def k0_off7 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v142 : BitVec 32 := Scalar.addi v1 v22
  let v143 : Index := Scalar.indexCast v142
  let c128_49 : Index := 128#32
  ![v143.toNat, 128]
def k0_off8 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v187 : Index := Scalar.indexCast v22
  let c256 : Index := 256#32
  ![v187.toNat, 256]
def k0_off9 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v189 : Index := Scalar.indexCast v22
  let c2 : Index := 2#32
  ![v189.toNat, 2]
def k0_off10 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v195 : BitVec 32 := Scalar.addi v1 v22
  let v196 : Index := Scalar.indexCast v195
  let c256_64 : Index := 256#32
  ![v196.toNat, 256]
def k0_off11 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v240 : Index := Scalar.indexCast v22
  let c384 : Index := 384#32
  ![v240.toNat, 384]
def k0_off12 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v242 : Index := Scalar.indexCast v22
  let c3 : Index := 3#32
  ![v242.toNat, 3]
def k0_off13 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v248 : BitVec 32 := Scalar.addi v1 v22
  let v249 : Index := Scalar.indexCast v248
  let c384_79 : Index := 384#32
  ![v249.toNat, 384]
def k0_off14 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v293 : Index := Scalar.indexCast v22
  let c512 : Index := 512#32
  ![v293.toNat, 512]
def k0_off15 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v295 : Index := Scalar.indexCast v22
  let c4 : Index := 4#32
  ![v295.toNat, 4]
def k0_off16 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v301 : BitVec 32 := Scalar.addi v1 v22
  let v302 : Index := Scalar.indexCast v301
  let c512_94 : Index := 512#32
  ![v302.toNat, 512]
def k0_off17 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v346 : Index := Scalar.indexCast v22
  let c640 : Index := 640#32
  ![v346.toNat, 640]
def k0_off18 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v348 : Index := Scalar.indexCast v22
  let c5 : Index := 5#32
  ![v348.toNat, 5]
def k0_off19 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v354 : BitVec 32 := Scalar.addi v1 v22
  let v355 : Index := Scalar.indexCast v354
  let c640_109 : Index := 640#32
  ![v355.toNat, 640]
def k0_off20 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v399 : Index := Scalar.indexCast v22
  let c768 : Index := 768#32
  ![v399.toNat, 768]
def k0_off21 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v401 : Index := Scalar.indexCast v22
  let c6 : Index := 6#32
  ![v401.toNat, 6]
def k0_off22 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v407 : BitVec 32 := Scalar.addi v1 v22
  let v408 : Index := Scalar.indexCast v407
  let c768_124 : Index := 768#32
  ![v408.toNat, 768]
def k0_off23 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v452 : Index := Scalar.indexCast v22
  let c896 : Index := 896#32
  ![v452.toNat, 896]
def k0_off24 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v454 : Index := Scalar.indexCast v22
  let c7 : Index := 7#32
  ![v454.toNat, 7]
def k0_off25 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v460 : BitVec 32 := Scalar.addi v1 v22
  let v461 : Index := Scalar.indexCast v460
  let c896_139 : Index := 896#32
  ![v461.toNat, 896]
def k0_off26 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v505 : Index := Scalar.indexCast v22
  let c1024 : Index := 1024#32
  ![v505.toNat, 1024]
def k0_off27 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v507 : Index := Scalar.indexCast v22
  let c8 : Index := 8#32
  ![v507.toNat, 8]
def k0_off28 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v513 : BitVec 32 := Scalar.addi v1 v22
  let v514 : Index := Scalar.indexCast v513
  let c1024_154 : Index := 1024#32
  ![v514.toNat, 1024]
def k0_off29 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v558 : Index := Scalar.indexCast v22
  let c1152 : Index := 1152#32
  ![v558.toNat, 1152]
def k0_off30 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v560 : Index := Scalar.indexCast v22
  let c9 : Index := 9#32
  ![v560.toNat, 9]
def k0_off31 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v566 : BitVec 32 := Scalar.addi v1 v22
  let v567 : Index := Scalar.indexCast v566
  let c1152_169 : Index := 1152#32
  ![v567.toNat, 1152]
def k0_off32 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v611 : Index := Scalar.indexCast v22
  let c1280 : Index := 1280#32
  ![v611.toNat, 1280]
def k0_off33 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v613 : Index := Scalar.indexCast v22
  let c10 : Index := 10#32
  ![v613.toNat, 10]
def k0_off34 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v619 : BitVec 32 := Scalar.addi v1 v22
  let v620 : Index := Scalar.indexCast v619
  let c1280_184 : Index := 1280#32
  ![v620.toNat, 1280]
def k0_off35 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v664 : Index := Scalar.indexCast v22
  let c1408 : Index := 1408#32
  ![v664.toNat, 1408]
def k0_off36 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v666 : Index := Scalar.indexCast v22
  let c11 : Index := 11#32
  ![v666.toNat, 11]
def k0_off37 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v672 : BitVec 32 := Scalar.addi v1 v22
  let v673 : Index := Scalar.indexCast v672
  let c1408_199 : Index := 1408#32
  ![v673.toNat, 1408]
def k0_off38 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v717 : Index := Scalar.indexCast v22
  let c1536 : Index := 1536#32
  ![v717.toNat, 1536]
def k0_off39 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v719 : Index := Scalar.indexCast v22
  let c12 : Index := 12#32
  ![v719.toNat, 12]
def k0_off40 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v725 : BitVec 32 := Scalar.addi v1 v22
  let v726 : Index := Scalar.indexCast v725
  let c1536_214 : Index := 1536#32
  ![v726.toNat, 1536]
def k0_off41 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v770 : Index := Scalar.indexCast v22
  let c1664 : Index := 1664#32
  ![v770.toNat, 1664]
def k0_off42 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v772 : Index := Scalar.indexCast v22
  let c13 : Index := 13#32
  ![v772.toNat, 13]
def k0_off43 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v778 : BitVec 32 := Scalar.addi v1 v22
  let v779 : Index := Scalar.indexCast v778
  let c1664_229 : Index := 1664#32
  ![v779.toNat, 1664]
def k0_off44 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v823 : Index := Scalar.indexCast v22
  let c1792 : Index := 1792#32
  ![v823.toNat, 1792]
def k0_off45 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v825 : Index := Scalar.indexCast v22
  let c14 : Index := 14#32
  ![v825.toNat, 14]
def k0_off46 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v831 : BitVec 32 := Scalar.addi v1 v22
  let v832 : Index := Scalar.indexCast v831
  let c1792_244 : Index := 1792#32
  ![v832.toNat, 1792]
def k0_off47 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v876 : Index := Scalar.indexCast v22
  let c1920 : Index := 1920#32
  ![v876.toNat, 1920]
def k0_off48 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v878 : Index := Scalar.indexCast v22
  let c15 : Index := 15#32
  ![v878.toNat, 15]
def k0_off49 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v884 : BitVec 32 := Scalar.addi v1 v22
  let v885 : Index := Scalar.indexCast v884
  let c1920_259 : Index := 1920#32
  ![v885.toNat, 1920]
def k0_off50 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v929 : Index := Scalar.indexCast v22
  let c2048 : Index := 2048#32
  ![v929.toNat, 2048]
def k0_off51 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v931 : Index := Scalar.indexCast v22
  let c16 : Index := 16#32
  ![v931.toNat, 16]
def k0_off52 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v937 : BitVec 32 := Scalar.addi v1 v22
  let v938 : Index := Scalar.indexCast v937
  let c2048_274 : Index := 2048#32
  ![v938.toNat, 2048]
def k0_off53 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v982 : Index := Scalar.indexCast v22
  let c2176 : Index := 2176#32
  ![v982.toNat, 2176]
def k0_off54 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v984 : Index := Scalar.indexCast v22
  let c17 : Index := 17#32
  ![v984.toNat, 17]
def k0_off55 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v990 : BitVec 32 := Scalar.addi v1 v22
  let v991 : Index := Scalar.indexCast v990
  let c2176_289 : Index := 2176#32
  ![v991.toNat, 2176]
def k0_off56 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1035 : Index := Scalar.indexCast v22
  let c2304 : Index := 2304#32
  ![v1035.toNat, 2304]
def k0_off57 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1037 : Index := Scalar.indexCast v22
  let c18 : Index := 18#32
  ![v1037.toNat, 18]
def k0_off58 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1043 : BitVec 32 := Scalar.addi v1 v22
  let v1044 : Index := Scalar.indexCast v1043
  let c2304_304 : Index := 2304#32
  ![v1044.toNat, 2304]
def k0_off59 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1088 : Index := Scalar.indexCast v22
  let c2432 : Index := 2432#32
  ![v1088.toNat, 2432]
def k0_off60 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1090 : Index := Scalar.indexCast v22
  let c19 : Index := 19#32
  ![v1090.toNat, 19]
def k0_off61 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1096 : BitVec 32 := Scalar.addi v1 v22
  let v1097 : Index := Scalar.indexCast v1096
  let c2432_319 : Index := 2432#32
  ![v1097.toNat, 2432]
def k0_off62 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1141 : Index := Scalar.indexCast v22
  let c2560 : Index := 2560#32
  ![v1141.toNat, 2560]
def k0_off63 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1143 : Index := Scalar.indexCast v22
  let c20 : Index := 20#32
  ![v1143.toNat, 20]
def k0_off64 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1149 : BitVec 32 := Scalar.addi v1 v22
  let v1150 : Index := Scalar.indexCast v1149
  let c2560_334 : Index := 2560#32
  ![v1150.toNat, 2560]
def k0_off65 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1194 : Index := Scalar.indexCast v22
  let c2688 : Index := 2688#32
  ![v1194.toNat, 2688]
def k0_off66 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1196 : Index := Scalar.indexCast v22
  let c21 : Index := 21#32
  ![v1196.toNat, 21]
def k0_off67 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1202 : BitVec 32 := Scalar.addi v1 v22
  let v1203 : Index := Scalar.indexCast v1202
  let c2688_349 : Index := 2688#32
  ![v1203.toNat, 2688]
def k0_off68 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1247 : Index := Scalar.indexCast v22
  let c2816 : Index := 2816#32
  ![v1247.toNat, 2816]
def k0_off69 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1249 : Index := Scalar.indexCast v22
  let c22 : Index := 22#32
  ![v1249.toNat, 22]
def k0_off70 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1255 : BitVec 32 := Scalar.addi v1 v22
  let v1256 : Index := Scalar.indexCast v1255
  let c2816_364 : Index := 2816#32
  ![v1256.toNat, 2816]
def k0_off71 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1300 : Index := Scalar.indexCast v22
  let c2944 : Index := 2944#32
  ![v1300.toNat, 2944]
def k0_off72 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1302 : Index := Scalar.indexCast v22
  let c23 : Index := 23#32
  ![v1302.toNat, 23]
def k0_off73 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1308 : BitVec 32 := Scalar.addi v1 v22
  let v1309 : Index := Scalar.indexCast v1308
  let c2944_379 : Index := 2944#32
  ![v1309.toNat, 2944]
def k0_off74 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1353 : Index := Scalar.indexCast v22
  let c3072 : Index := 3072#32
  ![v1353.toNat, 3072]
def k0_off75 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1355 : Index := Scalar.indexCast v22
  let c24 : Index := 24#32
  ![v1355.toNat, 24]
def k0_off76 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1361 : BitVec 32 := Scalar.addi v1 v22
  let v1362 : Index := Scalar.indexCast v1361
  let c3072_394 : Index := 3072#32
  ![v1362.toNat, 3072]
def k0_off77 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1406 : Index := Scalar.indexCast v22
  let c3200 : Index := 3200#32
  ![v1406.toNat, 3200]
def k0_off78 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1408 : Index := Scalar.indexCast v22
  let c25 : Index := 25#32
  ![v1408.toNat, 25]
def k0_off79 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1414 : BitVec 32 := Scalar.addi v1 v22
  let v1415 : Index := Scalar.indexCast v1414
  let c3200_409 : Index := 3200#32
  ![v1415.toNat, 3200]
def k0_off80 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1459 : Index := Scalar.indexCast v22
  let c3328 : Index := 3328#32
  ![v1459.toNat, 3328]
def k0_off81 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1461 : Index := Scalar.indexCast v22
  let c26 : Index := 26#32
  ![v1461.toNat, 26]
def k0_off82 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1467 : BitVec 32 := Scalar.addi v1 v22
  let v1468 : Index := Scalar.indexCast v1467
  let c3328_424 : Index := 3328#32
  ![v1468.toNat, 3328]
def k0_off83 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1512 : Index := Scalar.indexCast v22
  let c3456 : Index := 3456#32
  ![v1512.toNat, 3456]
def k0_off84 (k0_t1 : Fin k0_t1_loop.trips) : Fin 2 → Nat :=
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1514 : Index := Scalar.indexCast v22
  let c27 : Index := 27#32
  ![v1514.toNat, 27]
def k0_off85 (i : grid0.Coords) (k0_t1 : Fin k0_t1_loop.trips) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_12 : BitVec 32 := 0#32
  let c1_i32 : BitVec 32 := 1#32
  let arg21 : BitVec 32 := Scf.iv c0_i32_12 c1_i32 k0_t1
  let c32_i32 : BitVec 32 := 32#32
  let v21 : BitVec 32 := Scalar.muli arg21 c32_i32
  let v22 : BitVec 32 := v21
  let v1520 : BitVec 32 := Scalar.addi v1 v22
  let v1521 : Index := Scalar.indexCast v1520
  let c3456_439 : Index := 3456#32
  ![v1521.toNat, 3456]
def k0_off86 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v8 : Index := Scalar.indexCast v1
  let c0 : Index := 0#32
  ![v8.toNat, 0]
def k0_cond3 (i : grid0.Coords) : BitVec 1 :=
  let arg0 : BitVec 32 := BitVec.ofNat 32 (i 0).val
  let c8_i32 : BitVec 32 := 8#32
  let v14 : BitVec 1 := Scalar.cmpi .slt arg0 c8_i32
  let v15 : BitVec 32 := Scalar.extui v14
  let c0_i32_9 : BitVec 32 := 0#32
  let v16 : BitVec 1 := Scalar.cmpi .ne v15 c0_i32_9
  v16

def k0_cond4 (i : grid0.Coords) : BitVec 1 :=
  let arg0 : BitVec 32 := BitVec.ofNat 32 (i 0).val
  let c8_i32_10 : BitVec 32 := 8#32
  let v17 : BitVec 1 := Scalar.cmpi .eq arg0 c8_i32_10
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c7_i32 : BitVec 32 := 7#32
  let v1 : BitVec 32 := Scalar.select v0 c7_i32 arg1
  let c7_i32_0 : BitVec 32 := 7#32
  let v2 : BitVec 32 := Scalar.select v0 c7_i32_0 arg0
  let c0_i32 : BitVec 32 := 0#32
  ![v1.toNat, v2.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_15 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S28x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x28 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x512x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x512x128 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x32x128 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2x32x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== NormReferenceIdeal.lean ====
abbrev S3968x3584 : Shape := ⟨2, ![3968, 3584]⟩
abbrev S1x3584 : Shape := ⟨2, ![1, 3584]⟩
abbrev S3584x4608 : Shape := ⟨2, ![3584, 4608]⟩
abbrev S28x4608 : Shape := ⟨2, ![28, 4608]⟩
abbrev S3968x128 : Shape := ⟨2, ![3968, 128]⟩
abbrev S2x128 : Shape := ⟨2, ![2, 128]⟩
abbrev S3968x28 : Shape := ⟨2, ![3968, 28]⟩
abbrev S3968 : Shape := ⟨1, ![3968]⟩
abbrev S3968x1 : Shape := ⟨2, ![3968, 1]⟩
abbrev S3968x28x128 : Shape := ⟨3, ![3968, 28, 128]⟩
abbrev S3968x28x1 : Shape := ⟨3, ![3968, 28, 1]⟩
abbrev S3968x28x256 : Shape := ⟨3, ![3968, 28, 256]⟩

abbrev nBuf : Space → Nat
  | .hbm => 9
  | .vmem => 4
  | .smem => 0
  | _ => 0

abbrev bufTy : (tb : Table) → Fin (tcTables nBuf tb) → BufTy
  | .hbm, ⟨0, _⟩ => ⟨S3968x3584, .bf16⟩
  | .hbm, ⟨1, _⟩ => ⟨S1x3584, .f32⟩
  | .hbm, ⟨2, _⟩ => ⟨S3584x4608, .fp8e4m3⟩
  | .hbm, ⟨3, _⟩ => ⟨S28x4608, .f32⟩
  | .hbm, ⟨4, _⟩ => ⟨S3968x128, .f32⟩
  | .hbm, ⟨5, _⟩ => ⟨S3968x128, .f32⟩
  | .hbm, ⟨6, _⟩ => ⟨S2x128, .f32⟩
  | .hbm, ⟨7, _⟩ => ⟨S3968x3584, .fp8e4m3⟩
  | .hbm, ⟨8, _⟩ => ⟨S3968x28, .f32⟩
  | .local _ .vmem, ⟨0, _⟩ => ⟨S3968x3584, .bf16⟩
  | .local _ .vmem, ⟨1, _⟩ => ⟨S1x3584, .f32⟩
  | .local _ .vmem, ⟨2, _⟩ => ⟨S3968x3584, .fp8e4m3⟩
  | .local _ .vmem, ⟨3, _⟩ => ⟨S3968x28, .f32⟩
  | _, _ => ⟨S3968x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3968x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3968x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3968x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Table.lean ====
/- The table of tile numbers of `Kernel`. The host fills it with 0, 1, …, 61 before the kernel's
   launch; from that, every block the pipeline copies lies inside its array (`ok`), and the side conditions the
   body assumes of the word it reads hold at every grid point (`hyps`). -/
module

public import proofs.«01_k».proof.Proof.Gen.Kernel.Frame

@[expose] public section

set_option maxRecDepth 16384

noncomputable section

namespace Cert.Kernel.Table

open Idealize.ShloMosaic Idealize.ShloMosaic.TcCoe Idealize.ShloMosaic.Tactic
open Cert.Kernel.Gen

variable {F : FTy → Type} [FloatOps F]
variable (m : (ℓ : Loc nD τ sig) → Buf (Elt F) ℓ)

/-- The table of the launch: entry n is n. -/
def iota : pre0.Contents (Elt F) := fun j => match j with | 0 => (iotaInDim S62 32 0 : IVec S62 32)

/-- The table the region finds is that one. -/
theorem tbl_eq : tbl m = iota := by
  funext j
  obtain rfl : j = 0 := Subsingleton.elim _ _
  show StableHlo.after hostOps0 (fun b => m (0, b)) main_v0 = _
  simp only [StableHlo.after_cons, StableHlo.after_nil, StableHlo.nullary_result]
  rfl

/-- Every block the pipeline copies lies inside its array. -/
theorem ok : Ok m := by
  show ok0 (tbl m)
  rw [tbl_eq]
  exact of_decide_eq_true (by sl_kernel_rfl)

/-- The side conditions of the word hold of every word below 62. -/
theorem chk : ∀ n : Fin 62, k0_chk1 (BitVec.ofNat 32 n.val) := by decide +kernel

/-- The word the body reads at grid point `i` is the point's own number. -/
theorem word_eq (i : grid0.Coords) (h : ∀ a, k0_off1 i a + S1.size a ≤ S62.size a) (x : S1.Idx) :
    tbM0_0.view.readAt (Elt F) (Rect.unit (s := S62) (k0_off1 i) S1.size h).toLoadRect (iota (F := F) 0) x
      = BitVec.ofNat 32 (i 0).val := by
  show BitVec.ofNat 32 (k0_off1 i 0 + 1 * (x 0).val) = _
  have hx : (x 0).val = 0 := by have := (x 0).isLt; change _ < 1 at this; omega
  have hi : (i 0).val < 62 := (i 0).isLt
  have ho : k0_off1 i 0 = (BitVec.ofNat 32 (i 0).val).toNat := rfl
  rw [hx, ho, BitVec.toNat_ofNat, Nat.mod_eq_of_lt (by omega)]
  rfl

/-- The side conditions the body assumes hold at every grid point. -/
theorem hyps (hO : Ok m) : Hyps m hO := Hyps.of fun c t => by
  unfold Hyps.p0
  rw [tbl_eq, word_eq]
  exact chk (grid0.coords t 0)

end Cert.Kernel.Table
end
-- ==== Proof.TableIdeal.lean ====
/- The table of tile numbers of `KernelIdeal`. The host fills it with 0, 1, …, 61 before the kernel's
   launch; from that, every block the pipeline copies lies inside its array (`ok`), and the side conditions the
   body assumes of the word it reads hold at every grid point (`hyps`). -/
module

public import proofs.«01_k».proof.Proof.Gen.KernelIdeal.Frame

@[expose] public section

set_option maxRecDepth 16384

noncomputable section

namespace Cert.KernelIdeal.Table

open Idealize.ShloMosaic Idealize.ShloMosaic.TcCoe Idealize.ShloMosaic.Tactic
open Cert.KernelIdeal.Gen

variable {F : FTy → Type} [FloatOps F]
variable (m : (ℓ : Loc nD τ sig) → Buf (Elt F) ℓ)

/-- The table of the launch: entry n is n. -/
def iota : pre0.Contents (Elt F) := fun j => match j with | 0 => (iotaInDim S62 32 0 : IVec S62 32)

/-- The table the region finds is that one. -/
theorem tbl_eq : tbl m = iota := by
  funext j
  obtain rfl : j = 0 := Subsingleton.elim _ _
  show StableHlo.after hostOps0 (fun b => m (0, b)) main_v0 = _
  simp only [StableHlo.after_cons, StableHlo.after_nil, StableHlo.nullary_result]
  rfl

/-- Every block the pipeline copies lies inside its array. -/
theorem ok : Ok m := by
  show ok0 (tbl m)
  rw [tbl_eq]
  exact of_decide_eq_true (by sl_kernel_rfl)

/-- The side conditions of the word hold of every word below 62. -/
theorem chk : ∀ n : Fin 62, k0_chk1 (BitVec.ofNat 32 n.val) := by decide +kernel

/-- The word the body reads at grid point `i` is the point's own number. -/
theorem word_eq (i : grid0.Coords) (h : ∀ a, k0_off1 i a + S1.size a ≤ S62.size a) (x : S1.Idx) :
    tbM0_0.view.readAt (Elt F) (Rect.unit (s := S62) (k0_off1 i) S1.size h).toLoadRect (iota (F := F) 0) x
      = BitVec.ofNat 32 (i 0).val := by
  show BitVec.ofNat 32 (k0_off1 i 0 + 1 * (x 0).val) = _
  have hx : (x 0).val = 0 := by have := (x 0).isLt; change _ < 1 at this; omega
  have hi : (i 0).val < 62 := (i 0).isLt
  have ho : k0_off1 i 0 = (BitVec.ofNat 32 (i 0).val).toNat := rfl
  rw [hx, ho, BitVec.toNat_ofNat, Nat.mod_eq_of_lt (by omega)]
  rfl

/-- The side conditions the body assumes hold at every grid point. -/
theorem hyps (hO : Ok m) : Hyps m hO := Hyps.of fun c t => by
  unfold Hyps.p0
  rw [tbl_eq, word_eq]
  exact chk (grid0.coords t 0)

end Cert.KernelIdeal.Table
end
-- ==== Proof.Trip.lean ====
/- One trip of the kernel's loop over key tiles, at every float interpretation: the sixteen heads run the same
   computation, so what a trip stores in the running maxima (`arg11`), the running denominators (`arg12`) and the
   running weighted sums (`arg13`) is, head for head, one function of the head's queries and the head's rows. -/
module

public import proofs.«01_k».proof.Proof.Gen.KernelIdeal.Frame

@[expose] public section

set_option maxRecDepth 16384

noncomputable section

namespace Cert.KernelIdeal.Trip

open Idealize.ShloMosaic Idealize.ShloMosaic.TcCoe Idealize.ShloMosaic.Tactic
open Cert.KernelIdeal.Gen

variable {F : FTy → Type} [FloatOps F]

/-- The sixteen heads, in the order in which a list of stores names them: the last first. -/
def heads : List (Fin 16) := [15, 14, 13, 12, 11, 10, 9, 8, 7, 6, 5, 4, 3, 2, 1, 0]

theorem mem_heads (h : Fin 16) : h ∈ heads := by revert h; decide

theorem inbQ (h : Fin 16) : ∀ a, (![0, 128 * h.val] : Fin 2 → ℕ) a + S128x128.size a ≤ S128x2048.size a := by
  revert h; decide

theorem inbM (h : Fin 16) : ∀ a, (![h.val, 0] : Fin 2 → ℕ) a + S1x128.size a ≤ S16x128.size a := by
  revert h; decide

theorem inbA (h : Fin 16) : ∀ a, (![h.val, 0, 0] : Fin 3 → ℕ) a + S1x128x128.size a ≤ S16x128x128.size a := by
  revert h; decide

/-- The queries of head `h`: its 128 columns of the block of queries. -/
def qOf (arg2 : Memref sig .tc .vmem S128x2048 .bf16) (X : BufTy.Contents (Elt F) arg2.view.ty) (h : Fin 16) : Vec F S128x128 .bf16 :=
  View.readAt (Elt F) arg2.view (Rect.unit (s := S128x2048) ![0, 128 * h.val] S128x128.size (inbQ h)).toLoadRect X

/-- Row `h` of a scratch of sixteen rows. -/
def rowOf (a : Memref sig .tc .vmem S16x128 .f32) (f : BufTy.Contents (Elt F) a.view.ty) (h : Fin 16) : Vec F S1x128 .f32 :=
  View.readAt (Elt F) a.view (Rect.unit (s := S16x128) ![h.val, 0] S1x128.size (inbM h)).toLoadRect f

/-- Block `h` of a scratch of sixteen blocks. -/
def blkOf (a : Memref sig .tc .vmem S16x128x128 .f32) (f : BufTy.Contents (Elt F) a.view.ty) (h : Fin 16) : Vec F S1x128x128 .f32 :=
  View.readAt (Elt F) a.view (Rect.unit (s := S16x128x128) ![h.val, 0, 0] S1x128x128.size (inbA h)).toLoadRect f

/-- The new maxima of a head, from its tile's keys, scales, bias, queries and its old maxima. -/
abbrev newM (K : FVec F S256x128 .bf16) (ks : FVec F S256x1 .f32) (b : FVec F S256x128 .f32) (q : Vec F S128x128 .bf16)
    (mo : Vec F S1x128 .f32) : FVec F S1x128 .f32 := k0_pay23 K ks b q mo

/-- The new denominators of a head. -/
abbrev newL (K : FVec F S256x128 .bf16) (ks : FVec F S256x1 .f32) (b : FVec F S256x128 .f32) (q : Vec F S128x128 .bf16)
    (mo l : Vec F S1x128 .f32) : FVec F S1x128 .f32 := k0_pay27 mo (k0_pay24 K ks b q mo) (k0_pay25 K ks b q mo) l

/-- The new weighted sums of a head. -/
abbrev newA (K : FVec F S256x128 .bf16) (vt : FVec F S128x256 .bf16) (ks vs : FVec F S256x1 .f32) (b : FVec F S256x128 .f32)
    (q : Vec F S128x128 .bf16) (mo : Vec F S1x128 .f32) (a : Vec F S1x128x128 .f32) : FVec F S1x128x128 .f32 :=
  k0_pay28 vt vs mo (k0_pay24 K ks b q mo) (k0_pay25 K ks b q mo) a

section
variable (𝒱 : Variants)
  (c : Dev nD)
  (bd : Option 𝒱.V)
  (i : grid0.Coords)
  (arg1 : Memref sig .tc .smem S62 .i32)
  (harg1 : arg1.IsWhole)
  (arg2 : Memref sig .tc .vmem S128x2048 .bf16)
  (harg2 : arg2.IsWhole)
  (arg3 : Memref sig .tc .vmem S1x8448x128 .bf16)
  (harg3 : arg3.IsWhole)
  (arg4 : Memref sig .tc .vmem S1x128x8448 .bf16)
  (harg4 : arg4.IsWhole)
  (arg5 : Memref sig .tc .vmem S1x8448x1 .f32)
  (harg5 : arg5.IsWhole)
  (arg6 : Memref sig .tc .vmem S1x8448x1 .f32)
  (harg6 : arg6.IsWhole)
  (arg7 : Memref sig .tc .vmem S1x136x128 .f32)
  (harg7 : arg7.IsWhole)
  (arg8 : Memref sig .tc .vmem S128x2048 .bf16)
  (harg8 : arg8.IsWhole)
  (arg9 : Memref sig .tc .vmem S128x2048 .fp8e4m3)
  (harg9 : arg9.IsWhole)
  (arg10 : Memref sig .tc .vmem S1x128x16 .f32)
  (harg10 : arg10.IsWhole)
  (arg11 : Memref sig .tc .vmem S16x128 .f32)
  (harg11 : arg11.IsWhole)
  (arg12 : Memref sig .tc .vmem S16x128 .f32)
  (harg12 : arg12.IsWhole)
  (arg13 : Memref sig .tc .vmem S16x128x128 .f32)
  (harg13 : arg13.IsWhole)
  (v1 : Elt F .i32)
  (k0_hw1 : k0_chk1 v1)
  (v13 : BitVec 32)
  (v28 : IVec S256x128 32)
  (v31 : BitVec 32)
  (c256_i32_13 : BitVec 32)
  (v32 : BitVec 32)
  (X_arg2 : BufTy.Contents (Elt F) arg2.view.ty)
  (X_arg3 : BufTy.Contents (Elt F) arg3.view.ty)
  (X_arg4 : BufTy.Contents (Elt F) arg4.view.ty)
  (X_arg5 : BufTy.Contents (Elt F) arg5.view.ty)
  (X_arg6 : BufTy.Contents (Elt F) arg6.view.ty)
  (X_arg7 : BufTy.Contents (Elt F) arg7.view.ty)
  (k : Fin (k0_t1_loop v1).trips)

/-- The tile of keys, of transposed values and of the two scales the trip reads, and its bias. -/
abbrev tK := trip_k0_t1.sl.v876 arg3 v1 k0_hw1 X_arg3 k
abbrev tV := trip_k0_t1.sl.v879 arg4 v1 k0_hw1 X_arg4 k
abbrev tKs := trip_k0_t1.sl.v882 arg5 v1 k0_hw1 X_arg5 k
abbrev tVs := trip_k0_t1.sl.v885 arg6 v1 k0_hw1 X_arg6 k
abbrev tB := trip_k0_t1.sl.r arg7 v1 k0_hw1 v13 v28 X_arg7 k

variable (acc : BitVec 32) (f11 : BufTy.Contents (Elt F) arg11.view.ty) (f12 : BufTy.Contents (Elt F) arg12.view.ty)
  (f13 : BufTy.Contents (Elt F) arg13.view.ty)

/-- What a trip stores in the maxima: one row per head. -/
theorem pieces11 :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v13 v28 v31 c256_i32_13 v32 X_arg2 X_arg3 X_arg4 X_arg5 X_arg6 X_arg7 k).2.1 acc f11 f12 f13
      = heads.map fun h => ⟨Rect.unit (s := S16x128) ![h.val, 0] S1x128.size (inbM h),
          newM (tK arg3 v1 k0_hw1 X_arg3 k) (tKs arg5 v1 k0_hw1 X_arg5 k)
            (tB arg7 v1 k0_hw1 v13 v28 X_arg7 k) (qOf arg2 X_arg2 h) (rowOf arg11 f11 h)⟩ := by
  unfold trip_k0_t1
  rfl

/-- What a trip stores in the denominators: one row per head. -/
theorem pieces12 :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v13 v28 v31 c256_i32_13 v32 X_arg2 X_arg3 X_arg4 X_arg5 X_arg6 X_arg7 k).2.2.1 acc f11 f12 f13
      = heads.map fun h => ⟨Rect.unit (s := S16x128) ![h.val, 0] S1x128.size (inbM h),
          newL (tK arg3 v1 k0_hw1 X_arg3 k) (tKs arg5 v1 k0_hw1 X_arg5 k)
            (tB arg7 v1 k0_hw1 v13 v28 X_arg7 k) (qOf arg2 X_arg2 h) (rowOf arg11 f11 h) (rowOf arg12 f12 h)⟩ := by
  unfold trip_k0_t1
  rfl

/-- What a trip stores in the weighted sums: one block per head. -/
theorem pieces13 :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v13 v28 v31 c256_i32_13 v32 X_arg2 X_arg3 X_arg4 X_arg5 X_arg6 X_arg7 k).2.2.2.1 acc f11 f12 f13
      = heads.map fun h => ⟨Rect.unit (s := S16x128x128) ![h.val, 0, 0] S1x128x128.size (inbA h),
          newA (tK arg3 v1 k0_hw1 X_arg3 k) (tV arg4 v1 k0_hw1 X_arg4 k) (tKs arg5 v1 k0_hw1 X_arg5 k)
            (tVs arg6 v1 k0_hw1 X_arg6 k) (tB arg7 v1 k0_hw1 v13 v28 X_arg7 k) (qOf arg2 X_arg2 h)
            (rowOf arg11 f11 h) (blkOf arg13 f13 h)⟩ := by
  unfold trip_k0_t1
  rfl

end

end Cert.KernelIdeal.Trip
end
-- ==== Proof.State.lean ====
/- Reading the scratch back: after the stores of a trip, one row or block per head, the scratch holds at each head what
   that head's store wrote. -/
module

public import proofs.«01_k».proof.Proof.Trip
public import Idealize.ShloMosaic.Lib.Pointwise

@[expose] public section

set_option maxRecDepth 16384

noncomputable section

namespace Cert.KernelIdeal.Trip

open Idealize.ShloMosaic Idealize.ShloMosaic.TcCoe Idealize.ShloMosaic.Tactic Idealize.ShloMosaic.Pointwise
open Cert.KernelIdeal.Gen

variable {F : FTy → Type} [FloatOps F]

/-- Sixteen rows stored, one per head: at head `h` the array holds that head's row. -/
theorem read_rows (a : Memref sig .tc .vmem S16x128 .f32) (f : BufTy.Contents (Elt F) a.view.ty)
    (pay : Fin 16 → S1x128.Idx → F .f32) (h : Fin 16) (t : Fin 128) :
    a.view.read (Elt F) (a.view.writes (Elt F) f
        (heads.map fun h => ⟨Rect.unit (s := S16x128) ![h.val, 0] S1x128.size (inbM h), pay h⟩)) (ix2 h t)
      = pay h (ix2 0 t) := by
  refine (View.read_writes_apply_of_pieces a.view f (fun y => pay (y 0) (ix2 0 (y 1))) _ ?_ (ix2 h t) ?_).trans rfl
  · intro p hp x
    obtain ⟨h', _, rfl⟩ := List.mem_map.mp hp
    show pay h' x = pay _ _
    have e0 : (Rect.unit (s := S16x128) ![h'.val, 0] S1x128.size (inbM h')).emb x 0 = h' := Fin.ext (by
      show h'.val + 1 * (x 0).val = h'.val
      have : (x 0).val < 1 := (x 0).isLt
      omega)
    rw [e0]
    congr 1
    funext a
    fin_cases a
    · exact Subsingleton.elim (α := Fin 1) _ _
    · exact Fin.ext (by show (x 1).val = 0 + 1 * (x 1).val; omega)
  · refine ⟨_, List.mem_map.mpr ⟨h, mem_heads h, rfl⟩, ?_⟩
    rw [Rect.mem_set_unit]
    intro a
    fin_cases a
    · exact ⟨le_refl _, Nat.lt_succ_self _⟩
    · exact ⟨Nat.zero_le _, by show t.val < 0 + 128; omega⟩

/-- Sixteen blocks stored, one per head: at head `h` the array holds that head's block. -/
theorem read_blks (a : Memref sig .tc .vmem S16x128x128 .f32) (f : BufTy.Contents (Elt F) a.view.ty)
    (pay : Fin 16 → S1x128x128.Idx → F .f32) (h : Fin 16) (d t : Fin 128) :
    a.view.read (Elt F) (a.view.writes (Elt F) f
        (heads.map fun h => ⟨Rect.unit (s := S16x128x128) ![h.val, 0, 0] S1x128x128.size (inbA h), pay h⟩)) (ix3 h d t)
      = pay h (ix3 0 d t) := by
  refine (View.read_writes_apply_of_pieces a.view f (fun y => pay (y 0) (ix3 0 (y 1) (y 2))) _ ?_ (ix3 h d t) ?_).trans rfl
  · intro p hp x
    obtain ⟨h', _, rfl⟩ := List.mem_map.mp hp
    show pay h' x = pay _ _
    have e0 : (Rect.unit (s := S16x128x128) ![h'.val, 0, 0] S1x128x128.size (inbA h')).emb x 0 = h' := Fin.ext (by
      show h'.val + 1 * (x 0).val = h'.val
      have : (x 0).val < 1 := (x 0).isLt
      omega)
    rw [e0]
    congr 1
    funext a
    fin_cases a
    · exact Subsingleton.elim (α := Fin 1) _ _
    · exact Fin.ext (by show (x 1).val = 0 + 1 * (x 1).val; omega)
    · exact Fin.ext (by show (x 2).val = 0 + 1 * (x 2).val; omega)
  · refine ⟨_, List.mem_map.mpr ⟨h, mem_heads h, rfl⟩, ?_⟩
    rw [Rect.mem_set_unit]
    intro a
    fin_cases a
    · exact ⟨le_refl _, Nat.lt_succ_self _⟩
    · exact ⟨Nat.zero_le _, by show d.val < 0 + 128; omega⟩
    · exact ⟨Nat.zero_le _, by show t.val < 0 + 128; omega⟩

/-- Sixteen blocks of 128 columns stored, one per head: at head `h` the array holds that head's block. -/
theorem read_cols {e : EltTy} (a : Memref sig .tc .vmem S128x2048 e) (f : BufTy.Contents (Elt F) a.view.ty)
    (pay : Fin 16 → S128x128.Idx → Elt F e) (h : Fin 16) (t d : Fin 128) :
    a.view.read (Elt F) (a.view.writes (Elt F) f
        (heads.map fun h => ⟨Rect.unit (s := S128x2048) ![0, 128 * h.val] S128x128.size (inbQ h), pay h⟩))
          (ix2 t ⟨128 * h.val + d.val, by omega⟩)
      = pay h (ix2 t d) := by
  refine (View.read_writes_apply_of_pieces a.view f
    (fun y => pay ⟨(y 1).val / 128, by have : (y 1).val < 2048 := (y 1).isLt; omega⟩
      (ix2 (y 0) ⟨(y 1).val % 128, Nat.mod_lt _ (by omega)⟩)) _ ?_ (ix2 t ⟨128 * h.val + d.val, by omega⟩) ?_).trans ?_
  · intro p hp x
    obtain ⟨h', _, rfl⟩ := List.mem_map.mp hp
    show pay h' x = pay _ _
    have hx : (x 1).val < 128 := (x 1).isLt
    have e0 : ((Rect.unit (s := S128x2048) ![0, 128 * h'.val] S128x128.size (inbQ h')).emb x 0).val = (x 0).val := by
      show 0 + 1 * (x 0).val = _
      omega
    congr 1
    · refine Fin.ext ?_
      show h'.val = (128 * h'.val + 1 * (x 1).val) / 128
      omega
    · funext a
      fin_cases a
      · exact Fin.ext e0.symm
      · refine Fin.ext ?_
        show (x 1).val = (128 * h'.val + 1 * (x 1).val) % 128
        omega
  · refine ⟨_, List.mem_map.mpr ⟨h, mem_heads h, rfl⟩, ?_⟩
    rw [Rect.mem_set_unit]
    intro a
    fin_cases a
    · exact ⟨Nat.zero_le _, by show t.val < 0 + 128; omega⟩
    · exact ⟨Nat.le_add_right _ _, by show 128 * h.val + d.val < 128 * h.val + 128; omega⟩
  · congr 1
    · exact Fin.ext (by show (128 * h.val + d.val) / 128 = h.val; omega)
    · funext a
      fin_cases a
      · rfl
      · exact Fin.ext (by show (128 * h.val + d.val) % 128 = d.val; omega)

/-- A row read out of the scratch is the scratch at that head. -/
theorem rowOf_apply (a : Memref sig .tc .vmem S16x128 .f32) (f : BufTy.Contents (Elt F) a.view.ty) (h : Fin 16) (t : Fin 128) :
    rowOf a f h (ix2 0 t) = a.view.read (Elt F) f (ix2 h t) := by
  show a.view.read (Elt F) f _ = _
  congr 1
  funext b
  fin_cases b
  · exact Fin.ext (by show h.val + 1 * 0 = h.val; omega)
  · exact Fin.ext (by show 0 + 1 * t.val = t.val; omega)

/-- A block read out of the scratch is the scratch at that head. -/
theorem blkOf_apply (a : Memref sig .tc .vmem S16x128x128 .f32) (f : BufTy.Contents (Elt F) a.view.ty) (h : Fin 16) (d t : Fin 128) :
    blkOf a f h (ix3 0 d t) = a.view.read (Elt F) f (ix3 h d t) := by
  show a.view.read (Elt F) f _ = _
  congr 1
  funext b
  fin_cases b
  · exact Fin.ext (by show h.val + 1 * 0 = h.val; omega)
  · exact Fin.ext (by show 0 + 1 * d.val = d.val; omega)
  · exact Fin.ext (by show 0 + 1 * t.val = t.val; omega)

/-- The queries of head `h` are the block's columns `128 h` to `128 h + 127`. -/
theorem qOf_apply (a : Memref sig .tc .vmem S128x2048 .bf16) (f : BufTy.Contents (Elt F) a.view.ty) (h : Fin 16) (t d : Fin 128) :
    qOf a f h (ix2 t d) = a.view.read (Elt F) f (ix2 t ⟨128 * h.val + d.val, by omega⟩) := by
  show a.view.read (Elt F) f _ = _
  congr 1
  funext b
  fin_cases b
  · exact Fin.ext (by show 0 + 1 * t.val = t.val; omega)
  · exact Fin.ext (by show 128 * h.val + 1 * d.val = 128 * h.val + d.val; omega)

end Cert.KernelIdeal.Trip
end
-- ==== Proof.Out.lean ====
/- The running state of the kernel's loop, trip by trip, and what the body stores after it, at every float
   interpretation. -/
module

public import proofs.«01_k».proof.Proof.State

@[expose] public section

set_option maxRecDepth 16384

noncomputable section

namespace Cert.KernelIdeal.Trip

open Idealize.ShloMosaic Idealize.ShloMosaic.TcCoe Idealize.ShloMosaic.Tactic Idealize.ShloMosaic.Pointwise
open Cert.KernelIdeal.Gen

variable {F : FTy → Type} [FloatOps F]

section
variable (𝒱 : Variants)
  (c : Dev nD)
  (bd : Option 𝒱.V)
  (i : grid0.Coords)
  (arg1 : Memref sig .tc .smem S62 .i32)
  (harg1 : arg1.IsWhole)
  (arg2 : Memref sig .tc .vmem S128x2048 .bf16)
  (harg2 : arg2.IsWhole)
  (arg3 : Memref sig .tc .vmem S1x8448x128 .bf16)
  (harg3 : arg3.IsWhole)
  (arg4 : Memref sig .tc .vmem S1x128x8448 .bf16)
  (harg4 : arg4.IsWhole)
  (arg5 : Memref sig .tc .vmem S1x8448x1 .f32)
  (harg5 : arg5.IsWhole)
  (arg6 : Memref sig .tc .vmem S1x8448x1 .f32)
  (harg6 : arg6.IsWhole)
  (arg7 : Memref sig .tc .vmem S1x136x128 .f32)
  (harg7 : arg7.IsWhole)
  (arg8 : Memref sig .tc .vmem S128x2048 .bf16)
  (harg8 : arg8.IsWhole)
  (arg9 : Memref sig .tc .vmem S128x2048 .fp8e4m3)
  (harg9 : arg9.IsWhole)
  (arg10 : Memref sig .tc .vmem S1x128x16 .f32)
  (harg10 : arg10.IsWhole)
  (arg11 : Memref sig .tc .vmem S16x128 .f32)
  (harg11 : arg11.IsWhole)
  (arg12 : Memref sig .tc .vmem S16x128 .f32)
  (harg12 : arg12.IsWhole)
  (arg13 : Memref sig .tc .vmem S16x128x128 .f32)
  (harg13 : arg13.IsWhole)
  (v1 : Elt F .i32)
  (k0_hw1 : k0_chk1 v1)
  (v13 : BitVec 32)
  (v28 : IVec S256x128 32)
  (v31 : BitVec 32)
  (c256_i32_13 : BitVec 32)
  (v32 : BitVec 32)
  (X_arg2 : BufTy.Contents (Elt F) arg2.view.ty)
  (X_arg3 : BufTy.Contents (Elt F) arg3.view.ty)
  (X_arg4 : BufTy.Contents (Elt F) arg4.view.ty)
  (X_arg5 : BufTy.Contents (Elt F) arg5.view.ty)
  (X_arg6 : BufTy.Contents (Elt F) arg6.view.ty)
  (X_arg7 : BufTy.Contents (Elt F) arg7.view.ty)
  (G11 : BufTy.Contents (Elt F) arg11.view.ty) (G12 : BufTy.Contents (Elt F) arg12.view.ty)
  (G13 : BufTy.Contents (Elt F) arg13.view.ty) (init : BitVec 32) (k : Fin (k0_t1_loop v1).trips) (h : Fin 16)

/-- The maxima after trip `k`, from those before it. -/
theorem succ11 (t : Fin 128) :
    arg11.view.read (Elt F) (arg11.view.writes (Elt F) G11 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v13 v28 v31 c256_i32_13 v32 X_arg2 X_arg3 X_arg4 X_arg5 X_arg6 X_arg7 G11 G12 G13 init (k.val + 1)).2.1) (ix2 h t)
      = newM (tK arg3 v1 k0_hw1 X_arg3 k) (tKs arg5 v1 k0_hw1 X_arg5 k) (tB arg7 v1 k0_hw1 v13 v28 X_arg7 k) (qOf arg2 X_arg2 h)
          (rowOf arg11 (arg11.view.writes (Elt F) G11 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v13 v28 v31 c256_i32_13 v32 X_arg2 X_arg3 X_arg4 X_arg5 X_arg6 X_arg7 G11 G12 G13 init k.val).2.1) h) (ix2 0 t) := by
  rw [st_k0_t1_succ]
  dsimp only [tripL_k0_t1]
  rw [pieces11, View.writes_append]
  exact read_rows arg11 _ _ h t

/-- The denominators after trip `k`. -/
theorem succ12 (t : Fin 128) :
    arg12.view.read (Elt F) (arg12.view.writes (Elt F) G12 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v13 v28 v31 c256_i32_13 v32 X_arg2 X_arg3 X_arg4 X_arg5 X_arg6 X_arg7 G11 G12 G13 init (k.val + 1)).2.2.1) (ix2 h t)
      = newL (tK arg3 v1 k0_hw1 X_arg3 k) (tKs arg5 v1 k0_hw1 X_arg5 k) (tB arg7 v1 k0_hw1 v13 v28 X_arg7 k) (qOf arg2 X_arg2 h)
          (rowOf arg11 (arg11.view.writes (Elt F) G11 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v13 v28 v31 c256_i32_13 v32 X_arg2 X_arg3 X_arg4 X_arg5 X_arg6 X_arg7 G11 G12 G13 init k.val).2.1) h)
          (rowOf arg12 (arg12.view.writes (Elt F) G12 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v13 v28 v31 c256_i32_13 v32 X_arg2 X_arg3 X_arg4 X_arg5 X_arg6 X_arg7 G11 G12 G13 init k.val).2.2.1) h) (ix2 0 t) := by
  rw [st_k0_t1_succ]
  dsimp only [tripL_k0_t1]
  rw [pieces12, View.writes_append]
  exact read_rows arg12 _ _ h t

/-- The weighted sums after trip `k`. -/
theorem succ13 (d t : Fin 128) :
    arg13.view.read (Elt F) (arg13.view.writes (Elt F) G13 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v13 v28 v31 c256_i32_13 v32 X_arg2 X_arg3 X_arg4 X_arg5 X_arg6 X_arg7 G11 G12 G13 init (k.val + 1)).2.2.2) (ix3 h d t)
      = newA (tK arg3 v1 k0_hw1 X_arg3 k) (tV arg4 v1 k0_hw1 X_arg4 k) (tKs arg5 v1 k0_hw1 X_arg5 k) (tVs arg6 v1 k0_hw1 X_arg6 k)
          (tB arg7 v1 k0_hw1 v13 v28 X_arg7 k) (qOf arg2 X_arg2 h)
          (rowOf arg11 (arg11.view.writes (Elt F) G11 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v13 v28 v31 c256_i32_13 v32 X_arg2 X_arg3 X_arg4 X_arg5 X_arg6 X_arg7 G11 G12 G13 init k.val).2.1) h)
          (blkOf arg13 (arg13.view.writes (Elt F) G13 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v13 v28 v31 c256_i32_13 v32 X_arg2 X_arg3 X_arg4 X_arg5 X_arg6 X_arg7 G11 G12 G13 init k.val).2.2.2) h) (ix3 0 d t) := by
  rw [st_k0_t1_succ]
  dsimp only [tripL_k0_t1]
  rw [pieces13, View.writes_append]
  exact read_blks arg13 _ _ h d t

end

/-- The scratch when the loop starts: the maxima at -∞, the denominators and the weighted sums at 0. -/
abbrev g11 (a : Memref sig .tc .vmem S16x128 .f32) : BufTy.Contents (Elt F) a.view.ty :=
  a.view.writes (Elt F) a.view.junk kernelRun0_A.sl.HS0_1
abbrev g12 (a : Memref sig .tc .vmem S16x128 .f32) : BufTy.Contents (Elt F) a.view.ty :=
  a.view.writes (Elt F) a.view.junk kernelRun0_A.sl.HS1_1
abbrev g13 (a : Memref sig .tc .vmem S16x128x128 .f32) : BufTy.Contents (Elt F) a.view.ty :=
  a.view.writes (Elt F) a.view.junk kernelRun0_A.sl.HS2_1

section
variable (c : Dev nD) (i : grid0.Coords) (arg2 : Memref sig .tc .vmem S128x2048 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S1x8448x1 .f32) (harg5 : arg5.IsWhole) (arg6 : Memref sig .tc .vmem S1x8448x1 .f32) (harg6 : arg6.IsWhole) (arg7 : Memref sig .tc .vmem S1x136x128 .f32) (harg7 : arg7.IsWhole) (arg8 : Memref sig .tc .vmem S128x2048 .bf16) (harg8 : arg8.IsWhole) (arg9 : Memref sig .tc .vmem S128x2048 .fp8e4m3) (harg9 : arg9.IsWhole) (arg10 : Memref sig .tc .vmem S1x128x16 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128x128 .f32) (harg13 : arg13.IsWhole)
    (x0 : Vec F S128x2048 .bf16) (x1 : Vec F S1x8448x128 .bf16) (x2 : Vec F S1x128x8448 .bf16) (x3 : Vec F S1x8448x1 .f32) (x4 : Vec F S1x8448x1 .f32) (x5 : Vec F S1x136x128 .f32) (xt0 : TbBuf0 (F := F) c tbM0_0) (k0_hw1 : k0_chk1 (tbM0_0.view.readAt (Elt F) (Rect.unit (s := S62) (k0_off1 i) S1.size (k0_off1_inb i)).toLoadRect xt0 (Shape.Idx.first (numel1_S1.symm ▸ Nat.one_pos))))

/-- The loop's state before trip `n`. -/
abbrev atTrip (n : ℕ) := st_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) k0_pay298 (kernelRun0_A.sl.v31 c i xt0) 256#32 (kernelRun0_A.sl.v32 c i xt0) (harg2.unread x0) (harg3.unread x1) (harg4.unread x2) (harg5.unread x3) (harg6.unread x4) (harg7.unread x5) (g11 arg11) (g12 arg12) (g13 arg13) 0#32 n

/-- What the body stores in the block of results: per head its weighted sums divided by its denominators, transposed;
    both read back after the loop and the (empty) remainder of the loop. -/
theorem piecesOut :
    (kernelRun0_A (F := F) c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1).1
      = heads.map fun h => ⟨Rect.unit (s := S128x2048) ![0, 128 * h.val] S128x128.size (inbQ h),
          k0_pay302
            (blkOf arg13 (arg13.view.writes (Elt F) arg13.view.junk ((st_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) k0_pay298 (kernelRun0_A.sl.v31 c i xt0) 256#32 (kernelRun0_A.sl.v32 c i xt0) (kernelRun0_A.sl.v53 c i xt0) (harg2.unread x0) (harg3.unread x1) (harg4.unread x2) (harg5.unread x3) (harg6.unread x4) (harg7.unread x5) (arg11.view.writes (Elt F) arg11.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.1 ++ kernelRun0_A.sl.HS0_1)) (arg12.view.writes (Elt F) arg12.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.1 ++ kernelRun0_A.sl.HS1_1)) (arg13.view.writes (Elt F) arg13.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.2 ++ kernelRun0_A.sl.HS2_1)) (atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).1 (Scf.trips (k0_t2_loop (kernelRun0_A.sl.r c i xt0)).lb (k0_t2_loop (kernelRun0_A.sl.r c i xt0)).ub (k0_t2_loop (kernelRun0_A.sl.r c i xt0)).st)).2.2.2 ++ ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.2 ++ kernelRun0_A.sl.HS2_1))) h)
            (rowOf arg12 (arg12.view.writes (Elt F) arg12.view.junk ((st_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) k0_pay298 (kernelRun0_A.sl.v31 c i xt0) 256#32 (kernelRun0_A.sl.v32 c i xt0) (kernelRun0_A.sl.v53 c i xt0) (harg2.unread x0) (harg3.unread x1) (harg4.unread x2) (harg5.unread x3) (harg6.unread x4) (harg7.unread x5) (arg11.view.writes (Elt F) arg11.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.1 ++ kernelRun0_A.sl.HS0_1)) (arg12.view.writes (Elt F) arg12.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.1 ++ kernelRun0_A.sl.HS1_1)) (arg13.view.writes (Elt F) arg13.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.2 ++ kernelRun0_A.sl.HS2_1)) (atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).1 (Scf.trips (k0_t2_loop (kernelRun0_A.sl.r c i xt0)).lb (k0_t2_loop (kernelRun0_A.sl.r c i xt0)).ub (k0_t2_loop (kernelRun0_A.sl.r c i xt0)).st)).2.2.1 ++ ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.1 ++ kernelRun0_A.sl.HS1_1))) h)⟩ := by
  unfold kernelRun0_A
  rfl

/-- The remainder of the loop makes no trip, so the results are of the loop's last state. -/
theorem piecesOut' (h2 : (Scf.trips (k0_t2_loop (kernelRun0_A.sl.r c i xt0)).lb (k0_t2_loop (kernelRun0_A.sl.r c i xt0)).ub (k0_t2_loop (kernelRun0_A.sl.r c i xt0)).st) = 0) :
    (kernelRun0_A (F := F) c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1).1
      = heads.map fun h => ⟨Rect.unit (s := S128x2048) ![0, 128 * h.val] S128x128.size (inbQ h),
          k0_pay302 (blkOf arg13 (arg13.view.writes (Elt F) (g13 arg13) (atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.2) h)
            (rowOf arg12 (arg12.view.writes (Elt F) (g12 arg12) (atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.1) h)⟩ := by
  rw [piecesOut, h2]
  simp only [st_k0_t2, List.nil_append, View.writes_append]

end

end Cert.KernelIdeal.Trip
end
-- ==== Proof.Flash.lean ====
/- The running softmax over the extended reals, apart from any kernel: sweeping the keys in tiles of 256 with a running
   maximum (rounded up), a running denominator and a running weighted sum gives, at the end, the sums over all the keys
   taken at the final maximum. Nothing is assumed of the scores, the values or the weights: any of them may be infinite. -/
module

public import Idealize.ShloMosaic.PureOps.Ideal
public import Mathlib.Data.EReal.Operations
public import Mathlib.Algebra.BigOperators.Intervals

@[expose] public section

noncomputable section

namespace Flash

open Idealize.ShloMosaic

/-- 2 to the power `x`. -/
abbrev e2 (x : EReal) : EReal := Ideal.exp2 x

/-- `x` rounded up to a whole number. -/
abbrev up (x : EReal) : EReal := Ideal.liftRound Int.ceil x

/-- A maximum to subtract: that of no key, -∞, is replaced by 0. -/
def safe (m : EReal) : EReal := if m = ⊥ then 0 else m

theorem safe_ne_bot (m : EReal) : safe m ≠ ⊥ := by
  unfold safe; split <;> simp_all

theorem e2_sub_top (x : EReal) : e2 (x - ⊤) = 0 := by
  rw [sub_eq_add_neg, EReal.neg_top, EReal.add_bot]; rfl

theorem e2_bot_sub (x : EReal) : e2 (⊥ - x) = 0 := by
  rw [sub_eq_add_neg, EReal.bot_add]; rfl

theorem le_up (x : EReal) : x ≤ up x := by
  induction x using EReal.rec with
  | bot => exact le_refl _
  | top => exact le_refl _
  | coe r => exact EReal.coe_le_coe_iff.mpr (Int.le_ceil r)

theorem up_mono {x y : EReal} (h : x ≤ y) : up x ≤ up y := by
  induction x using EReal.rec with
  | bot => exact bot_le
  | top => rw [top_le_iff.mp h]
  | coe r =>
    induction y using EReal.rec with
    | bot => exact absurd h (by simp)
    | top => exact le_top
    | coe q =>
      exact EReal.coe_le_coe_iff.mpr (Int.cast_le.mpr (Int.ceil_mono (EReal.coe_le_coe_iff.mp h)))

theorem up_max (x y : EReal) : up (max x y) = max (up x) (up y) :=
  Monotone.map_max (f := up) (fun _ _ h => up_mono h)

/-- Changing the maximum from `mo` to a greater one multiplies a term by the same factor, whatever the term. -/
theorem shift {s mo mn : EReal} (h1 : s ≤ mo) (h2 : mo ≤ mn) :
    e2 (s - safe mo) * e2 (mo - safe mn) = e2 (s - safe mn) := by
  induction mn using EReal.rec with
  | bot =>
    obtain rfl := le_bot_iff.mp h2
    obtain rfl := le_bot_iff.mp h1
    rw [e2_bot_sub, zero_mul]
  | top =>
    have : safe (⊤ : EReal) = ⊤ := by simp [safe]
    rw [this, e2_sub_top, e2_sub_top, mul_zero]
  | coe n =>
    have hn : safe (n : EReal) = n := by simp [safe]
    rw [hn]
    induction mo using EReal.rec with
    | bot =>
      obtain rfl := le_bot_iff.mp h1
      rw [e2_bot_sub, e2_bot_sub, zero_mul]
    | top => exact absurd h2 (by simp)
    | coe o =>
      have ho : safe (o : EReal) = o := by simp [safe]
      rw [ho]
      induction s using EReal.rec with
      | bot => rw [e2_bot_sub, e2_bot_sub, zero_mul]
      | top => exact absurd h1 (by simp)
      | coe r =>
        simp only [← EReal.coe_sub, e2, Ideal.exp2_coe, ← EReal.coe_mul]
        congr 1
        show (2 : ℝ) ^ (r - o) * 2 ^ (o - n) = 2 ^ (r - n)
        rw [← Real.rpow_add (by norm_num)]
        congr 1; ring

/-- The factor is a nonnegative number. -/
theorem alpha_nonneg {mo mn : EReal} (h : mo ≤ mn) : 0 ≤ e2 (mo - safe mn) ∧ e2 (mo - safe mn) ≠ ⊤ := by
  induction mn using EReal.rec with
  | bot =>
    obtain rfl := le_bot_iff.mp h
    rw [e2_bot_sub]; simp
  | top =>
    have : safe (⊤ : EReal) = ⊤ := by simp [safe]
    rw [this, e2_sub_top]; simp
  | coe n =>
    have hn : safe (n : EReal) = n := by simp [safe]
    rw [hn]
    induction mo using EReal.rec with
    | bot => rw [e2_bot_sub]; simp
    | top => exact absurd h (by simp)
    | coe o =>
      simp only [← EReal.coe_sub, e2, Ideal.exp2_coe]
      exact ⟨EReal.coe_nonneg.mpr (Real.rpow_nonneg (by norm_num) _), EReal.coe_ne_top _⟩

/-- At the final maximum the replacement of -∞ by 0 changes no term. -/
theorem e2_safe {s m : EReal} (h : s ≤ m) : e2 (s - safe m) = e2 (s - m) := by
  by_cases hm : m = ⊥
  · subst hm
    obtain rfl := le_bot_iff.mp h
    rw [e2_bot_sub, e2_bot_sub]
  · rw [safe, if_neg hm]

theorem sum_mul_of {ι : Type} (A : Finset ι) (f : ι → EReal) {c : EReal} (h0 : 0 ≤ c) (h1 : c ≠ ⊤) :
    (∑ j ∈ A, f j) * c = ∑ j ∈ A, f j * c := by
  classical
  induction A using Finset.induction_on with
  | empty => simp
  | insert a A ha ih =>
    rw [Finset.sum_insert ha, Finset.sum_insert ha, EReal.right_distrib_of_nonneg_of_ne_top h0 h1, ih]

theorem sup_range_add (S : ℕ → EReal) (n k : ℕ) :
    (Finset.range (n + k)).sup S = max ((Finset.range n).sup S) (Finset.univ.sup fun x : Fin k => S (n + x.val)) := by
  apply le_antisymm
  · refine Finset.sup_le fun j hj => ?_
    rw [Finset.mem_range] at hj
    by_cases h : j < n
    · exact le_max_of_le_left (Finset.le_sup (f := S) (Finset.mem_range.mpr h))
    · refine le_max_of_le_right ?_
      have := Finset.le_sup (f := fun x : Fin k => S (n + x.val)) (Finset.mem_univ ⟨j - n, by omega⟩)
      simpa [Nat.add_sub_cancel' (Nat.le_of_not_lt h)] using this
  · refine max_le (Finset.sup_mono fun j hj => ?_) (Finset.sup_le fun x _ => ?_)
    · rw [Finset.mem_range] at hj ⊢; omega
    · exact Finset.le_sup (f := S) (Finset.mem_range.mpr (by have := x.isLt; omega))

theorem sum_range_add (f : ℕ → EReal) (n k : ℕ) :
    ∑ j ∈ Finset.range (n + k), f j = (∑ j ∈ Finset.range n, f j) + ∑ x : Fin k, f (n + x.val) := by
  rw [Finset.sum_range_add, Finset.sum_range (n := k)]

theorem fold_max_eq_sup {ι : Type} (A : Finset ι) (f : ι → EReal) : A.fold max ⊥ f = A.sup f := rfl

/-- THE SWEEP: after `n` tiles the running maximum, denominator and weighted sum are those of the first `256 n` keys,
    the terms taken at the running maximum. -/
theorem sweep (N : ℕ) (S W V : ℕ → EReal) (m l a : ℕ → EReal) (m0 : m 0 = ⊥) (l0 : l 0 = 0) (a0 : a 0 = 0)
    (hm : ∀ n < N, m (n + 1) = max (m n) (up (Finset.univ.sup fun x : Fin 256 => S (256 * n + x.val))))
    (hl : ∀ n < N, l (n + 1) = l n * e2 (m n - safe (m (n + 1))) + ∑ x : Fin 256, e2 (S (256 * n + x.val) - safe (m (n + 1))))
    (ha : ∀ n < N, a (n + 1) = a n * e2 (m n - safe (m (n + 1)))
      + ∑ x : Fin 256, V (256 * n + x.val) * (e2 (S (256 * n + x.val) - safe (m (n + 1))) * W (256 * n + x.val))) :
    ∀ n ≤ N, m n = up ((Finset.range (256 * n)).sup S)
      ∧ l n = ∑ j ∈ Finset.range (256 * n), e2 (S j - safe (m n))
      ∧ a n = ∑ j ∈ Finset.range (256 * n), V j * (e2 (S j - safe (m n)) * W j) := by
  intro n
  induction n with
  | zero => intro _; simp [m0, l0, a0]
  | succ n ih =>
    intro hn
    obtain ⟨im, il, ia⟩ := ih (by omega)
    have em : m (n + 1) = up ((Finset.range (256 * (n + 1))).sup S) := by
      rw [hm n (by omega), im, Nat.mul_succ, sup_range_add, up_max]
    have hle : m n ≤ m (n + 1) := by rw [hm n (by omega)]; exact le_max_left _ _
    have hs : ∀ j ∈ Finset.range (256 * n), S j ≤ m n := fun j hj => by
      rw [im]; exact (Finset.le_sup hj).trans (le_up _)
    obtain ⟨c0, c1⟩ := alpha_nonneg hle
    refine ⟨em, ?_, ?_⟩
    · rw [hl n (by omega), il, Nat.mul_succ, sum_range_add, sum_mul_of _ _ c0 c1]
      congr 1
      exact Finset.sum_congr rfl fun j hj => shift (hs j hj) hle
    · rw [ha n (by omega), ia, Nat.mul_succ, sum_range_add, sum_mul_of _ _ c0 c1]
      congr 1
      refine Finset.sum_congr rfl fun j hj => ?_
      rw [← shift (hs j hj) hle]
      ac_rfl

/-- Keys of score -∞ count for nothing: two ranges that hold every other key have the same maximum and sums. -/
theorem sup_eq_of_bot (S : ℕ → EReal) {p n : ℕ} (hp : p ≤ n) (hS : ∀ j, p ≤ j → S j = ⊥) :
    (Finset.range n).sup S = (Finset.range p).sup S := by
  apply le_antisymm
  · refine Finset.sup_le fun j _ => ?_
    by_cases h : j < p
    · exact Finset.le_sup (f := S) (Finset.mem_range.mpr h)
    · rw [hS j (by omega)]; exact bot_le
  · refine Finset.sup_mono fun j hj => ?_
    rw [Finset.mem_range] at hj ⊢; omega

theorem sum_eq_of_zero (f : ℕ → EReal) {p n : ℕ} (hp : p ≤ n) (hf : ∀ j, p ≤ j → f j = 0) :
    ∑ j ∈ Finset.range n, f j = ∑ j ∈ Finset.range p, f j := by
  symm
  refine Finset.sum_subset (fun j hj => ?_) fun j _ hj => hf j ?_
  · rw [Finset.mem_range] at hj ⊢; omega
  · rw [Finset.mem_range] at hj; omega

/-- The sweep's end against the sums over `T` keys taken at once: the two agree when every key of the one range that the
    other lacks has the score -∞. -/
theorem finish (N T p : ℕ) (hN : p ≤ 256 * N) (hT : p ≤ T) (S W V : ℕ → EReal) (hS : ∀ j, p ≤ j → S j = ⊥)
    (M L A : EReal) (hM : M = up ((Finset.range (256 * N)).sup S))
    (hL : L = ∑ j ∈ Finset.range (256 * N), e2 (S j - safe M))
    (hA : A = ∑ j ∈ Finset.range (256 * N), V j * (e2 (S j - safe M) * W j)) :
    L = ∑ j ∈ Finset.range T, e2 (S j - up ((Finset.range T).sup S))
      ∧ A = ∑ j ∈ Finset.range T, (e2 (S j - up ((Finset.range T).sup S)) * W j) * V j := by
  have hM' : up ((Finset.range T).sup S) = M := by
    rw [hM, sup_eq_of_bot S hN hS, sup_eq_of_bot S hT hS]
  have z : ∀ j, p ≤ j → e2 (S j - safe M) = 0 := fun j hj => by rw [hS j hj, e2_bot_sub]
  have hle : ∀ j ∈ Finset.range T, S j ≤ M := fun j hj => by
    rw [← hM']; exact (Finset.le_sup hj).trans (le_up _)
  rw [hM', hL, hA]
  constructor
  · rw [sum_eq_of_zero _ hN z, ← sum_eq_of_zero _ hT z]
    exact Finset.sum_congr rfl fun j hj => e2_safe (hle j hj)
  · rw [sum_eq_of_zero (fun j => V j * (e2 (S j - safe M) * W j)) hN (fun j hj => by simp only [z j hj, zero_mul, mul_zero]),
      ← sum_eq_of_zero (fun j => V j * (e2 (S j - safe M) * W j)) hT (fun j hj => by simp only [z j hj, zero_mul, mul_zero])]
    refine Finset.sum_congr rfl fun j hj => ?_
    rw [e2_safe (hle j hj), mul_comm]

/-- Attention over the first `T` keys with scores `S`, values `V` and value scales `W`: the exponentials are taken at the
    greatest score rounded up to a whole number. -/
def attn (T : ℕ) (S W V : ℕ → EReal) : EReal :=
  Ideal.div (∑ j ∈ Finset.range T, (e2 (S j - up ((Finset.range T).sup S)) * W j) * V j)
    (∑ j ∈ Finset.range T, e2 (S j - up ((Finset.range T).sup S)))

end Flash
end
-- ==== Proof.BodyIdeal.lean ====
/- What the body reads in one trip, at an index, over the extended reals: its tile of keys, of values and of the two
   scales, and the bias of each (key, query) pair. -/
module

public import proofs.«01_k».proof.Proof.Out
public import proofs.«01_k».proof.Proof.Flash
public import Idealize.ShloMosaic.Lib.WholeRead

@[expose] public section

set_option maxRecDepth 16384

noncomputable section

namespace Cert.KernelIdeal.Body

open Idealize.ShloMosaic Idealize.ShloMosaic.TcCoe Idealize.ShloMosaic.Tactic Idealize.ShloMosaic.Pointwise
open Cert.KernelIdeal.Gen Cert.KernelIdeal.Trip

/-- The position of a tile's first query, as the body computes it from the tile's number. -/
def posOf (v1 : BitVec 32) : BitVec 32 :=
  have v2 := Scalar.cmpi CmpIPredicate.eq 31#32 0#32
  have v3 := Scalar.select v2 1#32 31#32
  have v4 := Scalar.remsi v1 v3
  have v6 := Scalar.cmpi CmpIPredicate.slt v4 0#32
  have v7 := Scalar.cmpi CmpIPredicate.slt v3 0#32
  have v8 := Scalar.xori v6 v7
  have v5 := Scalar.cmpi CmpIPredicate.ne v4 0#32
  have v9 := Scalar.andi v8 v5
  have v10 := Scalar.addi v4 v3
  have v11 := Scalar.select v9 v10 v4
  have v12 := Scalar.muli v11 128#32
  Scalar.addi 4352#32 v12

theorem v13_eq (c : Dev nD) (i : grid0.Coords) (xt0 : TbBuf0 (F := Ideal) c tbM0_0) :
    kernelRun0_A.sl.v13 c i xt0 = posOf (kernelRun0_A.sl.r c i xt0) := rfl

theorem posOf_eq : ∀ n : Fin 62, posOf (BitVec.ofNat 32 n.val) = BitVec.ofNat 32 (4352 + 128 * (n.val % 31)) := by
  decide +kernel

theorem trips1_eq : ∀ n : Fin 62, (k0_t1_loop (BitVec.ofNat 32 n.val)).trips = (4352 + 128 * (n.val % 31) + 383) / 256 := by
  decide +kernel

theorem trips2_eq : ∀ n : Fin 62, (k0_t2_loop (BitVec.ofNat 32 n.val)).trips = 0 := by
  decide +kernel

variable (v1 : BitVec 32) (k0_hw1 : k0_chk1 v1) (k : Fin (k0_t1_loop v1).trips)

theorem iv256 : ∀ n : Fin 33, (Scalar.indexCast (Scalar.muli (Scf.iv 0#32 1#32 n.val) 256#32)).toNat = 256 * n.val := by
  decide +kernel

theorem iv4 : ∀ (n : Fin 33) (b : Fin 4),
    (Scalar.indexCast (Scalar.addi (Scalar.muli (Scf.iv 0#32 1#32 n.val) 4#32) (BitVec.ofNat 32 b.val))).toNat = 4 * n.val + b.val := by
  decide +kernel

theorem off2_eq (hk : k.val < 33) : k0_off2 v1 k = ![0, 256 * k.val, 0] := by
  show ![0, (Scalar.indexCast (Scalar.muli (Scf.iv 0#32 1#32 k.val) 256#32)).toNat, 0] = _
  rw [iv256 ⟨k.val, hk⟩]

theorem off3_eq (hk : k.val < 33) : k0_off3 v1 k = ![0, 0, 256 * k.val] := by
  show ![0, 0, (Scalar.indexCast (Scalar.muli (Scf.iv 0#32 1#32 k.val) 256#32)).toNat] = _
  rw [iv256 ⟨k.val, hk⟩]

theorem off4_eq (hk : k.val < 33) : k0_off4 v1 k = ![0, 256 * k.val, 0] := off2_eq v1 k hk

theorem off5_eq (hk : k.val < 33) (b : ℕ) (hb : b < 4) : k0_off5 v1 k (BitVec.ofNat 32 b) = ![0, 4 * k.val + b, 0] := by
  show ![0, (Scalar.indexCast (Scalar.addi (Scalar.muli (Scf.iv 0#32 1#32 k.val) 4#32) (BitVec.ofNat 32 b))).toNat, 0] = _
  rw [iv4 ⟨k.val, hk⟩ ⟨b, hb⟩]

/-- The keys of trip `k`. -/
theorem tK_apply (arg3 : Memref sig .tc .vmem S1x8448x128 .bf16) (harg3 : arg3.IsWhole) (x1 : Vec Ideal S1x8448x128 .bf16)
    (hk : k.val < 33) (j : Fin 256) (d : Fin 128) :
    tK (F := Ideal) arg3 v1 k0_hw1 (harg3.unread x1) k (ix2 j d) = x1 (ix3 0 ⟨256 * k.val + j.val, by omega⟩ d) := by
  unfold tK trip_k0_t1.sl.v876
  pointwise
  rw [Memref.IsWhole.readAt_unread]
  congr 1
  funext a
  fin_cases a
  · exact Subsingleton.elim (α := Fin 1) _ _
  · exact Fin.ext (by show k0_off2 v1 k 1 + 1 * j.val = _; rw [off2_eq v1 k hk]; show 256 * k.val + 1 * j.val = 256 * k.val + j.val; omega)
  · exact Fin.ext (by show k0_off2 v1 k 2 + 1 * d.val = _; rw [off2_eq v1 k hk]; show 0 + 1 * d.val = d.val; omega)

/-- The transposed values of trip `k`. -/
theorem tV_apply (arg4 : Memref sig .tc .vmem S1x128x8448 .bf16) (harg4 : arg4.IsWhole) (x2 : Vec Ideal S1x128x8448 .bf16)
    (hk : k.val < 33) (j : Fin 256) (d : Fin 128) :
    tV (F := Ideal) arg4 v1 k0_hw1 (harg4.unread x2) k (ix2 d j) = x2 (ix3 0 d ⟨256 * k.val + j.val, by omega⟩) := by
  unfold tV trip_k0_t1.sl.v879
  pointwise
  rw [Memref.IsWhole.readAt_unread]
  congr 1
  funext a
  fin_cases a
  · exact Subsingleton.elim (α := Fin 1) _ _
  · exact Fin.ext (by show k0_off3 v1 k 1 + 1 * d.val = _; rw [off3_eq v1 k hk]; show 0 + 1 * d.val = d.val; omega)
  · exact Fin.ext (by show k0_off3 v1 k 2 + 1 * j.val = _; rw [off3_eq v1 k hk]; show 256 * k.val + 1 * j.val = 256 * k.val + j.val; omega)

/-- The keys' scales of trip `k`. -/
theorem tKs_apply (arg5 : Memref sig .tc .vmem S1x8448x1 .f32) (harg5 : arg5.IsWhole) (x3 : Vec Ideal S1x8448x1 .f32)
    (hk : k.val < 33) (j : Fin 256) :
    tKs (F := Ideal) arg5 v1 k0_hw1 (harg5.unread x3) k (ix2 j 0) = x3 (ix3 0 ⟨256 * k.val + j.val, by omega⟩ 0) := by
  unfold tKs trip_k0_t1.sl.v882
  pointwise
  rw [Memref.IsWhole.readAt_unread]
  congr 1
  funext a
  fin_cases a
  · exact Subsingleton.elim (α := Fin 1) _ _
  · exact Fin.ext (by show k0_off4 v1 k 1 + 1 * j.val = _; rw [off4_eq v1 k hk]; show 256 * k.val + 1 * j.val = 256 * k.val + j.val; omega)
  · exact Subsingleton.elim (α := Fin 1) _ _

/-- The values' scales of trip `k`. -/
theorem tVs_apply (arg6 : Memref sig .tc .vmem S1x8448x1 .f32) (harg6 : arg6.IsWhole) (x4 : Vec Ideal S1x8448x1 .f32)
    (hk : k.val < 33) (j : Fin 256) :
    tVs (F := Ideal) arg6 v1 k0_hw1 (harg6.unread x4) k (ix2 j 0) = x4 (ix3 0 ⟨256 * k.val + j.val, by omega⟩ 0) :=
  tKs_apply v1 k0_hw1 k arg6 harg6 x4 hk j

/-- The distance of query and key, as the body computes it. -/
theorem dist_toInt (n : ℕ) (hn : n < 33) (p : ℕ) (hp : p ≤ 8192) (j : Fin 256) (t : Fin 128) :
    (IntOp.addi (IntOp.subi (BitVec.ofNat 32 t.val) (BitVec.ofNat 32 j.val))
      (Scalar.subi (BitVec.ofNat 32 p) (Scalar.muli (Scf.iv 0#32 1#32 n) 256#32))).toInt
      = (t.val : ℤ) - j.val + (p - 256 * n) := by
  have e : Scalar.muli (Scf.iv 0#32 1#32 n) 256#32 = BitVec.ofNat 32 (256 * n) := by
    apply BitVec.eq_of_toNat_eq
    rw [BitVec.toNat_ofNat, Nat.mod_eq_of_lt (by omega)]
    exact iv256 ⟨n, hn⟩
  rw [e]
  show ((BitVec.ofNat 32 t.val - BitVec.ofNat 32 j.val) + (BitVec.ofNat 32 p - BitVec.ofNat 32 (256 * n))).toInt = _
  have ht := t.isLt
  have hj := j.isLt
  rw [BitVec.toInt_eq_toNat_cond]
  simp only [BitVec.toNat_add, BitVec.toNat_sub, BitVec.toNat_ofNat]
  split <;> omega

/-- -∞ is read as the least extended real. -/
theorem ofBits_bot : Ideal.ofBits FTy.f32 4286578688#32 = ⊥ := by
  simp [Ideal.ofBits, Ideal.ieee]

/-- The choice made by the three comparisons' bits. -/
theorem choose (a b c : Bool) (x y : EReal) :
    Scalar.select (IntOp.andi (BitVec.ofBool a) (IntOp.ori (BitVec.ofBool b) (BitVec.ofBool c))) x y
      = if a = true ∧ (b = true ∨ c = true) then x else y := by
  cases a <;> cases b <;> cases c <;> rfl

section Bias
variable (arg7 : Memref sig .tc .vmem S1x136x128 .f32) (harg7 : arg7.IsWhole) (x5 : Vec Ideal S1x136x128 .f32)

/-- A row of the block mask, spread over the 64 keys of its block. -/
theorem row_apply (hk : k.val < 33) (b : ℕ) (hb : b < 4)
    (inb : ∀ a, k0_off5 v1 k (BitVec.ofNat 32 b) a + S1x1x128.size a ≤ S1x136x128.size a) (t : Fin 128) :
    View.readAt (Elt Ideal) arg7.view (Rect.unit (s := S1x136x128) (k0_off5 v1 k (BitVec.ofNat 32 b)) S1x1x128.size inb).toLoadRect (harg7.unread x5)
        (ix3 0 0 t) = x5 (ix3 0 ⟨4 * k.val + b, by omega⟩ t) := by
  rw [Memref.IsWhole.readAt_unread]
  congr 1
  funext a
  fin_cases a
  · exact Subsingleton.elim (α := Fin 1) _ _
  · exact Fin.ext (by show k0_off5 v1 k (BitVec.ofNat 32 b) 1 + 1 * 0 = _; rw [off5_eq v1 k hk b hb]; show 4 * k.val + b + 1 * 0 = 4 * k.val + b; omega)
  · exact Fin.ext (by show k0_off5 v1 k (BitVec.ofNat 32 b) 2 + 1 * t.val = _; rw [off5_eq v1 k hk b hb]; show 0 + 1 * t.val = t.val; omega)

/-- The bias of key `j` of tile `k` and query `t` of a tile whose first query is at position `p`: 0 where the query may
    look at the key, -∞ elsewhere. -/
theorem tB_apply (p : ℕ) (hp : p ≤ 8192) (hk : k.val < 33) (j : Fin 256) (t : Fin 128) :
    tB (F := Ideal) arg7 v1 k0_hw1 (BitVec.ofNat 32 p) k0_pay298 (harg7.unread x5) k (ix2 j t)
      = if 256 * k.val + j.val ≤ p + t.val ∧ (0 < x5 (ix3 0 ⟨4 * k.val + j.val / 64, by omega⟩ t) ∨ p + t.val < 256 * k.val + j.val + 2048)
        then 0 else ⊥ := by
  have e888 : trip_k0_t1.sl.v888 (F := Ideal) v1 (BitVec.ofNat 32 p) k0_pay298 k
      = k0_pay7 (F := Ideal) v1 (BitVec.ofNat 32 p) k0_pay298 0#32 1#32 k := rfl
  have e0 : ∃ inb, trip_k0_t1.sl.v895 (F := Ideal) arg7 v1 k0_hw1 (harg7.unread x5) k = k0_pay8 (View.readAt (Elt Ideal) arg7.view (Rect.unit (s := S1x136x128) (k0_off5 v1 k 0#32) S1x1x128.size inb).toLoadRect (harg7.unread x5)) := ⟨_, rfl⟩
  have e1 : ∃ inb, trip_k0_t1.sl.v901 (F := Ideal) arg7 v1 k0_hw1 (harg7.unread x5) k = k0_pay9 (View.readAt (Elt Ideal) arg7.view (Rect.unit (s := S1x136x128) (k0_off5 v1 k 1#32) S1x1x128.size inb).toLoadRect (harg7.unread x5)) := ⟨_, rfl⟩
  have e2 : ∃ inb, trip_k0_t1.sl.v907 (F := Ideal) arg7 v1 k0_hw1 (harg7.unread x5) k = k0_pay10 (View.readAt (Elt Ideal) arg7.view (Rect.unit (s := S1x136x128) (k0_off5 v1 k 2#32) S1x1x128.size inb).toLoadRect (harg7.unread x5)) := ⟨_, rfl⟩
  have e3 : ∃ inb, trip_k0_t1.sl.r (F := Ideal) arg7 v1 k0_hw1 (BitVec.ofNat 32 p) k0_pay298 (harg7.unread x5) k
      = k0_pay11 (trip_k0_t1.sl.v888 (F := Ideal) v1 (BitVec.ofNat 32 p) k0_pay298 k) (trip_k0_t1.sl.v895 (F := Ideal) arg7 v1 k0_hw1 (harg7.unread x5) k)
        (trip_k0_t1.sl.v901 (F := Ideal) arg7 v1 k0_hw1 (harg7.unread x5) k) (trip_k0_t1.sl.v907 (F := Ideal) arg7 v1 k0_hw1 (harg7.unread x5) k)
        (View.readAt (Elt Ideal) arg7.view (Rect.unit (s := S1x136x128) (k0_off5 v1 k 3#32) S1x1x128.size inb).toLoadRect (harg7.unread x5)) := ⟨_, rfl⟩
  obtain ⟨i0, e0⟩ := e0
  obtain ⟨i1, e1⟩ := e1
  obtain ⟨i2, e2⟩ := e2
  obtain ⟨i3, e3⟩ := e3
  unfold tB
  rw [e3, e888, e0, e1, e2]
  pointwise [k0_pay11, k0_pay8, k0_pay9, k0_pay10, k0_pay7, k0_pay298]
  have hm : ∀ (z : EReal), (z = if h : j.val < 64 then
        View.readAt (Elt Ideal) arg7.view (Rect.unit (s := S1x136x128) (k0_off5 v1 k 0#32) S1x1x128.size i0).toLoadRect (harg7.unread x5) (ix3 0 0 t)
      else if h : j.val - 64 < 64 then
        View.readAt (Elt Ideal) arg7.view (Rect.unit (s := S1x136x128) (k0_off5 v1 k 1#32) S1x1x128.size i1).toLoadRect (harg7.unread x5) (ix3 0 0 t)
      else if h : j.val - 64 - 64 < 64 then
        View.readAt (Elt Ideal) arg7.view (Rect.unit (s := S1x136x128) (k0_off5 v1 k 2#32) S1x1x128.size i2).toLoadRect (harg7.unread x5) (ix3 0 0 t)
      else
        View.readAt (Elt Ideal) arg7.view (Rect.unit (s := S1x136x128) (k0_off5 v1 k 3#32) S1x1x128.size i3).toLoadRect (harg7.unread x5) (ix3 0 0 t))
      → z = x5 (ix3 0 ⟨4 * k.val + j.val / 64, by omega⟩ t) := by
    intro z hz
    rw [hz]
    split
    · rw [row_apply v1 k arg7 harg7 x5 hk 0 (by omega) i0]
      congr 3; omega
    · split
      · rw [row_apply v1 k arg7 harg7 x5 hk 1 (by omega) i1]
        congr 3; omega
      · split
        · rw [row_apply v1 k arg7 harg7 x5 hk 2 (by omega) i2]
          congr 3; omega
        · rw [row_apply v1 k arg7 harg7 x5 hk 3 (by omega) i3]
          congr 3; omega
  rw [hm _ rfl]
  simp only [IntOp.cmpi]
  rw [choose, ofBits_bot]
  simp only [BitVec.sle, BitVec.slt, dist_toInt k.val hk p hp j t, decide_eq_true_eq]
  have e0 : (0#32).toInt = 0 := by decide
  have e1 : (2048#32).toInt = 2048 := by decide
  rw [e0, e1]
  congr 1
  apply propext
  constructor
  · rintro ⟨a, b⟩
    exact ⟨by omega, b.imp id fun h => by omega⟩
  · rintro ⟨a, b⟩
    exact ⟨by omega, b.imp id fun h => by omega⟩

end Bias

end Cert.KernelIdeal.Body
end
-- ==== Proof.StepIdeal.lean ====
/- One trip's three results at an index, over the extended reals. -/
module

public import proofs.«01_k».proof.Proof.BodyIdeal
public import Idealize.ShloMosaic.Lib.Pointwise

@[expose] public section

set_option maxRecDepth 16384

noncomputable section

namespace Cert.KernelIdeal.Step

open Idealize.ShloMosaic Idealize.ShloMosaic.TcCoe Idealize.ShloMosaic.Tactic Idealize.ShloMosaic.Pointwise
open Cert.KernelIdeal.Gen Cert.KernelIdeal.Trip

variable (K : FVec Ideal S256x128 .bf16) (vt : FVec Ideal S128x256 .bf16) (ks vs : FVec Ideal S256x1 .f32)
  (b : FVec Ideal S256x128 .f32) (q : Vec Ideal S128x128 .bf16) (mo l : Vec Ideal S1x128 .f32) (a : Vec Ideal S1x128x128 .f32)

/-- The scores of a tile. -/
theorem s_apply (j : Fin 256) (t : Fin 128) :
    k0_pay21 K ks b q (ix2 j t) = (∑ x : Fin 128, K (ix2 j x) * q (ix2 t x)) * ks (ix2 j 0) + b (ix2 j t) := by
  pointwise [k0_pay21]

theorem pay22_apply (t : Fin 128) :
    k0_pay22 K ks b q mo (ix2 0 t) = max (mo (ix2 0 t)) (Flash.up (Finset.univ.sup fun x : Fin 256 => k0_pay21 K ks b q (ix2 x t))) := by
  pointwise [k0_pay22]
  rw [Body.ofBits_bot]
  rfl

/-- The new maxima. -/
theorem newM_apply (t : Fin 128) :
    newM K ks b q mo (ix2 0 t) = max (mo (ix2 0 t)) (Flash.up (Finset.univ.sup fun x : Fin 256 => k0_pay21 K ks b q (ix2 x t))) := by
  rw [← pay22_apply]
  unfold newM
  pointwise [k0_pay23]

/-- What is subtracted: the new maxima, with 0 in place of -∞. -/
theorem safe_apply (t : Fin 128) : k0_pay24 K ks b q mo (ix2 0 t) = Flash.safe (newM K ks b q mo (ix2 0 t)) := by
  rw [newM_apply, ← pay22_apply]
  pointwise [k0_pay24]
  rw [Body.ofBits_bot]
  rfl

/-- The unnormalized probabilities. -/
theorem p_apply (j : Fin 256) (t : Fin 128) :
    k0_pay25 K ks b q mo (ix2 j t) = Flash.e2 (k0_pay21 K ks b q (ix2 j t) - Flash.safe (newM K ks b q mo (ix2 0 t))) := by
  rw [← safe_apply]
  pointwise [k0_pay25]
  rfl

/-- The new denominators. -/
theorem newL_apply (t : Fin 128) :
    newL K ks b q mo l (ix2 0 t) = l (ix2 0 t) * Flash.e2 (mo (ix2 0 t) - Flash.safe (newM K ks b q mo (ix2 0 t)))
      + ∑ x : Fin 256, Flash.e2 (k0_pay21 K ks b q (ix2 x t) - Flash.safe (newM K ks b q mo (ix2 0 t))) := by
  simp only [← p_apply]
  rw [← safe_apply]
  unfold newL
  pointwise [k0_pay27, k0_pay26]
  rfl

/-- The new weighted sums. -/
theorem newA_apply (d t : Fin 128) :
    newA K vt ks vs b q mo a (ix3 0 d t) = a (ix3 0 d t) * Flash.e2 (mo (ix2 0 t) - Flash.safe (newM K ks b q mo (ix2 0 t)))
      + ∑ x : Fin 256, vt (ix2 d x)
          * (Flash.e2 (k0_pay21 K ks b q (ix2 x t) - Flash.safe (newM K ks b q mo (ix2 0 t))) * vs (ix2 x 0)) := by
  simp only [← p_apply]
  rw [← safe_apply]
  unfold newA
  pointwise [k0_pay28, k0_pay26]
  rfl

/-- The result of a head: the weighted sums over the denominators, transposed. -/
theorem out_apply (d t : Fin 128) :
    k0_pay302 a l (ix2 t d) = Ideal.div (a (ix3 0 d t)) (l (ix2 0 t)) := by
  pointwise [k0_pay302, k0_pay301]

end Cert.KernelIdeal.Step
end
-- ==== Proof.Value.lean ====
/- The value of the block that one run of the body stores: attention, over the extended reals. -/
module

public import proofs.«01_k».proof.Proof.StepIdeal

@[expose] public section

set_option maxRecDepth 16384

noncomputable section

namespace Cert.KernelIdeal.Value

open Idealize.ShloMosaic Idealize.ShloMosaic.TcCoe Idealize.ShloMosaic.Tactic Idealize.ShloMosaic.Pointwise
open Cert.KernelIdeal.Gen Cert.KernelIdeal.Trip Cert.KernelIdeal.Body Cert.KernelIdeal.Step

/-- The scores of head `h` of query `t` against the keys, for a tile whose first query is at position `p`. -/
def scores (x0 : Vec Ideal S128x2048 .bf16) (x1 : Vec Ideal S1x8448x128 .bf16) (x3 : Vec Ideal S1x8448x1 .f32)
    (x5 : Vec Ideal S1x136x128 .f32) (p : ℕ) (h : Fin 16) (t : Fin 128) (j : ℕ) : EReal :=
  if hj : j < 8448 then
    (∑ d : Fin 128, x1 (ix3 0 ⟨j, hj⟩ d) * x0 (ix2 t ⟨128 * h.val + d.val, by omega⟩)) * x3 (ix3 0 ⟨j, hj⟩ 0)
      + (if j ≤ p + t.val ∧ (0 < x5 (ix3 0 ⟨j / 64, by omega⟩ t) ∨ p + t.val < j + 2048) then 0 else ⊥)
  else ⊥

/-- The values' scales. -/
def weights (x4 : Vec Ideal S1x8448x1 .f32) (j : ℕ) : EReal := if hj : j < 8448 then x4 (ix3 0 ⟨j, hj⟩ 0) else 0

/-- Component `d` of the values. -/
def values (x2 : Vec Ideal S1x128x8448 .bf16) (d : Fin 128) (j : ℕ) : EReal :=
  if hj : j < 8448 then x2 (ix3 0 d ⟨j, hj⟩) else 0

/-- A key after the query has the score -∞. -/
theorem scores_bot (x0 x1 x3 x5) (p : ℕ) (h : Fin 16) (t : Fin 128) (j : ℕ) (hj : p + t.val + 1 ≤ j) :
    scores x0 x1 x3 x5 p h t j = ⊥ := by
  unfold scores
  split
  · rw [if_neg (by rintro ⟨a, _⟩; omega), EReal.add_bot]
  · rfl

section
variable (c : Dev nD) (i : grid0.Coords) (arg1 : Memref sig .tc .smem S62 .i32) (harg1 : arg1.IsWhole) (arg2 : Memref sig .tc .vmem S128x2048 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S1x8448x1 .f32) (harg5 : arg5.IsWhole) (arg6 : Memref sig .tc .vmem S1x8448x1 .f32) (harg6 : arg6.IsWhole) (arg7 : Memref sig .tc .vmem S1x136x128 .f32) (harg7 : arg7.IsWhole) (arg8 : Memref sig .tc .vmem S128x2048 .bf16) (harg8 : arg8.IsWhole) (arg9 : Memref sig .tc .vmem S128x2048 .fp8e4m3) (harg9 : arg9.IsWhole) (arg10 : Memref sig .tc .vmem S1x128x16 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128x128 .f32) (harg13 : arg13.IsWhole)
  (v1 : Elt Ideal .i32) (k0_hw1 : k0_chk1 v1) (v13 v31 v32 : BitVec 32)
  (x0 : Vec Ideal S128x2048 .bf16) (x1 : Vec Ideal S1x8448x128 .bf16) (x2 : Vec Ideal S1x128x8448 .bf16) (x3 : Vec Ideal S1x8448x1 .f32) (x4 : Vec Ideal S1x8448x1 .f32) (x5 : Vec Ideal S1x136x128 .f32)
  (n : Fin 62) (hr : v1 = BitVec.ofNat 32 n.val) (hpos : v13 = BitVec.ofNat 32 (4352 + 128 * (n.val % 31))) (h : Fin 16) (t : Fin 128)

abbrev pos (n : Fin 62) : ℕ := 4352 + 128 * (n.val % 31)

/-- The maximum, the denominator and the weighted sum before trip `k`. -/
abbrev mAt (k : ℕ) : EReal := arg11.view.read (Elt Ideal) (arg11.view.writes (Elt Ideal) (g11 arg11) (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v1 k0_hw1 v13 k0_pay298 v31 256#32 v32 (harg2.unread x0) (harg3.unread x1) (harg4.unread x2) (harg5.unread x3) (harg6.unread x4) (harg7.unread x5) (g11 arg11) (g12 arg12) (g13 arg13) 0#32 k).2.1) (ix2 h t)
abbrev lAt (k : ℕ) : EReal := arg12.view.read (Elt Ideal) (arg12.view.writes (Elt Ideal) (g12 arg12) (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v1 k0_hw1 v13 k0_pay298 v31 256#32 v32 (harg2.unread x0) (harg3.unread x1) (harg4.unread x2) (harg5.unread x3) (harg6.unread x4) (harg7.unread x5) (g11 arg11) (g12 arg12) (g13 arg13) 0#32 k).2.2.1) (ix2 h t)
abbrev aAt (d : Fin 128) (k : ℕ) : EReal := arg13.view.read (Elt Ideal) (arg13.view.writes (Elt Ideal) (g13 arg13) (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v1 k0_hw1 v13 k0_pay298 v31 256#32 v32 (harg2.unread x0) (harg3.unread x1) (harg4.unread x2) (harg5.unread x3) (harg6.unread x4) (harg7.unread x5) (g11 arg11) (g12 arg12) (g13 arg13) 0#32 k).2.2.2) (ix3 h d t)

theorem m_zero : mAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t 0 = ⊥ := by
  refine (View.read_writes_apply_of_pieces (Val := Elt Ideal) arg11.view arg11.view.junk (fun _ => show Elt Ideal .f32 from (⊥ : EReal)) kernelRun0_A.sl.HS0_1 ?_ _ ?_)
  · intro p hp x
    obtain rfl := List.mem_singleton.mp hp
    show k0_pay295 (F := Ideal) x = ⊥
    exact ofBits_bot
  · refine ⟨_, List.mem_singleton.mpr rfl, ?_⟩
    rw [Rect.mem_set_unit]
    intro a
    fin_cases a
    · exact ⟨Nat.zero_le _, by show h.val < 0 + 16; omega⟩
    · exact ⟨Nat.zero_le _, by show t.val < 0 + 128; omega⟩

theorem l_zero : lAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t 0 = 0 := by
  refine (View.read_writes_apply_of_pieces (Val := Elt Ideal) arg12.view arg12.view.junk (fun _ => show Elt Ideal .f32 from (0 : EReal)) kernelRun0_A.sl.HS1_1 ?_ _ ?_)
  · intro p hp x
    obtain rfl := List.mem_singleton.mp hp
    show Ideal.ofBits FTy.f32 0#32 = 0
    simp [Ideal.ofBits, Ideal.ieee]
  · refine ⟨_, List.mem_singleton.mpr rfl, ?_⟩
    rw [Rect.mem_set_unit]
    intro a
    fin_cases a
    · exact ⟨Nat.zero_le _, by show h.val < 0 + 16; omega⟩
    · exact ⟨Nat.zero_le _, by show t.val < 0 + 128; omega⟩

theorem a_zero (d : Fin 128) : aAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t d 0 = 0 := by
  refine (View.read_writes_apply_of_pieces (Val := Elt Ideal) arg13.view arg13.view.junk (fun _ => show Elt Ideal .f32 from (0 : EReal)) kernelRun0_A.sl.HS2_1 ?_ _ ?_)
  · intro p hp x
    obtain rfl := List.mem_singleton.mp hp
    show Ideal.ofBits FTy.f32 0#32 = 0
    simp [Ideal.ofBits, Ideal.ieee]
  · refine ⟨_, List.mem_singleton.mpr rfl, ?_⟩
    rw [Rect.mem_set_unit]
    intro a
    fin_cases a
    · exact ⟨Nat.zero_le _, by show h.val < 0 + 16; omega⟩
    · exact ⟨Nat.zero_le _, by show d.val < 0 + 128; omega⟩
    · exact ⟨Nat.zero_le _, by show t.val < 0 + 128; omega⟩

include hr in
theorem trips_eq : (k0_t1_loop v1).trips = (pos n + 383) / 256 := by
  rw [hr]; exact trips1_eq n

include hr hpos in
/-- A tile's scores in terms of the blocks. -/
theorem tile_scores (k : Fin (k0_t1_loop v1).trips) (x : Fin 256) :
    k0_pay21 (tK arg3 v1 k0_hw1 (harg3.unread x1) k) (tKs arg5 v1 k0_hw1 (harg5.unread x3) k)
        (tB arg7 v1 k0_hw1 v13 k0_pay298 (harg7.unread x5) k) (qOf arg2 (harg2.unread x0) h) (ix2 x t)
      = scores x0 x1 x3 x5 (pos n) h t (256 * k.val + x.val) := by
  have hk : k.val < 33 := by
    have := lt_of_lt_of_eq k.isLt (trips_eq v1 n hr)
    unfold pos at this
    omega
  rw [s_apply, hpos]
  show (_ : EReal) + tB arg7 v1 k0_hw1 (BitVec.ofNat 32 (pos n)) k0_pay298 (harg7.unread x5) k (ix2 x t) = _
  rw [tB_apply _ k0_hw1 k arg7 harg7 x5 (pos n) (by unfold pos; omega) hk, tKs_apply _ k0_hw1 k arg5 harg5 x3 hk]
  unfold scores
  rw [dif_pos (by omega)]
  congr 1
  · congr 1
    refine Finset.sum_congr rfl fun d _ => ?_
    rw [tK_apply _ k0_hw1 k arg3 harg3 x1 hk, qOf_apply, Memref.IsWhole.read_unread]
  · have e : (⟨4 * k.val + x.val / 64, by omega⟩ : Fin 136) = ⟨(256 * k.val + x.val) / 64, by omega⟩ := Fin.ext (by show 4 * k.val + x.val / 64 = (256 * k.val + x.val) / 64; omega)
    rw [e]

include hr hpos in
theorem m_succ (k : Fin (k0_t1_loop v1).trips) :
    mAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t (k.val + 1) = max (mAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t k.val)
      (Flash.up (Finset.univ.sup fun x : Fin 256 => scores x0 x1 x3 x5 (pos n) h t (256 * k.val + x.val))) := by
  refine (succ11 Variants.none c none i arg1 harg1 arg2 harg2 arg3 harg3 arg4 harg4 arg5 harg5 arg6 harg6 arg7 harg7 arg8 harg8 arg9 harg9 arg10 harg10 arg11 harg11 arg12 harg12 arg13 harg13 v1 k0_hw1 v13 k0_pay298 v31 256#32 v32 (harg2.unread x0) (harg3.unread x1) (harg4.unread x2) (harg5.unread x3) (harg6.unread x4) (harg7.unread x5) (g11 arg11) (g12 arg12) (g13 arg13) 0#32 k h t).trans ?_
  rw [newM_apply, rowOf_apply]
  simp only [tile_scores arg2 harg2 arg3 harg3 arg5 harg5 arg7 harg7 v1 k0_hw1 v13 x0 x1 x3 x5 n hr hpos h t]

include hr hpos in
theorem l_succ (k : Fin (k0_t1_loop v1).trips) :
    lAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t (k.val + 1) = lAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t k.val * Flash.e2 (mAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t k.val - Flash.safe (mAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t (k.val + 1)))
      + ∑ x : Fin 256, Flash.e2 (scores x0 x1 x3 x5 (pos n) h t (256 * k.val + x.val) - Flash.safe (mAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t (k.val + 1))) := by
  refine (succ12 Variants.none c none i arg1 harg1 arg2 harg2 arg3 harg3 arg4 harg4 arg5 harg5 arg6 harg6 arg7 harg7 arg8 harg8 arg9 harg9 arg10 harg10 arg11 harg11 arg12 harg12 arg13 harg13 v1 k0_hw1 v13 k0_pay298 v31 256#32 v32 (harg2.unread x0) (harg3.unread x1) (harg4.unread x2) (harg5.unread x3) (harg6.unread x4) (harg7.unread x5) (g11 arg11) (g12 arg12) (g13 arg13) 0#32 k h t).trans ?_
  have em := succ11 Variants.none c none i arg1 harg1 arg2 harg2 arg3 harg3 arg4 harg4 arg5 harg5 arg6 harg6 arg7 harg7 arg8 harg8 arg9 harg9 arg10 harg10 arg11 harg11 arg12 harg12 arg13 harg13 v1 k0_hw1 v13 k0_pay298 v31 256#32 v32 (harg2.unread x0) (harg3.unread x1) (harg4.unread x2) (harg5.unread x3) (harg6.unread x4) (harg7.unread x5) (g11 arg11) (g12 arg12) (g13 arg13) 0#32 k h t
  rw [newL_apply, rowOf_apply, rowOf_apply, ← em]
  simp only [tile_scores arg2 harg2 arg3 harg3 arg5 harg5 arg7 harg7 v1 k0_hw1 v13 x0 x1 x3 x5 n hr hpos h t]

include hr hpos in
theorem a_succ (d : Fin 128) (k : Fin (k0_t1_loop v1).trips) :
    aAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t d (k.val + 1) = aAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t d k.val * Flash.e2 (mAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t k.val - Flash.safe (mAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t (k.val + 1)))
      + ∑ x : Fin 256, values x2 d (256 * k.val + x.val)
          * (Flash.e2 (scores x0 x1 x3 x5 (pos n) h t (256 * k.val + x.val) - Flash.safe (mAt c i arg1 harg1 arg2 harg2 arg3 harg3 arg4 harg4 arg5 harg5 arg6 harg6 arg7 harg7 arg8 harg8 arg9 harg9 arg10 harg10 arg11 harg11 arg12 harg12 arg13 harg13 v1 k0_hw1 v13 v31 v32 x0 x1 x2 x3 x4 x5 h t (k.val + 1))) * weights x4 (256 * k.val + x.val)) := by
  refine (succ13 Variants.none c none i arg1 harg1 arg2 harg2 arg3 harg3 arg4 harg4 arg5 harg5 arg6 harg6 arg7 harg7 arg8 harg8 arg9 harg9 arg10 harg10 arg11 harg11 arg12 harg12 arg13 harg13 v1 k0_hw1 v13 k0_pay298 v31 256#32 v32 (harg2.unread x0) (harg3.unread x1) (harg4.unread x2) (harg5.unread x3) (harg6.unread x4) (harg7.unread x5) (g11 arg11) (g12 arg12) (g13 arg13) 0#32 k h d t).trans ?_
  have em := succ11 Variants.none c none i arg1 harg1 arg2 harg2 arg3 harg3 arg4 harg4 arg5 harg5 arg6 harg6 arg7 harg7 arg8 harg8 arg9 harg9 arg10 harg10 arg11 harg11 arg12 harg12 arg13 harg13 v1 k0_hw1 v13 k0_pay298 v31 256#32 v32 (harg2.unread x0) (harg3.unread x1) (harg4.unread x2) (harg5.unread x3) (harg6.unread x4) (harg7.unread x5) (g11 arg11) (g12 arg12) (g13 arg13) 0#32 k h t
  have hk : k.val < 33 := by
    have := lt_of_lt_of_eq k.isLt (trips_eq v1 n hr)
    unfold pos at this
    omega
  have hv : ∀ x : Fin 256, tV arg4 v1 k0_hw1 (harg4.unread x2) k (ix2 d x) = values x2 d (256 * k.val + x.val) := fun x => by
    rw [tV_apply _ k0_hw1 k arg4 harg4 x2 hk, values, dif_pos (by omega)]
  have hw : ∀ x : Fin 256, tVs arg6 v1 k0_hw1 (harg6.unread x4) k (ix2 x 0) = weights x4 (256 * k.val + x.val) := fun x => by
    rw [tVs_apply _ k0_hw1 k arg6 harg6 x4 hk, weights, dif_pos (by omega)]
  rw [newA_apply, rowOf_apply, blkOf_apply, ← em]
  simp only [tile_scores arg2 harg2 arg3 harg3 arg5 harg5 arg7 harg7 v1 k0_hw1 v13 x0 x1 x3 x5 n hr hpos h t, hv, hw]

end

/-- THE BODY'S VALUE: the block stored holds, at query `t` and component `d` of head `h`, attention over 8320 keys. -/
theorem body_value (c : Dev nD) (i : grid0.Coords) (arg2 : Memref sig .tc .vmem S128x2048 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S1x8448x1 .f32) (harg5 : arg5.IsWhole) (arg6 : Memref sig .tc .vmem S1x8448x1 .f32) (harg6 : arg6.IsWhole) (arg7 : Memref sig .tc .vmem S1x136x128 .f32) (harg7 : arg7.IsWhole) (arg8 : Memref sig .tc .vmem S128x2048 .bf16) (harg8 : arg8.IsWhole) (arg9 : Memref sig .tc .vmem S128x2048 .fp8e4m3) (harg9 : arg9.IsWhole) (arg10 : Memref sig .tc .vmem S1x128x16 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128x128 .f32) (harg13 : arg13.IsWhole)
    (x0 : Vec Ideal S128x2048 .bf16) (x1 : Vec Ideal S1x8448x128 .bf16) (x2 : Vec Ideal S1x128x8448 .bf16) (x3 : Vec Ideal S1x8448x1 .f32) (x4 : Vec Ideal S1x8448x1 .f32) (x5 : Vec Ideal S1x136x128 .f32) (xt0 : TbBuf0 (F := Ideal) c tbM0_0) (k0_hw1 : k0_chk1 (tbM0_0.view.readAt (Elt Ideal) (Rect.unit (s := S62) (k0_off1 i) S1.size (k0_off1_inb i)).toLoadRect xt0 (Shape.Idx.first (numel1_S1.symm ▸ Nat.one_pos))))
    (n : Fin 62) (hr : kernelRun0_A.sl.r c i xt0 = BitVec.ofNat 32 n.val) (h : Fin 16) (t : Fin 128) (d : Fin 128)
    (a : Memref sig .tc .vmem S128x2048 .bf16) :
    a.view.read (Elt Ideal) (a.view.writes (Elt Ideal) a.view.junk (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1).1) (ix2 t ⟨128 * h.val + d.val, by omega⟩)
      = Flash.attn 8320 (scores x0 x1 x3 x5 (pos n) h t) (weights x4) (values x2 d) := by
  have hpos : kernelRun0_A.sl.v13 c i xt0 = BitVec.ofNat 32 (pos n) := by rw [v13_eq, hr, posOf_eq]
  have h2 : (Scf.trips (k0_t2_loop (kernelRun0_A.sl.r c i xt0)).lb (k0_t2_loop (kernelRun0_A.sl.r c i xt0)).ub (k0_t2_loop (kernelRun0_A.sl.r c i xt0)).st) = 0 := by
    rw [hr]; exact trips2_eq n
  rw [piecesOut' c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 h2, read_cols, out_apply, rowOf_apply, blkOf_apply]
  have hN := trips_eq (kernelRun0_A.sl.r c i xt0) n hr
  obtain ⟨hM, hL, hA⟩ := Flash.sweep (k0_t1_loop (kernelRun0_A.sl.r c i xt0)).trips (scores x0 x1 x3 x5 (pos n) h t) (weights x4) (values x2 d)
    (mAt c i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) (kernelRun0_A.sl.v31 c i xt0) (kernelRun0_A.sl.v32 c i xt0) x0 x1 x2 x3 x4 x5 h t) (lAt c i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) (kernelRun0_A.sl.v31 c i xt0) (kernelRun0_A.sl.v32 c i xt0) x0 x1 x2 x3 x4 x5 h t) (aAt c i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) (kernelRun0_A.sl.v31 c i xt0) (kernelRun0_A.sl.v32 c i xt0) x0 x1 x2 x3 x4 x5 h t d) (m_zero c i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) (kernelRun0_A.sl.v31 c i xt0) (kernelRun0_A.sl.v32 c i xt0) x0 x1 x2 x3 x4 x5 h t) (l_zero c i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) (kernelRun0_A.sl.v31 c i xt0) (kernelRun0_A.sl.v32 c i xt0) x0 x1 x2 x3 x4 x5 h t) (a_zero c i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) (kernelRun0_A.sl.v31 c i xt0) (kernelRun0_A.sl.v32 c i xt0) x0 x1 x2 x3 x4 x5 h t d)
    (fun k hk => m_succ c i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) (kernelRun0_A.sl.v31 c i xt0) (kernelRun0_A.sl.v32 c i xt0) x0 x1 x2 x3 x4 x5 n hr hpos h t ⟨k, hk⟩) (fun k hk => l_succ c i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) (kernelRun0_A.sl.v31 c i xt0) (kernelRun0_A.sl.v32 c i xt0) x0 x1 x2 x3 x4 x5 n hr hpos h t ⟨k, hk⟩) (fun k hk => a_succ c i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) (kernelRun0_A.sl.v31 c i xt0) (kernelRun0_A.sl.v32 c i xt0) x0 x1 x2 x3 x4 x5 n hr hpos h t d ⟨k, hk⟩)
    (k0_t1_loop (kernelRun0_A.sl.r c i xt0)).trips (le_refl _)
  have ht := t.isLt
  obtain ⟨eL, eA⟩ := Flash.finish (k0_t1_loop (kernelRun0_A.sl.r c i xt0)).trips 8320 (pos n + t.val + 1) (by rw [hN]; unfold pos; omega) (by unfold pos; omega)
    (scores x0 x1 x3 x5 (pos n) h t) (weights x4) (values x2 d) (fun j hj => scores_bot x0 x1 x3 x5 (pos n) h t j hj)
    (mAt c i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) (kernelRun0_A.sl.v31 c i xt0) (kernelRun0_A.sl.v32 c i xt0) x0 x1 x2 x3 x4 x5 h t (k0_t1_loop (kernelRun0_A.sl.r c i xt0)).trips) (lAt c i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) (kernelRun0_A.sl.v31 c i xt0) (kernelRun0_A.sl.v32 c i xt0) x0 x1 x2 x3 x4 x5 h t (k0_t1_loop (kernelRun0_A.sl.r c i xt0)).trips)
    (aAt c i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) (kernelRun0_A.sl.v31 c i xt0) (kernelRun0_A.sl.v32 c i xt0) x0 x1 x2 x3 x4 x5 h t d (k0_t1_loop (kernelRun0_A.sl.r c i xt0)).trips) hM hL hA
  exact congrArg₂ Ideal.div eA eL

end Cert.KernelIdeal.Value
end
-- ==== Proof.ArrayIdeal.lean ====
/- The kernel's array of results after the whole grid: attention of the argument arrays. -/
module

public import proofs.«01_k».proof.Proof.Value
public import proofs.«01_k».proof.Proof.TableIdeal
public import Idealize.ShloMosaic.Lib.Pipeline.Value

@[expose] public section

set_option maxRecDepth 16384

noncomputable section

namespace Cert.KernelIdeal.Array

open Idealize.ShloMosaic Idealize.ShloMosaic.TcCoe Idealize.ShloMosaic.Tactic Idealize.ShloMosaic.Pointwise
open Idealize.ShloMosaic.Pipeline
open Cert.KernelIdeal.Gen Cert.KernelIdeal.Trip Cert.KernelIdeal.Value

variable (m : (ℓ : Loc nD τ sig) → Buf (Elt Ideal) ℓ) (hO : Ok m) (hH : Hyps m hO) (c : Dev nD) (t : Fin (cfgM m hO).N)

/-- The tile number of a grid point. -/
def tile : Fin 62 := grid0.coords t 0

theorem tile_of : ∀ t : Fin grid0.N, ((grid0.coords t 0 : Fin 62).val) = t.val := by decide +kernel

/-- The block of the queries and of the results at a tile: rows by the tile within its group, columns by the group. -/
theorem map0 : ∀ n : Fin 62, ∀ a : Fin 2, cc0_transform_0 k0_off1_inb numel1_S1 (Table.iota (F := Ideal)) (fun a => match a with | 0 => n) a = (![n.val % 31, n.val / 31] : Fin 2 → ℕ) a := by
  decide +kernel
theorem map6 : ∀ n : Fin 62, ∀ a : Fin 2, cc0_transform_6 k0_off1_inb numel1_S1 (Table.iota (F := Ideal)) (fun a => match a with | 0 => n) a = (![n.val % 31, n.val / 31] : Fin 2 → ℕ) a := by
  decide +kernel
/-- The block of the keys, values and their scales: the group's. -/
theorem map1 : ∀ n : Fin 62, ∀ a : Fin 3, cc0_transform_1 k0_off1_inb numel1_S1 (Table.iota (F := Ideal)) (fun a => match a with | 0 => n) a = (![n.val / 31, 0, 0] : Fin 3 → ℕ) a := by
  decide +kernel
/-- The block of the mask: the group's, and the tile's queries. -/
theorem map5 : ∀ n : Fin 62, ∀ a : Fin 3, cc0_transform_5 k0_off1_inb numel1_S1 (Table.iota (F := Ideal)) (fun a => match a with | 0 => n) a = (![n.val / 31, 0, n.val % 31] : Fin 3 → ℕ) a := by
  decide +kernel

theorem coords_eq : grid0.coords t = (fun a => match a with | 0 => tile m hO t) := by
  funext a; fin_cases a; rfl

theorem index0 (a : Fin 2) : ((cfgM m hO).win 0).index t a = (![(tile m hO t).val % 31, (tile m hO t).val / 31] : Fin 2 → ℕ) a := by
  show cc0_transform_0 k0_off1_inb numel1_S1 (tbl m) (grid0.coords t) a = _
  rw [Table.tbl_eq, coords_eq m hO t]
  exact map0 _ a

theorem index6 (a : Fin 2) : ((cfgM m hO).win 6).index t a = (![(tile m hO t).val % 31, (tile m hO t).val / 31] : Fin 2 → ℕ) a := by
  show cc0_transform_6 k0_off1_inb numel1_S1 (tbl m) (grid0.coords t) a = _
  rw [Table.tbl_eq, coords_eq m hO t]
  exact map6 _ a

theorem index1 (a : Fin 3) : ((cfgM m hO).win 1).index t a = (![(tile m hO t).val / 31, 0, 0] : Fin 3 → ℕ) a := by
  show cc0_transform_1 k0_off1_inb numel1_S1 (tbl m) (grid0.coords t) a = _
  rw [Table.tbl_eq, coords_eq m hO t]
  exact map1 _ a

theorem index2 (a : Fin 3) : ((cfgM m hO).win 2).index t a = (![(tile m hO t).val / 31, 0, 0] : Fin 3 → ℕ) a := index1 m hO t a
theorem index3 (a : Fin 3) : ((cfgM m hO).win 3).index t a = (![(tile m hO t).val / 31, 0, 0] : Fin 3 → ℕ) a := index1 m hO t a
theorem index4 (a : Fin 3) : ((cfgM m hO).win 4).index t a = (![(tile m hO t).val / 31, 0, 0] : Fin 3 → ℕ) a := index1 m hO t a

theorem index5 (a : Fin 3) : ((cfgM m hO).win 5).index t a = (![(tile m hO t).val / 31, 0, (tile m hO t).val % 31] : Fin 3 → ℕ) a := by
  show cc0_transform_5 k0_off1_inb numel1_S1 (tbl m) (grid0.coords t) a = _
  rw [Table.tbl_eq, coords_eq m hO t]
  exact map5 _ a

/-- The group of a tile. -/
def group (n : Fin 62) : Fin 2 := ⟨n.val / 31, by omega⟩
/-- The row of the arrays that holds query `r` of a tile. -/
def row (n : Fin 62) (r : Fin 128) : Fin 3968 := ⟨128 * (n.val % 31) + r.val, by omega⟩
/-- The column of the arrays that holds column `k` of a tile's block. -/
def col (n : Fin 62) (k : Fin 2048) : Fin 4096 := ⟨2048 * (n.val / 31) + k.val, by omega⟩

theorem iblk0_apply (r : Fin 128) (k : Fin 2048) :
    (iblk m hO c 0 t : Vec Ideal S128x2048 .bf16) (ix2 r k)
      = (m ((c : Thread nD τ).loc main_arg0) : Vec Ideal S3968x4096 .bf16) (ix2 (row (tile m hO t) r) (col (tile m hO t) k)) := by
  rw [← V_main_arg0 m c]
  show (V m c main_arg0 : Vec Ideal S3968x4096 .bf16) ((((cfgM m hO).win 0).blk t).view.emb (ix2 r k)) = _
  congr 1
  funext a
  fin_cases a
  · refine Fin.ext ?_
    show ((cfgM m hO).win 0).index t (0 : Fin 2) * 128 + 1 * r.val = 128 * ((tile m hO t).val % 31) + r.val
    rw [index0]
    show (tile m hO t).val % 31 * 128 + 1 * r.val = 128 * ((tile m hO t).val % 31) + r.val
    omega
  · refine Fin.ext ?_
    show ((cfgM m hO).win 0).index t (1 : Fin 2) * 2048 + 1 * k.val = 2048 * ((tile m hO t).val / 31) + k.val
    rw [index0]
    show (tile m hO t).val / 31 * 2048 + 1 * k.val = 2048 * ((tile m hO t).val / 31) + k.val
    omega

theorem emb6 (r : Fin 128) (k : Fin 2048) :
    (((cfgM m hO).win 6).blk t).view.emb (ix2 r k) = (ix2 (row (tile m hO t) r) (col (tile m hO t) k) : S3968x4096.Idx) := by
  funext a
  fin_cases a
  · refine Fin.ext ?_
    show ((cfgM m hO).win 6).index t (0 : Fin 2) * 128 + 1 * r.val = 128 * ((tile m hO t).val % 31) + r.val
    rw [index6]
    show (tile m hO t).val % 31 * 128 + 1 * r.val = 128 * ((tile m hO t).val % 31) + r.val
    omega
  · refine Fin.ext ?_
    show ((cfgM m hO).win 6).index t (1 : Fin 2) * 2048 + 1 * k.val = 2048 * ((tile m hO t).val / 31) + k.val
    rw [index6]
    show (tile m hO t).val / 31 * 2048 + 1 * k.val = 2048 * ((tile m hO t).val / 31) + k.val
    omega

theorem iblk1_apply (j : Fin 8448) (d : Fin 128) :
    (iblk m hO c 1 t : Vec Ideal S1x8448x128 .bf16) (ix3 0 j d)
      = (m ((c : Thread nD τ).loc main_arg1) : Vec Ideal S2x8448x128 .bf16) (ix3 (group (tile m hO t)) j d) := by
  rw [← V_main_arg1 m c]
  show (V m c main_arg1 : Vec Ideal S2x8448x128 .bf16) ((((cfgM m hO).win 1).blk t).view.emb (ix3 0 j d)) = _
  congr 1
  funext a
  fin_cases a
  · refine Fin.ext ?_
    show ((cfgM m hO).win 1).index t (0 : Fin 3) * 1 + 1 * 0 = (tile m hO t).val / 31
    rw [index1]
    show (tile m hO t).val / 31 * 1 + 1 * 0 = (tile m hO t).val / 31
    omega
  · refine Fin.ext ?_
    show ((cfgM m hO).win 1).index t (1 : Fin 3) * 8448 + 1 * j.val = j.val
    rw [index1]
    show 0 * 8448 + 1 * j.val = j.val
    omega
  · refine Fin.ext ?_
    show ((cfgM m hO).win 1).index t (2 : Fin 3) * 128 + 1 * d.val = d.val
    rw [index1]
    show 0 * 128 + 1 * d.val = d.val
    omega

theorem iblk2_apply (d : Fin 128) (j : Fin 8448) :
    (iblk m hO c 2 t : Vec Ideal S1x128x8448 .bf16) (ix3 0 d j)
      = (m ((c : Thread nD τ).loc main_arg2) : Vec Ideal S2x128x8448 .bf16) (ix3 (group (tile m hO t)) d j) := by
  rw [← V_main_arg2 m c]
  show (V m c main_arg2 : Vec Ideal S2x128x8448 .bf16) ((((cfgM m hO).win 2).blk t).view.emb (ix3 0 d j)) = _
  congr 1
  funext a
  fin_cases a
  · refine Fin.ext ?_
    show ((cfgM m hO).win 2).index t (0 : Fin 3) * 1 + 1 * 0 = (tile m hO t).val / 31
    rw [index2]
    show (tile m hO t).val / 31 * 1 + 1 * 0 = (tile m hO t).val / 31
    omega
  · refine Fin.ext ?_
    show ((cfgM m hO).win 2).index t (1 : Fin 3) * 128 + 1 * d.val = d.val
    rw [index2]
    show 0 * 128 + 1 * d.val = d.val
    omega
  · refine Fin.ext ?_
    show ((cfgM m hO).win 2).index t (2 : Fin 3) * 8448 + 1 * j.val = j.val
    rw [index2]
    show 0 * 8448 + 1 * j.val = j.val
    omega

theorem iblk3_apply (j : Fin 8448) (z : Fin 1) :
    (iblk m hO c 3 t : Vec Ideal S1x8448x1 .f32) (ix3 0 j z)
      = (m ((c : Thread nD τ).loc main_arg3) : Vec Ideal S2x8448x1 .f32) (ix3 (group (tile m hO t)) j z) := by
  rw [← V_main_arg3 m c]
  show (V m c main_arg3 : Vec Ideal S2x8448x1 .f32) ((((cfgM m hO).win 3).blk t).view.emb (ix3 0 j z)) = _
  congr 1
  funext a
  fin_cases a
  · refine Fin.ext ?_
    show ((cfgM m hO).win 3).index t (0 : Fin 3) * 1 + 1 * 0 = (tile m hO t).val / 31
    rw [index3]
    show (tile m hO t).val / 31 * 1 + 1 * 0 = (tile m hO t).val / 31
    omega
  · refine Fin.ext ?_
    show ((cfgM m hO).win 3).index t (1 : Fin 3) * 8448 + 1 * j.val = j.val
    rw [index3]
    show 0 * 8448 + 1 * j.val = j.val
    omega
  · refine Fin.ext ?_
    show ((cfgM m hO).win 3).index t (2 : Fin 3) * 1 + 1 * z.val = z.val
    rw [index3]
    show 0 * 1 + 1 * z.val = z.val
    omega

theorem iblk4_apply (j : Fin 8448) (z : Fin 1) :
    (iblk m hO c 4 t : Vec Ideal S1x8448x1 .f32) (ix3 0 j z)
      = (m ((c : Thread nD τ).loc main_arg4) : Vec Ideal S2x8448x1 .f32) (ix3 (group (tile m hO t)) j z) := by
  rw [← V_main_arg4 m c]
  show (V m c main_arg4 : Vec Ideal S2x8448x1 .f32) ((((cfgM m hO).win 4).blk t).view.emb (ix3 0 j z)) = _
  congr 1
  funext a
  fin_cases a
  · refine Fin.ext ?_
    show ((cfgM m hO).win 4).index t (0 : Fin 3) * 1 + 1 * 0 = (tile m hO t).val / 31
    rw [index4]
    show (tile m hO t).val / 31 * 1 + 1 * 0 = (tile m hO t).val / 31
    omega
  · refine Fin.ext ?_
    show ((cfgM m hO).win 4).index t (1 : Fin 3) * 8448 + 1 * j.val = j.val
    rw [index4]
    show 0 * 8448 + 1 * j.val = j.val
    omega
  · refine Fin.ext ?_
    show ((cfgM m hO).win 4).index t (2 : Fin 3) * 1 + 1 * z.val = z.val
    rw [index4]
    show 0 * 1 + 1 * z.val = z.val
    omega

theorem iblk5_apply (b : Fin 136) (r : Fin 128) :
    (iblk m hO c 5 t : Vec Ideal S1x136x128 .f32) (ix3 0 b r)
      = (m ((c : Thread nD τ).loc main_arg5) : Vec Ideal S2x136x3968 .f32) (ix3 (group (tile m hO t)) b (row (tile m hO t) r)) := by
  rw [← V_main_arg5 m c]
  show (V m c main_arg5 : Vec Ideal S2x136x3968 .f32) ((((cfgM m hO).win 5).blk t).view.emb (ix3 0 b r)) = _
  congr 1
  funext a
  fin_cases a
  · refine Fin.ext ?_
    show ((cfgM m hO).win 5).index t (0 : Fin 3) * 1 + 1 * 0 = (tile m hO t).val / 31
    rw [index5]
    show (tile m hO t).val / 31 * 1 + 1 * 0 = (tile m hO t).val / 31
    omega
  · refine Fin.ext ?_
    show ((cfgM m hO).win 5).index t (1 : Fin 3) * 136 + 1 * b.val = b.val
    rw [index5]
    show 0 * 136 + 1 * b.val = b.val
    omega
  · refine Fin.ext ?_
    show ((cfgM m hO).win 5).index t (2 : Fin 3) * 128 + 1 * r.val = 128 * ((tile m hO t).val % 31) + r.val
    rw [index5]
    show (tile m hO t).val % 31 * 128 + 1 * r.val = 128 * ((tile m hO t).val % 31) + r.val
    omega

/-! ## The array -/

/-- The scores of head `h` of group `g` of query `s` against the keys, in the argument arrays. -/
def scoresOf (a0 : Vec Ideal S3968x4096 .bf16) (a1 : Vec Ideal S2x8448x128 .bf16) (a3 : Vec Ideal S2x8448x1 .f32)
    (a5 : Vec Ideal S2x136x3968 .f32) (s : Fin 3968) (g : Fin 2) (h : Fin 16) (j : ℕ) : EReal :=
  if hj : j < 8448 then
    (∑ d : Fin 128, a1 (ix3 g ⟨j, hj⟩ d) * a0 (ix2 s ⟨2048 * g.val + 128 * h.val + d.val, by omega⟩)) * a3 (ix3 g ⟨j, hj⟩ 0)
      + (if j ≤ 4352 + s.val ∧ (0 < a5 (ix3 g ⟨j / 64, by omega⟩ s) ∨ 4352 + s.val < j + 2048) then 0 else ⊥)
  else ⊥

/-- The values' scales of group `g`. -/
def weightsOf (a4 : Vec Ideal S2x8448x1 .f32) (g : Fin 2) (j : ℕ) : EReal := if hj : j < 8448 then a4 (ix3 g ⟨j, hj⟩ 0) else 0

/-- Component `d` of the values of group `g`. -/
def valuesOf (a2 : Vec Ideal S2x128x8448 .bf16) (g : Fin 2) (d : Fin 128) (j : ℕ) : EReal :=
  if hj : j < 8448 then a2 (ix3 g d ⟨j, hj⟩) else 0

theorem weights_pos (x4 : Vec Ideal S1x8448x1 .f32) {j : ℕ} (hj : j < 8448) : weights x4 j = x4 (ix3 0 ⟨j, hj⟩ 0) := by
  unfold weights; exact dif_pos hj

theorem weights_neg (x4 : Vec Ideal S1x8448x1 .f32) {j : ℕ} (hj : ¬ j < 8448) : weights x4 j = 0 := by
  unfold weights; exact dif_neg hj

theorem weightsOf_pos (a4 : Vec Ideal S2x8448x1 .f32) (g : Fin 2) {j : ℕ} (hj : j < 8448) : weightsOf a4 g j = a4 (ix3 g ⟨j, hj⟩ 0) := by
  unfold weightsOf; exact dif_pos hj

theorem weightsOf_neg (a4 : Vec Ideal S2x8448x1 .f32) (g : Fin 2) {j : ℕ} (hj : ¬ j < 8448) : weightsOf a4 g j = 0 := by
  unfold weightsOf; exact dif_neg hj

theorem values_pos (x2 : Vec Ideal S1x128x8448 .bf16) (d : Fin 128) {j : ℕ} (hj : j < 8448) : values x2 d j = x2 (ix3 0 d ⟨j, hj⟩) := by
  unfold values; exact dif_pos hj

theorem values_neg (x2 : Vec Ideal S1x128x8448 .bf16) (d : Fin 128) {j : ℕ} (hj : ¬ j < 8448) : values x2 d j = 0 := by
  unfold values; exact dif_neg hj

theorem valuesOf_pos (a2 : Vec Ideal S2x128x8448 .bf16) (g : Fin 2) (d : Fin 128) {j : ℕ} (hj : j < 8448) :
    valuesOf a2 g d j = a2 (ix3 g d ⟨j, hj⟩) := by
  unfold valuesOf; exact dif_pos hj

theorem valuesOf_neg (a2 : Vec Ideal S2x128x8448 .bf16) (g : Fin 2) (d : Fin 128) {j : ℕ} (hj : ¬ j < 8448) :
    valuesOf a2 g d j = 0 := by
  unfold valuesOf; exact dif_neg hj

/-- THE RESULT at row `s` and column `k`: attention of the head and component that the column names. -/
def result (a0 : Vec Ideal S3968x4096 .bf16) (a1 : Vec Ideal S2x8448x128 .bf16) (a2 : Vec Ideal S2x128x8448 .bf16)
    (a3 a4 : Vec Ideal S2x8448x1 .f32) (a5 : Vec Ideal S2x136x3968 .f32) (s : Fin 3968) (k : Fin 4096) : EReal :=
  Flash.attn 8320 (scoresOf a0 a1 a3 a5 s ⟨k.val / 2048, by omega⟩ ⟨k.val % 2048 / 128, by omega⟩)
    (weightsOf a4 ⟨k.val / 2048, by omega⟩) (valuesOf a2 ⟨k.val / 2048, by omega⟩ ⟨k.val % 128, by omega⟩)

/-- The array of results. -/
def G6 (a0 : Vec Ideal S3968x4096 .bf16) (a1 : Vec Ideal S2x8448x128 .bf16) (a2 : Vec Ideal S2x128x8448 .bf16)
    (a3 a4 : Vec Ideal S2x8448x1 .f32) (a5 : Vec Ideal S2x136x3968 .f32) : Vec Ideal S3968x4096 .bf16 :=
  fun y => result a0 a1 a2 a3 a4 a5 (y 0) (y 1)

abbrev G6m : Vec Ideal S3968x4096 .bf16 :=
  G6 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The word the body reads at a grid point is its tile's number. -/
theorem word : kernelRun0_A.sl.r (F := Ideal) c (grid0.coords t) (tbl m 0) = BitVec.ofNat 32 (tile m hO t).val := by
  rw [Table.tbl_eq]
  exact Table.word_eq (F := Ideal) (grid0.coords t) (k0_off1_inb _) _

theorem scores_block (h : Fin 16) (r : Fin 128) (j : ℕ) :
    scores (iblk m hO c 0 t) (iblk m hO c 1 t) (iblk m hO c 3 t) (iblk m hO c 5 t) (pos (tile m hO t)) h r j
      = scoresOf (m ((c : Thread nD τ).loc main_arg0)) (m ((c : Thread nD τ).loc main_arg1)) (m ((c : Thread nD τ).loc main_arg3))
          (m ((c : Thread nD τ).loc main_arg5)) (row (tile m hO t) r) (group (tile m hO t)) h j := by
  unfold scores scoresOf
  split
  · have e : pos (tile m hO t) + r.val = 4352 + (row (tile m hO t) r).val := by unfold pos row; show _ = 4352 + (128 * ((tile m hO t).val % 31) + r.val); omega
    rw [e, iblk3_apply m hO c t, iblk5_apply m hO c t]
    congr 2
    refine Finset.sum_congr rfl fun d _ => ?_
    rw [iblk1_apply m hO c t, iblk0_apply m hO c t]
    congr 3
    exact Fin.ext (by show 2048 * ((tile m hO t).val / 31) + (128 * h.val + d.val) = 2048 * ((tile m hO t).val / 31) + 128 * h.val + d.val; omega)
  · rfl

theorem weights_block (j : ℕ) :
    weights (iblk m hO c 4 t) j = weightsOf (m ((c : Thread nD τ).loc main_arg4)) (group (tile m hO t)) j := by
  by_cases hj : j < 8448
  · exact (weights_pos _ hj).trans ((iblk4_apply m hO c t ⟨j, hj⟩ 0).trans (weightsOf_pos _ _ hj).symm)
  · exact (weights_neg _ hj).trans (weightsOf_neg _ _ hj).symm

theorem values_block (d : Fin 128) (j : ℕ) :
    values (iblk m hO c 2 t) d j = valuesOf (m ((c : Thread nD τ).loc main_arg2)) (group (tile m hO t)) d j := by
  by_cases hj : j < 8448
  · exact (values_pos _ d hj).trans ((iblk2_apply m hO c t d ⟨j, hj⟩).trans (valuesOf_pos _ _ d hj).symm)
  · exact (values_neg _ d hj).trans (valuesOf_neg _ _ d hj).symm

/-- What the body leaves at a grid point is the point's block of the results. -/
theorem block_value (r : Fin 128) (k : Fin 2048) :
    (outsAt0 m hO hH c t).1 (ix2 r k) = G6m m c (ix2 (row (tile m hO t) r) (col (tile m hO t) k)) := by
  have hk : (⟨128 * (⟨k.val / 128, by omega⟩ : Fin 16).val + (⟨k.val % 128, by omega⟩ : Fin 128).val, by show 128 * (k.val / 128) + k.val % 128 < 2048; omega⟩ : Fin 2048) = k :=
    Fin.ext (by show 128 * (k.val / 128) + k.val % 128 = k.val; omega)
  have hb := body_value c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (tbl m 0) (Hyps.c0 hH c t)
    (tile m hO t) (word m hO c t) ⟨k.val / 128, by omega⟩ r ⟨k.val % 128, by omega⟩ (Memref.whole cc0_stg6_0)
  rw [hk] at hb
  refine hb.trans ?_
  have e1 : (⟨(col (tile m hO t) k).val / 2048, by omega⟩ : Fin 2) = group (tile m hO t) :=
    Fin.ext (by show (2048 * ((tile m hO t).val / 31) + k.val) / 2048 = (tile m hO t).val / 31; omega)
  have e2 : (⟨(col (tile m hO t) k).val % 2048 / 128, by omega⟩ : Fin 16) = ⟨k.val / 128, by omega⟩ :=
    Fin.ext (by show (2048 * ((tile m hO t).val / 31) + k.val) % 2048 / 128 = k.val / 128; omega)
  have e3 : (⟨(col (tile m hO t) k).val % 128, by omega⟩ : Fin 128) = ⟨k.val % 128, by omega⟩ :=
    Fin.ext (by show (2048 * ((tile m hO t).val / 31) + k.val) % 128 = k.val % 128; omega)
  show _ = result _ _ _ _ _ _ (row (tile m hO t) r) (col (tile m hO t) k)
  unfold result
  rw [e1, e2, e3]
  have f1 := funext (scores_block m hO c t ⟨k.val / 128, by omega⟩ r)
  have f2 := funext (weights_block m hO c t)
  have f3 := funext (values_block m hO c t ⟨k.val % 128, by omega⟩)
  rw [f1, f2, f3]

/-- The results' block moves at every grid point, so every point writes its block back. -/
theorem flush6 : ((cfgM m hO).win 6).flush t = true := by
  unfold Window.flush
  rw [Bool.and_eq_true]
  refine ⟨rfl, ?_⟩
  by_cases h : t.val + 1 = (cfgM m hO).grid.N
  · simp [h]
  · have h' : t.val + 1 < (cfgM m hO).grid.N := by have := t.isLt; change t.val < (cfgM m hO).grid.N at this; omega
    have hne : ((cfgM m hO).win 6).index ⟨t.val + 1, h'⟩ ≠ ((cfgM m hO).win 6).index t := fun e => by
      have e0 := congrFun e (0 : Fin 2)
      have a1 := index6 m hO ⟨t.val + 1, h'⟩ 0
      have a2 := index6 m hO t 0
      have b1 : (tile m hO ⟨t.val + 1, h'⟩).val = t.val + 1 := tile_of ⟨t.val + 1, h'⟩
      have b2 : (tile m hO t).val = t.val := tile_of t
      rw [b1] at a1
      rw [b2] at a2
      have : (t.val + 1) % 31 = t.val % 31 := (a1.symm.trans e0).trans a2
      omega
    simp only [Bool.or_eq_true, decide_eq_true_eq]
    exact Or.inr ⟨h', hne⟩

/-- Every index of the array lies in the block of some grid point. -/
theorem cover6 (y : S3968x4096.Idx) :
    ∃ t : Fin (cfgM m hO).N, ((cfgM m hO).win 6).flush t = true ∧ y ∈ (((cfgM m hO).win 6).blk t).view.set := by
  have h0 : (y 0).val < 3968 := (y 0).isLt
  have h1 : (y 1).val < 4096 := (y 1).isLt
  have hN : (cfgM m hO).grid.N = 62 := N_0
  have hq : 31 * ((y 1).val / 2048) + (y 0).val / 128 < (cfgM m hO).grid.N := by
    rw [hN]; generalize (y 1).val = b at h1 ⊢; generalize (y 0).val = a at h0 ⊢; omega
  refine ⟨⟨31 * ((y 1).val / 2048) + (y 0).val / 128, hq⟩, flush6 m hO _, ?_⟩
  have h := (((cfgM m hO).win 6).blk ⟨31 * ((y 1).val / 2048) + (y 0).val / 128, hq⟩).view.emb_mem_set
    (ix2 ⟨(y 0).val % 128, by omega⟩ ⟨(y 1).val % 2048, by omega⟩ : S128x2048.Idx)
  rw [emb6 m hO] at h
  have hn : (tile m hO ⟨31 * ((y 1).val / 2048) + (y 0).val / 128, hq⟩).val = 31 * ((y 1).val / 2048) + (y 0).val / 128 :=
    tile_of _
  have e : (ix2 (row (tile m hO ⟨31 * ((y 1).val / 2048) + (y 0).val / 128, hq⟩) ⟨(y 0).val % 128, by omega⟩)
      (col (tile m hO ⟨31 * ((y 1).val / 2048) + (y 0).val / 128, hq⟩) ⟨(y 1).val % 2048, by omega⟩) : S3968x4096.Idx) = y := by
    funext a
    fin_cases a
    · refine Fin.ext ?_
      show 128 * ((tile m hO ⟨31 * ((y 1).val / 2048) + (y 0).val / 128, hq⟩).val % 31) + (y 0).val % 128 = (y 0).val
      rw [hn]; omega
    · refine Fin.ext ?_
      show 2048 * ((tile m hO ⟨31 * ((y 1).val / 2048) + (y 0).val / 128, hq⟩).val / 31) + (y 1).val % 2048 = (y 1).val
      rw [hn]; omega
  rwa [e] at h

/-- THE ARRAY after the run. -/
theorem final6 : (dats m hO hH 0 c).arrAt 6 (cfgM m hO).N = G6m m c := by
  refine (dats m hO hH 0 c).arrAt_eq_of_cover 6 (G6m m c) (fun t _ => ?_) (cover6 m hO)
  funext j
  show (dats m hO hH 0 c).after 6 t j = G6m m c ((((cfgM m hO).win 6).blk t).view.emb j)
  rw [after0_6]
  have hj : ∀ j' : S128x2048.Idx, ∃ (r : Fin 128) (k : Fin 2048), j' = ix2 r k := fun j' =>
    ⟨j' 0, j' 1, by funext a; fin_cases a <;> rfl⟩
  obtain ⟨r, k, rfl⟩ := hj j
  rw [emb6 m hO t]
  exact block_value m hO hH c t r k

end Cert.KernelIdeal.Array
end
-- ==== Proof.RefValue.lean ====
/- The reference's first result at an index, over the extended reals: the same softmax-weighted sum of the values. -/
module

public import proofs.«01_k».proof.Proof.ArrayIdeal
public import proofs.«01_k».proof.Proof.Gen.ReferenceIdeal.Value
public import Idealize.ShloMosaic.Lib.Pointwise

@[expose] public section

set_option maxRecDepth 16384

noncomputable section

namespace Cert.ReferenceIdeal.RefValue

open Idealize.ShloMosaic Idealize.ShloMosaic.TcCoe Idealize.ShloMosaic.Tactic Idealize.ShloMosaic.Pointwise
open Cert.ReferenceIdeal Cert.ReferenceIdeal.Gen

/-- The scores before the bias. -/
theorem pay5_apply (v0 : Vec Ideal S3968x4096 .bf16) (v4 : Vec Ideal S2x8320x128 .bf16) (v6 : Vec Ideal S2x8320x1 .f32)
    (g : Fin 2) (h : Fin 16) (s : Fin 3968) (j : Fin 8320) :
    k0_pay5 v0 v4 v6 (ix4 g h s j)
      = (∑ d : Fin 128, v0 (ix2 s ⟨2048 * g.val + 128 * h.val + d.val, by omega⟩) * v4 (ix3 g j d)) * v6 (ix3 g j 0) := by
  pointwise [k0_pay5]
  congr 1
  refine Finset.sum_congr rfl fun d _ => ?_
  congr 3
  exact Fin.ext (by show g.val * 2048 + h.val * 128 + d.val = 2048 * g.val + 128 * h.val + d.val; omega)

/-- The distance of query and key. -/
theorem dist_toInt (s : Fin 3968) (j : Fin 8320) :
    (IntOp.subi (IntOp.addi (4352#32) (BitVec.ofNat 32 s.val)) (BitVec.ofNat 32 j.val)).toInt = (4352 + s.val : ℤ) - j.val := by
  show ((4352#32 + BitVec.ofNat 32 s.val) - BitVec.ofNat 32 j.val).toInt = _
  have hs := s.isLt
  have hj := j.isLt
  rw [BitVec.toInt_eq_toNat_cond]
  simp only [BitVec.toNat_add, BitVec.toNat_sub, BitVec.toNat_ofNat]
  split <;> omega

/-- The bias. -/
theorem pay4_apply (v15 : Vec Ideal S2x130x3968 .f32) (g : Fin 2) (s : Fin 3968) (j : Fin 8320) :
    k0_pay4 v15 (ix3 g s j)
      = if j.val ≤ 4352 + s.val ∧ (0 < v15 (ix3 g ⟨j.val / 64, by omega⟩ s) ∨ 4352 + s.val < j.val + 2048) then 0 else ⊥ := by
  pointwise [k0_pay4]
  have hd := dist_toInt s j
  generalize IntOp.subi (IntOp.addi (4352#32) (BitVec.ofNat 32 s.val)) (BitVec.ofNat 32 j.val) = w at hd ⊢
  rw [Cert.KernelIdeal.Body.ofBits_bot]
  show Scalar.select (IntOp.andi (BitVec.ofBool ((0#32).sle w)) (IntOp.ori (BitVec.ofBool _) (BitVec.ofBool (w.slt 2048#32)))) _ _ = _
  rw [Cert.KernelIdeal.Body.choose]
  refine if_congr ?_ rfl rfl
  have e0 : (0#32 : BitVec 32).toInt = 0 := rfl
  have e1 : (2048#32 : BitVec 32).toInt = 2048 := rfl
  simp only [BitVec.sle, BitVec.slt, hd, e0, e1, decide_eq_true_eq]
  exact and_congr (by omega) (or_congr Iff.rfl (by omega))

/-- The values' scales, one row. -/
theorem pay3_apply (v8 : Vec Ideal S2x8320x1 .f32) (g : Fin 2) (j : Fin 8320) : k0_pay3 v8 (ix4 g 0 0 j) = v8 (ix3 g j 0) := by
  pointwise [k0_pay3]

section
variable (v5 : Vec Ideal S2x128x8320 .bf16) (v9 : FVec Ideal S2x1x1x8320 .f32) (v31 : FVec Ideal S2x3968x8320 .f32) (v35 : FVec Ideal S2x16x3968x8320 .f32)

/-- The scores with the bias. -/
def sc : FVec Ideal S2x16x3968x8320 .f32 :=
  addf v35 (broadcastTo S2x16x3968x8320 (shapeCast S2x1x3968x8320 v31 shapeCasts_S2x3968x8320_S2x1x3968x8320) broadcasts_S2x1x3968x8320_S2x16x3968x8320)

/-- The largest score of each query, rounded up. -/
def mx (v38 : FVec Ideal S2x16x3968x8320 .f32) : FVec Ideal S2x16x3968x1 .f32 :=
  ceil (shapeCast S2x16x3968x1 (multiReduction .maximumf [3] S2x16x3968 v38 0xFF800000#32 reduces_S2x16x3968x8320_S2x16x3968 (.inl rfl) rfl) shapeCasts_S2x16x3968_S2x16x3968x1)

/-- The unnormalized probabilities. -/
def pr (v38 : FVec Ideal S2x16x3968x8320 .f32) (v41 : FVec Ideal S2x16x3968x1 .f32) : FVec Ideal S2x16x3968x8320 .f32 :=
  exp2 (subf v38 (broadcastTo S2x16x3968x8320 v41 broadcasts_S2x16x3968x1_S2x16x3968x8320))

/-- The denominators. -/
def den (v44 : FVec Ideal S2x16x3968x8320 .f32) : FVec Ideal S2x16x3968x1 .f32 :=
  shapeCast S2x16x3968x1 (multiReduction .add [3] S2x16x3968 v44 0x00000000#32 reduces_S2x16x3968x8320_S2x16x3968 (.inl rfl) rfl) shapeCasts_S2x16x3968_S2x16x3968x1

/-- The probabilities times the values' scales. -/
def wt (v44 : FVec Ideal S2x16x3968x8320 .f32) : FVec Ideal S2x63488x8320 .bf16 :=
  shapeCast S2x63488x8320 (truncf .bf16 (mulf v44 (broadcastTo S2x16x3968x8320 v9 broadcasts_S2x1x1x8320_S2x16x3968x8320)) bitsLt_bf16_f32) shapeCasts_S2x16x3968x8320_S2x63488x8320

/-- The weighted sums of the values. -/
def num (v50 : FVec Ideal S2x63488x8320 .bf16) : FVec Ideal S2x63488x128 .f32 :=
  matmul (φ₂ := .bf16) dot_S2x63488x8320_S2x128x8320_S2x63488x128_2_2_1_1_0_0 none v50 v5 (constant S2x63488x128 .f32 0x00000000#32)

/-- The quotients. -/
def quo (v51 : FVec Ideal S2x63488x128 .f32) (v46 : FVec Ideal S2x16x3968x1 .f32) : FVec Ideal S2x16x3968x128 .f32 :=
  divf (shapeCast S2x16x3968x128 v51 shapeCasts_S2x63488x128_S2x16x3968x128) (broadcastTo S2x16x3968x128 v46 broadcasts_S2x16x3968x1_S2x16x3968x128)

theorem pay6_eq : k0_pay6 v5 v9 v31 v35
    = quo (num v5 (wt v9 (pr (sc v31 v35) (mx (sc v31 v35))))) (den (pr (sc v31 v35) (mx (sc v31 v35)))) := rfl

theorem sc_apply (g : Fin 2) (h : Fin 16) (s : Fin 3968) (j : Fin 8320) :
    sc v31 v35 (ix4 g h s j) = v35 (ix4 g h s j) + v31 (ix3 g s j) := by
  pointwise [sc]

/-- A maximum along the last of four axes, at an index, whatever the axes' sizes. -/
theorem max_last {n0 n1 n2 n3 : ℕ} (v : FVec Ideal ⟨4, ![n0, n1, n2, n3]⟩ .f32) (acc : BitVec 32)
    (h : (⟨4, ![n0, n1, n2, n3]⟩ : Shape).Reduces [3] ⟨3, ![n0, n1, n2]⟩) (h1) (h2) (a : Fin n0) (b : Fin n1) (c : Fin n2) :
    multiReduction .maximumf [3] ⟨3, ![n0, n1, n2]⟩ v acc h h1 h2 (ix3 a b c)
      = Finset.univ.fold max (Ideal.ofBits FTy.f32 acc) fun j : Fin n3 => v (ix4 a b c j) := by
  rw [multiReduction_maximumf_eq_fold]
  exact h.fold_fiber_r4_a3 (ix3 a b c) _ _ _

/-- The maxima rounded up, a row of ones added. -/
def up1 (w : FVec Ideal S2x16x3968 .f32) : FVec Ideal S2x16x3968x1 .f32 :=
  ceil (shapeCast S2x16x3968x1 w shapeCasts_S2x16x3968_S2x16x3968x1)

theorem up1_apply (w : FVec Ideal S2x16x3968 .f32) (g : Fin 2) (h : Fin 16) (s : Fin 3968) :
    up1 w (ix4 g h s 0) = Ideal.liftRound Int.ceil (w (ix3 g h s)) := by
  pointwise [up1]

theorem mx_read (v38 : FVec Ideal S2x16x3968x8320 .f32) (g : Fin 2) (h : Fin 16) (s : Fin 3968) :
    mx v38 (ix4 g h s 0) = Ideal.liftRound Int.ceil ((multiReduction (F := Ideal) .maximumf [3] S2x16x3968 v38 0xFF800000#32 reduces_S2x16x3968x8320_S2x16x3968 (.inl rfl) rfl) (ix3 g h s)) :=
  up1_apply _ g h s

theorem mx_max (v38 : FVec Ideal S2x16x3968x8320 .f32) (g : Fin 2) (h : Fin 16) (s : Fin 3968) :
    (multiReduction (F := Ideal) .maximumf [3] S2x16x3968 v38 0xFF800000#32 reduces_S2x16x3968x8320_S2x16x3968 (.inl rfl) rfl) (ix3 g h s)
      = Finset.univ.fold max (Ideal.ofBits FTy.f32 4286578688#32) fun j : Fin 8320 => v38 (ix4 g h s j) :=
  max_last v38 0xFF800000#32 reduces_S2x16x3968x8320_S2x16x3968 (.inl rfl) rfl g h s

theorem mx_apply0 (v38 : FVec Ideal S2x16x3968x8320 .f32) (g : Fin 2) (h : Fin 16) (s : Fin 3968) :
    mx v38 (ix4 g h s 0) = Ideal.liftRound Int.ceil (Finset.univ.fold max (Ideal.ofBits FTy.f32 4286578688#32) fun j : Fin 8320 => v38 (ix4 g h s j)) := by
  exact (mx_read v38 g h s).trans (congrArg (Ideal.liftRound Int.ceil) (mx_max v38 g h s))

theorem mx_gen {n : ℕ} (f : Fin n → EReal) :
    Ideal.liftRound Int.ceil (Finset.univ.fold max (Ideal.ofBits FTy.f32 4286578688#32) f) = Flash.up (Finset.univ.sup f) := by
  rw [Cert.KernelIdeal.Body.ofBits_bot, Flash.fold_max_eq_sup]

theorem mx_apply (v38 : FVec Ideal S2x16x3968x8320 .f32) (g : Fin 2) (h : Fin 16) (s : Fin 3968) :
    mx v38 (ix4 g h s 0) = Flash.up (Finset.univ.sup fun j : Fin 8320 => v38 (ix4 g h s j)) :=
  (mx_apply0 v38 g h s).trans (mx_gen _)
theorem pr_apply (v38 : FVec Ideal S2x16x3968x8320 .f32) (v41 : FVec Ideal S2x16x3968x1 .f32) (g : Fin 2) (h : Fin 16) (s : Fin 3968) (j : Fin 8320) :
    pr v38 v41 (ix4 g h s j) = Flash.e2 (v38 (ix4 g h s j) - v41 (ix4 g h s 0)) := by
  pointwise [pr]
  rfl

theorem den_apply (v44 : FVec Ideal S2x16x3968x8320 .f32) (g : Fin 2) (h : Fin 16) (s : Fin 3968) :
    den v44 (ix4 g h s 0) = ∑ j : Fin 8320, v44 (ix4 g h s j) := by
  pointwise [den]

theorem wt_apply (v44 : FVec Ideal S2x16x3968x8320 .f32) (g : Fin 2) (h : Fin 16) (s : Fin 3968) (j : Fin 8320) :
    wt v9 v44 (ix3 g ⟨h.val * 3968 + s.val, by omega⟩ j) = v44 (ix4 g h s j) * v9 (ix4 g 0 0 j) := by
  pointwise [wt]

theorem num_apply (v50 : FVec Ideal S2x63488x8320 .bf16) (g : Fin 2) (q : Fin 63488) (d : Fin 128) :
    num v5 v50 (ix3 g q d) = ∑ j : Fin 8320, v50 (ix3 g q j) * v5 (ix3 g d j) := by
  pointwise [num]

theorem quo_apply (v51 : FVec Ideal S2x63488x128 .f32) (v46 : FVec Ideal S2x16x3968x1 .f32) (g : Fin 2) (h : Fin 16) (s : Fin 3968) (d : Fin 128) :
    quo v51 v46 (ix4 g h s d) = Ideal.div (v51 (ix3 g ⟨h.val * 3968 + s.val, by omega⟩ d)) (v46 (ix4 g h s 0)) := by
  pointwise [quo]

/-- The attention of a query. -/
theorem pay6_apply (g : Fin 2) (h : Fin 16) (s : Fin 3968) (d : Fin 128) :
    k0_pay6 v5 v9 v31 v35 (ix4 g h s d)
      = Ideal.div
        (∑ j : Fin 8320, (Flash.e2 (v35 (ix4 g h s j) + v31 (ix3 g s j)
            - Flash.up (Finset.univ.sup fun j : Fin 8320 => v35 (ix4 g h s j) + v31 (ix3 g s j))) * v9 (ix4 g 0 0 j)) * v5 (ix3 g d j))
        (∑ j : Fin 8320, Flash.e2 (v35 (ix4 g h s j) + v31 (ix3 g s j)
            - Flash.up (Finset.univ.sup fun j : Fin 8320 => v35 (ix4 g h s j) + v31 (ix3 g s j)))) := by
  rw [pay6_eq, quo_apply, num_apply, den_apply]
  simp only [wt_apply, pr_apply, mx_apply, sc_apply]

/-- The attention laid out by query. -/
theorem pay7_apply (s : Fin 3968) (k : Fin 4096) :
    k0_pay7 v5 v9 v31 v35 (ix2 s k)
      = k0_pay6 v5 v9 v31 v35 (ix4 ⟨k.val / 2048, by omega⟩ ⟨k.val % 2048 / 128, by omega⟩ s ⟨k.val % 128, by omega⟩) := by
  pointwise [k0_pay7]
  have e : (⟨k.val / 128 % 16, by omega⟩ : Fin 16) = ⟨k.val % 2048 / 128, by omega⟩ := Fin.ext (by show k.val / 128 % 16 = k.val % 2048 / 128; omega)
  rw [e]
end

/-! ## The loads -/

section
variable (a0 : Vec Ideal S3968x4096 .bf16) (a1 : Vec Ideal S2x8448x128 .bf16) (a2 : Vec Ideal S2x128x8448 .bf16)
  (a3 a4 : Vec Ideal S2x8448x1 .f32) (a5 : Vec Ideal S2x136x3968 .f32)

theorem ld0 (s : Fin 3968) (k : Fin 4096) : View.ld a0 r0_0 (ix2 s k) = a0 (ix2 s k) := by
  show a0 (r0_0.idx (ix2 s k)) = _
  congr 1
  funext a
  fin_cases a
  · exact Fin.ext (by show 0 + 1 * s.val = s.val; omega)
  · exact Fin.ext (by show 0 + 1 * k.val = k.val; omega)

theorem ld1 (g : Fin 2) (j : Fin 8320) (d : Fin 128) : View.ld a1 r0_1 (ix3 g j d) = a1 (ix3 g ⟨j.val, by omega⟩ d) := by
  show a1 (r0_1.idx (ix3 g j d)) = _
  congr 1
  funext a
  fin_cases a
  · exact Fin.ext (by show 0 + 1 * g.val = g.val; omega)
  · exact Fin.ext (by show 0 + 1 * j.val = j.val; omega)
  · exact Fin.ext (by show 0 + 1 * d.val = d.val; omega)

theorem ld2 (g : Fin 2) (d : Fin 128) (j : Fin 8320) : View.ld a2 r0_2 (ix3 g d j) = a2 (ix3 g d ⟨j.val, by omega⟩) := by
  show a2 (r0_2.idx (ix3 g d j)) = _
  congr 1
  funext a
  fin_cases a
  · exact Fin.ext (by show 0 + 1 * g.val = g.val; omega)
  · exact Fin.ext (by show 0 + 1 * d.val = d.val; omega)
  · exact Fin.ext (by show 0 + 1 * j.val = j.val; omega)

theorem ld3 (g : Fin 2) (j : Fin 8320) : View.ld a3 r0_3 (ix3 g j 0) = a3 (ix3 g ⟨j.val, by omega⟩ 0) := by
  show a3 (r0_3.idx (ix3 g j 0)) = _
  congr 1
  funext a
  fin_cases a
  · exact Fin.ext (by show 0 + 1 * g.val = g.val; omega)
  · exact Fin.ext (by show 0 + 1 * j.val = j.val; omega)
  · rfl

theorem ld4 (g : Fin 2) (b : Fin 130) (s : Fin 3968) : View.ld a5 r0_4 (ix3 g b s) = a5 (ix3 g ⟨b.val, by omega⟩ s) := by
  show a5 (r0_4.idx (ix3 g b s)) = _
  congr 1
  funext a
  fin_cases a
  · exact Fin.ext (by show 0 + 1 * g.val = g.val; omega)
  · exact Fin.ext (by show 0 + 1 * b.val = b.val; omega)
  · exact Fin.ext (by show 0 + 1 * s.val = s.val; omega)

open Cert.KernelIdeal.Array (scoresOf weightsOf valuesOf weightsOf_pos valuesOf_pos result)

/-- The scores with the bias are the kernel's. -/
theorem scores_eq (s : Fin 3968) (g : Fin 2) (h : Fin 16) (j : Fin 8320) :
    k0_pay11 a0 a1 a2 a3 a4 a5 (ix4 g h s j) + k0_pay10 a0 a1 a2 a3 a4 a5 (ix3 g s j) = scoresOf a0 a1 a3 a5 s g h j.val := by
  have hj : j.val < 8448 := by omega
  have e : scoresOf a0 a1 a3 a5 s g h j.val
      = (∑ d : Fin 128, a1 (ix3 g ⟨j.val, hj⟩ d) * a0 (ix2 s ⟨2048 * g.val + 128 * h.val + d.val, by omega⟩)) * a3 (ix3 g ⟨j.val, hj⟩ 0)
      + (if j.val ≤ 4352 + s.val ∧ (0 < a5 (ix3 g ⟨j.val / 64, by omega⟩ s) ∨ 4352 + s.val < j.val + 2048) then 0 else ⊥) := by
    unfold scoresOf
    exact dif_pos hj
  rw [e]
  unfold k0_pay11 k0_pay10
  rw [pay5_apply, pay4_apply, ld3, ld4]
  congr 2
  refine Finset.sum_congr rfl fun d _ => ?_
  rw [ld0, ld1, mul_comm]

/-- The values' scales are the kernel's. -/
theorem weights_eq (g : Fin 2) (j : Fin 8320) : k0_pay9 a0 a1 a2 a3 a4 a5 (ix4 g 0 0 j) = weightsOf a4 g j.val := by
  unfold k0_pay9
  rw [pay3_apply, ld3, weightsOf_pos]

/-- The values are the kernel's. -/
theorem values_eq (g : Fin 2) (d : Fin 128) (j : Fin 8320) : View.ld a2 r0_2 (ix3 g d j) = valuesOf a2 g d j.val := by
  rw [ld2, valuesOf_pos]

/-- The largest of the first `n` terms. -/
theorem sup_range (n : ℕ) (S : ℕ → EReal) : (Finset.range n).sup S = Finset.univ.sup fun j : Fin n => S j.val := by
  refine le_antisymm (Finset.sup_le fun j hj => ?_) (Finset.sup_le fun j _ => Finset.le_sup (f := S) (Finset.mem_range.mpr j.isLt))
  exact Finset.le_sup (f := fun j : Fin n => S j.val) (Finset.mem_univ ⟨j, Finset.mem_range.mp hj⟩)

/-- Attention over the first `n` keys, written with the keys counted in `Fin n`. -/
theorem attn_fin (n : ℕ) (S W V : ℕ → EReal) :
    Flash.attn n S W V = Ideal.div
      (∑ j : Fin n, (Flash.e2 (S j.val - Flash.up (Finset.univ.sup fun j : Fin n => S j.val)) * W j.val) * V j.val)
      (∑ j : Fin n, Flash.e2 (S j.val - Flash.up (Finset.univ.sup fun j : Fin n => S j.val))) := by
  unfold Flash.attn
  rw [sup_range, Finset.sum_range, Finset.sum_range]

/-- THE REFERENCE'S FIRST RESULT is the array the kernel leaves. -/
theorem G6_eq : Value.G6 (F := Ideal) a0 a1 a2 a3 a4 a5 = Cert.KernelIdeal.Array.G6 a0 a1 a2 a3 a4 a5 := by
  funext y
  obtain ⟨s, k, rfl⟩ : ∃ (s : Fin 3968) (k : Fin 4096), y = ix2 s k := ⟨y 0, y 1, by funext a; fin_cases a <;> rfl⟩
  refine (pay7_apply _ _ _ _ s k).trans ((pay6_apply _ _ _ _ _ _ _ _).trans ?_)
  show _ = result a0 a1 a2 a3 a4 a5 s k
  unfold result
  rw [attn_fin]
  simp only [scores_eq, weights_eq]
  congr 1
  exact Finset.sum_congr rfl fun j _ => congrArg (_ * ·) (values_eq a2 _ _ j)
end

end Cert.ReferenceIdeal.RefValue
end
-- ==== Proof.QuantPieces.lean ====
/- What the body stores after the loop besides the results: the codes and the scales of their heads' rows, at every float
   interpretation. -/
module

public import proofs.«01_k».proof.Proof.Out

@[expose] public section

set_option maxRecDepth 16384

noncomputable section

namespace Cert.KernelIdeal.Trip

open Idealize.ShloMosaic Idealize.ShloMosaic.TcCoe Idealize.ShloMosaic.Tactic Idealize.ShloMosaic.Pointwise
open Cert.KernelIdeal.Gen

variable {F : FTy → Type} [FloatOps F]

/-- The codes of a head's results, from its weighted sums and denominators. -/
abbrev codesOf (a : Vec F S1x128x128 .f32) (l : Vec F S1x128 .f32) : FVec F S128x128 .fp8e4m3 :=
  k0_pay306 (k0_pay301 a l) (k0_pay303 a l) (iota .tc S128x256 32 [1] iota_S128x256_d1_w32) k0_pay304

/-- The scales of a head's results. -/
abbrev scalesOf (a : Vec F S1x128x128 .f32) (l : Vec F S1x128 .f32) : FVec F S1x128x1 .f32 :=
  k0_pay307 (k0_pay303 a l) (iota .tc S128x256 32 [1] iota_S128x256_d1_w32) k0_pay304

theorem inbS (h : Fin 16) : ∀ a, (![0, 0, h.val] : Fin 3 → ℕ) a + S1x128x1.size a ≤ S1x128x16.size a := by
  revert h; decide

section
variable (c : Dev nD) (i : grid0.Coords) (arg2 : Memref sig .tc .vmem S128x2048 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S1x8448x1 .f32) (harg5 : arg5.IsWhole) (arg6 : Memref sig .tc .vmem S1x8448x1 .f32) (harg6 : arg6.IsWhole) (arg7 : Memref sig .tc .vmem S1x136x128 .f32) (harg7 : arg7.IsWhole) (arg8 : Memref sig .tc .vmem S128x2048 .bf16) (harg8 : arg8.IsWhole) (arg9 : Memref sig .tc .vmem S128x2048 .fp8e4m3) (harg9 : arg9.IsWhole) (arg10 : Memref sig .tc .vmem S1x128x16 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128x128 .f32) (harg13 : arg13.IsWhole)
    (x0 : Vec F S128x2048 .bf16) (x1 : Vec F S1x8448x128 .bf16) (x2 : Vec F S1x128x8448 .bf16) (x3 : Vec F S1x8448x1 .f32) (x4 : Vec F S1x8448x1 .f32) (x5 : Vec F S1x136x128 .f32) (xt0 : TbBuf0 (F := F) c tbM0_0) (k0_hw1 : k0_chk1 (tbM0_0.view.readAt (Elt F) (Rect.unit (s := S62) (k0_off1 i) S1.size (k0_off1_inb i)).toLoadRect xt0 (Shape.Idx.first (numel1_S1.symm ▸ Nat.one_pos))))

/-- What the body stores in the block of codes. -/
theorem piecesCodes :
    (kernelRun0_A (F := F) c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1).2.1
      = heads.map fun h => ⟨Rect.unit (s := S128x2048) ![0, 128 * h.val] S128x128.size (inbQ h),
          codesOf
            (blkOf arg13 (arg13.view.writes (Elt F) arg13.view.junk ((st_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) k0_pay298 (kernelRun0_A.sl.v31 c i xt0) 256#32 (kernelRun0_A.sl.v32 c i xt0) (kernelRun0_A.sl.v53 c i xt0) (harg2.unread x0) (harg3.unread x1) (harg4.unread x2) (harg5.unread x3) (harg6.unread x4) (harg7.unread x5) (arg11.view.writes (Elt F) arg11.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.1 ++ kernelRun0_A.sl.HS0_1)) (arg12.view.writes (Elt F) arg12.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.1 ++ kernelRun0_A.sl.HS1_1)) (arg13.view.writes (Elt F) arg13.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.2 ++ kernelRun0_A.sl.HS2_1)) (atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).1 (Scf.trips (k0_t2_loop (kernelRun0_A.sl.r c i xt0)).lb (k0_t2_loop (kernelRun0_A.sl.r c i xt0)).ub (k0_t2_loop (kernelRun0_A.sl.r c i xt0)).st)).2.2.2 ++ ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.2 ++ kernelRun0_A.sl.HS2_1))) h)
            (rowOf arg12 (arg12.view.writes (Elt F) arg12.view.junk ((st_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) k0_pay298 (kernelRun0_A.sl.v31 c i xt0) 256#32 (kernelRun0_A.sl.v32 c i xt0) (kernelRun0_A.sl.v53 c i xt0) (harg2.unread x0) (harg3.unread x1) (harg4.unread x2) (harg5.unread x3) (harg6.unread x4) (harg7.unread x5) (arg11.view.writes (Elt F) arg11.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.1 ++ kernelRun0_A.sl.HS0_1)) (arg12.view.writes (Elt F) arg12.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.1 ++ kernelRun0_A.sl.HS1_1)) (arg13.view.writes (Elt F) arg13.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.2 ++ kernelRun0_A.sl.HS2_1)) (atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).1 (Scf.trips (k0_t2_loop (kernelRun0_A.sl.r c i xt0)).lb (k0_t2_loop (kernelRun0_A.sl.r c i xt0)).ub (k0_t2_loop (kernelRun0_A.sl.r c i xt0)).st)).2.2.1 ++ ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.1 ++ kernelRun0_A.sl.HS1_1))) h)⟩ := by
  unfold kernelRun0_A
  rfl

/-- The remainder of the loop makes no trip, so the results are of the loop's last state. -/
theorem piecesCodes' (h2 : (Scf.trips (k0_t2_loop (kernelRun0_A.sl.r c i xt0)).lb (k0_t2_loop (kernelRun0_A.sl.r c i xt0)).ub (k0_t2_loop (kernelRun0_A.sl.r c i xt0)).st) = 0) :
    (kernelRun0_A (F := F) c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1).2.1
      = heads.map fun h => ⟨Rect.unit (s := S128x2048) ![0, 128 * h.val] S128x128.size (inbQ h),
          codesOf (blkOf arg13 (arg13.view.writes (Elt F) (g13 arg13) (atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.2) h)
            (rowOf arg12 (arg12.view.writes (Elt F) (g12 arg12) (atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.1) h)⟩ := by
  rw [piecesCodes, h2]
  simp only [st_k0_t2, List.nil_append, View.writes_append]

/-- What the body stores in the block of scales. -/
theorem piecesScales :
    (kernelRun0_A (F := F) c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1).2.2.val
      = heads.map fun h => ⟨Rect.unit (s := S1x128x16) ![0, 0, h.val] S1x128x1.size (inbS h),
          scalesOf
            (blkOf arg13 (arg13.view.writes (Elt F) arg13.view.junk ((st_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) k0_pay298 (kernelRun0_A.sl.v31 c i xt0) 256#32 (kernelRun0_A.sl.v32 c i xt0) (kernelRun0_A.sl.v53 c i xt0) (harg2.unread x0) (harg3.unread x1) (harg4.unread x2) (harg5.unread x3) (harg6.unread x4) (harg7.unread x5) (arg11.view.writes (Elt F) arg11.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.1 ++ kernelRun0_A.sl.HS0_1)) (arg12.view.writes (Elt F) arg12.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.1 ++ kernelRun0_A.sl.HS1_1)) (arg13.view.writes (Elt F) arg13.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.2 ++ kernelRun0_A.sl.HS2_1)) (atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).1 (Scf.trips (k0_t2_loop (kernelRun0_A.sl.r c i xt0)).lb (k0_t2_loop (kernelRun0_A.sl.r c i xt0)).ub (k0_t2_loop (kernelRun0_A.sl.r c i xt0)).st)).2.2.2 ++ ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.2 ++ kernelRun0_A.sl.HS2_1))) h)
            (rowOf arg12 (arg12.view.writes (Elt F) arg12.view.junk ((st_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (kernelRun0_A.sl.v13 c i xt0) k0_pay298 (kernelRun0_A.sl.v31 c i xt0) 256#32 (kernelRun0_A.sl.v32 c i xt0) (kernelRun0_A.sl.v53 c i xt0) (harg2.unread x0) (harg3.unread x1) (harg4.unread x2) (harg5.unread x3) (harg6.unread x4) (harg7.unread x5) (arg11.view.writes (Elt F) arg11.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.1 ++ kernelRun0_A.sl.HS0_1)) (arg12.view.writes (Elt F) arg12.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.1 ++ kernelRun0_A.sl.HS1_1)) (arg13.view.writes (Elt F) arg13.view.junk ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.2 ++ kernelRun0_A.sl.HS2_1)) (atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).1 (Scf.trips (k0_t2_loop (kernelRun0_A.sl.r c i xt0)).lb (k0_t2_loop (kernelRun0_A.sl.r c i xt0)).ub (k0_t2_loop (kernelRun0_A.sl.r c i xt0)).st)).2.2.1 ++ ((atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.1 ++ kernelRun0_A.sl.HS1_1))) h)⟩ := by
  unfold kernelRun0_A
  rfl

/-- The remainder of the loop makes no trip, so the results are of the loop's last state. -/
theorem piecesScales' (h2 : (Scf.trips (k0_t2_loop (kernelRun0_A.sl.r c i xt0)).lb (k0_t2_loop (kernelRun0_A.sl.r c i xt0)).ub (k0_t2_loop (kernelRun0_A.sl.r c i xt0)).st) = 0) :
    (kernelRun0_A (F := F) c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1).2.2.val
      = heads.map fun h => ⟨Rect.unit (s := S1x128x16) ![0, 0, h.val] S1x128x1.size (inbS h),
          scalesOf (blkOf arg13 (arg13.view.writes (Elt F) (g13 arg13) (atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.2) h)
            (rowOf arg12 (arg12.view.writes (Elt F) (g12 arg12) (atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.1) h)⟩ := by
  rw [piecesScales, h2]
  simp only [st_k0_t2, List.nil_append, View.writes_append]

end

end Cert.KernelIdeal.Trip
end
-- ==== Proof.Pow2.lean ====
/- The power-of-two scale of a row, apart from any kernel: the exponent field that the kernel finds among integers is the
   exponent that the reference finds among numbers, for every magnitude below 2^126. -/
module

public import Idealize.ShloMosaic.PureOps.Ideal
public import Mathlib.Data.EReal.Operations

@[expose] public section

noncomputable section

namespace Pow2

open Idealize.ShloMosaic

theorem shift_pow (m : ℕ) (z : ℤ) : (2 : ℝ) ^ m * (2 : ℝ) ^ (z - m) = (2 : ℝ) ^ z := by
  rw [← zpow_natCast, ← zpow_add₀ (by norm_num)]
  congr 1
  omega

theorem sign_bit (k : ℕ) (h2 : k ≤ 254) : (BitVec.ofNat 32 (k * 8388608)).extractLsb' 31 1 = 0#1 := by
  apply BitVec.eq_of_toNat_eq
  rw [BitVec.extractLsb'_toNat, BitVec.toNat_ofNat, Nat.shiftRight_eq_div_pow]
  show _ = 0
  omega

theorem exponent_bits (k : ℕ) (h2 : k ≤ 254) : ((BitVec.ofNat 32 (k * 8388608)).extractLsb' 23 8).toNat = k := by
  rw [BitVec.extractLsb'_toNat, BitVec.toNat_ofNat, Nat.shiftRight_eq_div_pow]
  omega

theorem fraction_bits (k : ℕ) (h2 : k ≤ 254) : ((BitVec.ofNat 32 (k * 8388608)).extractLsb' 0 23).toNat = 0 := by
  rw [BitVec.extractLsb'_toNat, BitVec.toNat_ofNat, Nat.shiftRight_eq_div_pow]
  omega

/-- A word of sign +, a normal exponent field and no fraction. -/
theorem ieee_pow (m w : ℕ) (b : BitVec w) (k : ℕ) (h1 : 1 ≤ k) (h2 : k ≤ 254) (e1 : b.extractLsb' (8 + m) 1 = 0#1)
    (e2 : (b.extractLsb' m 8).toNat = k) (e3 : (b.extractLsb' 0 m).toNat = 0) :
    Ideal.ieee 8 m b = (((2 : ℝ) ^ ((k : ℤ) - 127) : ℝ) : EReal) := by
  unfold Ideal.ieee
  simp only [e1, e2, e3]
  rw [if_neg (by omega), if_neg (by omega)]
  refine EReal.coe_eq_coe_iff.mpr ?_
  rw [← shift_pow m ((k : ℤ) - 127)]
  have e : ((0#1 : BitVec 1) == 1#1) = false := by decide
  rw [e, if_neg (by decide), one_mul, add_zero, Nat.cast_pow]
  norm_num

/-- The number whose word has the exponent field `k` and nothing else. -/
theorem field (k : ℕ) (h1 : 1 ≤ k) (h2 : k ≤ 254) :
    Ideal.ofBits FTy.f32 (BitVec.ofNat 32 (k * 8388608)) = (((2 : ℝ) ^ ((k : ℤ) - 127) : ℝ) : EReal) :=
  ieee_pow 23 32 _ k h1 h2 (sign_bit k h2) (exponent_bits k h2) (fraction_bits k h2)

/-- The field 255 is an infinity. -/
theorem field255 : Ideal.ofBits FTy.f32 (BitVec.ofNat 32 (255 * 8388608)) = ⊤ := by
  simp [Ideal.ofBits, Ideal.ieee]

theorem shl (k : ℕ) (h : k ≤ 255) : IntOp.shli ArithUnit.vector (BitVec.ofNat 32 k) 23#32 = BitVec.ofNat 32 (k * 8388608) := by
  unfold IntOp.shli
  rw [if_pos (by decide)]
  apply BitVec.eq_of_toNat_eq
  rw [BitVec.shiftLeft_eq', BitVec.toNat_shiftLeft, BitVec.toNat_ofNat, BitVec.toNat_ofNat, BitVec.toNat_ofNat, Nat.shiftLeft_eq]
  have e : (2 : ℕ) ^ (23 % 2 ^ 32) = 8388608 := by decide
  rw [e]
  omega

/-- A magnitude below 2^126 has a greatest field whose power of two is at most it. -/
theorem exists_field (x : EReal) (hx : x < (((2 : ℝ) ^ (126 : ℤ) : ℝ) : EReal)) :
    ∃ n : ℕ, n ≤ 252 ∧ ∀ k : ℕ, 1 ≤ k → ((((2 : ℝ) ^ ((k : ℤ) - 127) : ℝ) : EReal) ≤ x ↔ k ≤ n) := by
  classical
  let P : ℕ → Prop := fun k => 1 ≤ k ∧ (((2 : ℝ) ^ ((k : ℤ) - 127) : ℝ) : EReal) ≤ x
  have mono : ∀ a b : ℕ, a ≤ b → ((2 : ℝ) ^ ((a : ℤ) - 127) : ℝ) ≤ (2 : ℝ) ^ ((b : ℤ) - 127) := fun a b h =>
    zpow_le_zpow_right₀ (by norm_num) (by omega)
  refine ⟨Nat.findGreatest P 252, Nat.findGreatest_le _, fun k h1 => ⟨fun h => ?_, fun h => ?_⟩⟩
  · by_cases hk : k ≤ 252
    · exact Nat.le_findGreatest hk ⟨h1, h⟩
    · exfalso
      have := mono 253 k (by omega)
      have h' : (((2 : ℝ) ^ (126 : ℤ) : ℝ) : EReal) ≤ x := (EReal.coe_le_coe_iff.mpr this).trans h
      exact absurd hx (not_lt.mpr h')
  · have hP : P (Nat.findGreatest P 252) := by
      by_contra hn
      have h0 : Nat.findGreatest P 252 ≠ 0 := by omega
      exact hn (Nat.findGreatest_of_ne_zero rfl h0)
    exact (EReal.coe_le_coe_iff.mpr (mono _ _ h)).trans hP.2

theorem maxsi_toInt (a b : BitVec 32) : (IntOp.maxsi a b).toInt = max a.toInt b.toInt := by
  unfold IntOp.maxsi
  by_cases h : b.toInt < a.toInt
  · rw [if_pos (by simpa [BitVec.slt] using h), max_eq_left (le_of_lt h)]
  · rw [if_neg (by simpa [BitVec.slt] using h), max_eq_right (not_lt.mp h)]

instance : Std.Commutative (IntOp.maxsi (w := 32)) :=
  ⟨fun a b => BitVec.eq_of_toInt_eq (by rw [maxsi_toInt, maxsi_toInt, max_comm])⟩

instance : Std.Associative (IntOp.maxsi (w := 32)) :=
  ⟨fun a b c => BitVec.eq_of_toInt_eq (by simp only [maxsi_toInt, max_assoc])⟩

/-- The field found among integers. -/
def found (x : EReal) : BitVec 32 :=
  Finset.fold IntOp.maxsi (2147483648#32)
    (fun k : Fin 256 => Scalar.select
      (IntOp.andi (IntOp.cmpi CmpIPredicate.sgt (BitVec.ofNat 32 k.val) 0#32)
        (BitVec.ofBool (decide (Ideal.ofBits FTy.f32 (IntOp.shli ArithUnit.vector (BitVec.ofNat 32 k.val) 23#32) ≤ x))))
      (BitVec.ofNat 32 k.val) 0#32) Finset.univ

/-- The exponent found among numbers. -/
def expo (x : EReal) : EReal :=
  Finset.univ.fold max ⊥ fun k : Fin 256 =>
    if Ideal.exp2 ((((k.val : ℝ) : EReal)) - ((127 : ℝ) : EReal)) ≤ x then (((k.val : ℝ) : EReal)) - ((127 : ℝ) : EReal) + 1 else ((-126 : ℝ) : EReal)

theorem found_eq (x : EReal) (hx : x < (((2 : ℝ) ^ (126 : ℤ) : ℝ) : EReal)) (n : ℕ) (hn : n ≤ 252)
    (h : ∀ k : ℕ, 1 ≤ k → ((((2 : ℝ) ^ ((k : ℤ) - 127) : ℝ) : EReal) ≤ x ↔ k ≤ n)) : found x = BitVec.ofNat 32 n := by
  have lane : ∀ k : Fin 256, (Scalar.select
      (IntOp.andi (IntOp.cmpi CmpIPredicate.sgt (BitVec.ofNat 32 k.val) 0#32)
        (BitVec.ofBool (decide (Ideal.ofBits FTy.f32 (IntOp.shli ArithUnit.vector (BitVec.ofNat 32 k.val) 23#32) ≤ x))))
      (BitVec.ofNat 32 k.val) 0#32) = BitVec.ofNat 32 (if k.val ≤ n then k.val else 0) := fun k => by
    have hk := k.isLt
    rw [shl _ (by omega)]
    by_cases h0 : k.val = 0
    · rw [h0, if_pos (by omega)]
      show Scalar.select (IntOp.andi (BitVec.ofBool false) (BitVec.ofBool _)) _ _ = _
      cases decide (Ideal.ofBits FTy.f32 (BitVec.ofNat 32 (0 * 8388608)) ≤ x) <;> rfl
    · have c : IntOp.cmpi CmpIPredicate.sgt (BitVec.ofNat 32 k.val) 0#32 = BitVec.ofBool true := by
        show BitVec.ofBool ((0#32).slt (BitVec.ofNat 32 k.val)) = _
        congr 1
        rw [BitVec.slt, decide_eq_true_iff, BitVec.toInt_eq_toNat_cond, BitVec.toInt_eq_toNat_cond]
        simp only [BitVec.toNat_ofNat]
        split <;> split <;> omega
      have d : decide (Ideal.ofBits FTy.f32 (BitVec.ofNat 32 (k.val * 8388608)) ≤ x) = decide (k.val ≤ n) := by
        by_cases hk' : k.val ≤ 254
        · rw [field _ (by omega) hk']
          exact decide_eq_decide.mpr (h _ (by omega))
        · have : k.val = 255 := by omega
          rw [this, field255]
          refine decide_eq_decide.mpr ⟨fun e => ?_, fun e => by omega⟩
          rw [top_le_iff.mp e] at hx
          exact absurd hx (not_lt.mpr le_top)
      rw [c, d]
      by_cases hkn : k.val ≤ n
      · rw [if_pos hkn, decide_eq_true hkn]; rfl
      · rw [if_neg hkn, decide_eq_false hkn]; rfl
  unfold found
  simp only [lane]
  have toInt : ∀ m : ℕ, m < 256 → (BitVec.ofNat 32 m).toInt = m := fun m hm => by
    rw [BitVec.toInt_eq_toNat_cond]; simp only [BitVec.toNat_ofNat]; split <;> omega
  apply BitVec.eq_of_toInt_eq
  rw [← Finset.fold_hom (op := IntOp.maxsi) (op' := max) (m := BitVec.toInt) maxsi_toInt, toInt n (by omega)]
  apply le_antisymm
  · rw [Finset.fold_max_le]
    refine ⟨(by decide : (2147483648#32 : BitVec 32).toInt ≤ 0).trans (by omega), fun k _ => ?_⟩
    have := k.isLt
    rw [toInt _ (by split <;> omega)]
    split <;> omega
  · rw [Finset.le_fold_max]
    refine Or.inr ⟨⟨n, by omega⟩, Finset.mem_univ _, ?_⟩
    rw [if_pos (le_refl n), toInt n (by omega)]

theorem expo_eq (x : EReal) (n : ℕ) (hn : n ≤ 252)
    (h : ∀ k : ℕ, 1 ≤ k → ((((2 : ℝ) ^ ((k : ℤ) - 127) : ℝ) : EReal) ≤ x ↔ k ≤ n)) : expo x = (((n : ℝ) - 126 : ℝ) : EReal) := by
  have lane : ∀ k : Fin 256, (if Ideal.exp2 ((((k.val : ℝ) : EReal)) - ((127 : ℝ) : EReal)) ≤ x then (((k.val : ℝ) : EReal)) - ((127 : ℝ) : EReal) + 1 else ((-126 : ℝ) : EReal))
      = (((if k.val ≤ n then (k.val : ℝ) else 0) - 126 : ℝ) : EReal) := fun k => by
    have e1 : (((k.val : ℝ) : EReal)) - ((127 : ℝ) : EReal) + 1 = (((k.val : ℝ) - 126 : ℝ) : EReal) := by
      rw [← EReal.coe_sub, ← EReal.coe_one, ← EReal.coe_add]
      congr 1; ring
    have e2 : Ideal.exp2 ((((k.val : ℝ) : EReal)) - ((127 : ℝ) : EReal)) = (((2 : ℝ) ^ ((k.val : ℤ) - 127) : ℝ) : EReal) := by
      rw [← EReal.coe_sub, Ideal.exp2_coe]
      congr 1
      show (2 : ℝ) ^ ((k.val : ℝ) - 127) = _
      rw [← Real.rpow_intCast]
      congr 1
      push_cast; ring
    rw [e1, e2]
    by_cases h0 : k.val = 0
    · rw [h0]; split <;> split <;> first | rfl | norm_num
    · by_cases hk : k.val ≤ n
      · rw [if_pos ((h _ (by omega)).mpr hk), if_pos hk]
      · rw [if_neg (fun e => hk ((h _ (by omega)).mp e)), if_neg hk]; norm_num
  unfold expo
  simp only [lane]
  apply le_antisymm
  · rw [Finset.fold_max_le]
    refine ⟨bot_le, fun k _ => EReal.coe_le_coe_iff.mpr ?_⟩
    split
    · rename_i hk
      have : (k.val : ℝ) ≤ n := by exact_mod_cast hk
      linarith
    · have : (0 : ℝ) ≤ n := Nat.cast_nonneg n
      linarith
  · rw [Finset.le_fold_max]
    refine Or.inr ⟨⟨n, by omega⟩, Finset.mem_univ _, ?_⟩
    rw [if_pos (le_refl n)]

/-- The kernel's field, with 126 for the magnitude 0, and the reference's exponent, with 0 for it, as one number. -/
theorem both (x : EReal) (hx : x < (((2 : ℝ) ^ (126 : ℤ) : ℝ) : EReal)) :
    ∃ n : ℕ, n ≤ 252 ∧ (if x = 0 then 126#32 else found x) = BitVec.ofNat 32 n
      ∧ (if x = 0 then 0 else expo x) = (((n : ℝ) - 126 : ℝ) : EReal) := by
  by_cases h0 : x = 0
  · exact ⟨126, by omega, by rw [if_pos h0], by rw [if_pos h0]; norm_num⟩
  · obtain ⟨n, hn, h⟩ := exists_field x hx
    exact ⟨n, hn, by rw [if_neg h0, found_eq x hx n hn h], by rw [if_neg h0, expo_eq x n hn h]⟩

/-- The scale's word is 2 to the exponent. -/
theorem scale (n : ℕ) (hn : n ≤ 252) :
    Ideal.ofBits FTy.f32 (IntOp.shli ArithUnit.vector (IntOp.addi (BitVec.ofNat 32 n) 1#32) 23#32) = Ideal.exp2 (((n : ℝ) - 126 : ℝ) : EReal) := by
  have e : IntOp.addi (BitVec.ofNat 32 n) 1#32 = BitVec.ofNat 32 (n + 1) := by
    show BitVec.ofNat 32 n + 1#32 = _
    apply BitVec.eq_of_toNat_eq
    simp only [BitVec.toNat_add, BitVec.toNat_ofNat]; omega
  rw [e, shl _ (by omega), field _ (by omega) (by omega), Ideal.exp2_coe]
  congr 1
  show _ = (2 : ℝ) ^ ((n : ℝ) - 126)
  rw [← Real.rpow_intCast]
  congr 1
  push_cast; ring

/-- The inverse scale's word is 2 to the exponent's negative. -/
theorem inverse (n : ℕ) (hn : n ≤ 252) :
    Ideal.ofBits FTy.f32 (IntOp.shli ArithUnit.vector (IntOp.subi 253#32 (BitVec.ofNat 32 n)) 23#32) = Ideal.exp2 (0 - (((n : ℝ) - 126 : ℝ) : EReal)) := by
  have e : IntOp.subi 253#32 (BitVec.ofNat 32 n) = BitVec.ofNat 32 (253 - n) := by
    show 253#32 - BitVec.ofNat 32 n = _
    apply BitVec.eq_of_toNat_eq
    simp only [BitVec.toNat_sub, BitVec.toNat_ofNat]; omega
  have e0 : (0 : EReal) - (((n : ℝ) - 126 : ℝ) : EReal) = ((126 - (n : ℝ) : ℝ) : EReal) := by
    rw [← EReal.coe_zero, ← EReal.coe_sub]; congr 1; ring
  rw [e, e0, shl _ (by omega), field _ (by omega) (by omega), Ideal.exp2_coe]
  congr 1
  show _ = (2 : ℝ) ^ (126 - (n : ℝ))
  rw [← Real.rpow_intCast]
  congr 1
  have : ((253 - n : ℕ) : ℤ) = 253 - (n : ℤ) := by omega
  rw [this]
  push_cast; ring

/-- The largest magnitude of a row of 128. -/
def mag (o : Fin 128 → EReal) : EReal := Finset.univ.fold max ⊥ fun d : Fin 128 => max (o d) (-o d)

/-- One 448th, rounded. -/
def recip : EReal := Ideal.ofBits FTy.f32 991054117#32

/-- The exponent of a row's scale. -/
def rowExp (o : Fin 128 → EReal) : EReal := if mag o = 0 then 0 else expo (mag o * recip)

/-- The code of `x` at a scale of exponent `e`. -/
def code (x e : EReal) : EReal :=
  min (Ideal.ofBits FTy.f32 1138753536#32) (max (Ideal.ofBits FTy.f32 3286237184#32) (x * Ideal.exp2 (0 - e)))

/-- What a word of a normal exponent denotes. -/
theorem ieee_normal (m w : ℕ) (b : BitVec w) (neg : Bool) (k f : ℕ) (h1 : 1 ≤ k) (h2 : k ≤ 254) (e1 : (b.extractLsb' (8 + m) 1 == 1#1) = neg)
    (e2 : (b.extractLsb' m 8).toNat = k) (e3 : (b.extractLsb' 0 m).toNat = f) :
    Ideal.ieee 8 m b = (((if neg then -1 else 1) * (2 ^ m + f : ℕ) * (2 : ℝ) ^ ((k : ℤ) - 127 - m) : ℝ) : EReal) := by
  unfold Ideal.ieee
  simp only [e1, e2, e3]
  rw [if_neg (by norm_num; omega), if_neg (by omega)]
  congr 3

theorem recip_eq : recip = ((9586981 / 4294967296 : ℝ) : EReal) := by
  refine (ieee_normal 23 32 991054117#32 false 118 1198373 (by decide) (by decide) (by decide) (by decide) (by decide)).trans ?_
  norm_num

theorem w127 : Ideal.ofBits FTy.f32 1123942400#32 = ((127 : ℝ) : EReal) := by
  refine (ieee_normal 23 32 1123942400#32 false 133 8257536 (by decide) (by decide) (by decide) (by decide) (by decide)).trans ?_
  norm_num

theorem wm126 : Ideal.ofBits FTy.f32 3271294976#32 = ((-126 : ℝ) : EReal) := by
  refine (ieee_normal 23 32 3271294976#32 true 133 8126464 (by decide) (by decide) (by decide) (by decide) (by decide)).trans ?_
  norm_num

theorem bot_word : Ideal.ofBits FTy.f32 4286578688#32 = ⊥ := by
  simp [Ideal.ofBits, Ideal.ieee]

theorem mul_recip_zero (a : EReal) : a * recip = 0 ↔ a = 0 := by
  rw [recip_eq, mul_eq_zero]
  refine or_iff_left ?_
  rw [← EReal.coe_zero, EReal.coe_eq_coe_iff]
  norm_num

/-- A row whose magnitude fits: the kernel's field and the reference's exponent. -/
theorem both_row (o : Fin 128 → EReal) (h : mag o * recip < (((2 : ℝ) ^ (126 : ℤ) : ℝ) : EReal)) :
    ∃ n : ℕ, n ≤ 252 ∧ (if mag o * recip = 0 then 126#32 else found (mag o * recip)) = BitVec.ofNat 32 n
      ∧ rowExp o = (((n : ℝ) - 126 : ℝ) : EReal) := by
  obtain ⟨n, hn, e1, e2⟩ := both _ h
  refine ⟨n, hn, e1, ?_⟩
  rw [← e2]
  exact if_congr (mul_recip_zero _).symm rfl rfl

/-- A row of components at most 448 times 2^125 fits. -/
theorem fits (o : Fin 128 → EReal) (h : ∀ d, max (o d) (-o d) ≤ ((448 * (2 : ℝ) ^ (125 : ℤ) : ℝ) : EReal)) :
    mag o * recip < (((2 : ℝ) ^ (126 : ℤ) : ℝ) : EReal) := by
  have h1 : mag o ≤ ((448 * (2 : ℝ) ^ (125 : ℤ) : ℝ) : EReal) := (Finset.fold_max_le _).mpr ⟨bot_le, fun d _ => h d⟩
  have h0 : (0 : EReal) ≤ recip := by
    rw [recip_eq, ← EReal.coe_zero, EReal.coe_le_coe_iff]; norm_num
  refine (mul_le_mul_of_nonneg_right h1 h0).trans_lt ?_
  rw [recip_eq, ← EReal.coe_mul, EReal.coe_lt_coe_iff]
  norm_num

end Pow2
end
-- ==== Proof.QuantStep.lean ====
/- The quantiser of a head's row at an index, over the extended reals. -/
module

public import proofs.«01_k».proof.Proof.StepIdeal
public import proofs.«01_k».proof.Proof.QuantPieces
public import proofs.«01_k».proof.Proof.Pow2
public import Idealize.ShloMosaic.Lib.Pointwise

@[expose] public section

set_option maxRecDepth 16384

noncomputable section

namespace Cert.KernelIdeal.Quant

open Idealize.ShloMosaic Idealize.ShloMosaic.TcCoe Idealize.ShloMosaic.Tactic Idealize.ShloMosaic.Pointwise
open Cert.KernelIdeal.Gen Cert.KernelIdeal.Trip

section
variable (a : Vec Ideal S1x128x128 .f32) (l : Vec Ideal S1x128 .f32)

theorem quo_apply (t d : Fin 128) : k0_pay301 a l (ix2 t d) = Ideal.div (a (ix3 0 d t)) (l (ix2 0 t)) := by
  pointwise [k0_pay301]

/-- A row of a head's results. -/
abbrev rowR (t : Fin 128) : Fin 128 → EReal := fun d => Ideal.div (a (ix3 0 d t)) (l (ix2 0 t))

theorem x_apply (t : Fin 128) : k0_pay303 a l (ix2 t 0) = Pow2.mag (rowR a l t) * Pow2.recip := by
  pointwise [k0_pay303]
  rw [Pow2.bot_word]
  simp only [quo_apply]
  rfl
end

theorem e_apply (x : FVec Ideal S128x1 .f32) (t : Fin 128) :
    k0_pay305 x (iota .tc S128x256 32 [1] iota_S128x256_d1_w32) k0_pay304 (ix2 t 0)
      = if x (ix2 t 0) = 0 then 126#32 else Pow2.found (x (ix2 t 0)) := by
  pointwise [k0_pay305, k0_pay304]
  rfl

section
variable (a : Vec Ideal S1x128x128 .f32) (l : Vec Ideal S1x128 .f32) (t : Fin 128)
  (h : Pow2.mag (rowR a l t) * Pow2.recip < (((2 : ℝ) ^ (126 : ℤ) : ℝ) : EReal))

include h

/-- The codes of a row that fits. -/
theorem codes_apply (d : Fin 128) : codesOf a l (ix2 t d) = Pow2.code (rowR a l t d) (Pow2.rowExp (rowR a l t)) := by
  obtain ⟨n, hn, e1, e2⟩ := Pow2.both_row _ h
  pointwise [k0_pay306]
  rw [e_apply, x_apply, e1, Pow2.inverse n hn, ← e2, quo_apply]
  rfl

/-- The scale of a row that fits. -/
theorem scale_apply : scalesOf a l (ix3 0 t 0) = Ideal.exp2 (Pow2.rowExp (rowR a l t)) := by
  obtain ⟨n, hn, e1, e2⟩ := Pow2.both_row _ h
  pointwise [k0_pay307]
  rw [e_apply, x_apply, e1, Pow2.scale n hn, ← e2]
end

end Cert.KernelIdeal.Quant
end
-- ==== Proof.QuantValue.lean ====
/- The codes and the scales that one run of the body stores, over the extended reals: the quantiser of attention's rows. -/
module

public import proofs.«01_k».proof.Proof.Value
public import proofs.«01_k».proof.Proof.QuantStep

@[expose] public section

set_option maxRecDepth 16384

noncomputable section

namespace Cert.KernelIdeal.Quant

open Idealize.ShloMosaic Idealize.ShloMosaic.TcCoe Idealize.ShloMosaic.Tactic Idealize.ShloMosaic.Pointwise
open Cert.KernelIdeal.Gen Cert.KernelIdeal.Trip Cert.KernelIdeal.Body Cert.KernelIdeal.Step Cert.KernelIdeal.Value

/-- Sixteen columns stored, one per head: at head `h` the array holds that head's column. -/
theorem read_scales (a : Memref sig .tc .vmem S1x128x16 .f32) (f : BufTy.Contents (Elt Ideal) a.view.ty)
    (pay : Fin 16 → S1x128x1.Idx → Elt Ideal .f32) (h : Fin 16) (t : Fin 128) :
    a.view.read (Elt Ideal) (a.view.writes (Elt Ideal) f
        (heads.map fun h => ⟨Rect.unit (s := S1x128x16) ![0, 0, h.val] S1x128x1.size (inbS h), pay h⟩)) (ix3 0 t h)
      = pay h (ix3 0 t 0) := by
  refine (View.read_writes_apply_of_pieces a.view f
    (fun y => pay ⟨(y 2).val, (y 2).isLt⟩ (ix3 0 (y 1) 0)) _ ?_ (ix3 0 t h) ?_)
  · intro p hp x
    obtain ⟨h', _, rfl⟩ := List.mem_map.mp hp
    show pay h' x = pay _ _
    have h0 : (x 0).val < 1 := (x 0).isLt
    have h2 : (x 2).val < 1 := (x 2).isLt
    congr 1
    · refine Fin.ext ?_
      show h'.val = h'.val + 1 * (x 2).val
      omega
    · funext a
      fin_cases a
      · exact Fin.ext (by show (x 0).val = 0; omega)
      · exact Fin.ext (by show (x 1).val = 0 + 1 * (x 1).val; omega)
      · exact Fin.ext (by show (x 2).val = 0; omega)
  · refine ⟨_, List.mem_map.mpr ⟨h, mem_heads h, rfl⟩, ?_⟩
    rw [Rect.mem_set_unit]
    intro a
    fin_cases a
    · exact ⟨Nat.zero_le _, by show 0 < 0 + 1; omega⟩
    · exact ⟨Nat.zero_le _, by show t.val < 0 + 128; omega⟩
    · exact ⟨Nat.le_refl _, by show h.val < h.val + 1; omega⟩

section
variable (c : Dev nD) (i : grid0.Coords) (arg2 : Memref sig .tc .vmem S128x2048 .bf16) (harg2 : arg2.IsWhole) (arg3 : Memref sig .tc .vmem S1x8448x128 .bf16) (harg3 : arg3.IsWhole) (arg4 : Memref sig .tc .vmem S1x128x8448 .bf16) (harg4 : arg4.IsWhole) (arg5 : Memref sig .tc .vmem S1x8448x1 .f32) (harg5 : arg5.IsWhole) (arg6 : Memref sig .tc .vmem S1x8448x1 .f32) (harg6 : arg6.IsWhole) (arg7 : Memref sig .tc .vmem S1x136x128 .f32) (harg7 : arg7.IsWhole) (arg8 : Memref sig .tc .vmem S128x2048 .bf16) (harg8 : arg8.IsWhole) (arg9 : Memref sig .tc .vmem S128x2048 .fp8e4m3) (harg9 : arg9.IsWhole) (arg10 : Memref sig .tc .vmem S1x128x16 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128x128 .f32) (harg13 : arg13.IsWhole)
    (x0 : Vec Ideal S128x2048 .bf16) (x1 : Vec Ideal S1x8448x128 .bf16) (x2 : Vec Ideal S1x128x8448 .bf16) (x3 : Vec Ideal S1x8448x1 .f32) (x4 : Vec Ideal S1x8448x1 .f32) (x5 : Vec Ideal S1x136x128 .f32) (xt0 : TbBuf0 (F := Ideal) c tbM0_0) (k0_hw1 : k0_chk1 (tbM0_0.view.readAt (Elt Ideal) (Rect.unit (s := S62) (k0_off1 i) S1.size (k0_off1_inb i)).toLoadRect xt0 (Shape.Idx.first (numel1_S1.symm ▸ Nat.one_pos))))
    (n : Fin 62) (hr : kernelRun0_A.sl.r c i xt0 = BitVec.ofNat 32 n.val) (h : Fin 16) (t : Fin 128)

/-- Attention of query `t` and head `h`, one number per component. -/
abbrev att (x0 : Vec Ideal S128x2048 .bf16) (x1 : Vec Ideal S1x8448x128 .bf16) (x2 : Vec Ideal S1x128x8448 .bf16) (x3 x4 : Vec Ideal S1x8448x1 .f32)
    (x5 : Vec Ideal S1x136x128 .f32) (n : Fin 62) (h : Fin 16) (t : Fin 128) : Fin 128 → EReal :=
  fun d => Flash.attn 8320 (scores x0 x1 x3 x5 (pos n) h t) (weights x4) (values x2 d)

include hr in
theorem no_trips : (Scf.trips (k0_t2_loop (kernelRun0_A.sl.r c i xt0)).lb (k0_t2_loop (kernelRun0_A.sl.r c i xt0)).ub (k0_t2_loop (kernelRun0_A.sl.r c i xt0)).st) = 0 := by
  rw [hr]; exact trips2_eq n

include hr in
/-- The row that the quantiser reads is attention. -/
theorem row_eq : rowR (blkOf arg13 (arg13.view.writes (Elt Ideal) (g13 arg13) (atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.2) h)
            (rowOf arg12 (arg12.view.writes (Elt Ideal) (g12 arg12) (atTrip c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (Scf.trips (k0_t1_loop (kernelRun0_A.sl.r c i xt0)).lb (k0_t1_loop (kernelRun0_A.sl.r c i xt0)).ub (k0_t1_loop (kernelRun0_A.sl.r c i xt0)).st)).2.2.1) h) t = att x0 x1 x2 x3 x4 x5 n h t := by
  funext d
  have hb := body_value c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 n hr h t d arg8
  rw [piecesOut' c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (no_trips c i xt0 n hr), read_cols, out_apply] at hb
  exact hb

variable (hf : Pow2.mag (att x0 x1 x2 x3 x4 x5 n h t) * Pow2.recip < (((2 : ℝ) ^ (126 : ℤ) : ℝ) : EReal))

include hr hf in
/-- THE BODY'S CODES. -/
theorem codes_value (d : Fin 128) (a : Memref sig .tc .vmem S128x2048 .fp8e4m3) :
    a.view.read (Elt Ideal) (a.view.writes (Elt Ideal) a.view.junk (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1).2.1) (ix2 t ⟨128 * h.val + d.val, by omega⟩)
      = Pow2.code (att x0 x1 x2 x3 x4 x5 n h t d) (Pow2.rowExp (att x0 x1 x2 x3 x4 x5 n h t)) := by
  rw [← row_eq c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 n hr h t] at hf ⊢
  rw [piecesCodes' c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (no_trips c i xt0 n hr), read_cols]
  exact codes_apply _ _ t hf d

include hr hf in
/-- THE BODY'S SCALES. -/
theorem scales_value (a : Memref sig .tc .vmem S1x128x16 .f32) :
    a.view.read (Elt Ideal) (a.view.writes (Elt Ideal) a.view.junk (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1).2.2.val) (ix3 0 t h)
      = Ideal.exp2 (Pow2.rowExp (att x0 x1 x2 x3 x4 x5 n h t)) := by
  rw [← row_eq c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 n hr h t] at hf ⊢
  rw [piecesScales' c i arg2 harg2 arg3 harg3 arg4 harg4 arg5 harg5 arg6 harg6 arg7 harg7 arg8 harg8 arg9 harg9 arg10 harg10 arg11 harg11 arg12 harg12 arg13 harg13 x0 x1 x2 x3 x4 x5 xt0 k0_hw1 (no_trips c i xt0 n hr), read_scales]
  exact scale_apply _ _ t hf
end

end Cert.KernelIdeal.Quant
end
-- ==== Proof.QuantArray.lean ====
/- The kernel's arrays of codes and of scales after the whole grid: the quantiser of attention's rows. -/
module

public import proofs.«01_k».proof.Proof.ArrayIdeal
public import proofs.«01_k».proof.Proof.QuantValue

@[expose] public section

set_option maxRecDepth 16384

noncomputable section

namespace Cert.KernelIdeal.Array

open Idealize.ShloMosaic Idealize.ShloMosaic.TcCoe Idealize.ShloMosaic.Tactic Idealize.ShloMosaic.Pointwise
open Idealize.ShloMosaic.Pipeline
open Cert.KernelIdeal.Gen Cert.KernelIdeal.Trip Cert.KernelIdeal.Value Cert.KernelIdeal.Quant

section
variable (a0 : Vec Ideal S3968x4096 .bf16) (a1 : Vec Ideal S2x8448x128 .bf16) (a2 : Vec Ideal S2x128x8448 .bf16)
    (a3 a4 : Vec Ideal S2x8448x1 .f32) (a5 : Vec Ideal S2x136x3968 .f32)

/-- Attention of query `s` and head `h` of group `g`, one number per component. -/
def attRow (s : Fin 3968) (g : Fin 2) (h : Fin 16) : Fin 128 → EReal :=
  fun d => Flash.attn 8320 (scoresOf a0 a1 a3 a5 s g h) (weightsOf a4 g) (valuesOf a2 g d)

/-- The code at row `s` and column `k`. -/
def codeAt (s : Fin 3968) (k : Fin 4096) : EReal :=
  Pow2.code (attRow a0 a1 a2 a3 a4 a5 s ⟨k.val / 2048, by omega⟩ ⟨k.val % 2048 / 128, by omega⟩ ⟨k.val % 128, by omega⟩)
    (Pow2.rowExp (attRow a0 a1 a2 a3 a4 a5 s ⟨k.val / 2048, by omega⟩ ⟨k.val % 2048 / 128, by omega⟩))

/-- The array of codes. -/
def G7 : Vec Ideal S3968x4096 .fp8e4m3 := fun y => codeAt a0 a1 a2 a3 a4 a5 (y 0) (y 1)

/-- The array of scales. -/
def G8 : Vec Ideal S2x3968x16 .f32 := fun y => Ideal.exp2 (Pow2.rowExp (attRow a0 a1 a2 a3 a4 a5 (y 1) (y 0) (y 2)))
end

variable (m : (ℓ : Loc nD τ sig) → Buf (Elt Ideal) ℓ) (hO : Ok m) (hH : Hyps m hO) (c : Dev nD) (t : Fin (cfgM m hO).N)

abbrev G7m : Vec Ideal S3968x4096 .fp8e4m3 := G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev G8m : Vec Ideal S2x3968x16 .f32 := G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- Every row's magnitude lies where the field and the exponent agree. -/
def Fits : Prop := ∀ (s : Fin 3968) (g : Fin 2) (h : Fin 16),
  Pow2.mag (attRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) s g h) * Pow2.recip < (((2 : ℝ) ^ (126 : ℤ) : ℝ) : EReal)

/-- The block of the scales at a tile: the group's, and the tile's rows. -/
theorem map8 : ∀ n : Fin 62, ∀ a : Fin 3, cc0_transform_8 k0_off1_inb numel1_S1 (Table.iota (F := Ideal)) (fun a => match a with | 0 => n) a = (![n.val / 31, n.val % 31, 0] : Fin 3 → ℕ) a := by
  decide +kernel

theorem index7 (a : Fin 2) : ((cfgM m hO).win 7).index t a = (![(tile m hO t).val % 31, (tile m hO t).val / 31] : Fin 2 → ℕ) a := index6 m hO t a

theorem index8 (a : Fin 3) : ((cfgM m hO).win 8).index t a = (![(tile m hO t).val / 31, (tile m hO t).val % 31, 0] : Fin 3 → ℕ) a := by
  show cc0_transform_8 k0_off1_inb numel1_S1 (tbl m) (grid0.coords t) a = _
  rw [Table.tbl_eq, coords_eq m hO t]
  exact map8 _ a

theorem emb7 (r : Fin 128) (k : Fin 2048) :
    (((cfgM m hO).win 7).blk t).view.emb (ix2 r k) = (ix2 (row (tile m hO t) r) (col (tile m hO t) k) : S3968x4096.Idx) := emb6 m hO t r k

theorem emb8 (r : Fin 128) (h : Fin 16) :
    (((cfgM m hO).win 8).blk t).view.emb (ix3 0 r h) = (ix3 (group (tile m hO t)) (row (tile m hO t) r) h : S2x3968x16.Idx) := by
  funext a
  fin_cases a
  · refine Fin.ext ?_
    show ((cfgM m hO).win 8).index t (0 : Fin 3) * 1 + 1 * 0 = (tile m hO t).val / 31
    rw [index8]
    show (tile m hO t).val / 31 * 1 + 1 * 0 = (tile m hO t).val / 31
    omega
  · refine Fin.ext ?_
    show ((cfgM m hO).win 8).index t (1 : Fin 3) * 128 + 1 * r.val = 128 * ((tile m hO t).val % 31) + r.val
    rw [index8]
    show (tile m hO t).val % 31 * 128 + 1 * r.val = 128 * ((tile m hO t).val % 31) + r.val
    omega
  · refine Fin.ext ?_
    show ((cfgM m hO).win 8).index t (2 : Fin 3) * 16 + 1 * h.val = h.val
    rw [index8]
    show 0 * 16 + 1 * h.val = h.val
    omega

/-- A tile's attention is the arrays'. -/
theorem att_block (h : Fin 16) (r : Fin 128) :
    att (iblk m hO c 0 t) (iblk m hO c 1 t) (iblk m hO c 2 t) (iblk m hO c 3 t) (iblk m hO c 4 t) (iblk m hO c 5 t) (tile m hO t) h r
      = attRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row (tile m hO t) r) (group (tile m hO t)) h := by
  funext d
  have f1 := funext (scores_block m hO c t h r)
  have f2 := funext (weights_block m hO c t)
  have f3 := funext (values_block m hO c t d)
  show Flash.attn 8320 _ _ _ = Flash.attn 8320 _ _ _
  rw [f1, f2, f3]

variable (hf : Fits m c)
include hf

/-- What the body leaves at a grid point is the point's block of the codes. -/
theorem block_codes (r : Fin 128) (k : Fin 2048) :
    (outsAt0 m hO hH c t).2.1 (ix2 r k) = G7m m c (ix2 (row (tile m hO t) r) (col (tile m hO t) k)) := by
  have hk : (⟨128 * (⟨k.val / 128, by omega⟩ : Fin 16).val + (⟨k.val % 128, by omega⟩ : Fin 128).val, by show 128 * (k.val / 128) + k.val % 128 < 2048; omega⟩ : Fin 2048) = k :=
    Fin.ext (by show 128 * (k.val / 128) + k.val % 128 = k.val; omega)
  have hb := codes_value c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (tbl m 0) (Hyps.c0 hH c t)
    (tile m hO t) (word m hO c t) ⟨k.val / 128, by omega⟩ r
    (by rw [att_block m hO c t]; exact hf _ _ _) ⟨k.val % 128, by omega⟩ (Memref.whole cc0_stg7_0)
  rw [hk] at hb
  refine hb.trans ?_
  have e1 : (⟨(col (tile m hO t) k).val / 2048, by omega⟩ : Fin 2) = group (tile m hO t) :=
    Fin.ext (by show (2048 * ((tile m hO t).val / 31) + k.val) / 2048 = (tile m hO t).val / 31; omega)
  have e2 : (⟨(col (tile m hO t) k).val % 2048 / 128, by omega⟩ : Fin 16) = ⟨k.val / 128, by omega⟩ :=
    Fin.ext (by show (2048 * ((tile m hO t).val / 31) + k.val) % 2048 / 128 = k.val / 128; omega)
  have e3 : (⟨(col (tile m hO t) k).val % 128, by omega⟩ : Fin 128) = ⟨k.val % 128, by omega⟩ :=
    Fin.ext (by show (2048 * ((tile m hO t).val / 31) + k.val) % 128 = k.val % 128; omega)
  show _ = codeAt _ _ _ _ _ _ (row (tile m hO t) r) (col (tile m hO t) k)
  unfold codeAt
  rw [e1, e2, e3, att_block m hO c t]

/-- What the body leaves at a grid point is the point's block of the scales. -/
theorem block_scales (r : Fin 128) (h : Fin 16) :
    (outsAt0 m hO hH c t).2.2 (ix3 0 r h) = G8m m c (ix3 (group (tile m hO t)) (row (tile m hO t) r) h) := by
  have hb := scales_value c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (tbl m 0) (Hyps.c0 hH c t)
    (tile m hO t) (word m hO c t) h r
    (by rw [att_block m hO c t]; exact hf _ _ _) (Memref.whole cc0_stg8_0)
  refine hb.trans ?_
  show _ = Ideal.exp2 (Pow2.rowExp (attRow _ _ _ _ _ _ (row (tile m hO t) r) (group (tile m hO t)) h))
  rw [att_block m hO c t]

omit hf

theorem flush7 : ((cfgM m hO).win 7).flush t = true := flush6 m hO t

/-- The scales' block moves at every grid point, so every point writes its block back. -/
theorem flush8 : ((cfgM m hO).win 8).flush t = true := by
  unfold Window.flush
  rw [Bool.and_eq_true]
  refine ⟨rfl, ?_⟩
  by_cases h : t.val + 1 = (cfgM m hO).grid.N
  · simp [h]
  · have h' : t.val + 1 < (cfgM m hO).grid.N := by have := t.isLt; change t.val < (cfgM m hO).grid.N at this; omega
    have hne : ((cfgM m hO).win 8).index ⟨t.val + 1, h'⟩ ≠ ((cfgM m hO).win 8).index t := fun e => by
      have e0 := congrFun e (1 : Fin 3)
      have a1 := index8 m hO ⟨t.val + 1, h'⟩ 1
      have a2 := index8 m hO t 1
      have b1 : (tile m hO ⟨t.val + 1, h'⟩).val = t.val + 1 := tile_of ⟨t.val + 1, h'⟩
      have b2 : (tile m hO t).val = t.val := tile_of t
      rw [b1] at a1
      rw [b2] at a2
      have : (t.val + 1) % 31 = t.val % 31 := (a1.symm.trans e0).trans a2
      omega
    simp only [Bool.or_eq_true, decide_eq_true_eq]
    exact Or.inr ⟨h', hne⟩

/-- Every index of the array of codes lies in the block of some grid point. -/
theorem cover7 (y : S3968x4096.Idx) :
    ∃ t : Fin (cfgM m hO).N, ((cfgM m hO).win 7).flush t = true ∧ y ∈ (((cfgM m hO).win 7).blk t).view.set := cover6 m hO y

/-- Every index of the array of scales lies in the block of some grid point. -/
theorem cover8 (y : S2x3968x16.Idx) :
    ∃ t : Fin (cfgM m hO).N, ((cfgM m hO).win 8).flush t = true ∧ y ∈ (((cfgM m hO).win 8).blk t).view.set := by
  obtain ⟨g, s, h, rfl⟩ : ∃ (g : Fin 2) (s : Fin 3968) (h : Fin 16), y = ix3 g s h := ⟨y 0, y 1, y 2, by funext a; fin_cases a <;> rfl⟩
  have hN : (cfgM m hO).grid.N = 62 := N_0
  have hq : 31 * g.val + s.val / 128 < (cfgM m hO).grid.N := by rw [hN]; omega
  refine ⟨⟨31 * g.val + s.val / 128, hq⟩, flush8 m hO _, ?_⟩
  have hm := (((cfgM m hO).win 8).blk ⟨31 * g.val + s.val / 128, hq⟩).view.emb_mem_set
    (ix3 0 ⟨s.val % 128, by omega⟩ h : S1x128x16.Idx)
  rw [emb8 m hO] at hm
  have hn : (tile m hO ⟨31 * g.val + s.val / 128, hq⟩).val = 31 * g.val + s.val / 128 := tile_of _
  have e1 : group (tile m hO ⟨31 * g.val + s.val / 128, hq⟩) = g :=
    Fin.ext (by show (tile m hO ⟨31 * g.val + s.val / 128, hq⟩).val / 31 = g.val; rw [hn]; omega)
  have e2 : row (tile m hO ⟨31 * g.val + s.val / 128, hq⟩) ⟨s.val % 128, by omega⟩ = s :=
    Fin.ext (by show 128 * ((tile m hO ⟨31 * g.val + s.val / 128, hq⟩).val % 31) + s.val % 128 = s.val; rw [hn]; omega)
  rwa [e1, e2] at hm

include hf

/-- THE ARRAY OF CODES after the run. -/
theorem final7 : (dats m hO hH 0 c).arrAt 7 (cfgM m hO).N = G7m m c := by
  refine (dats m hO hH 0 c).arrAt_eq_of_cover 7 (G7m m c) (fun t _ => ?_) (cover7 m hO)
  funext j
  show (dats m hO hH 0 c).after 7 t j = G7m m c ((((cfgM m hO).win 7).blk t).view.emb j)
  rw [after0_7]
  have hj : ∀ j' : S128x2048.Idx, ∃ (r : Fin 128) (k : Fin 2048), j' = ix2 r k := fun j' =>
    ⟨j' 0, j' 1, by funext a; fin_cases a <;> rfl⟩
  obtain ⟨r, k, rfl⟩ := hj j
  rw [emb7 m hO t]
  exact block_codes m hO hH c t hf r k

/-- THE ARRAY OF SCALES after the run. -/
theorem final8 : (dats m hO hH 0 c).arrAt 8 (cfgM m hO).N = G8m m c := by
  refine (dats m hO hH 0 c).arrAt_eq_of_cover 8 (G8m m c) (fun t _ => ?_) (cover8 m hO)
  funext j
  show (dats m hO hH 0 c).after 8 t j = G8m m c ((((cfgM m hO).win 8).blk t).view.emb j)
  rw [after0_8]
  have hj : ∀ j' : S1x128x16.Idx, ∃ (r : Fin 128) (h : Fin 16), j' = ix3 0 r h := fun j' =>
    ⟨j' 1, j' 2, by
      funext a
      fin_cases a
      · exact Subsingleton.elim (α := Fin 1) _ _
      · rfl
      · rfl⟩
  obtain ⟨r, h, rfl⟩ := hj j
  rw [emb8 m hO t]
  exact block_scales m hO hH c t hf r h

end Cert.KernelIdeal.Array
end
-- ==== Proof.RefQuant.lean ====
/- The reference's codes and scales at an index, over the extended reals. -/
module

public import proofs.«01_k».proof.Proof.RefValue
public import proofs.«01_k».proof.Proof.QuantArray

@[expose] public section

set_option maxRecDepth 16384

noncomputable section

namespace Cert.ReferenceIdeal.RefQuant

open Idealize.ShloMosaic Idealize.ShloMosaic.TcCoe Idealize.ShloMosaic.Tactic Idealize.ShloMosaic.Pointwise
open Cert.ReferenceIdeal Cert.ReferenceIdeal.Gen Cert.ReferenceIdeal.RefValue

/-- The codes laid out by query. -/
theorem codes_apply (v54 : FVec Ideal S2x16x3968x128 .f32) (v80 : FVec Ideal S2x16x3968x1 .f32) (s : Fin 3968) (k : Fin 4096) :
    k0_pay1 (F := Ideal) v54 v80 (Scalar.ofBits (F := Ideal) .f32 0x00000000#32) (ix2 s k)
      = Pow2.code (v54 (ix4 ⟨k.val / 2048, by omega⟩ ⟨k.val % 2048 / 128, by omega⟩ s ⟨k.val % 128, by omega⟩))
          (v80 (ix4 ⟨k.val / 2048, by omega⟩ ⟨k.val % 2048 / 128, by omega⟩ s 0)) := by
  have e : (⟨k.val / 128 % 16, by omega⟩ : Fin 16) = ⟨k.val % 2048 / 128, by omega⟩ := Fin.ext (by show k.val / 128 % 16 = k.val % 2048 / 128; omega)
  rw [← e]
  pointwise [k0_pay1]
  rfl

/-- The scales laid out by query. -/
theorem scale_apply (v80 : FVec Ideal S2x16x3968x1 .f32) (g : Fin 2) (h : Fin 16) (s : Fin 3968) :
    k0_pay2 v80 (ix3 g s h) = Ideal.exp2 (v80 (ix4 g h s 0)) := by
  pointwise [k0_pay2]
  rfl

/-- An axis of size one added. -/
def row1 (w : FVec Ideal S2x16x3968 .f32) : FVec Ideal S2x16x3968x1 .f32 := shapeCast S2x16x3968x1 w shapeCasts_S2x16x3968_S2x16x3968x1

theorem row1_apply (w : FVec Ideal S2x16x3968 .f32) (g : Fin 2) (h : Fin 16) (s : Fin 3968) : row1 w (ix4 g h s 0) = w (ix3 g h s) := by
  pointwise [row1]

/-- The maximum over the 128 components of a row. -/
def max128 (v : FVec Ideal S2x16x3968x128 .f32) : FVec Ideal S2x16x3968 .f32 :=
  multiReduction .maximumf [3] S2x16x3968 v 0xFF800000#32 reduces_S2x16x3968x128_S2x16x3968 (.inl rfl) rfl

/-- The maximum over the 256 exponents. -/
def max256 (v : FVec Ideal S2x16x3968x256 .f32) : FVec Ideal S2x16x3968 .f32 :=
  multiReduction .maximumf [3] S2x16x3968 v 0xFF800000#32 reduces_S2x16x3968x256_S2x16x3968 (.inl rfl) rfl

theorem max128_apply (v : FVec Ideal S2x16x3968x128 .f32) (g : Fin 2) (h : Fin 16) (s : Fin 3968) :
    max128 v (ix3 g h s) = Finset.univ.fold max (Ideal.ofBits FTy.f32 4286578688#32) fun j : Fin 128 => v (ix4 g h s j) :=
  max_last v 0xFF800000#32 reduces_S2x16x3968x128_S2x16x3968 (.inl rfl) rfl g h s

theorem max256_apply (v : FVec Ideal S2x16x3968x256 .f32) (g : Fin 2) (h : Fin 16) (s : Fin 3968) :
    max256 v (ix3 g h s) = Finset.univ.fold max (Ideal.ofBits FTy.f32 4286578688#32) fun j : Fin 256 => v (ix4 g h s j) :=
  max_last v 0xFF800000#32 reduces_S2x16x3968x256_S2x16x3968 (.inl rfl) rfl g h s

/-- The exponents, one per lane. -/
def lane : FVec Ideal S2x16x3968x256 .f32 :=
  subf (sitofp .f32 (iota .tc S2x16x3968x256 32 [3] iota_S2x16x3968x256_d3_w32)) (broadcast S2x16x3968x256 (Scalar.ofBits (F := Ideal) .f32 0x42FE0000#32))

/-- The exponents whose power of two is at most `x`, each plus one, the others' place taken by -126. -/
def cand (x : FVec Ideal S2x16x3968x1 .f32) : FVec Ideal S2x16x3968x256 .f32 :=
  select (cmpf .ole (exp2 lane) (broadcastTo S2x16x3968x256 x broadcasts_S2x16x3968x1_S2x16x3968x256))
    (addf lane (broadcast S2x16x3968x256 (Scalar.ofBits (F := Ideal) .f32 0x3F800000#32)))
    (broadcast S2x16x3968x256 (Scalar.ofBits (F := Ideal) .f32 0xC2FC0000#32))

/-- The magnitude over 448. -/
def over (a : FVec Ideal S2x16x3968x1 .f32) : FVec Ideal S2x16x3968x1 .f32 :=
  mulf a (broadcast S2x16x3968x1 (Scalar.ofBits (F := Ideal) .f32 0x3B124925#32))

/-- The exponent, 0 where the magnitude is 0. -/
def orZero (a e : FVec Ideal S2x16x3968x1 .f32) : FVec Ideal S2x16x3968x1 .f32 :=
  select (cmpf .oeq a (broadcast S2x16x3968x1 (Scalar.ofBits (F := Ideal) .f32 0x00000000#32)))
    (broadcast S2x16x3968x1 (Scalar.ofBits (F := Ideal) .f32 0x00000000#32)) e

theorem lane_apply (g : Fin 2) (h : Fin 16) (s : Fin 3968) (k : Fin 256) :
    lane (ix4 g h s k) = ((k.val : ℝ) : EReal) - ((127 : ℝ) : EReal) := by
  pointwise [lane]
  rw [Pow2.w127]
  show (((BitVec.ofNat 32 k.val).toInt : ℝ) : EReal) - _ = _
  have e : (BitVec.ofNat 32 k.val).toInt = (k.val : ℤ) := by
    have := k.isLt
    rw [BitVec.toInt_eq_toNat_cond]
    simp only [BitVec.toNat_ofNat]
    split <;> omega
  rw [e]
  rfl

theorem cand_apply (x : FVec Ideal S2x16x3968x1 .f32) (g : Fin 2) (h : Fin 16) (s : Fin 3968) (k : Fin 256) :
    cand x (ix4 g h s k) = if Ideal.exp2 ((((k.val : ℝ) : EReal)) - ((127 : ℝ) : EReal)) ≤ x (ix4 g h s 0) then (((k.val : ℝ) : EReal)) - ((127 : ℝ) : EReal) + 1 else ((-126 : ℝ) : EReal) := by
  rw [← lane_apply g h s k]
  pointwise [cand]
  rw [Pow2.wm126]
  rfl

theorem over_apply (a : FVec Ideal S2x16x3968x1 .f32) (g : Fin 2) (h : Fin 16) (s : Fin 3968) :
    over a (ix4 g h s 0) = a (ix4 g h s 0) * Pow2.recip := by
  pointwise [over]
  rfl

theorem orZero_apply (a e : FVec Ideal S2x16x3968x1 .f32) (g : Fin 2) (h : Fin 16) (s : Fin 3968) :
    orZero a e (ix4 g h s 0) = if a (ix4 g h s 0) = 0 then 0 else e (ix4 g h s 0) := by
  pointwise [orZero]

section
variable (v5 : Vec Ideal S2x128x8320 .bf16) (v9 : FVec Ideal S2x1x1x8320 .f32) (v31 : FVec Ideal S2x3968x8320 .f32) (v35 : FVec Ideal S2x16x3968x8320 .f32)

theorem pay8_eq : k0_pay8 v5 v9 v31 v35
    = orZero (row1 (max128 (absf (k0_pay6 v5 v9 v31 v35)))) (row1 (max256 (cand (over (row1 (max128 (absf (k0_pay6 v5 v9 v31 v35)))))))) := rfl

/-- The exponent of a row's scale. -/
theorem e_apply (g : Fin 2) (h : Fin 16) (s : Fin 3968) :
    k0_pay8 v5 v9 v31 v35 (ix4 g h s 0) = Pow2.rowExp fun d => k0_pay6 v5 v9 v31 v35 (ix4 g h s d) := by
  have hm : row1 (max128 (absf (k0_pay6 v5 v9 v31 v35))) (ix4 g h s 0) = Pow2.mag fun d => k0_pay6 v5 v9 v31 v35 (ix4 g h s d) := by
    rw [row1_apply, max128_apply, Pow2.bot_word]
    rfl
  rw [pay8_eq, orZero_apply, hm, row1_apply, max256_apply, Pow2.bot_word]
  simp only [cand_apply, over_apply, hm]
  rfl
end

section
variable (a0 : Vec Ideal S3968x4096 .bf16) (a1 : Vec Ideal S2x8448x128 .bf16) (a2 : Vec Ideal S2x128x8448 .bf16)
  (a3 a4 : Vec Ideal S2x8448x1 .f32) (a5 : Vec Ideal S2x136x3968 .f32)

open Cert.KernelIdeal.Array (attRow codeAt)

/-- The reference's attention is the kernel's. -/
theorem att_eq (g : Fin 2) (h : Fin 16) (s : Fin 3968) (d : Fin 128) :
    k0_pay6 (View.ld a2 r0_2) (k0_pay9 a0 a1 a2 a3 a4 a5) (k0_pay10 a0 a1 a2 a3 a4 a5) (k0_pay11 a0 a1 a2 a3 a4 a5) (ix4 g h s d)
      = attRow a0 a1 a2 a3 a4 a5 s g h d := by
  refine (pay6_apply _ _ _ _ _ _ _ _).trans ?_
  unfold attRow
  rw [attn_fin]
  simp only [scores_eq, weights_eq]
  congr 1
  exact Finset.sum_congr rfl fun j _ => congrArg (_ * ·) (values_eq a2 _ _ j)

/-- The reference's exponents are the kernel's. -/
theorem exp_eq (g : Fin 2) (h : Fin 16) (s : Fin 3968) :
    k0_pay12 a0 a1 a2 a3 a4 a5 (ix4 g h s 0) = Pow2.rowExp (attRow a0 a1 a2 a3 a4 a5 s g h) :=
  (e_apply _ _ _ _ g h s).trans (congrArg Pow2.rowExp (funext fun d => att_eq a0 a1 a2 a3 a4 a5 g h s d))

/-- THE REFERENCE'S CODES. -/
theorem G7_eq : Value.G7 (F := Ideal) a0 a1 a2 a3 a4 a5 = Cert.KernelIdeal.Array.G7 a0 a1 a2 a3 a4 a5 := by
  funext y
  obtain ⟨s, k, rfl⟩ : ∃ (s : Fin 3968) (k : Fin 4096), y = ix2 s k := ⟨y 0, y 1, by funext a; fin_cases a <;> rfl⟩
  refine (codes_apply _ _ s k).trans ?_
  rw [att_eq, exp_eq]
  rfl

/-- THE REFERENCE'S SCALES. -/
theorem G8_eq : Value.G8 (F := Ideal) a0 a1 a2 a3 a4 a5 = Cert.KernelIdeal.Array.G8 a0 a1 a2 a3 a4 a5 := by
  funext y
  obtain ⟨g, s, h, rfl⟩ : ∃ (g : Fin 2) (s : Fin 3968) (h : Fin 16), y = ix3 g s h := ⟨y 0, y 1, y 2, by funext a; fin_cases a <;> rfl⟩
  refine (scale_apply _ g h s).trans ?_
  rw [exp_eq]
  rfl
end

end Cert.ReferenceIdeal.RefQuant
end
-- ==== Proof.QuantBound.lean ====
/- Attention of finite scores over bounded values is bounded: a weighted mean is at most the largest of what it averages. -/
module

public import proofs.«01_k».proof.Proof.Flash

@[expose] public section

noncomputable section

namespace Flash

open Idealize.ShloMosaic

/-- The largest score is a number: some score is one and none is +∞. -/
theorem sup_real (n : ℕ) (S : ℕ → EReal) (hS : ∀ j, S j ≠ ⊤) (j0 : ℕ) (h0 : j0 < n) (hb : S j0 ≠ ⊥) :
    ∃ r : ℝ, (Finset.range n).sup S = (r : EReal) := by
  have ht : (Finset.range n).sup S ≠ ⊤ :=
    ne_of_lt ((Finset.sup_lt_iff bot_lt_top).mpr fun j _ => lt_top_iff_ne_top.mpr (hS j))
  have hbt : (Finset.range n).sup S ≠ ⊥ := fun e => hb (le_bot_iff.mp (e ▸ Finset.le_sup (f := S) (Finset.mem_range.mpr h0)))
  exact ⟨_, (EReal.coe_toReal ht hbt).symm⟩

/-- A term of the softmax at a maximum that is a number. -/
theorem term_real (s : EReal) (r : ℝ) (hs : s ≠ ⊤) : ∃ p : ℝ, 0 ≤ p ∧ (s ≠ ⊥ → 0 < p) ∧ e2 (s - (r : EReal)) = (p : EReal) := by
  induction s using EReal.rec with
  | bot => exact ⟨0, le_refl _, fun h => absurd rfl h, e2_bot_sub _⟩
  | top => exact absurd rfl hs
  | coe q =>
    refine ⟨(2 : ℝ) ^ (q - r), Real.rpow_nonneg (by norm_num) _, fun _ => Real.rpow_pos_of_pos (by norm_num) _, ?_⟩
    rw [← EReal.coe_sub]
    exact Ideal.exp2_coe _

theorem coe_sum {ι : Type} (A : Finset ι) (f : ι → ℝ) : ∑ j ∈ A, ((f j : ℝ) : EReal) = ((∑ j ∈ A, f j : ℝ) : EReal) := by
  classical
  induction A using Finset.induction_on with
  | empty => simp
  | insert a A ha ih => rw [Finset.sum_insert ha, Finset.sum_insert ha, ih, EReal.coe_add]

/-- THE BOUND. -/
theorem attn_bound (n : ℕ) (S W V : ℕ → EReal) (w v : ℕ → ℝ) (a b : ℝ) (hS : ∀ j, S j ≠ ⊤) (j0 : ℕ) (h0 : j0 < n) (hb : S j0 ≠ ⊥)
    (hW : ∀ j, W j = (w j : EReal)) (hV : ∀ j, V j = (v j : EReal)) (hw : ∀ j, |w j| ≤ a) (hv : ∀ j, |v j| ≤ b) :
    max (attn n S W V) (-attn n S W V) ≤ ((b * a : ℝ) : EReal) := by
  obtain ⟨r, hr⟩ := sup_real n S hS j0 h0 hb
  have hu : up ((Finset.range n).sup S) = (((⌈r⌉ : ℤ) : ℝ) : EReal) := by rw [hr]; rfl
  choose p p0 pp pe using fun j => term_real (S j) ((⌈r⌉ : ℤ) : ℝ) (hS j)
  have hL : 0 < ∑ j ∈ Finset.range n, p j :=
    Finset.sum_pos' (fun j _ => p0 j) ⟨j0, Finset.mem_range.mpr h0, pp j0 hb⟩
  have ea : attn n S W V = (((∑ j ∈ Finset.range n, p j * w j * v j) / (∑ j ∈ Finset.range n, p j) : ℝ) : EReal) := by
    unfold attn
    rw [hu]
    simp only [pe, hW, hV, ← EReal.coe_mul, coe_sum]
    rw [Ideal.div_coe hL.ne', ← EReal.coe_mul, mul_one_div]
  have ha : |(∑ j ∈ Finset.range n, p j * w j * v j) / (∑ j ∈ Finset.range n, p j)| ≤ b * a := by
    rw [abs_div, abs_of_pos hL, div_le_iff₀ hL, Finset.mul_sum]
    refine (Finset.abs_sum_le_sum_abs _ _).trans (Finset.sum_le_sum fun j _ => ?_)
    rw [abs_mul, abs_mul, abs_of_nonneg (p0 j)]
    have h1 : |w j| * |v j| ≤ a * b := mul_le_mul (hw j) (hv j) (abs_nonneg _) ((abs_nonneg _).trans (hw j))
    have h2 := mul_le_mul_of_nonneg_left h1 (p0 j)
    nlinarith
  rw [ea, ← EReal.coe_neg, max_le_iff, EReal.coe_le_coe_iff, EReal.coe_le_coe_iff]
  exact ⟨(le_abs_self _).trans ha, (neg_le_abs _).trans ha⟩

end Flash
end
-- ==== Proof.InRange.lean ====
/- What the precondition says of the arguments, and that it keeps every row of results where the scale's field and the
   reference's exponent agree. -/
module

public import proofs.«01_k».proof.Pre_in_range
public import proofs.«01_k».proof.Proof.QuantArray
public import proofs.«01_k».proof.Proof.QuantBound

@[expose] public section

set_option maxRecDepth 16384

noncomputable section

namespace Cert.KernelIdeal.Array

open Idealize.ShloMosaic Idealize.ShloMosaic.TcCoe Idealize.ShloMosaic.Tactic Idealize.ShloMosaic.Pointwise
open Cert.KernelIdeal.Gen

instance factsPre : Cert.Pre_in_range.Facts where
  bcast_S_S3968x4096 := by decide
  bcast_S_S2x8448x128 := by decide
  bcast_S_S2x128x8448 := by decide
  bcast_S_S2x8448x1 := by decide

theorem top16 : Ideal.ofBits FTy.bf16 0x7F80#16 = ⊤ := by simp [Ideal.ofBits, Ideal.ieee]
theorem top32 : Ideal.ofBits FTy.f32 0x7F800000#32 = ⊤ := by simp [Ideal.ofBits, Ideal.ieee]

theorem w448 : Ideal.ofBits FTy.bf16 0x43E0#16 = ((448 : ℝ) : EReal) := by
  refine (Pow2.ieee_normal 7 16 0x43E0#16 false 135 96 (by decide) (by decide) (by decide) (by decide) (by decide)).trans ?_
  norm_num

theorem w125 : Ideal.ofBits FTy.f32 0x7E000000#32 = (((2 : ℝ) ^ (125 : ℤ) : ℝ) : EReal) := by
  refine (Pow2.ieee_normal 23 32 0x7E000000#32 false 252 0 (by decide) (by decide) (by decide) (by decide) (by decide)).trans ?_
  norm_num

theorem abs_lt_top {x : EReal} (h : max x (-x) < ⊤) : ∃ r : ℝ, x = (r : EReal) := by
  induction x using EReal.rec with
  | bot => simp at h
  | top => simp at h
  | coe r => exact ⟨r, rfl⟩

theorem abs_le_coe {x : EReal} {b : ℝ} (h : max x (-x) ≤ (b : EReal)) : ∃ r : ℝ, |r| ≤ b ∧ x = (r : EReal) := by
  induction x using EReal.rec with
  | bot => simp at h
  | top => simp at h
  | coe r =>
    rw [← EReal.coe_neg, max_le_iff, EReal.coe_le_coe_iff, EReal.coe_le_coe_iff] at h
    exact ⟨r, abs_le.mpr ⟨by linarith [h.2], h.1⟩, rfl⟩

theorem of_bool {p : Prop} [Decidable p] (h : BitVec.ofBool (decide p) = 1#1) : p := by
  by_contra e
  rw [decide_eq_false e] at h
  exact absurd h (by decide)

section
variable (a0 : Vec Ideal S3968x4096 .bf16) (a1 : Vec Ideal S2x8448x128 .bf16) (a2 : Vec Ideal S2x128x8448 .bf16)
    (a3 a4 : Vec Ideal S2x8448x1 .f32) (a5 : Vec Ideal S2x136x3968 .f32)

theorem pre0 (h : (Cert.Pre_in_range.fn (F := Ideal) a0 a1 a2 a3 a4 a5).1 = fun _ => 1#1) (i) : ∃ r : ℝ, a0 i = (r : EReal) := by
  have e : BitVec.ofBool (decide (max (a0 i) (-a0 i) < Ideal.ofBits FTy.bf16 0x7F80#16)) = 1#1 := congrFun h i
  rw [top16] at e
  exact abs_lt_top (of_bool e)

theorem pre1 (h : (Cert.Pre_in_range.fn (F := Ideal) a0 a1 a2 a3 a4 a5).2.1 = fun _ => 1#1) (i) : ∃ r : ℝ, a1 i = (r : EReal) := by
  have e : BitVec.ofBool (decide (max (a1 i) (-a1 i) < Ideal.ofBits FTy.bf16 0x7F80#16)) = 1#1 := congrFun h i
  rw [top16] at e
  exact abs_lt_top (of_bool e)

theorem pre2 (h : (Cert.Pre_in_range.fn (F := Ideal) a0 a1 a2 a3 a4 a5).2.2.1 = fun _ => 1#1) (i) : ∃ r : ℝ, |r| ≤ 448 ∧ a2 i = (r : EReal) := by
  have e : BitVec.ofBool (decide (max (a2 i) (-a2 i) ≤ Ideal.ofBits FTy.bf16 0x43E0#16)) = 1#1 := congrFun h i
  rw [w448] at e
  exact abs_le_coe (of_bool e)

theorem pre3 (h : (Cert.Pre_in_range.fn (F := Ideal) a0 a1 a2 a3 a4 a5).2.2.2.1 = fun _ => 1#1) (i) : ∃ r : ℝ, a3 i = (r : EReal) := by
  have e : BitVec.ofBool (decide (max (a3 i) (-a3 i) < Ideal.ofBits FTy.f32 0x7F800000#32)) = 1#1 := congrFun h i
  rw [top32] at e
  exact abs_lt_top (of_bool e)

theorem pre4 (h : (Cert.Pre_in_range.fn (F := Ideal) a0 a1 a2 a3 a4 a5).2.2.2.2 = fun _ => 1#1) (i) : ∃ r : ℝ, |r| ≤ (2 : ℝ) ^ (125 : ℤ) ∧ a4 i = (r : EReal) := by
  have e : BitVec.ofBool (decide (max (a4 i) (-a4 i) ≤ Ideal.ofBits FTy.f32 0x7E000000#32)) = 1#1 := congrFun h i
  rw [w125] at e
  exact abs_le_coe (of_bool e)

variable (h0 : ∀ i, ∃ r : ℝ, a0 i = (r : EReal)) (h1 : ∀ i, ∃ r : ℝ, a1 i = (r : EReal)) (h3 : ∀ i, ∃ r : ℝ, a3 i = (r : EReal))

include h0 h1 h3

/-- The product of a query and a key, scaled, is a number. -/
theorem dot_real (s : Fin 3968) (g : Fin 2) (h : Fin 16) (j : Fin 8448) :
    ∃ r : ℝ, (∑ d : Fin 128, a1 (ix3 g j d) * a0 (ix2 s ⟨2048 * g.val + 128 * h.val + d.val, by omega⟩)) * a3 (ix3 g j 0) = (r : EReal) := by
  choose f0 e0 using h0
  choose f1 e1 using h1
  choose f3 e3 using h3
  simp only [e0, e1, e3, ← EReal.coe_mul, Flash.coe_sum]
  exact ⟨_, rfl⟩

/-- No score is +∞. -/
theorem score_ne_top (s : Fin 3968) (g : Fin 2) (h : Fin 16) (j : ℕ) : scoresOf a0 a1 a3 a5 s g h j ≠ ⊤ := by
  unfold scoresOf
  split
  · rename_i hj
    obtain ⟨r, hr⟩ := dot_real a0 a1 a3 h0 h1 h3 s g h ⟨j, hj⟩
    rw [hr]
    split
    · rw [add_zero]; exact EReal.coe_ne_top r
    · rw [EReal.add_bot]; exact bot_ne_top
  · exact bot_ne_top

/-- A query's own key is never masked. -/
theorem own_ne_bot (s : Fin 3968) (g : Fin 2) (h : Fin 16) : scoresOf a0 a1 a3 a5 s g h (4352 + s.val) ≠ ⊥ := by
  have hj : 4352 + s.val < 8448 := by omega
  obtain ⟨r, hr⟩ := dot_real a0 a1 a3 h0 h1 h3 s g h ⟨4352 + s.val, hj⟩
  unfold scoresOf
  rw [dif_pos hj, hr, if_pos ⟨le_refl _, Or.inr (by omega)⟩, add_zero]
  exact EReal.coe_ne_bot r

omit h0 h1 h3

variable (h2 : ∀ i, ∃ r : ℝ, |r| ≤ 448 ∧ a2 i = (r : EReal)) (h4 : ∀ i, ∃ r : ℝ, |r| ≤ (2 : ℝ) ^ (125 : ℤ) ∧ a4 i = (r : EReal))

theorem weight_real (h4 : ∀ i, ∃ r : ℝ, |r| ≤ (2 : ℝ) ^ (125 : ℤ) ∧ a4 i = (r : EReal)) (g : Fin 2) (j : ℕ) :
    ∃ r : ℝ, |r| ≤ (2 : ℝ) ^ (125 : ℤ) ∧ weightsOf a4 g j = (r : EReal) := by
  by_cases hj : j < 8448
  · rw [weightsOf_pos a4 g hj]; exact h4 _
  · exact ⟨0, by rw [abs_zero]; positivity, weightsOf_neg a4 g hj⟩

theorem value_real (h2 : ∀ i, ∃ r : ℝ, |r| ≤ 448 ∧ a2 i = (r : EReal)) (g : Fin 2) (d : Fin 128) (j : ℕ) :
    ∃ r : ℝ, |r| ≤ 448 ∧ valuesOf a2 g d j = (r : EReal) := by
  by_cases hj : j < 8448
  · rw [valuesOf_pos a2 g d hj]; exact h2 _
  · exact ⟨0, by rw [abs_zero]; norm_num, valuesOf_neg a2 g d hj⟩

include h0 h1 h2 h3 h4

/-- Every row of results fits. -/
theorem row_fits (s : Fin 3968) (g : Fin 2) (h : Fin 16) :
    Pow2.mag (attRow a0 a1 a2 a3 a4 a5 s g h) * Pow2.recip < (((2 : ℝ) ^ (126 : ℤ) : ℝ) : EReal) := by
  refine Pow2.fits _ fun d => ?_
  choose w hw ew using weight_real a4 h4 g
  choose v hv ev using value_real a2 h2 g d
  exact Flash.attn_bound 8320 _ _ _ w v _ _ (score_ne_top a0 a1 a3 a5 h0 h1 h3 s g h) (4352 + s.val) (by omega)
    (own_ne_bot a0 a1 a3 a5 h0 h1 h3 s g h) ew ev hw hv
end

end Cert.KernelIdeal.Array
end
-- ==== Proof.OutPieces.lean ====
/- What one point of the output projection's grid stores: the activations' rows into the first scratch array at the
   first column block only, the column block of the weights into the second at the first row block only, and one block of
   the result. -/
module

public import proofs.«01_k».proof.Proof.Gen.Out.Frame
public import proofs.«01_k».proof.Proof.Gen.Out.Skeleton

@[expose] public section

set_option maxRecDepth 16384

noncomputable section

namespace Cert.Out.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Out.Gen

variable {F : FTy → Type} [FloatOps F]

local notation "𝕄" => MT nD τ sig Unit (Elt F) ℕ (UR sig nD τ) ℕ

/-- The 32 blocks of the contracted axis, the last first: the order in which the stores are remembered. -/
def blocks : List (Fin 32) := [31, 30, 29, 28, 27, 26, 25, 24, 23, 22, 21, 20, 19, 18, 17, 16, 15, 14, 13, 12, 11, 10, 9, 8, 7, 6, 5, 4, 3, 2, 1, 0]

theorem mem_blocks (k : Fin 32) : k ∈ blocks := by
  revert k
  decide

/-- The first row block: the weights' column block is filled there. -/
abbrev cond2 (i : grid0.Coords) : BitVec 1 :=
  Scalar.cmpi .ne (Scalar.extui (Scalar.cmpi .eq (BitVec.ofNat 32 (i 1).val) 0#32) : BitVec 32) 0#32

theorem inbQ (k : Fin 32) : ∀ a, (![0, 128 * k.val] : Fin 2 → Nat) a + S512x128.size a ≤ S512x4096.size a := by
  revert k
  decide

theorem inbS (k : Fin 32) : ∀ a, (![0, k.val] : Fin 2 → Nat) a + S512x1.size a ≤ S512x32.size a := by
  revert k
  decide

theorem inbW (k : Fin 32) : ∀ a, (![128 * k.val, 0] : Fin 2 → Nat) a + S128x512.size a ≤ S4096x512.size a := by
  revert k
  decide

theorem inbC (k : Fin 32) : ∀ a, (![k.val, 0] : Fin 2 → Nat) a + S1x512.size a ≤ S32x512.size a := by
  revert k
  decide

theorem inbX (i : grid0.Coords) (h1 : k0_cond1 i = 1#1) (k : Fin 32) :
    ∀ a, (![k0_off1 i 0, 128 * k.val] : Fin 2 → Nat) a + S512x128.size a ≤ S4096x4096.size a := by
  intro a
  have hk := k.isLt
  fin_cases a
  · exact k0_off1_inb i h1 0
  · show 128 * k.val + 128 ≤ 4096
    omega

/-- What is stored of the activations for block `k`: their 128 columns times their scale. -/
def payX (arg2 : Memref sig .tc .vmem S512x4096 .fp8e4m3) (harg2 : arg2.IsWhole) (arg3 : Memref sig .tc .vmem S512x32 .f32) (harg3 : arg3.IsWhole)
    (x0 : Vec F S512x4096 .fp8e4m3) (x1 : Vec F S512x32 .f32) (k : Fin 32) : FVec F S512x128 .bf16 :=
  k0_pay1 (arg2.view.readAt (Elt F) (Rect.unit (s := S512x4096) ![0, 128 * k.val] S512x128.size (inbQ k)).toLoadRect (harg2.unread x0))
    (arg3.view.readAt (Elt F) (Rect.unit (s := S512x32) ![0, k.val] S512x1.size (inbS k)).toLoadRect (harg3.unread x1))

/-- What is stored of the weights for block `k`: their 128 rows times their scale. -/
def payW (arg4 : Memref sig .tc .vmem S4096x512 .fp8e4m3) (harg4 : arg4.IsWhole) (arg5 : Memref sig .tc .vmem S32x512 .f32) (harg5 : arg5.IsWhole)
    (x2 : Vec F S4096x512 .fp8e4m3) (x3 : Vec F S32x512 .f32) (k : Fin 32) : FVec F S128x512 .bf16 :=
  k0_pay43 (arg4.view.readAt (Elt F) (Rect.unit (s := S4096x512) ![128 * k.val, 0] S128x512.size (inbW k)).toLoadRect (harg4.unread x2))
    (arg5.view.readAt (Elt F) (Rect.unit (s := S32x512) ![k.val, 0] S1x512.size (inbC k)).toLoadRect (harg5.unread x3))

/-- The stores of one row block of activations. -/
def piecesX (i : grid0.Coords) (h1 : k0_cond1 i = 1#1)
    (arg2 : Memref sig .tc .vmem S512x4096 .fp8e4m3) (harg2 : arg2.IsWhole) (arg3 : Memref sig .tc .vmem S512x32 .f32) (harg3 : arg3.IsWhole)
    (x0 : Vec F S512x4096 .fp8e4m3) (x1 : Vec F S512x32 .f32) : List (View.Piece (Elt F) S4096x4096 .bf16) :=
  blocks.map fun k => ⟨Rect.unit (s := S4096x4096) ![k0_off1 i 0, 128 * k.val] S512x128.size (inbX i h1 k), payX arg2 harg2 arg3 harg3 x0 x1 k⟩

/-- The stores of one column block of weights. -/
def piecesW (arg4 : Memref sig .tc .vmem S4096x512 .fp8e4m3) (harg4 : arg4.IsWhole) (arg5 : Memref sig .tc .vmem S32x512 .f32) (harg5 : arg5.IsWhole)
    (x2 : Vec F S4096x512 .fp8e4m3) (x3 : Vec F S32x512 .f32) : List (View.Piece (Elt F) S4096x512 .bf16) :=
  blocks.map fun k => ⟨Rect.unit (s := S4096x512) ![128 * k.val, 0] S128x512.size (inbW k), payW arg4 harg4 arg5 harg5 x2 x3 k⟩

/-- The first scratch array after the point. -/
def newX (i : grid0.Coords)
    (arg2 : Memref sig .tc .vmem S512x4096 .fp8e4m3) (harg2 : arg2.IsWhole) (arg3 : Memref sig .tc .vmem S512x32 .f32) (harg3 : arg3.IsWhole)
    (arg8 : Memref sig .tc .vmem S4096x4096 .bf16) (harg8 : arg8.IsWhole)
    (x0 : Vec F S512x4096 .fp8e4m3) (x1 : Vec F S512x32 .f32) (d8 : Vec F S4096x4096 .bf16) : Vec F S4096x4096 .bf16 :=
  if h1 : k0_cond1 i = 1#1 then
    arg8.view.read (Elt F) (arg8.view.writes (Elt F) (harg8.unread d8) (piecesX i h1 arg2 harg2 arg3 harg3 x0 x1))
  else d8

/-- The second scratch array after the point. -/
def newW (i : grid0.Coords)
    (arg4 : Memref sig .tc .vmem S4096x512 .fp8e4m3) (harg4 : arg4.IsWhole) (arg5 : Memref sig .tc .vmem S32x512 .f32) (harg5 : arg5.IsWhole)
    (arg9 : Memref sig .tc .vmem S4096x512 .bf16) (harg9 : arg9.IsWhole)
    (x2 : Vec F S4096x512 .fp8e4m3) (x3 : Vec F S32x512 .f32) (d9 : Vec F S4096x512 .bf16) : Vec F S4096x512 .bf16 :=
  if h2 : cond2 i = 1#1 then
    arg9.view.read (Elt F) (arg9.view.writes (Elt F) (harg9.unread d9) (piecesW arg4 harg4 arg5 harg5 x2 x3))
  else d9

/-- The block of the result, from the two scratch arrays and the block of `x`. -/
def outOf (i : grid0.Coords) (arg6 : Memref sig .tc .vmem S512x512 .bf16) (harg6 : arg6.IsWhole)
    (arg8 : Memref sig .tc .vmem S4096x4096 .bf16) (harg8 : arg8.IsWhole) (arg9 : Memref sig .tc .vmem S4096x512 .bf16) (harg9 : arg9.IsWhole)
    (x4 : Vec F S512x512 .bf16) (d8 : Vec F S4096x4096 .bf16) (d9 : Vec F S4096x512 .bf16) : FVec F S512x512 .bf16 :=
  k0_pay4 (arg8.view.readAt (Elt F) (Rect.unit (s := S4096x4096) (k0_off33 i) S512x4096.size (k0_off33_inb i)).toLoadRect (harg8.unread d8))
    (arg9.view.readAt (Elt F) (Rect.unit (s := S4096x512) ![0, 0] S4096x512.size inb_S4096x512_S4096x512_0_0).toLoadRect (harg9.unread d9))
    (arg6.view.readAt (Elt F) (Rect.unit (s := S512x512) ![0, 0] S512x512.size inb_S512x512_S512x512_0_0).toLoadRect (harg6.unread x4))

/-- A store over the whole buffer leaves what was stored. -/
theorem read_whole (a : Memref sig .tc .vmem S512x512 .bf16) (f : BufTy.Contents (Elt F) a.view.ty) (v : FVec F S512x512 .bf16) :
    a.view.read (Elt F) (a.view.writes (Elt F) f [⟨Rect.unit (s := S512x512) ![0, 0] S512x512.size inb_S512x512_S512x512_0_0, v⟩]) = v := by
  funext y
  refine View.read_writes_apply_of_pieces a.view f v _ ?_ y ?_
  · intro p hp x
    obtain rfl := List.mem_singleton.mp hp
    show v x = v _
    congr 1
    funext b
    fin_cases b
    · exact Fin.ext (by show (x 0).val = 0 + 1 * (x 0).val; omega)
    · exact Fin.ext (by show (x 1).val = 0 + 1 * (x 1).val; omega)
  · refine ⟨_, List.mem_singleton.mpr rfl, ?_⟩
    rw [Rect.mem_set_unit]
    intro b
    fin_cases b
    · exact ⟨Nat.zero_le _, by have : (y 0).val < 512 := (y 0).isLt; show (y 0).val < 0 + 512; omega⟩
    · exact ⟨Nat.zero_le _, by have : (y 1).val < 512 := (y 1).isLt; show (y 1).val < 0 + 512; omega⟩

/-- The row block's stores reach every entry the product reads. -/
theorem coverX (i : grid0.Coords) (h1 : k0_cond1 i = 1#1)
    (arg2 : Memref sig .tc .vmem S512x4096 .fp8e4m3) (harg2 : arg2.IsWhole) (arg3 : Memref sig .tc .vmem S512x32 .f32) (harg3 : arg3.IsWhole)
    (x0 : Vec F S512x4096 .fp8e4m3) (x1 : Vec F S512x32 .f32)
    (j : (Rect.unit (s := S4096x4096) (k0_off33 i) S512x4096.size (k0_off33_inb i)).toLoadRect.shape.Idx) :
    ∃ p ∈ piecesX i h1 arg2 harg2 arg3 harg3 x0 x1,
      (Rect.unit (s := S4096x4096) (k0_off33 i) S512x4096.size (k0_off33_inb i)).toLoadRect.idx j ∈ p.1.set := by
  have hj0 : (j 0).val < 512 := (j 0).isLt
  have hj1 : (j 1).val < 4096 := (j 1).isLt
  refine ⟨_, List.mem_map.mpr ⟨⟨(j 1).val / 128, by omega⟩, mem_blocks _, rfl⟩, ?_⟩
  rw [Rect.mem_set_unit]
  intro a
  fin_cases a
  · exact ⟨Nat.le_add_right (k0_off1 i 0) (1 * (j 0).val), by show k0_off1 i 0 + 1 * (j 0).val < k0_off1 i 0 + 512; omega⟩
  · exact ⟨by show 128 * ((j 1).val / 128) ≤ 0 + 1 * (j 1).val; omega, by show 0 + 1 * (j 1).val < 128 * ((j 1).val / 128) + 128; omega⟩

/-- The column block's stores reach every entry. -/
theorem coverW (arg4 : Memref sig .tc .vmem S4096x512 .fp8e4m3) (harg4 : arg4.IsWhole) (arg5 : Memref sig .tc .vmem S32x512 .f32) (harg5 : arg5.IsWhole)
    (x2 : Vec F S4096x512 .fp8e4m3) (x3 : Vec F S32x512 .f32)
    (j : (Rect.unit (s := S4096x512) ![0, 0] S4096x512.size inb_S4096x512_S4096x512_0_0).toLoadRect.shape.Idx) :
    ∃ p ∈ piecesW arg4 harg4 arg5 harg5 x2 x3,
      (Rect.unit (s := S4096x512) ![0, 0] S4096x512.size inb_S4096x512_S4096x512_0_0).toLoadRect.idx j ∈ p.1.set := by
  have hj0 : (j 0).val < 4096 := (j 0).isLt
  have hj1 : (j 1).val < 512 := (j 1).isLt
  refine ⟨_, List.mem_map.mpr ⟨⟨(j 0).val / 128, by omega⟩, mem_blocks _, rfl⟩, ?_⟩
  rw [Rect.mem_set_unit]
  intro a
  fin_cases a
  · exact ⟨by show 128 * ((j 0).val / 128) ≤ 0 + 1 * (j 0).val; omega, by show 0 + 1 * (j 0).val < 128 * ((j 0).val / 128) + 128; omega⟩
  · exact ⟨Nat.zero_le _, by show 0 + 1 * (j 1).val < 0 + 512; omega⟩

end Cert.Out.Step
end
-- ==== Proof.OutStep.lean ====
/- One point of the output projection's grid: the body's run, whatever the point. -/
module

public import proofs.«01_k».proof.Proof.OutPieces

@[expose] public section

set_option maxRecDepth 16384

noncomputable section

namespace Cert.Out.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Out.Gen

variable {F : FTy → Type} [FloatOps F]

local notation "𝕄" => MT nD τ sig Unit (Elt F) ℕ (UR sig nD τ) ℕ

-- (the run's proof term is large, one step per load and store)
set_option maxHeartbeats 4000000 in
/-- The body at a point: the five inputs' buffers are left as they were, the scratch arrays hold `newX` and `newW`, the
    result's buffer its block. -/
theorem run (c : Dev nD) (i : grid0.Coords) (arg2 : Memref sig .tc .vmem S512x4096 .fp8e4m3) (harg2 : arg2.IsWhole) (arg3 : Memref sig .tc .vmem S512x32 .f32) (harg3 : arg3.IsWhole) (arg4 : Memref sig .tc .vmem S4096x512 .fp8e4m3) (harg4 : arg4.IsWhole) (arg5 : Memref sig .tc .vmem S32x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4096x4096 .bf16) (harg8 : arg8.IsWhole) (arg9 : Memref sig .tc .vmem S4096x512 .bf16) (harg9 : arg9.IsWhole)
    (x0 : Vec F S512x4096 .fp8e4m3) (x1 : Vec F S512x32 .f32) (x2 : Vec F S4096x512 .fp8e4m3) (x3 : Vec F S32x512 .f32) (x4 : Vec F S512x512 .bf16)
    (d8 : Vec F S4096x4096 .bf16) (d9 : Vec F S4096x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d8 ∗ owns (c : Thread nD τ) arg9 fullShare d9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (outOf i arg6 harg6 arg8 harg8 arg9 harg9 x4 (newX i arg2 harg2 arg3 harg3 arg8 harg8 x0 x1 d8) (newW i arg4 harg4 arg5 harg5 arg9 harg9 x2 x3 d9))
            ∗ owns (c : Thread nD τ) arg8 fullShare (newX i arg2 harg2 arg3 harg3 arg8 harg8 x0 x1 d8)
            ∗ owns (c : Thread nD τ) arg9 fullShare (newW i arg4 harg4 arg5 harg5 arg9 harg9 x2 x3 d9)) -∗ K ⟨⟩))
      ⊢ wp frame (wpE (defs₀ (F := F)) Variants.none c none) E (cc0_out_proj i arg2 harg2 arg3 harg3 arg4 harg4 arg5 harg5 arg6 harg6 arg7 harg7 arg8 harg8 arg9 harg9) K := by
  simp only [cc0_out_proj_eq_skeleton]; unfold cc0_out_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  have e8 (f) (h : arg8.view.read (Elt F) f = newX i arg2 harg2 arg3 harg3 arg8 harg8 x0 x1 d8) := harg8.eq_unread h
  have e9 (f) (h : arg9.view.read (Elt F) f = newW i arg4 harg4 arg5 harg5 arg9 harg9 x2 x3 d9) := harg9.eq_unread h
  unfold outOf
  by_cases h1 : k0_cond1 i = 1#1 <;> by_cases h2 : cond2 i = 1#1
  all_goals
    first
      | have n8 : newX i arg2 harg2 arg3 harg3 arg8 harg8 x0 x1 d8 = arg8.view.read (Elt F) (arg8.view.writes (Elt F) (harg8.unread d8) (piecesX i h1 arg2 harg2 arg3 harg3 x0 x1)) := dif_pos h1
      | have n8 : newX i arg2 harg2 arg3 harg3 arg8 harg8 x0 x1 d8 = d8 := dif_neg h1
    first
      | have n9 : newW i arg4 harg4 arg5 harg5 arg9 harg9 x2 x3 d9 = arg9.view.read (Elt F) (arg9.view.writes (Elt F) (harg9.unread d9) (piecesW arg4 harg4 arg5 harg5 x2 x3)) := dif_pos h2
      | have n9 : newW i arg4 harg4 arg5 harg5 arg9 harg9 x2 x3 d9 = d9 := dif_neg h2
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, HS0⟩, ⟨%f9, %hf9, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf8; obtain rfl := harg9.eq_unread hf9
    sl_exec (disch := first | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (read_whole arg7 _ _).trans ?_
      congr 2
      · first
          | exact e8 _ ((harg8.read_unread _).trans n8.symm)
          | exact (View.readAt_writes_of_cover arg8.view (harg8.unread d8) (piecesX i h1 arg2 harg2 arg3 harg3 x0 x1) _ (coverX i h1 _ _ _ _ _ _)).symm.trans
              (congrArg _ (e8 _ n8.symm))
      · first
          | exact e9 _ ((harg9.read_unread _).trans n9.symm)
          | exact (View.readAt_writes_of_cover arg9.view (harg9.unread d9) (piecesW arg4 harg4 arg5 harg5 x2 x3) _ (coverW _ _ _ _ _ _)).symm.trans
              (congrArg _ (e9 _ n9.symm))
    isplitl [HS0]
    · iexists _; isplitr; swap; · iexact HS0
      ipureintro
      rw [n8]
      first
        | exact harg8.read_unread _
        | rfl
    · iexists _; isplitr; swap; · iexact HS1
      ipureintro
      rw [n9]
      first
        | exact harg9.read_unread _
        | rfl

end Cert.Out.Step
end
-- ==== Proof.OutFrame.lean ====
/- The output projection runs at any float values: it ends with its arguments as they were and every counter at zero.
   Nothing is said here of the result, whose last row block is computed from rows past the array's end. -/
module

public import proofs.«01_k».proof.Proof.OutStep

@[expose] public section

set_option maxRecDepth 16384

noncomputable section

namespace Cert.Out.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.Out.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's two scratch arrays, whole at some contents, and the random register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The proof data: the inputs' buffers hold their blocks; the result's buffer is forgotten. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .fp8e4m3 0#8) (iblk m c 0 t)
    | ⟨1, _⟩ => win0_1.fill (grid0.coords t) (fun _ => Scalar.ofBits .f32 0#32) (iblk m c 1 t)
    | ⟨2, _⟩ => iblk m c 2 t
    | ⟨3, _⟩ => iblk m c 3 t
    | ⟨4, _⟩ => win0_4.fill (grid0.coords t) (fun _ => Scalar.ofBits .bf16 0#16) (iblk m c 4 t)
    | ⟨5, _⟩ => fun _ => Scalar.ofBits .bf16 0#16
  Φ _ := Pipeline.ΦA spec0 c
  q _ := fullShare
  owed _ := 0

theorem A_eq (c : Dev nD) (w : Fin cfg0.W) : (dats m 0 c).A w = V m c (Pipeline.arrRef spec0 w) := by
  dsimp only [dats]

theorem blockOf_eq (c : Dev nD) (w : Fin cfg0.W) (t : Fin cfg0.N) : (dats m 0 c).blockOf w t = iblk m c w t := by
  unfold Dat.blockOf iblk
  rw [A_eq]

theorem before_0 (c : Dev nD) (t : Fin cfg0.N) (d) :
    (dats m 0 c).before 0 t d = win0_0.fill (grid0.coords t) d (iblk m c 0 t) := by
  refine ((dats m 0 c).before_in_eq_fetched 0 rfl (fun _ => rfl) (fun a b h => ?_) (fun t => ?_) t d).trans ?_
  · exact congrArg (fun ix : Fin 2 → ℕ => fun a => Pipeline.Clip.of (ix a) (S512x4096.size a) (S3968x4096.size a)) h
  · rw [blockOf_eq]; exact win0_0.cut_fill _ _ _
  · unfold Dat.fetched; rw [blockOf_eq]

theorem before_1 (c : Dev nD) (t : Fin cfg0.N) (d) :
    (dats m 0 c).before 1 t d = win0_1.fill (grid0.coords t) d (iblk m c 1 t) := by
  refine ((dats m 0 c).before_in_eq_fetched 1 rfl (fun _ => rfl) (fun a b h => ?_) (fun t => ?_) t d).trans ?_
  · exact congrArg (fun ix : Fin 2 → ℕ => fun a => Pipeline.Clip.of (ix a) (S512x32.size a) (S3968x32.size a)) h
  · rw [blockOf_eq]; exact win0_1.cut_fill _ _ _
  · unfold Dat.fetched; rw [blockOf_eq]

theorem before_2 (c : Dev nD) (t : Fin cfg0.N) (d) : (dats m 0 c).before 2 t d = iblk m c 2 t :=
  before0_2_of m (dats m 0 c) (A_eq m c 2) (fun _ => by dsimp only [dats]) t d

theorem before_3 (c : Dev nD) (t : Fin cfg0.N) (d) : (dats m 0 c).before 3 t d = iblk m c 3 t :=
  before0_3_of m (dats m 0 c) (A_eq m c 3) (fun _ => by dsimp only [dats]) t d

theorem before_4 (c : Dev nD) (t : Fin cfg0.N) (d) :
    (dats m 0 c).before 4 t d = win0_4.fill (grid0.coords t) d (iblk m c 4 t) := by
  refine ((dats m 0 c).before_fetched 4 t (fetch0_4 t) d).trans ?_
  unfold Dat.fetched; rw [blockOf_eq]

theorem after_2 (c : Dev nD) (t : Fin cfg0.N) : (dats m 0 c).after 2 t = iblk m c 2 t := by dsimp only [dats]

theorem after_3 (c : Dev nD) (t : Fin cfg0.N) : (dats m 0 c).after 3 t = iblk m c 3 t := by dsimp only [dats]

/-- The result's buffer is the one forgotten. -/
def forgotten : Fin cfg0.W → Bool := fun w => w.val == 5

theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligationLoose (dats m 0 c) (defs₀ (F := F)) Variants.none () Set.univ forgotten := fun t => by
  rw [bigSep_W0, bigSep_W0, defs₀_row]
  simp only [show forgotten (0 : Fin cfg0.W) = false from rfl, show forgotten (1 : Fin cfg0.W) = false from rfl, show forgotten (2 : Fin cfg0.W) = false from rfl,
    show forgotten (3 : Fin cfg0.W) = false from rfl, show forgotten (4 : Fin cfg0.W) = false from rfl, show forgotten (5 : Fin cfg0.W) = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  unfold bodyAt0
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩⟩
  rw [before_0, before_1, before_2, before_3, before_4]
  iapply (Step.run c (grid0.coords t) _ _ _ _ _ _ _ _ _ _ _ _ _ _ _ _ (win0_0.fill (grid0.coords t) d0 (iblk m c 0 t))
    (win0_1.fill (grid0.coords t) d1 (iblk m c 1 t)) (iblk m c 2 t) (iblk m c 3 t) (win0_4.fill (grid0.coords t) d4 (iblk m c 4 t)) e0 e1 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexists _; iexact HS0
      · iexists _; iexact HS1
    · iexact Hg
  isplitl [Ho]; · iexact Ho
  isplitl [H0]
  · iexists d0
    change _ ⊢ owns (c : Thread nD τ) (win0_0.stage (cfg0.slots t 0)) fullShare (win0_0.fill (grid0.coords t) d0 (win0_0.cut (grid0.coords t) (win0_0.fill (grid0.coords t) (fun _ => Scalar.ofBits .fp8e4m3 0#8) (iblk m c 0 t))))
    rw [win0_0.cut_fill]
  isplitl [H1]
  · iexists d1
    change _ ⊢ owns (c : Thread nD τ) (win0_1.stage (cfg0.slots t 1)) fullShare (win0_1.fill (grid0.coords t) d1 (win0_1.cut (grid0.coords t) (win0_1.fill (grid0.coords t) (fun _ => Scalar.ofBits .f32 0#32) (iblk m c 1 t))))
    rw [win0_1.cut_fill]
  isplitl [H2]
  · rw [after_2]; iexact H2
  isplitl [H3]
  · rw [after_3]; iexact H3
  isplitl [H4]
  · iexists d4
    change _ ⊢ owns (c : Thread nD τ) (win0_4.stage (cfg0.slots t 4)) fullShare (win0_4.fill (grid0.coords t) d4 (win0_4.cut (grid0.coords t) (win0_4.fill (grid0.coords t) (fun _ => Scalar.ofBits .bf16 0#16) (iblk m c 4 t))))
    rw [win0_4.cut_fill]
  · iexists _; iexact H5

-- the launch theorem's implicit arguments are found by unifying its conclusion with this one
set_option backward.isDefEq.respectTransparency.types false in
/-- The run, the result forgotten. -/
theorem run_main : θ_run defs (onTc (τ := τ) (main (F := F))) (s₀ m ρ)
    (fun r => Pipeline.RDat.FramePost cfg0 (fun c => (dats m 0 c).toRForget forgotten) (V m) r ∧ r.2.sem = fun _ => 0) :=
  Pipeline.θ_run_frame_forget (Q' := _) cfgs (dats m) (0 : Fin 1) launch0 defs₀ Variants.none forgotten m ρ main
    (hbody := fun c => body_obligation m c) (hshare := fun c => (dats m 0 c).share_full fun _ => rfl)
    (howed := fun _ _ => rfl) (V := V m) (hmain := hmain m Variants.none) (hA := A_eq m) (hΦ := fun _ _ => rfl)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      (h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      ((h.1 c).2 main_arg3 (Pipeline.mem_restRefs_of main_arg3 (by decide) (by decide))).trans (V_main_arg3 m c),
      (h.1.arr_in c 4 rfl).trans ((A_eq m c 4).trans (V_main_arg4 m c))⟩, h.2⟩) (run_main m ρ)

end Cert.Out.Frame
end
-- ==== Proof.QkvStepFloat.lean ====
/- One point of the grid of the call that normalises the rows and projects them: the body's run, as far as the first two
   results go. What the other results and the scratch arrays hold afterwards is left open. -/
module

public import proofs.«01_k».proof.Proof.Gen.Qkv.Frame
public import proofs.«01_k».proof.Proof.Gen.Qkv.Loops

@[expose] public section

set_option maxRecDepth 16384

noncomputable section

namespace Cert.Qkv.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Qkv.Gen

variable {F : FTy → Type} [FloatOps F]

local notation "𝕄" => MT nD τ sig Unit (Elt F) ℕ (UR sig nD τ) ℕ

/-- Whether a point is the first of its column block. -/
abbrev cond2 (i : grid0.Coords) : BitVec 1 :=
  Scalar.cmpi .ne (Scalar.extui (Scalar.cmpi .eq (BitVec.ofNat 32 (i 1).val) 0#32)) 0#32

/-- The last column block is the one that is not before it. -/
theorem last_iff (i : grid0.Coords) : Iff (k0_cond4 i = 1#1) (¬ k0_cond3 i = 1#1) := by
  have h : ∀ a : Fin 9, Iff (Scalar.cmpi .ne (Scalar.extui (Scalar.cmpi .eq (BitVec.ofNat 32 a.val) 8#32)) 0#32 = 1#1)
      (¬ Scalar.cmpi .ne (Scalar.extui (Scalar.cmpi .slt (BitVec.ofNat 32 a.val) 8#32)) 0#32 = 1#1) := by decide +kernel
  exact h (i 0)

/-- The first column block comes before the last. -/
theorem first_lt (i : grid0.Coords) : k0_cond1 i = 1#1 → k0_cond3 i = 1#1 := by
  have h : ∀ a : Fin 9, (Scalar.cmpi .ne (Scalar.extui (Scalar.cmpi .eq (BitVec.ofNat 32 a.val) 0#32)) 0#32 = 1#1)
      → (Scalar.cmpi .ne (Scalar.extui (Scalar.cmpi .slt (BitVec.ofNat 32 a.val) 8#32)) 0#32 = 1#1) := by decide +kernel
  exact h (i 0)

/-- The pieces the sixteen trips store, over the three arrays they store into. -/
abbrev pieces (c : Dev nD) (i : grid0.Coords) (h1 : k0_cond1 i = 1#1) (arg2 : Memref sig .tc .vmem S512x3584 .bf16) (harg2 : arg2.IsWhole) (arg3 : Memref sig .tc .vmem S1x3584 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x128 .f32) (harg8 : arg8.IsWhole) (arg9 : Memref sig .tc .vmem S512x3584 .fp8e4m3) (harg9 : arg9.IsWhole) (arg10 : Memref sig .tc .vmem S512x28 .f32) (harg10 : arg10.IsWhole) (arg11 : Memref sig .tc .vmem S512x512 .bf16) (harg11 : arg11.IsWhole) (arg12 : Memref sig .tc .vmem S2x512x128 .i8) (harg12 : arg12.IsWhole) (arg13 : Memref sig .tc .vmem S2x512x1 .f32) (harg13 : arg13.IsWhole) (arg14 : Memref sig .tc .vmem S2x512x128 .i8) (harg14 : arg14.IsWhole) (arg15 : Memref sig .tc .vmem S2x512x1 .f32) (harg15 : arg15.IsWhole) (arg16 : Memref sig .tc .vmem S2x32x128 .i8) (harg16 : arg16.IsWhole) (arg17 : Memref sig .tc .vmem S2x32x1 .f32) (harg17 : arg17.IsWhole) (arg18 : Memref sig .tc .vmem S4096x3584 .bf16) (harg18 : arg18.IsWhole) (arg19 : Memref sig .tc .vmem S3584x512 .bf16) (harg19 : arg19.IsWhole) (arg20 : Memref sig .tc .vmem S2x128 .f32) (harg20 : arg20.IsWhole) (x0 : Vec F S512x3584 .bf16) (x1 : Vec F S1x3584 .f32) :=
  pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Scalar.muli (BitVec.ofNat 32 (i 1).val) 512#32) h1 (harg2.unread x0) (harg3.unread x1) k0_t1_loop.trips

/-- The codes' buffer after a point. -/
def newQ (c : Dev nD) (i : grid0.Coords) (arg2 : Memref sig .tc .vmem S512x3584 .bf16) (harg2 : arg2.IsWhole) (arg3 : Memref sig .tc .vmem S1x3584 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x128 .f32) (harg8 : arg8.IsWhole) (arg9 : Memref sig .tc .vmem S512x3584 .fp8e4m3) (harg9 : arg9.IsWhole) (arg10 : Memref sig .tc .vmem S512x28 .f32) (harg10 : arg10.IsWhole) (arg11 : Memref sig .tc .vmem S512x512 .bf16) (harg11 : arg11.IsWhole) (arg12 : Memref sig .tc .vmem S2x512x128 .i8) (harg12 : arg12.IsWhole) (arg13 : Memref sig .tc .vmem S2x512x1 .f32) (harg13 : arg13.IsWhole) (arg14 : Memref sig .tc .vmem S2x512x128 .i8) (harg14 : arg14.IsWhole) (arg15 : Memref sig .tc .vmem S2x512x1 .f32) (harg15 : arg15.IsWhole) (arg16 : Memref sig .tc .vmem S2x32x128 .i8) (harg16 : arg16.IsWhole) (arg17 : Memref sig .tc .vmem S2x32x1 .f32) (harg17 : arg17.IsWhole) (arg18 : Memref sig .tc .vmem S4096x3584 .bf16) (harg18 : arg18.IsWhole) (arg19 : Memref sig .tc .vmem S3584x512 .bf16) (harg19 : arg19.IsWhole) (arg20 : Memref sig .tc .vmem S2x128 .f32) (harg20 : arg20.IsWhole) (x0 : Vec F S512x3584 .bf16) (x1 : Vec F S1x3584 .f32) (d9 : Vec F S512x3584 .fp8e4m3) : Vec F S512x3584 .fp8e4m3 :=
  if h1 : k0_cond1 i = 1#1 then
    arg9.view.read (Elt F) (arg9.view.writes (Elt F) (harg9.unread d9) (pieces c i h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1).1)
  else d9

/-- The scales' buffer after a point. -/
def newS (c : Dev nD) (i : grid0.Coords) (arg2 : Memref sig .tc .vmem S512x3584 .bf16) (harg2 : arg2.IsWhole) (arg3 : Memref sig .tc .vmem S1x3584 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x128 .f32) (harg8 : arg8.IsWhole) (arg9 : Memref sig .tc .vmem S512x3584 .fp8e4m3) (harg9 : arg9.IsWhole) (arg10 : Memref sig .tc .vmem S512x28 .f32) (harg10 : arg10.IsWhole) (arg11 : Memref sig .tc .vmem S512x512 .bf16) (harg11 : arg11.IsWhole) (arg12 : Memref sig .tc .vmem S2x512x128 .i8) (harg12 : arg12.IsWhole) (arg13 : Memref sig .tc .vmem S2x512x1 .f32) (harg13 : arg13.IsWhole) (arg14 : Memref sig .tc .vmem S2x512x128 .i8) (harg14 : arg14.IsWhole) (arg15 : Memref sig .tc .vmem S2x512x1 .f32) (harg15 : arg15.IsWhole) (arg16 : Memref sig .tc .vmem S2x32x128 .i8) (harg16 : arg16.IsWhole) (arg17 : Memref sig .tc .vmem S2x32x1 .f32) (harg17 : arg17.IsWhole) (arg18 : Memref sig .tc .vmem S4096x3584 .bf16) (harg18 : arg18.IsWhole) (arg19 : Memref sig .tc .vmem S3584x512 .bf16) (harg19 : arg19.IsWhole) (arg20 : Memref sig .tc .vmem S2x128 .f32) (harg20 : arg20.IsWhole) (x0 : Vec F S512x3584 .bf16) (x1 : Vec F S1x3584 .f32) (d10 : Vec F S512x28 .f32) : Vec F S512x28 .f32 :=
  if h1 : k0_cond1 i = 1#1 then
    arg10.view.read (Elt F) (arg10.view.writes (Elt F) (harg10.unread d10) (pieces c i h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1).2.1)
  else d10

-- (the run's proof term is large, one step per load and store)
set_option maxHeartbeats 8000000 in
/-- The body at a point: the seven inputs' buffers are left as they were, the codes' and scales' buffers hold `newQ` and
    `newS`, every other buffer something. -/
theorem run (c : Dev nD) (i : grid0.Coords) (arg2 : Memref sig .tc .vmem S512x3584 .bf16) (harg2 : arg2.IsWhole) (arg3 : Memref sig .tc .vmem S1x3584 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x128 .f32) (harg8 : arg8.IsWhole) (arg9 : Memref sig .tc .vmem S512x3584 .fp8e4m3) (harg9 : arg9.IsWhole) (arg10 : Memref sig .tc .vmem S512x28 .f32) (harg10 : arg10.IsWhole) (arg11 : Memref sig .tc .vmem S512x512 .bf16) (harg11 : arg11.IsWhole) (arg12 : Memref sig .tc .vmem S2x512x128 .i8) (harg12 : arg12.IsWhole) (arg13 : Memref sig .tc .vmem S2x512x1 .f32) (harg13 : arg13.IsWhole) (arg14 : Memref sig .tc .vmem S2x512x128 .i8) (harg14 : arg14.IsWhole) (arg15 : Memref sig .tc .vmem S2x512x1 .f32) (harg15 : arg15.IsWhole) (arg16 : Memref sig .tc .vmem S2x32x128 .i8) (harg16 : arg16.IsWhole) (arg17 : Memref sig .tc .vmem S2x32x1 .f32) (harg17 : arg17.IsWhole) (arg18 : Memref sig .tc .vmem S4096x3584 .bf16) (harg18 : arg18.IsWhole) (arg19 : Memref sig .tc .vmem S3584x512 .bf16) (harg19 : arg19.IsWhole) (arg20 : Memref sig .tc .vmem S2x128 .f32) (harg20 : arg20.IsWhole)
    (x0 : Vec F S512x3584 .bf16) (x1 : Vec F S1x3584 .f32) (x2 : Vec F S3584x512 .fp8e4m3) (x3 : Vec F S28x512 .f32) (x4 : Vec F S512x128 .f32) (x5 : Vec F S512x128 .f32) (x6 : Vec F S2x128 .f32)
    (d9 : Vec F S512x3584 .fp8e4m3) (d10 : Vec F S512x28 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d9 ∗ owns (c : Thread nD τ) arg10 fullShare d10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (newQ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 d9)
            ∗ owns (c : Thread nD τ) arg10 fullShare (newS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 d10)
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_qkv_eq_skeleton]; unfold cc0_qkv_skel
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  have h34 := last_iff i
  have h13 := first_lt i
  by_cases h2 : cond2 i = 1#1 <;> by_cases h3 : k0_cond3 i = 1#1 <;> by_cases h1 : k0_cond1 i = 1#1
  all_goals try exact absurd (h13 h1) h3
  all_goals
    first
      | have h4 : k0_cond4 i = 1#1 := h34.mpr h3
      | have h4 : ¬ k0_cond4 i = 1#1 := fun h => h34.mp h h3
    first
      | have n9 : newQ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 d9 = arg9.view.read (Elt F) (arg9.view.writes (Elt F) (harg9.unread d9) (pieces c i h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1).1) := dif_pos h1
      | have n9 : newQ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 d9 = d9 := dif_neg h1
    first
      | have n10 : newS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 d10 = arg10.view.read (Elt F) (arg10.view.writes (Elt F) (harg10.unread d10) (pieces c i h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1).2.1) := dif_pos h1
      | have n10 : newS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 d10 = d10 := dif_neg h1
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%e11, %f11, -, H11⟩, ⟨%e12, %f12, -, H12⟩, ⟨%e13, %f13, -, H13⟩, ⟨%e14, %f14, -, H14⟩, ⟨%e15, %f15, -, H15⟩, ⟨%e16, %f16, -, H16⟩, ⟨%e17, %f17, -, H17⟩, ⟨%e18, %f18, -, H18⟩, ⟨%e19, %f19, -, H19⟩, ⟨%e20, %f20, -, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact h1 | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro
      first
        | (rw [n9]; exact harg9.read_unread _)
        | (rw [n9]; done)
        | (rw [n9]; rfl)
    isplitl [H10]
    · iexists _; isplitr; swap; · iexact H10
      ipureintro
      first
        | (rw [n10]; exact harg10.read_unread _)
        | (rw [n10]; done)
        | (rw [n10]; rfl)
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    isplitl [H19]
    · iexists _; iexists _; isplitr; swap; · iexact H19
      ipureintro; rfl
    iexists _; iexists _; isplitr; swap; · iexact H20
    ipureintro; rfl

end Cert.Qkv.Step
end
-- ==== Proof.QkvFrame.lean ====
/- The call that normalises the rows and projects them runs at any float values: it ends with its arguments as they were
   and every counter at zero. Nothing is said here of its results. -/
module

public import proofs.«01_k».proof.Proof.QkvStepFloat

@[expose] public section

set_option maxRecDepth 16384

noncomputable section

namespace Cert.Qkv.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.Qkv.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's three scratch arrays, whole at some contents, and the random register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The proof data: the inputs' buffers hold their blocks; the results' buffers are forgotten. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .bf16 0#16) (iblk m c 0 t)
    | ⟨1, _⟩ => iblk m c 1 t
    | ⟨2, _⟩ => iblk m c 2 t
    | ⟨3, _⟩ => iblk m c 3 t
    | ⟨4, _⟩ => win0_4.fill (grid0.coords t) (fun _ => Scalar.ofBits .f32 0#32) (iblk m c 4 t)
    | ⟨5, _⟩ => win0_5.fill (grid0.coords t) (fun _ => Scalar.ofBits .f32 0#32) (iblk m c 5 t)
    | ⟨6, _⟩ => iblk m c 6 t
    | ⟨7, _⟩ => fun _ => Scalar.ofBits .fp8e4m3 0#8
    | ⟨8, _⟩ => fun _ => Scalar.ofBits .f32 0#32
    | ⟨9, _⟩ => fun _ => Scalar.ofBits .bf16 0#16
    | ⟨10, _⟩ => fun _ => (0#8 : BitVec 8)
    | ⟨11, _⟩ => fun _ => Scalar.ofBits .f32 0#32
    | ⟨12, _⟩ => fun _ => (0#8 : BitVec 8)
    | ⟨13, _⟩ => fun _ => Scalar.ofBits .f32 0#32
    | ⟨14, _⟩ => fun _ => (0#8 : BitVec 8)
    | ⟨15, _⟩ => fun _ => Scalar.ofBits .f32 0#32
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem blockOf_eq (c : Dev nD) (w : Fin cfg0.W) (t : Fin cfg0.N) : (dats m 0 c).blockOf w t = iblk m c w t := by
  unfold Dat.blockOf iblk
  rw [A_eq]

theorem before_0 (c : Dev nD) (t : Fin cfg0.N) (d) :
    (dats m 0 c).before 0 t d = win0_0.fill (grid0.coords t) d (iblk m c 0 t) := by
  refine ((dats m 0 c).before_in_eq_fetched 0 rfl (fun _ => rfl) (fun a b h => ?_) (fun t => ?_) t d).trans ?_
  · exact congrArg (fun ix : Fin 2 → ℕ => fun a => Pipeline.Clip.of (ix a) (S512x3584.size a) (S3968x3584.size a)) h
  · rw [blockOf_eq]; exact win0_0.cut_fill _ _ _
  · unfold Dat.fetched; rw [blockOf_eq]

theorem before_1 (c : Dev nD) (t : Fin cfg0.N) (d) : (dats m 0 c).before 1 t d = iblk m c 1 t :=
  before0_1_of m (dats m 0 c) (A_eq m c 1) (fun _ => by dsimp only [dats]) t d

theorem after_1 (c : Dev nD) (t : Fin cfg0.N) : (dats m 0 c).after 1 t = iblk m c 1 t := by dsimp only [dats]

theorem before_2 (c : Dev nD) (t : Fin cfg0.N) (d) : (dats m 0 c).before 2 t d = iblk m c 2 t :=
  before0_2_of m (dats m 0 c) (A_eq m c 2) (fun _ => by dsimp only [dats]) t d

theorem after_2 (c : Dev nD) (t : Fin cfg0.N) : (dats m 0 c).after 2 t = iblk m c 2 t := by dsimp only [dats]

theorem before_3 (c : Dev nD) (t : Fin cfg0.N) (d) : (dats m 0 c).before 3 t d = iblk m c 3 t :=
  before0_3_of m (dats m 0 c) (A_eq m c 3) (fun _ => by dsimp only [dats]) t d

theorem after_3 (c : Dev nD) (t : Fin cfg0.N) : (dats m 0 c).after 3 t = iblk m c 3 t := by dsimp only [dats]

theorem before_6 (c : Dev nD) (t : Fin cfg0.N) (d) : (dats m 0 c).before 6 t d = iblk m c 6 t :=
  before0_6_of m (dats m 0 c) (A_eq m c 6) (fun _ => by dsimp only [dats]) t d

theorem after_6 (c : Dev nD) (t : Fin cfg0.N) : (dats m 0 c).after 6 t = iblk m c 6 t := by dsimp only [dats]

theorem before_4 (c : Dev nD) (t : Fin cfg0.N) (d) :
    (dats m 0 c).before 4 t d = win0_4.fill (grid0.coords t) d (iblk m c 4 t) := by
  refine ((dats m 0 c).before_fetched 4 t (fetch0_4 t) d).trans ?_
  unfold Dat.fetched; rw [blockOf_eq]

theorem before_5 (c : Dev nD) (t : Fin cfg0.N) (d) :
    (dats m 0 c).before 5 t d = win0_5.fill (grid0.coords t) d (iblk m c 5 t) := by
  refine ((dats m 0 c).before_fetched 5 t (fetch0_5 t) d).trans ?_
  unfold Dat.fetched; rw [blockOf_eq]

/-- The results' buffers are the ones forgotten. -/
def forgotten : Fin cfg0.W → Bool := fun w => decide (7 ≤ w.val)

theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligationLoose (dats m 0 c) (defs₀ (F := F)) Variants.none () Set.univ forgotten := fun t => by
  rw [bigSep_W0, bigSep_W0, defs₀_row]
  simp only [show forgotten (0 : Fin cfg0.W) = false from rfl,
    show forgotten (1 : Fin cfg0.W) = false from rfl,
    show forgotten (2 : Fin cfg0.W) = false from rfl,
    show forgotten (3 : Fin cfg0.W) = false from rfl,
    show forgotten (4 : Fin cfg0.W) = false from rfl,
    show forgotten (5 : Fin cfg0.W) = false from rfl,
    show forgotten (6 : Fin cfg0.W) = false from rfl,
    show forgotten (7 : Fin cfg0.W) = true from rfl,
    show forgotten (8 : Fin cfg0.W) = true from rfl,
    show forgotten (9 : Fin cfg0.W) = true from rfl,
    show forgotten (10 : Fin cfg0.W) = true from rfl,
    show forgotten (11 : Fin cfg0.W) = true from rfl,
    show forgotten (12 : Fin cfg0.W) = true from rfl,
    show forgotten (13 : Fin cfg0.W) = true from rfl,
    show forgotten (14 : Fin cfg0.W) = true from rfl,
    show forgotten (15 : Fin cfg0.W) = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  unfold bodyAt0
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12, H13, H14, H15⟩
  rw [before_0, before_1, before_2, before_3, before_4, before_5, before_6]
  iapply (Step.run c (grid0.coords t) _ _ _ _ _ _ _ _ _ _ _ _ _ _ _ _ _ _ _ _ _ _ _ _ _ _ _ _ _ _ _ _ _ _ _ _ _ _
    (win0_0.fill (grid0.coords t) d0 (iblk m c 0 t)) (iblk m c 1 t) (iblk m c 2 t) (iblk m c 3 t) (win0_4.fill (grid0.coords t) d4 (iblk m c 4 t)) (win0_5.fill (grid0.coords t) d5 (iblk m c 5 t)) (iblk m c 6 t) d7 d8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  iintro ⟨H0, H1, H2, H3, H4, H5, H6, H7, H8, H9, H10, H11, H12, H13, H14, H15, HS0, HS1, HS2⟩
  isplitl [HS0 HS1 HS2 Hg]
  · isplitl [HS0 HS1 HS2]
    · isplitl [HS0]; · iexact HS0
      isplitl [HS1]; · iexact HS1
      iexact HS2
    · iexact Hg
  isplitl [Ho]; · iexact Ho
  isplitl [H0]
  · iexists d0
    change _ ⊢ owns (c : Thread nD τ) (win0_0.stage (cfg0.slots t 0)) fullShare (win0_0.fill (grid0.coords t) d0 (win0_0.cut (grid0.coords t) (win0_0.fill (grid0.coords t) (fun _ => Scalar.ofBits .bf16 0#16) (iblk m c 0 t))))
    rw [win0_0.cut_fill]
  isplitl [H1]
  · rw [after_1]; iexact H1
  isplitl [H2]
  · rw [after_2]; iexact H2
  isplitl [H3]
  · rw [after_3]; iexact H3
  isplitl [H4]
  · iexists d4
    change _ ⊢ owns (c : Thread nD τ) (win0_4.stage (cfg0.slots t 4)) fullShare (win0_4.fill (grid0.coords t) d4 (win0_4.cut (grid0.coords t) (win0_4.fill (grid0.coords t) (fun _ => Scalar.ofBits .f32 0#32) (iblk m c 4 t))))
    rw [win0_4.cut_fill]
  isplitl [H5]
  · iexists d5
    change _ ⊢ owns (c : Thread nD τ) (win0_5.stage (cfg0.slots t 5)) fullShare (win0_5.fill (grid0.coords t) d5 (win0_5.cut (grid0.coords t) (win0_5.fill (grid0.coords t) (fun _ => Scalar.ofBits .f32 0#32) (iblk m c 5 t))))
    rw [win0_5.cut_fill]
  isplitl [H6]
  · rw [after_6]; iexact H6
  isplitl [H7]; · iexists _; iexact H7
  isplitl [H8]; · iexists _; iexact H8
  isplitl [H9]; · iexact H9
  isplitl [H10]; · iexact H10
  isplitl [H11]; · iexact H11
  isplitl [H12]; · iexact H12
  isplitl [H13]; · iexact H13
  isplitl [H14]; · iexact H14
  iexact H15

-- the launch theorem's implicit arguments are found by unifying its conclusion with this one
set_option backward.isDefEq.respectTransparency.types false in
/-- The run, the results forgotten. -/
theorem run_main : θ_run defs (onTc (τ := τ) (main (F := F))) (s₀ m ρ)
    (fun r => Pipeline.RDat.FramePost cfg0 (fun c => (dats m 0 c).toRForget forgotten) (V m) r ∧ r.2.sem = fun _ => 0) :=
  Pipeline.θ_run_frame_forget (Q' := _) cfgs (dats m) (0 : Fin 1) launch0 defs₀ Variants.none forgotten m ρ main
    (hbody := fun c => body_obligation m c) (hshare := fun c => (dats m 0 c).share_full fun _ => rfl)
    (howed := fun _ _ => rfl) (V := V m) (hmain := hmain m Variants.none) (hA := A_eq m) (hΦ := fun _ _ => rfl)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
      (h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c)),
      (h.1.arr_in c 6 rfl).trans ((A_eq m c 6).trans (V_main_arg6 m c))⟩, h.2⟩) (run_main m ρ)

end Cert.Qkv.Frame
end
-- ==== Proof.QkvStep.lean ====
/- One point of the grid of the call that normalises the rows and projects them: the body's run, as far as the first two
   results go. What the other results and the scratch arrays hold afterwards is left open. -/
module

public import proofs.«01_k».proof.Proof.Gen.QkvIdeal.Frame
public import proofs.«01_k».proof.Proof.Gen.QkvIdeal.Loops

@[expose] public section

set_option maxRecDepth 16384

noncomputable section

namespace Cert.QkvIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.QkvIdeal.Gen

variable {F : FTy → Type} [FloatOps F]

local notation "𝕄" => MT nD τ sig Unit (Elt F) ℕ (UR sig nD τ) ℕ

/-- Whether a point is the first of its column block. -/
abbrev cond2 (i : grid0.Coords) : BitVec 1 :=
  Scalar.cmpi .ne (Scalar.extui (Scalar.cmpi .eq (BitVec.ofNat 32 (i 1).val) 0#32)) 0#32

/-- The last column block is the one that is not before it. -/
theorem last_iff (i : grid0.Coords) : Iff (k0_cond4 i = 1#1) (¬ k0_cond3 i = 1#1) := by
  have h : ∀ a : Fin 9, Iff (Scalar.cmpi .ne (Scalar.extui (Scalar.cmpi .eq (BitVec.ofNat 32 a.val) 8#32)) 0#32 = 1#1)
      (¬ Scalar.cmpi .ne (Scalar.extui (Scalar.cmpi .slt (BitVec.ofNat 32 a.val) 8#32)) 0#32 = 1#1) := by decide +kernel
  exact h (i 0)

/-- The first column block comes before the last. -/
theorem first_lt (i : grid0.Coords) : k0_cond1 i = 1#1 → k0_cond3 i = 1#1 := by
  have h : ∀ a : Fin 9, (Scalar.cmpi .ne (Scalar.extui (Scalar.cmpi .eq (BitVec.ofNat 32 a.val) 0#32)) 0#32 = 1#1)
      → (Scalar.cmpi .ne (Scalar.extui (Scalar.cmpi .slt (BitVec.ofNat 32 a.val) 8#32)) 0#32 = 1#1) := by decide +kernel
  exact h (i 0)

/-- The pieces the sixteen trips store, over the three arrays they store into. -/
abbrev pieces (c : Dev nD) (i : grid0.Coords) (h1 : k0_cond1 i = 1#1) (arg2 : Memref sig .tc .vmem S512x3584 .bf16) (harg2 : arg2.IsWhole) (arg3 : Memref sig .tc .vmem S1x3584 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x128 .f32) (harg8 : arg8.IsWhole) (arg9 : Memref sig .tc .vmem S512x3584 .fp8e4m3) (harg9 : arg9.IsWhole) (arg10 : Memref sig .tc .vmem S512x28 .f32) (harg10 : arg10.IsWhole) (arg11 : Memref sig .tc .vmem S512x512 .bf16) (harg11 : arg11.IsWhole) (arg12 : Memref sig .tc .vmem S2x512x128 .i8) (harg12 : arg12.IsWhole) (arg13 : Memref sig .tc .vmem S2x512x1 .f32) (harg13 : arg13.IsWhole) (arg14 : Memref sig .tc .vmem S2x512x128 .i8) (harg14 : arg14.IsWhole) (arg15 : Memref sig .tc .vmem S2x512x1 .f32) (harg15 : arg15.IsWhole) (arg16 : Memref sig .tc .vmem S2x32x128 .i8) (harg16 : arg16.IsWhole) (arg17 : Memref sig .tc .vmem S2x32x1 .f32) (harg17 : arg17.IsWhole) (arg18 : Memref sig .tc .vmem S4096x3584 .bf16) (harg18 : arg18.IsWhole) (arg19 : Memref sig .tc .vmem S3584x512 .bf16) (harg19 : arg19.IsWhole) (arg20 : Memref sig .tc .vmem S2x128 .f32) (harg20 : arg20.IsWhole) (x0 : Vec F S512x3584 .bf16) (x1 : Vec F S1x3584 .f32) :=
  pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Scalar.muli (BitVec.ofNat 32 (i 1).val) 512#32) h1 (harg2.unread x0) (harg3.unread x1) k0_t1_loop.trips

/-- The codes' buffer after a point. -/
def newQ (c : Dev nD) (i : grid0.Coords) (arg2 : Memref sig .tc .vmem S512x3584 .bf16) (harg2 : arg2.IsWhole) (arg3 : Memref sig .tc .vmem S1x3584 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x128 .f32) (harg8 : arg8.IsWhole) (arg9 : Memref sig .tc .vmem S512x3584 .fp8e4m3) (harg9 : arg9.IsWhole) (arg10 : Memref sig .tc .vmem S512x28 .f32) (harg10 : arg10.IsWhole) (arg11 : Memref sig .tc .vmem S512x512 .bf16) (harg11 : arg11.IsWhole) (arg12 : Memref sig .tc .vmem S2x512x128 .i8) (harg12 : arg12.IsWhole) (arg13 : Memref sig .tc .vmem S2x512x1 .f32) (harg13 : arg13.IsWhole) (arg14 : Memref sig .tc .vmem S2x512x128 .i8) (harg14 : arg14.IsWhole) (arg15 : Memref sig .tc .vmem S2x512x1 .f32) (harg15 : arg15.IsWhole) (arg16 : Memref sig .tc .vmem S2x32x128 .i8) (harg16 : arg16.IsWhole) (arg17 : Memref sig .tc .vmem S2x32x1 .f32) (harg17 : arg17.IsWhole) (arg18 : Memref sig .tc .vmem S4096x3584 .bf16) (harg18 : arg18.IsWhole) (arg19 : Memref sig .tc .vmem S3584x512 .bf16) (harg19 : arg19.IsWhole) (arg20 : Memref sig .tc .vmem S2x128 .f32) (harg20 : arg20.IsWhole) (x0 : Vec F S512x3584 .bf16) (x1 : Vec F S1x3584 .f32) (d9 : Vec F S512x3584 .fp8e4m3) : Vec F S512x3584 .fp8e4m3 :=
  if h1 : k0_cond1 i = 1#1 then
    arg9.view.read (Elt F) (arg9.view.writes (Elt F) (harg9.unread d9) (pieces c i h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1).1)
  else d9

/-- The scales' buffer after a point. -/
def newS (c : Dev nD) (i : grid0.Coords) (arg2 : Memref sig .tc .vmem S512x3584 .bf16) (harg2 : arg2.IsWhole) (arg3 : Memref sig .tc .vmem S1x3584 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x128 .f32) (harg8 : arg8.IsWhole) (arg9 : Memref sig .tc .vmem S512x3584 .fp8e4m3) (harg9 : arg9.IsWhole) (arg10 : Memref sig .tc .vmem S512x28 .f32) (harg10 : arg10.IsWhole) (arg11 : Memref sig .tc .vmem S512x512 .bf16) (harg11 : arg11.IsWhole) (arg12 : Memref sig .tc .vmem S2x512x128 .i8) (harg12 : arg12.IsWhole) (arg13 : Memref sig .tc .vmem S2x512x1 .f32) (harg13 : arg13.IsWhole) (arg14 : Memref sig .tc .vmem S2x512x128 .i8) (harg14 : arg14.IsWhole) (arg15 : Memref sig .tc .vmem S2x512x1 .f32) (harg15 : arg15.IsWhole) (arg16 : Memref sig .tc .vmem S2x32x128 .i8) (harg16 : arg16.IsWhole) (arg17 : Memref sig .tc .vmem S2x32x1 .f32) (harg17 : arg17.IsWhole) (arg18 : Memref sig .tc .vmem S4096x3584 .bf16) (harg18 : arg18.IsWhole) (arg19 : Memref sig .tc .vmem S3584x512 .bf16) (harg19 : arg19.IsWhole) (arg20 : Memref sig .tc .vmem S2x128 .f32) (harg20 : arg20.IsWhole) (x0 : Vec F S512x3584 .bf16) (x1 : Vec F S1x3584 .f32) (d10 : Vec F S512x28 .f32) : Vec F S512x28 .f32 :=
  if h1 : k0_cond1 i = 1#1 then
    arg10.view.read (Elt F) (arg10.view.writes (Elt F) (harg10.unread d10) (pieces c i h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1).2.1)
  else d10

-- (the run's proof term is large, one step per load and store)
set_option maxHeartbeats 8000000 in
/-- The body at a point: the seven inputs' buffers are left as they were, the codes' and scales' buffers hold `newQ` and
    `newS`, every other buffer something. -/
theorem run (c : Dev nD) (i : grid0.Coords) (arg2 : Memref sig .tc .vmem S512x3584 .bf16) (harg2 : arg2.IsWhole) (arg3 : Memref sig .tc .vmem S1x3584 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x128 .f32) (harg8 : arg8.IsWhole) (arg9 : Memref sig .tc .vmem S512x3584 .fp8e4m3) (harg9 : arg9.IsWhole) (arg10 : Memref sig .tc .vmem S512x28 .f32) (harg10 : arg10.IsWhole) (arg11 : Memref sig .tc .vmem S512x512 .bf16) (harg11 : arg11.IsWhole) (arg12 : Memref sig .tc .vmem S2x512x128 .i8) (harg12 : arg12.IsWhole) (arg13 : Memref sig .tc .vmem S2x512x1 .f32) (harg13 : arg13.IsWhole) (arg14 : Memref sig .tc .vmem S2x512x128 .i8) (harg14 : arg14.IsWhole) (arg15 : Memref sig .tc .vmem S2x512x1 .f32) (harg15 : arg15.IsWhole) (arg16 : Memref sig .tc .vmem S2x32x128 .i8) (harg16 : arg16.IsWhole) (arg17 : Memref sig .tc .vmem S2x32x1 .f32) (harg17 : arg17.IsWhole) (arg18 : Memref sig .tc .vmem S4096x3584 .bf16) (harg18 : arg18.IsWhole) (arg19 : Memref sig .tc .vmem S3584x512 .bf16) (harg19 : arg19.IsWhole) (arg20 : Memref sig .tc .vmem S2x128 .f32) (harg20 : arg20.IsWhole)
    (x0 : Vec F S512x3584 .bf16) (x1 : Vec F S1x3584 .f32) (x2 : Vec F S3584x512 .fp8e4m3) (x3 : Vec F S28x512 .f32) (x4 : Vec F S512x128 .f32) (x5 : Vec F S512x128 .f32) (x6 : Vec F S2x128 .f32)
    (d9 : Vec F S512x3584 .fp8e4m3) (d10 : Vec F S512x28 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d9 ∗ owns (c : Thread nD τ) arg10 fullShare d10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (newQ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 d9)
            ∗ owns (c : Thread nD τ) arg10 fullShare (newS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 d10)
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_qkv_eq_skeleton]; unfold cc0_qkv_skel
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  have h34 := last_iff i
  have h13 := first_lt i
  by_cases h2 : cond2 i = 1#1 <;> by_cases h3 : k0_cond3 i = 1#1 <;> by_cases h1 : k0_cond1 i = 1#1
  all_goals try exact absurd (h13 h1) h3
  all_goals
    first
      | have h4 : k0_cond4 i = 1#1 := h34.mpr h3
      | have h4 : ¬ k0_cond4 i = 1#1 := fun h => h34.mp h h3
    first
      | have n9 : newQ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 d9 = arg9.view.read (Elt F) (arg9.view.writes (Elt F) (harg9.unread d9) (pieces c i h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1).1) := dif_pos h1
      | have n9 : newQ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 d9 = d9 := dif_neg h1
    first
      | have n10 : newS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 d10 = arg10.view.read (Elt F) (arg10.view.writes (Elt F) (harg10.unread d10) (pieces c i h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1).2.1) := dif_pos h1
      | have n10 : newS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 d10 = d10 := dif_neg h1
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%e11, %f11, -, H11⟩, ⟨%e12, %f12, -, H12⟩, ⟨%e13, %f13, -, H13⟩, ⟨%e14, %f14, -, H14⟩, ⟨%e15, %f15, -, H15⟩, ⟨%e16, %f16, -, H16⟩, ⟨%e17, %f17, -, H17⟩, ⟨%e18, %f18, -, H18⟩, ⟨%e19, %f19, -, H19⟩, ⟨%e20, %f20, -, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact h1 | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro
      first
        | (rw [n9]; exact harg9.read_unread _)
        | (rw [n9]; done)
        | (rw [n9]; rfl)
    isplitl [H10]
    · iexists _; isplitr; swap; · iexact H10
      ipureintro
      first
        | (rw [n10]; exact harg10.read_unread _)
        | (rw [n10]; done)
        | (rw [n10]; rfl)
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    isplitl [H19]
    · iexists _; iexists _; isplitr; swap; · iexact H19
      ipureintro; rfl
    iexists _; iexists _; isplitr; swap; · iexact H20
    ipureintro; rfl

end Cert.QkvIdeal.Step
end
-- ==== Proof.QkvFrameIdeal.lean ====
/- The call that normalises the rows and projects them runs at any float values, in its idealized text: it ends with its arguments as they were
   and every counter at zero. Nothing is said here of its results. -/
module

public import proofs.«01_k».proof.Proof.QkvStep

@[expose] public section

set_option maxRecDepth 16384

noncomputable section

namespace Cert.QkvIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.QkvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's three scratch arrays, whole at some contents, and the random register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The proof data: the inputs' buffers hold their blocks; the results' buffers are forgotten. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .bf16 0#16) (iblk m c 0 t)
    | ⟨1, _⟩ => iblk m c 1 t
    | ⟨2, _⟩ => iblk m c 2 t
    | ⟨3, _⟩ => iblk m c 3 t
    | ⟨4, _⟩ => win0_4.fill (grid0.coords t) (fun _ => Scalar.ofBits .f32 0#32) (iblk m c 4 t)
    | ⟨5, _⟩ => win0_5.fill (grid0.coords t) (fun _ => Scalar.ofBits .f32 0#32) (iblk m c 5 t)
    | ⟨6, _⟩ => iblk m c 6 t
    | ⟨7, _⟩ => fun _ => Scalar.ofBits .fp8e4m3 0#8
    | ⟨8, _⟩ => fun _ => Scalar.ofBits .f32 0#32
    | ⟨9, _⟩ => fun _ => Scalar.ofBits .bf16 0#16
    | ⟨10, _⟩ => fun _ => (0#8 : BitVec 8)
    | ⟨11, _⟩ => fun _ => Scalar.ofBits .f32 0#32
    | ⟨12, _⟩ => fun _ => (0#8 : BitVec 8)
    | ⟨13, _⟩ => fun _ => Scalar.ofBits .f32 0#32
    | ⟨14, _⟩ => fun _ => (0#8 : BitVec 8)
    | ⟨15, _⟩ => fun _ => Scalar.ofBits .f32 0#32
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem blockOf_eq (c : Dev nD) (w : Fin cfg0.W) (t : Fin cfg0.N) : (dats m 0 c).blockOf w t = iblk m c w t := by
  unfold Dat.blockOf iblk
  rw [A_eq]

theorem before_0 (c : Dev nD) (t : Fin cfg0.N) (d) :
    (dats m 0 c).before 0 t d = win0_0.fill (grid0.coords t) d (iblk m c 0 t) := by
  refine ((dats m 0 c).before_in_eq_fetched 0 rfl (fun _ => rfl) (fun a b h => ?_) (fun t => ?_) t d).trans ?_
  · exact congrArg (fun ix : Fin 2 → ℕ => fun a => Pipeline.Clip.of (ix a) (S512x3584.size a) (S3968x3584.size a)) h
  · rw [blockOf_eq]; exact win0_0.cut_fill _ _ _
  · unfold Dat.fetched; rw [blockOf_eq]

theorem before_1 (c : Dev nD) (t : Fin cfg0.N) (d) : (dats m 0 c).before 1 t d = iblk m c 1 t :=
  before0_1_of m (dats m 0 c) (A_eq m c 1) (fun _ => by dsimp only [dats]) t d

theorem after_1 (c : Dev nD) (t : Fin cfg0.N) : (dats m 0 c).after 1 t = iblk m c 1 t := by dsimp only [dats]

theorem before_2 (c : Dev nD) (t : Fin cfg0.N) (d) : (dats m 0 c).before 2 t d = iblk m c 2 t :=
  before0_2_of m (dats m 0 c) (A_eq m c 2) (fun _ => by dsimp only [dats]) t d

theorem after_2 (c : Dev nD) (t : Fin cfg0.N) : (dats m 0 c).after 2 t = iblk m c 2 t := by dsimp only [dats]

theorem before_3 (c : Dev nD) (t : Fin cfg0.N) (d) : (dats m 0 c).before 3 t d = iblk m c 3 t :=
  before0_3_of m (dats m 0 c) (A_eq m c 3) (fun _ => by dsimp only [dats]) t d

theorem after_3 (c : Dev nD) (t : Fin cfg0.N) : (dats m 0 c).after 3 t = iblk m c 3 t := by dsimp only [dats]

theorem before_6 (c : Dev nD) (t : Fin cfg0.N) (d) : (dats m 0 c).before 6 t d = iblk m c 6 t :=
  before0_6_of m (dats m 0 c) (A_eq m c 6) (fun _ => by dsimp only [dats]) t d

theorem after_6 (c : Dev nD) (t : Fin cfg0.N) : (dats m 0 c).after 6 t = iblk m c 6 t := by dsimp only [dats]

theorem before_4 (c : Dev nD) (t : Fin cfg0.N) (d) :
    (dats m 0 c).before 4 t d = win0_4.fill (grid0.coords t) d (iblk m c 4 t) := by
  refine ((dats m 0 c).before_fetched 4 t (fetch0_4 t) d).trans ?_
  unfold Dat.fetched; rw [blockOf_eq]

theorem before_5 (c : Dev nD) (t : Fin cfg0.N) (d) :
    (dats m 0 c).before 5 t d = win0_5.fill (grid0.coords t) d (iblk m c 5 t) := by
  refine ((dats m 0 c).before_fetched 5 t (fetch0_5 t) d).trans ?_
  unfold Dat.fetched; rw [blockOf_eq]

/-- The results' buffers are the ones forgotten. -/
def forgotten : Fin cfg0.W → Bool := fun w => decide (7 ≤ w.val)

theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligationLoose (dats m 0 c) (defs₀ (F := F)) Variants.none () Set.univ forgotten := fun t => by
  rw [bigSep_W0, bigSep_W0, defs₀_row]
  simp only [show forgotten (0 : Fin cfg0.W) = false from rfl,
    show forgotten (1 : Fin cfg0.W) = false from rfl,
    show forgotten (2 : Fin cfg0.W) = false from rfl,
    show forgotten (3 : Fin cfg0.W) = false from rfl,
    show forgotten (4 : Fin cfg0.W) = false from rfl,
    show forgotten (5 : Fin cfg0.W) = false from rfl,
    show forgotten (6 : Fin cfg0.W) = false from rfl,
    show forgotten (7 : Fin cfg0.W) = true from rfl,
    show forgotten (8 : Fin cfg0.W) = true from rfl,
    show forgotten (9 : Fin cfg0.W) = true from rfl,
    show forgotten (10 : Fin cfg0.W) = true from rfl,
    show forgotten (11 : Fin cfg0.W) = true from rfl,
    show forgotten (12 : Fin cfg0.W) = true from rfl,
    show forgotten (13 : Fin cfg0.W) = true from rfl,
    show forgotten (14 : Fin cfg0.W) = true from rfl,
    show forgotten (15 : Fin cfg0.W) = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  unfold bodyAt0
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12, H13, H14, H15⟩
  rw [before_0, before_1, before_2, before_3, before_4, before_5, before_6]
  iapply (Step.run c (grid0.coords t) _ _ _ _ _ _ _ _ _ _ _ _ _ _ _ _ _ _ _ _ _ _ _ _ _ _ _ _ _ _ _ _ _ _ _ _ _ _
    (win0_0.fill (grid0.coords t) d0 (iblk m c 0 t)) (iblk m c 1 t) (iblk m c 2 t) (iblk m c 3 t) (win0_4.fill (grid0.coords t) d4 (iblk m c 4 t)) (win0_5.fill (grid0.coords t) d5 (iblk m c 5 t)) (iblk m c 6 t) d7 d8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  iintro ⟨H0, H1, H2, H3, H4, H5, H6, H7, H8, H9, H10, H11, H12, H13, H14, H15, HS0, HS1, HS2⟩
  isplitl [HS0 HS1 HS2 Hg]
  · isplitl [HS0 HS1 HS2]
    · isplitl [HS0]; · iexact HS0
      isplitl [HS1]; · iexact HS1
      iexact HS2
    · iexact Hg
  isplitl [Ho]; · iexact Ho
  isplitl [H0]
  · iexists d0
    change _ ⊢ owns (c : Thread nD τ) (win0_0.stage (cfg0.slots t 0)) fullShare (win0_0.fill (grid0.coords t) d0 (win0_0.cut (grid0.coords t) (win0_0.fill (grid0.coords t) (fun _ => Scalar.ofBits .bf16 0#16) (iblk m c 0 t))))
    rw [win0_0.cut_fill]
  isplitl [H1]
  · rw [after_1]; iexact H1
  isplitl [H2]
  · rw [after_2]; iexact H2
  isplitl [H3]
  · rw [after_3]; iexact H3
  isplitl [H4]
  · iexists d4
    change _ ⊢ owns (c : Thread nD τ) (win0_4.stage (cfg0.slots t 4)) fullShare (win0_4.fill (grid0.coords t) d4 (win0_4.cut (grid0.coords t) (win0_4.fill (grid0.coords t) (fun _ => Scalar.ofBits .f32 0#32) (iblk m c 4 t))))
    rw [win0_4.cut_fill]
  isplitl [H5]
  · iexists d5
    change _ ⊢ owns (c : Thread nD τ) (win0_5.stage (cfg0.slots t 5)) fullShare (win0_5.fill (grid0.coords t) d5 (win0_5.cut (grid0.coords t) (win0_5.fill (grid0.coords t) (fun _ => Scalar.ofBits .f32 0#32) (iblk m c 5 t))))
    rw [win0_5.cut_fill]
  isplitl [H6]
  · rw [after_6]; iexact H6
  isplitl [H7]; · iexists _; iexact H7
  isplitl [H8]; · iexists _; iexact H8
  isplitl [H9]; · iexact H9
  isplitl [H10]; · iexact H10
  isplitl [H11]; · iexact H11
  isplitl [H12]; · iexact H12
  isplitl [H13]; · iexact H13
  isplitl [H14]; · iexact H14
  iexact H15

-- the launch theorem's implicit arguments are found by unifying its conclusion with this one
set_option backward.isDefEq.respectTransparency.types false in
/-- The run, the results forgotten. -/
theorem run_main : θ_run defs (onTc (τ := τ) (main (F := F))) (s₀ m ρ)
    (fun r => Pipeline.RDat.FramePost cfg0 (fun c => (dats m 0 c).toRForget forgotten) (V m) r ∧ r.2.sem = fun _ => 0) :=
  Pipeline.θ_run_frame_forget (Q' := _) cfgs (dats m) (0 : Fin 1) launch0 defs₀ Variants.none forgotten m ρ main
    (hbody := fun c => body_obligation m c) (hshare := fun c => (dats m 0 c).share_full fun _ => rfl)
    (howed := fun _ _ => rfl) (V := V m) (hmain := hmain m Variants.none) (hA := A_eq m) (hΦ := fun _ _ => rfl)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
      (h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c)),
      (h.1.arr_in c 6 rfl).trans ((A_eq m c 6).trans (V_main_arg6 m c))⟩, h.2⟩) (run_main m ρ)

end Cert.QkvIdeal.Frame
end
-- ==== Proof.QkvPieces.lean ====
/- The pieces that the loop over the rows of a block stores: trip after trip, group of columns after group of columns, the
   codes and the scales of one function of the rows read. -/
module

public import proofs.«01_k».proof.Proof.Gen.QkvIdeal.Frame
public import proofs.«01_k».proof.Proof.Gen.QkvIdeal.Loops

@[expose] public section

set_option maxRecDepth 65536

noncomputable section

namespace Cert.QkvIdeal.Pieces

open Idealize.ShloMosaic Idealize.ShloMosaic.TcCoe Idealize.ShloMosaic.Tactic
open Cert.QkvIdeal.Gen

variable {F : FTy → Type} [FloatOps F]

/-- The twenty-eight groups of columns, in the order in which a list of stores names them: the last first. -/
def groups : List (Fin 28) := [27, 26, 25, 24, 23, 22, 21, 20, 19, 18, 17, 16, 15, 14, 13, 12, 11, 10, 9, 8, 7, 6, 5, 4, 3, 2, 1, 0]

theorem mem_groups (g : Fin 28) : g ∈ groups := by revert g; decide

theorem trips_eq : k0_t1_loop.trips = 16 := by decide +kernel

theorem row0_eq (k : Fin k0_t1_loop.trips) : k0_off2 k 0 = 32 * k.val := by
  revert k; decide +kernel

theorem inbC (k : Fin k0_t1_loop.trips) (g : Fin 28) :
    ∀ a, (![k0_off2 k 0, 128 * g.val] : Fin 2 → ℕ) a + S32x128.size a ≤ S512x3584.size a := by
  have hk : k.val < 16 := Nat.lt_of_lt_of_eq k.isLt trips_eq
  rw [row0_eq]
  intro a
  fin_cases a
  · show 32 * k.val + 32 ≤ 512; omega
  · show 128 * g.val + 128 ≤ 3584; omega

theorem inbS (k : Fin k0_t1_loop.trips) (g : Fin 28) :
    ∀ a, (![k0_off2 k 0, g.val] : Fin 2 → ℕ) a + S32x1.size a ≤ S512x28.size a := by
  have hk : k.val < 16 := Nat.lt_of_lt_of_eq k.isLt trips_eq
  rw [row0_eq]
  intro a
  fin_cases a
  · show 32 * k.val + 32 ≤ 512; omega
  · show g.val + 1 ≤ 28; omega

theorem inbX (k : Fin k0_t1_loop.trips) : ∀ a, (![k0_off2 k 0, 0] : Fin 2 → ℕ) a + S32x3584.size a ≤ S512x3584.size a := by
  have hk : k.val < 16 := Nat.lt_of_lt_of_eq k.isLt trips_eq
  rw [row0_eq]
  intro a
  fin_cases a
  · show 32 * k.val + 32 ≤ 512; omega
  · show 0 + 3584 ≤ 3584; omega

theorem slices (g : Fin 28) : S32x3584.Slices ![0, 128 * g.val] S32x128 := by revert g; decide

/-- A group of columns of the normalised rows. -/
def grp (x : FVec F S32x3584 .f32) (g : Fin 28) : FVec F S32x128 .f32 :=
  extractStridedSlice S32x128 ![0, 128 * g.val] x (slices g)

/-- The exponents of a group's rows. -/
def expo (v41 : FVec F S32x128 .f32) : IVec S32x1 32 :=
  have v42 : FVec F S32x128 .f32 := absf (v41)
  have v43 : FVec F S32 .f32 := multiReduction .maximumf [1] S32 v42 0xFF800000#32 reduces_S32x128_S32 (.inl rfl) rfl
  have v44 : FVec F S32x1 .f32 := shapeCast S32x1 v43 shapeCasts_S32_S32x1
  have cst_22 : F .f32 := Scalar.ofBits .f32 0x3B124925#32
  have v45 : FVec F S32x1 .f32 := broadcast S32x1 cst_22
  have v46 : FVec F S32x1 .f32 := mulf v44 v45
  have v47 : IVec S32x256 32 := iota .tc S32x256 32 [1] iota_S32x256_d1_w32
  have v48 : IVec S32x256 32 := broadcast S32x256 23#32
  have v49 : IVec S32x256 32 := shli v47 v48
  have v50 : FVec F S32x256 .f32 := bitcastToFloat .f32 v49
  have cst_23 : F .f32 := Scalar.ofBits .f32 0x00000000#32
  have v51 : FVec F S32x1 .f32 := broadcast S32x1 cst_23
  have v52 : IVec S32x1 1 := cmpf .oeq v46 v51
  have v53 : IVec S32x256 32 := broadcast S32x256 0#32
  have v54 : IVec S32x256 1 := cmpi .sgt v47 v53
  have v55 : FVec F S32x256 .f32 := broadcastTo S32x256 v46 broadcasts_S32x1_S32x256
  have v56 : IVec S32x256 1 := cmpf .oge v55 v50
  have v57 : IVec S32x256 1 := andi v54 v56
  have v58 : IVec S32x256 32 := broadcast S32x256 0#32
  have v59 : IVec S32x256 32 := select v57 v47 v58
  have v60 : IVec S32 32 := multiReductionI .maxsi [1] S32 v59 2147483648#32 reduces_S32x256_S32 rfl
  have v61 : IVec S32x1 32 := shapeCast S32x1 v60 shapeCasts_S32_S32x1
  have v62 : IVec S32x1 32 := broadcast S32x1 126#32
  have v63 : IVec S32x1 32 := select v52 v62 v61
  v63

/-- The codes of a group. -/
def codesOf (x : FVec F S32x3584 .f32) (g : Fin 28) : FVec F S32x128 .fp8e4m3 := k0_pay14 (grp x g) (expo (grp x g))

/-- The scales of a group. -/
def scalesOf (x : FVec F S32x3584 .f32) (g : Fin 28) : FVec F S32x1 .f32 := k0_pay13 (F := F) (expo (grp x g))

section
variable (c : Dev nD) (i : grid0.Coords) (arg2 : Memref sig .tc .vmem S512x3584 .bf16) (harg2 : arg2.IsWhole) (arg3 : Memref sig .tc .vmem S1x3584 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x128 .f32) (harg8 : arg8.IsWhole) (arg9 : Memref sig .tc .vmem S512x3584 .fp8e4m3) (harg9 : arg9.IsWhole) (arg10 : Memref sig .tc .vmem S512x28 .f32) (harg10 : arg10.IsWhole) (arg11 : Memref sig .tc .vmem S512x512 .bf16) (harg11 : arg11.IsWhole) (arg12 : Memref sig .tc .vmem S2x512x128 .i8) (harg12 : arg12.IsWhole) (arg13 : Memref sig .tc .vmem S2x512x1 .f32) (harg13 : arg13.IsWhole) (arg14 : Memref sig .tc .vmem S2x512x128 .i8) (harg14 : arg14.IsWhole) (arg15 : Memref sig .tc .vmem S2x512x1 .f32) (harg15 : arg15.IsWhole) (arg16 : Memref sig .tc .vmem S2x32x128 .i8) (harg16 : arg16.IsWhole) (arg17 : Memref sig .tc .vmem S2x32x1 .f32) (harg17 : arg17.IsWhole) (arg18 : Memref sig .tc .vmem S4096x3584 .bf16) (harg18 : arg18.IsWhole) (arg19 : Memref sig .tc .vmem S3584x512 .bf16) (harg19 : arg19.IsWhole) (arg20 : Memref sig .tc .vmem S2x128 .f32) (harg20 : arg20.IsWhole) (v1 : BitVec 32) (h1 : k0_cond1 i = 1#1)
  (X2 : BufTy.Contents (Elt F) arg2.view.ty) (X3 : BufTy.Contents (Elt F) arg3.view.ty)

/-- The rows of a trip, normalised. -/
def rows (arg2 : Memref sig .tc .vmem S512x3584 .bf16) (arg3 : Memref sig .tc .vmem S1x3584 .f32)
    (X2 : BufTy.Contents (Elt F) arg2.view.ty) (X3 : BufTy.Contents (Elt F) arg3.view.ty) (k : Fin k0_t1_loop.trips) : FVec F S32x3584 .f32 :=
  k0_pay10 (arg2.view.readAt (Elt F) (Rect.unit (s := S512x3584) ![k0_off2 k 0, 0] S32x3584.size (inbX k)).toLoadRect X2)
    (arg3.view.readAt (Elt F) (Rect.unit (s := S1x3584) ![0, 0] S1x3584.size inb_S1x3584_S1x3584_0_0).toLoadRect X3)

/-- What a trip stores in the block of codes. -/
theorem trip_codes (k : Fin k0_t1_loop.trips) :
    (trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 k).1
      = groups.map fun g => ⟨Rect.unit (s := S512x3584) ![k0_off2 k 0, 128 * g.val] S32x128.size (inbC k g), codesOf (rows arg2 arg3 X2 X3 k) g⟩ := by
  unfold trip_k0_t1
  rfl

/-- What a trip stores in the block of scales. -/
theorem trip_scales (k : Fin k0_t1_loop.trips) :
    (trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 k).2.1
      = groups.map fun g => ⟨Rect.unit (s := S512x28) ![k0_off2 k 0, g.val] S32x1.size (inbS k g), scalesOf (rows arg2 arg3 X2 X3 k) g⟩ := by
  unfold trip_k0_t1
  rfl

end

end Cert.QkvIdeal.Pieces
end
-- ==== Proof.QkvRead.lean ====
/- The blocks of codes and of scales after the loop over a block's rows, at an index. -/
module

public import proofs.«01_k».proof.Proof.QkvPieces
public import Idealize.ShloMosaic.Lib.Pointwise

@[expose] public section

set_option maxRecDepth 16384

noncomputable section

namespace Cert.QkvIdeal.Pieces

open Idealize.ShloMosaic Idealize.ShloMosaic.TcCoe Idealize.ShloMosaic.Tactic Idealize.ShloMosaic.Pointwise
open Cert.QkvIdeal.Gen

variable {F : FTy → Type} [FloatOps F]

/-- The trip that treats a row. -/
def tripOf (r : Fin 512) : Fin k0_t1_loop.trips := ⟨r.val / 32, by rw [trips_eq]; omega⟩

/-- The group a column is in. -/
def groupOf (j : Fin 3584) : Fin 28 := ⟨j.val / 128, by omega⟩

/-- The group a column of the scales is for. -/
def scaleCol (j : Fin 28) : Fin 28 := j

/-- The index of a code in its group. -/
def inGroup (y : S512x3584.Idx) : S32x128.Idx :=
  ix2 ⟨(y 0).val % 32, Nat.mod_lt _ (by decide)⟩ ⟨(y 1).val % 128, Nat.mod_lt _ (by decide)⟩

/-- The index of a scale among the scales of its group. -/
def inScales (y : S512x28.Idx) : S32x1.Idx := ix2 ⟨(y 0).val % 32, Nat.mod_lt _ (by decide)⟩ 0

/-- Where a piece of codes puts its entries. -/
theorem at_codes {α : Type} (k : Fin k0_t1_loop.trips) (g : Fin 28) (x : S32x128.Idx) (pay : Fin k0_t1_loop.trips → Fin 28 → S32x128.Idx → α) :
    pay k g x = pay (tripOf ((Rect.unit (s := S512x3584) ![k0_off2 k 0, 128 * g.val] S32x128.size (inbC k g)).emb x 0))
      (groupOf ((Rect.unit (s := S512x3584) ![k0_off2 k 0, 128 * g.val] S32x128.size (inbC k g)).emb x 1))
      (inGroup ((Rect.unit (s := S512x3584) ![k0_off2 k 0, 128 * g.val] S32x128.size (inbC k g)).emb x)) := by
  have hr := row0_eq k
  have b0 : (x 0).val < 32 := (x 0).isLt
  have b1 : (x 1).val < 128 := (x 1).isLt
  have e0 : tripOf ((Rect.unit (s := S512x3584) ![k0_off2 k 0, 128 * g.val] S32x128.size (inbC k g)).emb x 0) = k := Fin.ext (by
    show (k0_off2 k 0 + 1 * (x 0).val) / 32 = k.val
    omega)
  have e1 : groupOf ((Rect.unit (s := S512x3584) ![k0_off2 k 0, 128 * g.val] S32x128.size (inbC k g)).emb x 1) = g := Fin.ext (by
    show (128 * g.val + 1 * (x 1).val) / 128 = g.val
    omega)
  have e2 : inGroup ((Rect.unit (s := S512x3584) ![k0_off2 k 0, 128 * g.val] S32x128.size (inbC k g)).emb x) = x := by
    funext a
    match a with
    | ⟨0, _⟩ => exact Fin.ext (by show (k0_off2 k 0 + 1 * (x 0).val) % 32 = (x 0).val; omega)
    | ⟨1, _⟩ => exact Fin.ext (by show (128 * g.val + 1 * (x 1).val) % 128 = (x 1).val; omega)
  rw [e0, e1, e2]

/-- Where a piece of scales puts its entries. -/
theorem at_scales {α : Type} (k : Fin k0_t1_loop.trips) (g : Fin 28) (x : S32x1.Idx) (pay : Fin k0_t1_loop.trips → Fin 28 → S32x1.Idx → α) :
    pay k g x = pay (tripOf ((Rect.unit (s := S512x28) ![k0_off2 k 0, g.val] S32x1.size (inbS k g)).emb x 0))
      (scaleCol ((Rect.unit (s := S512x28) ![k0_off2 k 0, g.val] S32x1.size (inbS k g)).emb x 1))
      (inScales ((Rect.unit (s := S512x28) ![k0_off2 k 0, g.val] S32x1.size (inbS k g)).emb x)) := by
  have hr := row0_eq k
  have b0 : (x 0).val < 32 := (x 0).isLt
  have b1 : (x 1).val < 1 := (x 1).isLt
  have e0 : tripOf ((Rect.unit (s := S512x28) ![k0_off2 k 0, g.val] S32x1.size (inbS k g)).emb x 0) = k := Fin.ext (by
    show (k0_off2 k 0 + 1 * (x 0).val) / 32 = k.val
    omega)
  have e1 : scaleCol ((Rect.unit (s := S512x28) ![k0_off2 k 0, g.val] S32x1.size (inbS k g)).emb x 1) = g := Fin.ext (by
    show g.val + 1 * (x 1).val = g.val
    omega)
  have e2 : inScales ((Rect.unit (s := S512x28) ![k0_off2 k 0, g.val] S32x1.size (inbS k g)).emb x) = x := by
    funext a
    match a with
    | ⟨0, _⟩ => exact Fin.ext (by show (k0_off2 k 0 + 1 * (x 0).val) % 32 = (x 0).val; omega)
    | ⟨1, _⟩ => exact Subsingleton.elim (α := Fin 1) _ _
  rw [e0, e1, e2]

section
variable (c : Dev nD) (i : grid0.Coords) (arg2 : Memref sig .tc .vmem S512x3584 .bf16) (harg2 : arg2.IsWhole) (arg3 : Memref sig .tc .vmem S1x3584 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x128 .f32) (harg8 : arg8.IsWhole) (arg9 : Memref sig .tc .vmem S512x3584 .fp8e4m3) (harg9 : arg9.IsWhole) (arg10 : Memref sig .tc .vmem S512x28 .f32) (harg10 : arg10.IsWhole) (arg11 : Memref sig .tc .vmem S512x512 .bf16) (harg11 : arg11.IsWhole) (arg12 : Memref sig .tc .vmem S2x512x128 .i8) (harg12 : arg12.IsWhole) (arg13 : Memref sig .tc .vmem S2x512x1 .f32) (harg13 : arg13.IsWhole) (arg14 : Memref sig .tc .vmem S2x512x128 .i8) (harg14 : arg14.IsWhole) (arg15 : Memref sig .tc .vmem S2x512x1 .f32) (harg15 : arg15.IsWhole) (arg16 : Memref sig .tc .vmem S2x32x128 .i8) (harg16 : arg16.IsWhole) (arg17 : Memref sig .tc .vmem S2x32x1 .f32) (harg17 : arg17.IsWhole) (arg18 : Memref sig .tc .vmem S4096x3584 .bf16) (harg18 : arg18.IsWhole) (arg19 : Memref sig .tc .vmem S3584x512 .bf16) (harg19 : arg19.IsWhole) (arg20 : Memref sig .tc .vmem S2x128 .f32) (harg20 : arg20.IsWhole) (v1 : BitVec 32) (h1 : k0_cond1 i = 1#1)
  (X2 : BufTy.Contents (Elt F) arg2.view.ty) (X3 : BufTy.Contents (Elt F) arg3.view.ty)

/-- The pieces of the codes of all trips are those of each trip. -/
theorem mem_codes (n : ℕ) (hn : n ≤ k0_t1_loop.trips) (p) :
    p ∈ (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 n).1
      ↔ ∃ k : Fin k0_t1_loop.trips, k.val < n ∧ p ∈ (trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 k).1 := by
  induction n with
  | zero =>
    rw [pb_k0_t1.eq_1]
    exact ⟨fun h => absurd h List.not_mem_nil, fun ⟨k, hk, _⟩ => absurd hk (Nat.not_lt_zero _)⟩
  | succ n ih =>
    have e := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 ⟨n, hn⟩
    have e' := congrArg (fun x => x.1) e
    rw [show (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 (n + 1)).1 = _ from e', List.mem_append, ih (Nat.le_of_succ_le hn)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with h' | h'
      · exact .inr ⟨k, h', h⟩
      · obtain rfl : k = ⟨n, hn⟩ := Fin.ext h'
        exact .inl h

/-- The pieces of the scales of all trips are those of each trip. -/
theorem mem_scales (n : ℕ) (hn : n ≤ k0_t1_loop.trips) (p) :
    p ∈ (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 n).2.1
      ↔ ∃ k : Fin k0_t1_loop.trips, k.val < n ∧ p ∈ (trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 k).2.1 := by
  induction n with
  | zero =>
    rw [pb_k0_t1.eq_1]
    exact ⟨fun h => absurd h List.not_mem_nil, fun ⟨k, hk, _⟩ => absurd hk (Nat.not_lt_zero _)⟩
  | succ n ih =>
    have e := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 ⟨n, hn⟩
    have e' := congrArg (fun x => x.2.1) e
    rw [show (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 (n + 1)).2.1 = _ from e', List.mem_append, ih (Nat.le_of_succ_le hn)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with h' | h'
      · exact .inr ⟨k, h', h⟩
      · obtain rfl : k = ⟨n, hn⟩ := Fin.ext h'
        exact .inl h

/-- The block of codes after all trips, at an index. -/
theorem read_codes (f : BufTy.Contents (Elt F) arg9.view.ty) (y : S512x3584.Idx) :
    arg9.view.read (Elt F) (arg9.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 k0_t1_loop.trips).1) y
      = codesOf (rows arg2 arg3 X2 X3 (tripOf (y 0))) (groupOf (y 1)) (inGroup y) := by
  refine View.read_writes_apply_of_pieces arg9.view f (fun y => codesOf (rows arg2 arg3 X2 X3 (tripOf (y 0))) (groupOf (y 1)) (inGroup y)) _ ?_ y ?_
  · intro p hp x
    obtain ⟨k, -, hk⟩ := (mem_codes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 _ le_rfl p).mp hp
    rw [trip_codes] at hk
    obtain ⟨g, _, rfl⟩ := List.mem_map.mp hk
    exact at_codes k g x fun k g x => codesOf (rows arg2 arg3 X2 X3 k) g x
  · have hy : (y 0).val < 512 := (y 0).isLt
    have hy1 : (y 1).val < 3584 := (y 1).isLt
    have hm : (⟨Rect.unit (s := S512x3584) ![k0_off2 (tripOf (y 0)) 0, 128 * (groupOf (y 1)).val] S32x128.size (inbC (tripOf (y 0)) (groupOf (y 1))),
          codesOf (rows arg2 arg3 X2 X3 (tripOf (y 0))) (groupOf (y 1))⟩ : View.Piece (Elt F) S512x3584 .fp8e4m3)
        ∈ (trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 (tripOf (y 0))).1 := by
      rw [trip_codes]
      exact List.mem_map.mpr ⟨groupOf (y 1), mem_groups _, rfl⟩
    refine ⟨_, (mem_codes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 _ le_rfl _).mpr ⟨tripOf (y 0), (tripOf (y 0)).isLt, hm⟩, ?_⟩
    rw [Rect.mem_set_unit]
    intro a
    match a with
    | ⟨0, _⟩ =>
        show k0_off2 (tripOf (y 0)) 0 ≤ (y 0).val ∧ (y 0).val < k0_off2 (tripOf (y 0)) 0 + 32
        rw [row0_eq (tripOf (y 0))]
        show 32 * ((y 0).val / 32) ≤ (y 0).val ∧ (y 0).val < 32 * ((y 0).val / 32) + 32
        omega
    | ⟨1, _⟩ =>
        show 128 * ((y 1).val / 128) ≤ (y 1).val ∧ (y 1).val < 128 * ((y 1).val / 128) + 128
        omega

/-- The block of scales after all trips, at an index. -/
theorem read_scales (f : BufTy.Contents (Elt F) arg10.view.ty) (y : S512x28.Idx) :
    arg10.view.read (Elt F) (arg10.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 k0_t1_loop.trips).2.1) y
      = scalesOf (rows arg2 arg3 X2 X3 (tripOf (y 0))) (scaleCol (y 1)) (inScales y) := by
  refine View.read_writes_apply_of_pieces arg10.view f (fun y => scalesOf (rows arg2 arg3 X2 X3 (tripOf (y 0))) (scaleCol (y 1)) (inScales y)) _ ?_ y ?_
  · intro p hp x
    obtain ⟨k, -, hk⟩ := (mem_scales c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 _ le_rfl p).mp hp
    rw [trip_scales] at hk
    obtain ⟨g, _, rfl⟩ := List.mem_map.mp hk
    exact at_scales k g x fun k g x => scalesOf (rows arg2 arg3 X2 X3 k) g x
  · have hy : (y 0).val < 512 := (y 0).isLt
    have hy1 : (y 1).val < 28 := (y 1).isLt
    have hm : (⟨Rect.unit (s := S512x28) ![k0_off2 (tripOf (y 0)) 0, (scaleCol (y 1)).val] S32x1.size (inbS (tripOf (y 0)) (scaleCol (y 1))),
          scalesOf (rows arg2 arg3 X2 X3 (tripOf (y 0))) (scaleCol (y 1))⟩ : View.Piece (Elt F) S512x28 .f32)
        ∈ (trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 (tripOf (y 0))).2.1 := by
      rw [trip_scales]
      exact List.mem_map.mpr ⟨scaleCol (y 1), mem_groups _, rfl⟩
    refine ⟨_, (mem_scales c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 h1 X2 X3 _ le_rfl _).mpr ⟨tripOf (y 0), (tripOf (y 0)).isLt, hm⟩, ?_⟩
    rw [Rect.mem_set_unit]
    intro a
    match a with
    | ⟨0, _⟩ =>
        show k0_off2 (tripOf (y 0)) 0 ≤ (y 0).val ∧ (y 0).val < k0_off2 (tripOf (y 0)) 0 + 32
        rw [row0_eq (tripOf (y 0))]
        show 32 * ((y 0).val / 32) ≤ (y 0).val ∧ (y 0).val < 32 * ((y 0).val / 32) + 32
        omega
    | ⟨1, _⟩ =>
        show (y 1).val ≤ (y 1).val ∧ (y 1).val < (y 1).val + 1
        omega

end

end Cert.QkvIdeal.Pieces
end
-- ==== Proof.NormMath.lean ====
/- A row divided by the root of its mean square, over the extended reals: what both programs compute, and its range. -/
module

public import proofs.«01_k».proof.Proof.InRange

@[expose] public section

set_option maxRecDepth 16384

noncomputable section

namespace Cert.Norm

open Idealize.ShloMosaic

theorem w3584 : Ideal.ofBits FTy.f32 0x45600000#32 = ((3584 : ℝ) : EReal) := by
  refine (Pow2.ieee_normal 23 32 0x45600000#32 false 138 6291456 (by decide) (by decide) (by decide) (by decide) (by decide)).trans ?_
  norm_num

theorem weps : ∃ e : ℝ, 0 < e ∧ Ideal.ofBits FTy.f32 0x358637BD#32 = (e : EReal) := by
  refine ⟨_, ?_, Pow2.ieee_normal 23 32 0x358637BD#32 false 107 407485 (by decide) (by decide) (by decide) (by decide) (by decide)⟩
  norm_num

theorem wone : Ideal.ofBits FTy.f32 0x3F800000#32 = ((1 : ℝ) : EReal) := by
  refine (Pow2.ieee_normal 23 32 0x3F800000#32 false 127 0 (by decide) (by decide) (by decide) (by decide) (by decide)).trans ?_
  norm_num

/-- The root of a row's mean square, a millionth added. -/
def root (f : Fin 3584 → EReal) : EReal :=
  Ideal.sqrt (Ideal.div (∑ j, f j * f j) (Ideal.ofBits FTy.f32 0x45600000#32) + Ideal.ofBits FTy.f32 0x358637BD#32)

/-- A normalised entry. -/
def entry (f : Fin 3584 → EReal) (w : EReal) (j : Fin 3584) : EReal := Ideal.div (f j) (root f) * w

theorem root_real (r : Fin 3584 → ℝ) :
    ∃ s : ℝ, 0 < s ∧ root (fun j => (r j : EReal)) = (s : EReal) ∧ ∀ j, |r j| ≤ 60 * s := by
  obtain ⟨e, he, we⟩ := weps
  have hs : (0 : ℝ) ≤ ∑ j, r j * r j := Finset.sum_nonneg fun j _ => mul_self_nonneg _
  have hp : 0 < (∑ j, r j * r j) * (1 / 3584) + e := by positivity
  refine ⟨Real.sqrt ((∑ j, r j * r j) * (1 / 3584) + e), Real.sqrt_pos.mpr hp, ?_, fun j => ?_⟩
  · unfold root
    rw [w3584, we, Ideal.div_coe (by norm_num)]
    have : (∑ j, ((r j : EReal) * (r j : EReal))) = ((∑ j, r j * r j : ℝ) : EReal) := by
      rw [← Flash.coe_sum]
      exact Finset.sum_congr rfl fun j _ => (EReal.coe_mul _ _).symm
    rw [this, ← EReal.coe_mul, ← EReal.coe_add, Ideal.sqrt_coe, if_neg (not_lt.mpr hp.le)]
  · have h1 : r j * r j ≤ ∑ j, r j * r j := Finset.single_le_sum (f := fun j => r j * r j) (fun j _ => mul_self_nonneg _) (Finset.mem_univ j)
    rw [show (60 : ℝ) = Real.sqrt (60 * 60) from (Real.sqrt_mul_self (by norm_num)).symm, ← Real.sqrt_mul (by norm_num)]
    exact Real.abs_le_sqrt (by nlinarith)

/-- The root is infinite as soon as one entry is. -/
theorem root_top (f : Fin 3584 → EReal) (h : ¬∀ j, ∃ r : ℝ, f j = (r : EReal)) : root f = ⊤ := by
  have sq : ∀ x : EReal, 0 ≤ x * x := fun x => by
    induction x using EReal.rec with
    | bot => rw [EReal.bot_mul_bot]; exact le_top
    | top => rw [EReal.top_mul_top]; exact le_top
    | coe r => rw [← EReal.coe_mul]; exact EReal.coe_nonneg.mpr (mul_self_nonneg r)
  obtain ⟨j, hj⟩ := not_forall.mp h
  have ht : f j * f j = ⊤ := by
    generalize f j = x at hj
    induction x using EReal.rec with
    | bot => exact EReal.bot_mul_bot
    | top => exact EReal.top_mul_top
    | coe r => exact absurd ⟨r, rfl⟩ hj
  have hs : ∑ j, f j * f j = ⊤ := by
    rw [← top_le_iff, ← ht]
    exact Finset.single_le_sum (f := fun j => f j * f j) (fun j _ => sq (f j)) (Finset.mem_univ j)
  obtain ⟨e, he, we⟩ := weps
  unfold root
  rw [hs, w3584, we, Ideal.div_coe (by norm_num), EReal.top_mul_coe_of_pos (by norm_num), EReal.top_add_coe]
  rfl

/-- Divided by an infinity everything is zero. -/
theorem div_top (x : EReal) : Ideal.div x ⊤ = 0 := by
  unfold Ideal.div
  rw [if_neg EReal.top_ne_zero, EReal.inv_top, mul_zero]

/-- Multiplying by the reciprocal of the root is dividing by the root. -/
theorem entry_of_recip (f : Fin 3584 → EReal) (w : EReal) (j : Fin 3584) :
    f j * Ideal.div (Ideal.ofBits FTy.f32 0x3F800000#32) (root f) * w = entry f w j := by
  by_cases hf : ∀ j, ∃ r : ℝ, f j = (r : EReal)
  swap
  · unfold entry
    rw [root_top f hf, div_top, div_top, mul_zero]
  choose r hr using hf
  obtain rfl : f = fun j => (r j : EReal) := funext hr
  obtain ⟨s, hs, e, -⟩ := root_real r
  unfold entry
  rw [e, Ideal.div_coe hs.ne', Ideal.div_coe hs.ne', wone, EReal.coe_one, one_mul]

/-- A normalised entry fits the codes' range. -/
theorem entry_fits (f : Fin 3584 → EReal) (w : EReal)
    (hw : ∃ r : ℝ, |r| ≤ (2 : ℝ) ^ (128 : ℤ) ∧ w = (r : EReal)) (j : Fin 3584) :
    max (entry f w j) (-entry f w j) ≤ ((60 * (2 : ℝ) ^ (128 : ℤ) : ℝ) : EReal) := by
  by_cases hf : ∀ j, ∃ r : ℝ, f j = (r : EReal)
  swap
  · unfold entry
    rw [root_top f hf, div_top, zero_mul, neg_zero, max_self]
    exact EReal.coe_nonneg.mpr (by positivity)
  choose r hr using hf
  obtain rfl : f = fun j => (r j : EReal) := funext hr
  obtain ⟨s, hs, e, hb⟩ := root_real r
  obtain ⟨v, hv, rfl⟩ := hw
  unfold entry
  rw [e, Ideal.div_coe hs.ne', ← EReal.coe_mul, ← EReal.coe_mul, ← EReal.coe_neg]
  have h1 : |r j * (1 / s) * v| ≤ 60 * (2 : ℝ) ^ (128 : ℤ) := by
    rw [abs_mul]
    refine mul_le_mul ?_ hv (abs_nonneg _) (by norm_num)
    rw [mul_one_div, abs_div, abs_of_pos hs, div_le_iff₀ hs]
    have := hb j
    nlinarith
  rw [max_le_iff, EReal.coe_le_coe_iff, EReal.coe_le_coe_iff]
  exact ⟨(le_abs_self _).trans h1, (neg_le_abs _).trans h1⟩

/-- A group of normalised entries fits. -/
theorem group_fits (o : Fin 128 → EReal) (h : ∀ d, max (o d) (-o d) ≤ ((60 * (2 : ℝ) ^ (128 : ℤ) : ℝ) : EReal)) :
    Pow2.mag o * Pow2.recip < (((2 : ℝ) ^ (126 : ℤ) : ℝ) : EReal) := by
  have h1 : Pow2.mag o ≤ ((60 * (2 : ℝ) ^ (128 : ℤ) : ℝ) : EReal) := (Finset.fold_max_le _).mpr ⟨bot_le, fun d _ => h d⟩
  have h0 : (0 : EReal) ≤ Pow2.recip := by
    rw [Pow2.recip_eq, ← EReal.coe_zero, EReal.coe_le_coe_iff]; norm_num
  refine (mul_le_mul_of_nonneg_right h1 h0).trans_lt ?_
  rw [Pow2.recip_eq, ← EReal.coe_mul, EReal.coe_lt_coe_iff]
  norm_num

end Cert.Norm
end
-- ==== Proof.QkvValue.lean ====
/- The codes and the scales of a trip's rows at an index, over the extended reals. -/
module

public import proofs.«01_k».proof.Proof.QkvRead
public import proofs.«01_k».proof.Proof.NormMath

@[expose] public section

set_option maxRecDepth 16384

noncomputable section

namespace Cert.QkvIdeal.Pieces

open Idealize.ShloMosaic Idealize.ShloMosaic.TcCoe Idealize.ShloMosaic.Tactic Idealize.ShloMosaic.Pointwise
open Cert.QkvIdeal.Gen

theorem pay10_apply (v24 : Vec Ideal S32x3584 .bf16) (v38 : Vec Ideal S1x3584 .f32) (r : Fin 32) (j : Fin 3584) :
    k0_pay10 v24 v38 (ix2 r j)
      = v24 (ix2 r j) * Ideal.div (Ideal.ofBits FTy.f32 0x3F800000#32) (Cert.Norm.root fun j => v24 (ix2 r j)) * v38 (ix2 0 j) := by
  pointwise [k0_pay10]
  rfl

theorem grp_apply (x : FVec Ideal S32x3584 .f32) (g : Fin 28) (r : Fin 32) (d : Fin 128) :
    grp x g (ix2 r d) = x (ix2 r ⟨128 * g.val + d.val, by omega⟩) := by
  unfold grp extractStridedSlice
  refine congrArg x (funext fun a => ?_)
  match a with
  | ⟨0, _⟩ => exact Fin.ext (by show 0 + r.val = r.val; omega)
  | ⟨1, _⟩ => exact Fin.ext (by show 128 * g.val + d.val = 128 * g.val + d.val; omega)

theorem expo_apply (v : FVec Ideal S32x128 .f32) (r : Fin 32) :
    expo v (ix2 r 0) = if Pow2.mag (fun d => v (ix2 r d)) * Pow2.recip = 0 then 126#32
      else Pow2.found (Pow2.mag (fun d => v (ix2 r d)) * Pow2.recip) := by
  pointwise [expo]
  rw [Pow2.bot_word]
  rfl

theorem pay14_apply (v : FVec Ideal S32x128 .f32) (e : IVec S32x1 32) (r : Fin 32) (d : Fin 128) :
    k0_pay14 v e (ix2 r d) = min (Ideal.ofBits FTy.f32 1138753536#32) (max (Ideal.ofBits FTy.f32 3286237184#32)
      (v (ix2 r d) * Ideal.ofBits FTy.f32 (IntOp.shli ArithUnit.vector (IntOp.subi 253#32 (e (ix2 r 0))) 23#32))) := by
  pointwise [k0_pay14]

theorem pay13_apply (e : IVec S32x1 32) (r : Fin 32) :
    k0_pay13 (F := Ideal) e (ix2 r 0) = Ideal.ofBits FTy.f32 (IntOp.shli ArithUnit.vector (IntOp.addi (e (ix2 r 0)) 1#32) 23#32) := by
  pointwise [k0_pay13]

section
variable (x : FVec Ideal S32x3584 .f32) (g : Fin 28) (r : Fin 32)

/-- A row of a group. -/
abbrev rowR : Fin 128 → EReal := fun d => x (ix2 r ⟨128 * g.val + d.val, by omega⟩)

variable (h : Pow2.mag (rowR x g r) * Pow2.recip < (((2 : ℝ) ^ (126 : ℤ) : ℝ) : EReal))

include h

/-- The codes of a row that fits. -/
theorem codes_apply (d : Fin 128) : codesOf x g (ix2 r d) = Pow2.code (rowR x g r d) (Pow2.rowExp (rowR x g r)) := by
  obtain ⟨n, hn, e1, e2⟩ := Pow2.both_row _ h
  unfold codesOf
  rw [pay14_apply, expo_apply]
  simp only [grp_apply]
  rw [e1, Pow2.inverse n hn, ← e2]
  rfl

/-- The scale of a row that fits. -/
theorem scale_apply : scalesOf x g (ix2 r 0) = Ideal.exp2 (Pow2.rowExp (rowR x g r)) := by
  obtain ⟨n, hn, e1, e2⟩ := Pow2.both_row _ h
  unfold scalesOf
  rw [pay13_apply, expo_apply]
  simp only [grp_apply]
  rw [e1, Pow2.scale n hn, ← e2]
end

section
variable (arg2 : Memref sig .tc .vmem S512x3584 .bf16) (harg2 : arg2.IsWhole) (arg3 : Memref sig .tc .vmem S1x3584 .f32) (harg3 : arg3.IsWhole)
  (x0 : Vec Ideal S512x3584 .bf16) (x1 : Vec Ideal S1x3584 .f32)

theorem ld_x (k : Fin k0_t1_loop.trips) (r : Fin 32) (j : Fin 3584) (s : Fin 512) (hs : s.val = 32 * k.val + r.val) :
    arg2.view.readAt (Elt Ideal) (Rect.unit (s := S512x3584) ![k0_off2 k 0, 0] S32x3584.size (inbX k)).toLoadRect (harg2.unread x0) (ix2 r j)
      = x0 (ix2 s j) := by
  rw [Memref.IsWhole.readAt_unread]
  have h := row0_eq k
  refine congrArg x0 (funext fun a => ?_)
  match a with
  | ⟨0, _⟩ => exact Fin.ext (by show k0_off2 k 0 + 1 * r.val = s.val; omega)
  | ⟨1, _⟩ => exact Fin.ext (by show 0 + 1 * j.val = j.val; omega)

theorem ld_w (j : Fin 3584) :
    arg3.view.readAt (Elt Ideal) (Rect.unit (s := S1x3584) ![0, 0] S1x3584.size inb_S1x3584_S1x3584_0_0).toLoadRect (harg3.unread x1) (ix2 0 j)
      = x1 (ix2 0 j) := by
  rw [Memref.IsWhole.readAt_unread]
  refine congrArg x1 (funext fun a => ?_)
  match a with
  | ⟨0, _⟩ => exact Subsingleton.elim (α := Fin 1) _ _
  | ⟨1, _⟩ => exact Fin.ext (by show 0 + 1 * j.val = j.val; omega)

/-- The normalised rows of a trip are those of the block. -/
theorem rows_apply (k : Fin k0_t1_loop.trips) (r : Fin 32) (j : Fin 3584) (s : Fin 512) (hs : s.val = 32 * k.val + r.val) :
    rows arg2 arg3 (harg2.unread x0) (harg3.unread x1) k (ix2 r j) = Cert.Norm.entry (fun j => x0 (ix2 s j)) (x1 (ix2 0 j)) j := by
  unfold rows
  rw [pay10_apply, ld_w]
  simp only [ld_x arg2 harg2 x0 k r _ s hs]
  exact Cert.Norm.entry_of_recip (fun j => x0 (ix2 s j)) _ j

/-- The normalised entries of a group of columns. -/
def rowG (f : Fin 3584 → EReal) (w : Fin 3584 → EReal) (g : Fin 28) : Fin 128 → EReal :=
  fun d => Cert.Norm.entry f (w ⟨128 * g.val + d.val, by omega⟩) ⟨128 * g.val + d.val, by omega⟩

variable (s : Fin 512)
  (hw : ∀ j, ∃ v : ℝ, |v| ≤ (2 : ℝ) ^ (128 : ℤ) ∧ x1 (ix2 0 j) = (v : EReal))

theorem row_eq (g : Fin 28) :
    rowR (rows arg2 arg3 (harg2.unread x0) (harg3.unread x1) (tripOf s)) g ⟨s.val % 32, Nat.mod_lt _ (by decide)⟩
      = rowG (fun j => x0 (ix2 s j)) (fun j => x1 (ix2 0 j)) g :=
  funext fun d => rows_apply arg2 harg2 arg3 harg3 x0 x1 (tripOf s) _ _ s (by show s.val = 32 * (s.val / 32) + s.val % 32; omega)

include hw

theorem row_fits (g : Fin 28) :
    Pow2.mag (rowR (rows arg2 arg3 (harg2.unread x0) (harg3.unread x1) (tripOf s)) g ⟨s.val % 32, Nat.mod_lt _ (by decide)⟩) * Pow2.recip
      < (((2 : ℝ) ^ (126 : ℤ) : ℝ) : EReal) := by
  rw [row_eq arg2 harg2 arg3 harg3 x0 x1 s g]
  exact Cert.Norm.group_fits _ fun d => Cert.Norm.entry_fits _ _ (hw _) _

/-- A code of a block's row. -/
theorem code_at (j : Fin 3584) :
    codesOf (rows arg2 arg3 (harg2.unread x0) (harg3.unread x1) (tripOf s)) (groupOf j) (inGroup (ix2 s j))
      = Pow2.code (Cert.Norm.entry (fun j => x0 (ix2 s j)) (x1 (ix2 0 j)) j)
          (Pow2.rowExp (rowG (fun j => x0 (ix2 s j)) (fun j => x1 (ix2 0 j)) (groupOf j))) := by
  refine (codes_apply _ (groupOf j) _ (row_fits arg2 harg2 arg3 harg3 x0 x1 s hw _) _).trans ?_
  rw [row_eq arg2 harg2 arg3 harg3 x0 x1 s]
  have e : (⟨128 * (groupOf j).val + j.val % 128, by have := (groupOf j).isLt; omega⟩ : Fin 3584) = j :=
    Fin.ext (by show 128 * (j.val / 128) + j.val % 128 = j.val; omega)
  show Pow2.code (Cert.Norm.entry _ (x1 (ix2 0 ⟨128 * (groupOf j).val + j.val % 128, _⟩)) ⟨128 * (groupOf j).val + j.val % 128, _⟩) _ = _
  rw [e]

/-- A scale of a block's row. -/
theorem scale_at (g : Fin 28) :
    scalesOf (rows arg2 arg3 (harg2.unread x0) (harg3.unread x1) (tripOf s)) (scaleCol g) (inScales (ix2 s g))
      = Ideal.exp2 (Pow2.rowExp (rowG (fun j => x0 (ix2 s j)) (fun j => x1 (ix2 0 j)) g)) := by
  refine (scale_apply _ g _ (row_fits arg2 harg2 arg3 harg3 x0 x1 s hw _)).trans ?_
  rw [row_eq arg2 harg2 arg3 harg3 x0 x1 s]
end

/-! ## The two arrays -/

/-- The codes of the rows of `a0`, normalised and scaled by `a1`. -/
def GQ (a0 : Vec Ideal S3968x3584 .bf16) (a1 : Vec Ideal S1x3584 .f32) : Vec Ideal S3968x3584 .fp8e4m3 := fun y =>
  Pow2.code (Cert.Norm.entry (fun j => a0 (ix2 (y 0) j)) (a1 (ix2 0 (y 1))) (y 1))
    (Pow2.rowExp (rowG (fun j => a0 (ix2 (y 0) j)) (fun j => a1 (ix2 0 j)) (groupOf (y 1))))

/-- Their scales. -/
def GS (a0 : Vec Ideal S3968x3584 .bf16) (a1 : Vec Ideal S1x3584 .f32) : Vec Ideal S3968x28 .f32 := fun y =>
  Ideal.exp2 (Pow2.rowExp (rowG (fun j => a0 (ix2 (y 0) j)) (fun j => a1 (ix2 0 j)) (y 1)))

end Cert.QkvIdeal.Pieces
end
-- ==== Proof.QkvTrack.lean ====
/- The call that normalises the rows and projects them, in its idealized text: its first two results are the codes and the
   scales of the normalised rows. They are stored in the first column block only, block by block of rows; the last row
   block is written back at the grid's last point, as the first column block left it. The other results are forgotten. -/
module

public import proofs.«01_k».proof.Proof.QkvFrameIdeal
public import proofs.«01_k».proof.Proof.QkvValue
public import Idealize.ShloMosaic.Lib.Pipeline.ValueKit

@[expose] public section

set_option maxRecDepth 16384

noncomputable section

namespace Cert.QkvIdeal.Track

open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.QkvIdeal.Gen

local notation "𝕄" => MT nD τ sig Unit (Elt Ideal) ℕ (UR sig nD τ) ℕ

variable (m : (ℓ : Loc nD τ sig) → Buf (Elt Ideal) ℓ) (ρ : Dev nD → PrngReg)

/-! ## The grid -/

theorem cond1_iff : ∀ t : Fin grid0.N, Iff (k0_cond1 (grid0.coords t) = 1#1) (t.val < 8) := by decide +kernel
theorem index0 : ∀ t : Fin grid0.N, ∀ a : Fin 2, cc0_transform_0 (grid0.coords t) a = (![min t.val 7, 0] : Fin 2 → ℕ) a := by decide +kernel
theorem index1 : ∀ t : Fin grid0.N, ∀ a : Fin 2, cc0_transform_1 (grid0.coords t) a = 0 := by decide +kernel
theorem index7 : ∀ t : Fin grid0.N, ∀ a : Fin 2, cc0_transform_7 (grid0.coords t) a = (![min t.val 7, 0] : Fin 2 → ℕ) a := by decide +kernel
theorem index8 : ∀ t : Fin grid0.N, ∀ a : Fin 2, cc0_transform_8 (grid0.coords t) a = (![min t.val 7, 0] : Fin 2 → ℕ) a := by decide +kernel
theorem ext0 : ∀ t : Fin grid0.N, ∀ a : Fin 2, win0_0.xsize (grid0.coords t) a = (![min 512 (3968 - 512 * min t.val 7), 3584] : Fin 2 → ℕ) a := by decide +kernel
theorem ext7 : ∀ t : Fin grid0.N, ∀ a : Fin 2, win0_7.xsize (grid0.coords t) a = (![min 512 (3968 - 512 * min t.val 7), 3584] : Fin 2 → ℕ) a := by decide +kernel
theorem ext8 : ∀ t : Fin grid0.N, ∀ a : Fin 2, win0_8.xsize (grid0.coords t) a = (![min 512 (3968 - 512 * min t.val 7), 28] : Fin 2 → ℕ) a := by decide +kernel
theorem flush7 : ∀ t : Fin grid0.N, win0_7.flush t = decide (t.val < 7 ∨ t.val = 71) := by decide +kernel
theorem flush8 : ∀ t : Fin grid0.N, win0_8.flush t = decide (t.val < 7 ∨ t.val = 71) := by decide +kernel
theorem idle_iff : ∀ t : Fin grid0.N, (!(k0_cond1 (grid0.coords t) == 1#1)) = decide (8 ≤ t.val) := by decide +kernel

/-! ## The blocks -/

/-- The activations and the norm's weights a device is given. -/
abbrev X (c : Dev nD) : Vec Ideal S3968x3584 .bf16 := m ((c : Thread nD τ).loc main_arg0)
abbrev W (c : Dev nD) : Vec Ideal S1x3584 .f32 := m ((c : Thread nD τ).loc main_arg1)

/-- What the precondition says of the weights. -/
def Fit : Prop := ∀ (c : Dev nD) (j : Fin 3584), ∃ v : ℝ, |v| ≤ (2 : ℝ) ^ (128 : ℤ) ∧ W m c (ix2 0 j) = (v : EReal)

/-- The rows of the activations fetched for a point. -/
theorem fill0_apply (c : Dev nD) (t : Fin grid0.N) (d : S512x3584.Idx → Elt Ideal .bf16) (r : Fin 512) (k : Fin 3584) (h : 512 * min t.val 7 + r.val < 3968) :
    win0_0.fill (grid0.coords t) d (iblk m c 0 t) (ix2 r k) = X m c (ix2 ⟨512 * min t.val 7 + r.val, h⟩ k) := by
  have hm : win0_0.moved (grid0.coords t) (ix2 r k : S512x3584.Idx) = true := (win0_0.moved_iff _ _).mpr fun a => by
    refine lt_of_lt_of_eq ?_ (ext0 t a).symm
    fin_cases a
    · show r.val < min 512 (3968 - 512 * min t.val 7); omega
    · exact k.isLt
  unfold Window.fill
  rw [dif_pos hm]
  unfold X
  rw [← V_main_arg0 m c]
  show (V m c main_arg0 : Vec Ideal S3968x3584 .bf16) ((win0_0.blk t).view.emb _) = _
  congr 1
  funext a
  fin_cases a
  · refine Fin.ext ?_
    show cc0_transform_0 (grid0.coords t) (0 : Fin 2) * 512 + 1 * r.val = 512 * min t.val 7 + r.val
    rw [index0 t 0]
    show min t.val 7 * 512 + 1 * r.val = 512 * min t.val 7 + r.val
    omega
  · refine Fin.ext ?_
    show cc0_transform_0 (grid0.coords t) (1 : Fin 2) * 3584 + 1 * k.val = k.val
    rw [index0 t 1]
    show 0 * 3584 + 1 * k.val = k.val
    omega

/-- The norm's weights at a point. -/
theorem iblk1_apply (c : Dev nD) (t : Fin grid0.N) (k : Fin 3584) :
    (iblk m c 1 t : Vec Ideal S1x3584 .f32) (ix2 0 k) = W m c (ix2 0 k) := by
  unfold W
  rw [← V_main_arg1 m c]
  show (V m c main_arg1 : Vec Ideal S1x3584 .f32) ((win0_1.blk t).view.emb (ix2 0 k)) = _
  congr 1
  funext a
  fin_cases a
  · refine Fin.ext ?_
    show cc0_transform_1 (grid0.coords t) (0 : Fin 2) * 1 + 1 * (0 : ℕ) = 0
    rw [index1 t 0]
  · refine Fin.ext ?_
    show cc0_transform_1 (grid0.coords t) (1 : Fin 2) * 3584 + 1 * k.val = k.val
    rw [index1 t 1]
    omega

/-- The codes of row block `b`, and zeros past the array's end. -/
def fullQ (c : Dev nD) (b : ℕ) : S512x3584.Idx → Elt Ideal .fp8e4m3 := fun z =>
  if h : 512 * b + (z 0).val < 3968 then Pieces.GQ (X m c) (W m c) (ix2 ⟨512 * b + (z 0).val, h⟩ (z 1)) else Scalar.ofBits (F := Ideal) .fp8e4m3 0#8

/-- The scales of row block `b`, and zeros past the array's end. -/
def fullS (c : Dev nD) (b : ℕ) : S512x28.Idx → Elt Ideal .f32 := fun z =>
  if h : 512 * b + (z 0).val < 3968 then Pieces.GS (X m c) (W m c) (ix2 ⟨512 * b + (z 0).val, h⟩ (z 1)) else Scalar.ofBits (F := Ideal) .f32 0#32

theorem moved7 (t : Fin grid0.N) (z : S512x3584.Idx) : Iff (win0_7.moved (grid0.coords t) z = true) (512 * min t.val 7 + (z 0).val < 3968) := by
  refine Iff.trans (win0_7.moved_iff _ _) ⟨fun h => ?_, fun h a => ?_⟩
  · have h0 : (z 0).val < min 512 (3968 - 512 * min t.val 7) := lt_of_lt_of_eq (h (0 : Fin 2)) (ext7 t 0)
    omega
  · refine lt_of_lt_of_eq ?_ (ext7 t a).symm
    have hz : (z 0).val < 512 := (z 0).isLt
    fin_cases a
    · show (z 0).val < min 512 (3968 - 512 * min t.val 7); omega
    · exact (z 1).isLt

theorem moved8 (t : Fin grid0.N) (z : S512x28.Idx) : Iff (win0_8.moved (grid0.coords t) z = true) (512 * min t.val 7 + (z 0).val < 3968) := by
  refine Iff.trans (win0_8.moved_iff _ _) ⟨fun h => ?_, fun h a => ?_⟩
  · have h0 : (z 0).val < min 512 (3968 - 512 * min t.val 7) := lt_of_lt_of_eq (h (0 : Fin 2)) (ext8 t 0)
    omega
  · refine lt_of_lt_of_eq ?_ (ext8 t a).symm
    have hz : (z 0).val < 512 := (z 0).isLt
    fin_cases a
    · show (z 0).val < min 512 (3968 - 512 * min t.val 7); omega
    · exact (z 1).isLt

section Stored
variable (hfit : Fit m) (c : Dev nD) (t : Fin grid0.N) (ht : t.val < 8) (arg2 : Memref sig .tc .vmem S512x3584 .bf16) (harg2 : arg2.IsWhole) (arg3 : Memref sig .tc .vmem S1x3584 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x128 .f32) (harg8 : arg8.IsWhole) (arg9 : Memref sig .tc .vmem S512x3584 .fp8e4m3) (harg9 : arg9.IsWhole) (arg10 : Memref sig .tc .vmem S512x28 .f32) (harg10 : arg10.IsWhole) (arg11 : Memref sig .tc .vmem S512x512 .bf16) (harg11 : arg11.IsWhole) (arg12 : Memref sig .tc .vmem S2x512x128 .i8) (harg12 : arg12.IsWhole) (arg13 : Memref sig .tc .vmem S2x512x1 .f32) (harg13 : arg13.IsWhole) (arg14 : Memref sig .tc .vmem S2x512x128 .i8) (harg14 : arg14.IsWhole) (arg15 : Memref sig .tc .vmem S2x512x1 .f32) (harg15 : arg15.IsWhole) (arg16 : Memref sig .tc .vmem S2x32x128 .i8) (harg16 : arg16.IsWhole) (arg17 : Memref sig .tc .vmem S2x32x1 .f32) (harg17 : arg17.IsWhole) (arg18 : Memref sig .tc .vmem S4096x3584 .bf16) (harg18 : arg18.IsWhole) (arg19 : Memref sig .tc .vmem S3584x512 .bf16) (harg19 : arg19.IsWhole) (arg20 : Memref sig .tc .vmem S2x128 .f32) (harg20 : arg20.IsWhole)
include hfit ht

/-- What a point of the first column block stores of the codes. -/
theorem stored_codes (d0 : S512x3584.Idx → Elt Ideal .bf16) (d9 : Vec Ideal S512x3584 .fp8e4m3) (z : S512x3584.Idx) (h : 512 * min t.val 7 + (z 0).val < 3968) :
    Step.newQ c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (win0_0.fill (grid0.coords t) d0 (iblk m c 0 t)) (iblk m c 1 t) d9 z = fullQ m c (min t.val 7) z := by
  obtain ⟨s, j, rfl⟩ : ∃ (s : Fin 512) (j : Fin 3584), z = ix2 s j := ⟨z 0, z 1, by funext a; fin_cases a <;> rfl⟩
  have h' : 512 * min t.val 7 + s.val < 3968 := h
  unfold Step.newQ fullQ
  rw [dif_pos ((cond1_iff t).mpr ht), dif_pos h]
  refine (Pieces.read_codes c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _).trans ?_
  refine (Pieces.code_at arg2 harg2 arg3 harg3 _ _ s (fun j => ?_) j).trans ?_
  · rw [iblk1_apply]; exact hfit c _
  · simp only [fill0_apply m c t d0 s _ h', iblk1_apply]
    rfl

/-- What a point of the first column block stores of the scales. -/
theorem stored_scales (d0 : S512x3584.Idx → Elt Ideal .bf16) (d10 : Vec Ideal S512x28 .f32) (z : S512x28.Idx) (h : 512 * min t.val 7 + (z 0).val < 3968) :
    Step.newS c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (win0_0.fill (grid0.coords t) d0 (iblk m c 0 t)) (iblk m c 1 t) d10 z = fullS m c (min t.val 7) z := by
  obtain ⟨s, g, rfl⟩ : ∃ (s : Fin 512) (g : Fin 28), z = ix2 s g := ⟨z 0, z 1, by funext a; fin_cases a <;> rfl⟩
  have h' : 512 * min t.val 7 + s.val < 3968 := h
  unfold Step.newS fullS
  rw [dif_pos ((cond1_iff t).mpr ht), dif_pos h]
  refine (Pieces.read_scales c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _).trans ?_
  refine (Pieces.scale_at arg2 harg2 arg3 harg3 _ _ s (fun j => ?_) g).trans ?_
  · rw [iblk1_apply]; exact hfit c _
  · simp only [fill0_apply m c t d0 s _ h', iblk1_apply]
    rfl
end Stored

/-! ## The run -/

/-- The proof data: the inputs' buffers hold their blocks; the first two results' buffers their rows' codes
    and scales; the others are forgotten. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => Scalar.ofBits (F := Ideal) .bf16 0#16) (iblk m c 0 t)
    | ⟨1, _⟩ => iblk m c 1 t
    | ⟨2, _⟩ => iblk m c 2 t
    | ⟨3, _⟩ => iblk m c 3 t
    | ⟨4, _⟩ => win0_4.fill (grid0.coords t) (fun _ => Scalar.ofBits (F := Ideal) .f32 0#32) (iblk m c 4 t)
    | ⟨5, _⟩ => win0_5.fill (grid0.coords t) (fun _ => Scalar.ofBits (F := Ideal) .f32 0#32) (iblk m c 5 t)
    | ⟨6, _⟩ => iblk m c 6 t
    | ⟨7, _⟩ => fullQ m c (min t.val 7)
    | ⟨8, _⟩ => fullS m c (min t.val 7)
    | ⟨9, _⟩ => fun _ => Scalar.ofBits (F := Ideal) .bf16 0#16
    | ⟨10, _⟩ => fun _ => (0#8 : BitVec 8)
    | ⟨11, _⟩ => fun _ => Scalar.ofBits (F := Ideal) .f32 0#32
    | ⟨12, _⟩ => fun _ => (0#8 : BitVec 8)
    | ⟨13, _⟩ => fun _ => Scalar.ofBits (F := Ideal) .f32 0#32
    | ⟨14, _⟩ => fun _ => (0#8 : BitVec 8)
    | ⟨15, _⟩ => fun _ => Scalar.ofBits (F := Ideal) .f32 0#32
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem blockOf_eq (c : Dev nD) (w : Fin cfg0.W) (t : Fin cfg0.N) : (dats m 0 c).blockOf w t = iblk m c w t := by
  unfold Dat.blockOf iblk
  rw [A_eq]

theorem before_0 (c : Dev nD) (t : Fin cfg0.N) (d) :
    (dats m 0 c).before 0 t d = win0_0.fill (grid0.coords t) d (iblk m c 0 t) := by
  refine ((dats m 0 c).before_in_eq_fetched 0 rfl (fun _ => rfl) (fun a b h => ?_) (fun t => ?_) t d).trans ?_
  · exact congrArg (fun ix : Fin 2 → ℕ => fun a => Pipeline.Clip.of (ix a) (S512x3584.size a) (S3968x3584.size a)) h
  · rw [blockOf_eq]; exact win0_0.cut_fill _ _ _
  · unfold Dat.fetched; rw [blockOf_eq]

theorem before_1 (c : Dev nD) (t : Fin cfg0.N) (d) : (dats m 0 c).before 1 t d = iblk m c 1 t :=
  before0_1_of m (dats m 0 c) (A_eq m c 1) (fun _ => by dsimp only [dats]) t d

theorem after_1 (c : Dev nD) (t : Fin cfg0.N) : (dats m 0 c).after 1 t = iblk m c 1 t := by dsimp only [dats]

theorem before_2 (c : Dev nD) (t : Fin cfg0.N) (d) : (dats m 0 c).before 2 t d = iblk m c 2 t :=
  before0_2_of m (dats m 0 c) (A_eq m c 2) (fun _ => by dsimp only [dats]) t d

theorem after_2 (c : Dev nD) (t : Fin cfg0.N) : (dats m 0 c).after 2 t = iblk m c 2 t := by dsimp only [dats]

theorem before_3 (c : Dev nD) (t : Fin cfg0.N) (d) : (dats m 0 c).before 3 t d = iblk m c 3 t :=
  before0_3_of m (dats m 0 c) (A_eq m c 3) (fun _ => by dsimp only [dats]) t d

theorem after_3 (c : Dev nD) (t : Fin cfg0.N) : (dats m 0 c).after 3 t = iblk m c 3 t := by dsimp only [dats]

theorem before_6 (c : Dev nD) (t : Fin cfg0.N) (d) : (dats m 0 c).before 6 t d = iblk m c 6 t :=
  before0_6_of m (dats m 0 c) (A_eq m c 6) (fun _ => by dsimp only [dats]) t d

theorem after_6 (c : Dev nD) (t : Fin cfg0.N) : (dats m 0 c).after 6 t = iblk m c 6 t := by dsimp only [dats]

theorem before_4 (c : Dev nD) (t : Fin cfg0.N) (d) :
    (dats m 0 c).before 4 t d = win0_4.fill (grid0.coords t) d (iblk m c 4 t) := by
  refine ((dats m 0 c).before_fetched 4 t (fetch0_4 t) d).trans ?_
  unfold Dat.fetched; rw [blockOf_eq]

theorem before_5 (c : Dev nD) (t : Fin cfg0.N) (d) :
    (dats m 0 c).before 5 t d = win0_5.fill (grid0.coords t) d (iblk m c 5 t) := by
  refine ((dats m 0 c).before_fetched 5 t (fetch0_5 t) d).trans ?_
  unfold Dat.fetched; rw [blockOf_eq]

/-- From the second column block on, the buffer holds the last row block, as the first column block left it. -/
theorem before_7 (c : Dev nD) (d) : ∀ (n : ℕ) (hn : n < cfg0.N), 8 ≤ n → ∀ z : S512x3584.Idx, 512 * 7 + (z 0).val < 3968 →
    (dats m 0 c).before 7 ⟨n, hn⟩ d z = fullQ m c 7 z
  | 0, _, h, _, _ => absurd h (by decide)
  | n + 1, hn, h, z, hz => by
    have hn' : n < grid0.N := Nat.lt_of_succ_lt hn
    have hN : n + 1 < 72 := hn
    rw [(dats m 0 c).before_of_pos 7 ⟨n + 1, hn⟩ (Nat.succ_ne_zero n) rfl d]
    have hf : win0_7.flush ⟨n, hn'⟩ = false := by
      rw [flush7]; exact decide_eq_false (by show ¬(n < 7 ∨ n = 71); omega)
    rw [if_neg (by show ¬(win0_7.flush ⟨n, hn'⟩ = true); rw [hf]; decide)]
    show (dats m 0 c).left 7 ⟨n, hn'⟩ d z = _
    by_cases h8 : 8 ≤ n
    · have hi : cfg0.idle 7 (cfg0.grid.coords ⟨n, hn'⟩) = true := (idle_iff ⟨n, hn'⟩).trans (decide_eq_true h8)
      unfold Dat.left
      rw [hi]
      exact before_7 c d n hn' h8 z hz
    · have h7 : n = 7 := by omega
      have hi : cfg0.idle 7 (cfg0.grid.coords ⟨n, hn'⟩) = false := (idle_iff ⟨n, hn'⟩).trans (decide_eq_false h8)
      have hm : min n 7 = 7 := by omega
      unfold Dat.left
      rw [hi]
      show win0_7.fill (grid0.coords ⟨n, hn'⟩) d (win0_7.cut (grid0.coords ⟨n, hn'⟩) (fullQ m c (min n 7))) z = _
      unfold Window.fill
      rw [dif_pos ((moved7 ⟨n, hn'⟩ z).mpr (by show 512 * min n 7 + (z 0).val < 3968; rw [hm]; exact hz))]
      show fullQ m c (min n 7) z = fullQ m c 7 z
      rw [hm]

/-- Contents that agree with the row block inside the array. -/
theorem keep_7 (c : Dev nD) (t : Fin grid0.N) (Y : S512x3584.Idx → Elt Ideal .fp8e4m3) (h : ∀ z : S512x3584.Idx, 512 * min t.val 7 + (z 0).val < 3968 → Y z = fullQ m c (min t.val 7) z) :
    Y = win0_7.fill (grid0.coords t) Y (win0_7.cut (grid0.coords t) (fullQ m c (min t.val 7))) := by
  funext z
  unfold Window.fill
  split
  · exact h z ((moved7 t z).mp (by assumption))
  · rfl

/-- What the body leaves in the buffer, when it stored the row block in the first column block and nothing after. -/
theorem leaves_7 (c : Dev nD) (t : Fin cfg0.N) (d) (Y : S512x3584.Idx → Elt Ideal .fp8e4m3)
    (h1 : t.val < 8 → ∀ z : S512x3584.Idx, 512 * min t.val 7 + (z 0).val < 3968 → Y z = fullQ m c (min t.val 7) z)
    (h2 : ¬t.val < 8 → Y = (dats m 0 c).before 7 t d) : (dats m 0 c).Leaves 7 t Y := by
  by_cases h8 : t.val < 8
  · have hi : cfg0.idle 7 (cfg0.grid.coords t) = false := (idle_iff t).trans (decide_eq_false (by omega))
    exact (Dat.Leaves.live_iff _ (.inl hi)).mpr ⟨Y, keep_7 m c t Y (h1 h8)⟩
  · have hi : cfg0.idle 7 (cfg0.grid.coords t) = true := (idle_iff t).trans (decide_eq_true (by omega))
    cases hf : (cfg0.win 7).flush t with
    | false => exact (Dat.Leaves.idle_iff _ hi hf).mpr ⟨d, h2 h8⟩
    | true =>
      refine (Dat.Leaves.live_iff _ (.inr hf)).mpr ⟨Y, keep_7 m c t Y fun z hz => ?_⟩
      have hm : min t.val 7 = 7 := by omega
      rw [hm] at hz ⊢
      rw [h2 h8]
      exact before_7 m c d t.val t.isLt (by omega) z hz

/-- From the second column block on, the buffer holds the last row block, as the first column block left it. -/
theorem before_8 (c : Dev nD) (d) : ∀ (n : ℕ) (hn : n < cfg0.N), 8 ≤ n → ∀ z : S512x28.Idx, 512 * 7 + (z 0).val < 3968 →
    (dats m 0 c).before 8 ⟨n, hn⟩ d z = fullS m c 7 z
  | 0, _, h, _, _ => absurd h (by decide)
  | n + 1, hn, h, z, hz => by
    have hn' : n < grid0.N := Nat.lt_of_succ_lt hn
    have hN : n + 1 < 72 := hn
    rw [(dats m 0 c).before_of_pos 8 ⟨n + 1, hn⟩ (Nat.succ_ne_zero n) rfl d]
    have hf : win0_8.flush ⟨n, hn'⟩ = false := by
      rw [flush8]; exact decide_eq_false (by show ¬(n < 7 ∨ n = 71); omega)
    rw [if_neg (by show ¬(win0_8.flush ⟨n, hn'⟩ = true); rw [hf]; decide)]
    show (dats m 0 c).left 8 ⟨n, hn'⟩ d z = _
    by_cases h8 : 8 ≤ n
    · have hi : cfg0.idle 8 (cfg0.grid.coords ⟨n, hn'⟩) = true := (idle_iff ⟨n, hn'⟩).trans (decide_eq_true h8)
      unfold Dat.left
      rw [hi]
      exact before_8 c d n hn' h8 z hz
    · have h7 : n = 7 := by omega
      have hi : cfg0.idle 8 (cfg0.grid.coords ⟨n, hn'⟩) = false := (idle_iff ⟨n, hn'⟩).trans (decide_eq_false h8)
      have hm : min n 7 = 7 := by omega
      unfold Dat.left
      rw [hi]
      show win0_8.fill (grid0.coords ⟨n, hn'⟩) d (win0_8.cut (grid0.coords ⟨n, hn'⟩) (fullS m c (min n 7))) z = _
      unfold Window.fill
      rw [dif_pos ((moved8 ⟨n, hn'⟩ z).mpr (by show 512 * min n 7 + (z 0).val < 3968; rw [hm]; exact hz))]
      show fullS m c (min n 7) z = fullS m c 7 z
      rw [hm]

/-- Contents that agree with the row block inside the array. -/
theorem keep_8 (c : Dev nD) (t : Fin grid0.N) (Y : S512x28.Idx → Elt Ideal .f32) (h : ∀ z : S512x28.Idx, 512 * min t.val 7 + (z 0).val < 3968 → Y z = fullS m c (min t.val 7) z) :
    Y = win0_8.fill (grid0.coords t) Y (win0_8.cut (grid0.coords t) (fullS m c (min t.val 7))) := by
  funext z
  unfold Window.fill
  split
  · exact h z ((moved8 t z).mp (by assumption))
  · rfl

/-- What the body leaves in the buffer, when it stored the row block in the first column block and nothing after. -/
theorem leaves_8 (c : Dev nD) (t : Fin cfg0.N) (d) (Y : S512x28.Idx → Elt Ideal .f32)
    (h1 : t.val < 8 → ∀ z : S512x28.Idx, 512 * min t.val 7 + (z 0).val < 3968 → Y z = fullS m c (min t.val 7) z)
    (h2 : ¬t.val < 8 → Y = (dats m 0 c).before 8 t d) : (dats m 0 c).Leaves 8 t Y := by
  by_cases h8 : t.val < 8
  · have hi : cfg0.idle 8 (cfg0.grid.coords t) = false := (idle_iff t).trans (decide_eq_false (by omega))
    exact (Dat.Leaves.live_iff _ (.inl hi)).mpr ⟨Y, keep_8 m c t Y (h1 h8)⟩
  · have hi : cfg0.idle 8 (cfg0.grid.coords t) = true := (idle_iff t).trans (decide_eq_true (by omega))
    cases hf : (cfg0.win 8).flush t with
    | false => exact (Dat.Leaves.idle_iff _ hi hf).mpr ⟨d, h2 h8⟩
    | true =>
      refine (Dat.Leaves.live_iff _ (.inr hf)).mpr ⟨Y, keep_8 m c t Y fun z hz => ?_⟩
      have hm : min t.val 7 = 7 := by omega
      rw [hm] at hz ⊢
      rw [h2 h8]
      exact before_8 m c d t.val t.isLt (by omega) z hz

/-- A buffer at contents the obligation allows is what the obligation asks for. -/
theorem give {cfg : Cfg sig Λ₀} (c : Dev nD) (dat : Dat τ (Elt Ideal) Unit ℕ (UR sig nD τ) ℕ cfg c) (w : Fin cfg.W) (t : Fin cfg.N) (Y) (h : dat.Leaves w t Y) :
    (owns (c : Thread nD τ) ((cfg.win w).stage (cfg.slots t w)) fullShare Y : sProp 𝕄) ⊢ dat.leaves w t := by
  unfold Dat.Leaves at h
  unfold Dat.leaves
  cases hi : cfg.idle w (cfg.grid.coords t) <;> cases hf : (cfg.win w).flush t <;> cases hl : cfg.loose w <;>
    simp only [hi, hf, hl] at h ⊢ <;>
    first
      | (subst h; exact Laws.entails_refl _)
      | (obtain ⟨d, rfl⟩ := h; iintro H; iexists d; iexact H)

/-- The other results' buffers are the ones forgotten. -/
def forgotten : Fin cfg0.W → Bool := fun w => decide (9 ≤ w.val)

theorem defs₀_row (t : Fin cfg0.N) : defs₀ (F := Ideal) .tc cfg0.body (cfg0.bodyArgs t (cfg0.slots t)) = bodyAt0 t := by
  unfold defs₀; rw [Defs.onTc_tc]

/-- The body's obligation at every point. -/
theorem body_obligation (hfit : Fit m) (c : Dev nD) : BodyObligationLoose (dats m 0 c) (defs₀ (F := Ideal)) Variants.none () Set.univ forgotten := fun t => by
  rw [bigSep_W0, bigSep_W0, defs₀_row]
  simp only [show forgotten (0 : Fin cfg0.W) = false from rfl,
    show forgotten (1 : Fin cfg0.W) = false from rfl,
    show forgotten (2 : Fin cfg0.W) = false from rfl,
    show forgotten (3 : Fin cfg0.W) = false from rfl,
    show forgotten (4 : Fin cfg0.W) = false from rfl,
    show forgotten (5 : Fin cfg0.W) = false from rfl,
    show forgotten (6 : Fin cfg0.W) = false from rfl,
    show forgotten (7 : Fin cfg0.W) = false from rfl,
    show forgotten (8 : Fin cfg0.W) = false from rfl,
    show forgotten (9 : Fin cfg0.W) = true from rfl,
    show forgotten (10 : Fin cfg0.W) = true from rfl,
    show forgotten (11 : Fin cfg0.W) = true from rfl,
    show forgotten (12 : Fin cfg0.W) = true from rfl,
    show forgotten (13 : Fin cfg0.W) = true from rfl,
    show forgotten (14 : Fin cfg0.W) = true from rfl,
    show forgotten (15 : Fin cfg0.W) = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  rw [Frame.PhiA0_eq]
  unfold bodyAt0
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12, H13, H14, H15⟩
  rw [before_0, before_1, before_2, before_3, before_4, before_5, before_6]
  iapply (Step.run c (grid0.coords t) _ _ _ _ _ _ _ _ _ _ _ _ _ _ _ _ _ _ _ _ _ _ _ _ _ _ _ _ _ _ _ _ _ _ _ _ _ _
    (win0_0.fill (grid0.coords t) d0 (iblk m c 0 t)) (iblk m c 1 t) (iblk m c 2 t) (iblk m c 3 t) (win0_4.fill (grid0.coords t) d4 (iblk m c 4 t)) (win0_5.fill (grid0.coords t) d5 (iblk m c 5 t)) (iblk m c 6 t) ((dats m 0 c).before 7 t d7) ((dats m 0 c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  iintro ⟨H0, H1, H2, H3, H4, H5, H6, H7, H8, H9, H10, H11, H12, H13, H14, H15, HS0, HS1, HS2⟩
  isplitl [HS0 HS1 HS2 Hg]
  · isplitl [HS0 HS1 HS2]
    · isplitl [HS0]; · iexact HS0
      isplitl [HS1]; · iexact HS1
      iexact HS2
    · iexact Hg
  isplitl [Ho]; · iexact Ho
  isplitl [H0]
  · iexists d0
    change _ ⊢ owns (c : Thread nD τ) (win0_0.stage (cfg0.slots t 0)) fullShare (win0_0.fill (grid0.coords t) d0 (win0_0.cut (grid0.coords t) (win0_0.fill (grid0.coords t) (fun _ => Scalar.ofBits (F := Ideal) .bf16 0#16) (iblk m c 0 t))))
    rw [win0_0.cut_fill]
  isplitl [H1]
  · rw [after_1]; iexact H1
  isplitl [H2]
  · rw [after_2]; iexact H2
  isplitl [H3]
  · rw [after_3]; iexact H3
  isplitl [H4]
  · iexists d4
    change _ ⊢ owns (c : Thread nD τ) (win0_4.stage (cfg0.slots t 4)) fullShare (win0_4.fill (grid0.coords t) d4 (win0_4.cut (grid0.coords t) (win0_4.fill (grid0.coords t) (fun _ => Scalar.ofBits (F := Ideal) .f32 0#32) (iblk m c 4 t))))
    rw [win0_4.cut_fill]
  isplitl [H5]
  · iexists d5
    change _ ⊢ owns (c : Thread nD τ) (win0_5.stage (cfg0.slots t 5)) fullShare (win0_5.fill (grid0.coords t) d5 (win0_5.cut (grid0.coords t) (win0_5.fill (grid0.coords t) (fun _ => Scalar.ofBits (F := Ideal) .f32 0#32) (iblk m c 5 t))))
    rw [win0_5.cut_fill]
  isplitl [H6]
  · rw [after_6]; iexact H6
  isplitl [H7]
  · change _ ⊢ (dats m 0 c).leaves 7 t
    iapply (give c (dats m 0 c) 7 t _ (leaves_7 m c t d7 _
      (fun ht => stored_codes m hfit c t ht _ _ _ _ _ _ _ _ _ _ _ _ _ _ _ _ _ _ _ _ _ _ _ _ _ _ _ _ _ _ _ _ _ _ _ _ _ _ d0 _)
      (fun ht => by unfold Step.newQ; rw [dif_neg (fun h => ht ((cond1_iff t).mp h))])))
  isplitl [H8]
  · change _ ⊢ (dats m 0 c).leaves 8 t
    iapply (give c (dats m 0 c) 8 t _ (leaves_8 m c t d8 _
      (fun ht => stored_scales m hfit c t ht _ _ _ _ _ _ _ _ _ _ _ _ _ _ _ _ _ _ _ _ _ _ _ _ _ _ _ _ _ _ _ _ _ _ _ _ _ _ d0 _)
      (fun ht => by unfold Step.newS; rw [dif_neg (fun h => ht ((cond1_iff t).mp h))])))
  isplitl [H9]; · iexact H9
  isplitl [H10]; · iexact H10
  isplitl [H11]; · iexact H11
  isplitl [H12]; · iexact H12
  isplitl [H13]; · iexact H13
  isplitl [H14]; · iexact H14
  iexact H15

-- the launch theorem's implicit arguments are found by unifying its conclusion with this one
set_option backward.isDefEq.respectTransparency.types false in
/-- The run, the other results forgotten. -/
theorem run_main (hfit : Fit m) : θ_run defs (onTc (τ := τ) (main (F := Ideal))) (s₀ m ρ)
    (fun r => Pipeline.RDat.FramePost cfg0 (fun c => (dats m 0 c).toRForget forgotten) (V m) r ∧ r.2.sem = fun _ => 0) :=
  Pipeline.θ_run_frame_forget (Q' := _) cfgs (dats m) (0 : Fin 1) launch0 defs₀ Variants.none forgotten m ρ main
    (hbody := fun c => body_obligation m hfit c) (hshare := fun c => (dats m 0 c).share_full fun _ => rfl)
    (howed := fun _ _ => rfl) (V := V m) (hmain := hmain m Variants.none) (hA := A_eq m) (hΦ := fun _ _ => rfl)

/-- The array of codes after the run. -/
theorem final7 (c : Dev nD) : (dats m 0 c).arrAt 7 cfg0.N = Pieces.GQ (X m c) (W m c) := by
  refine (dats m 0 c).arrAt_eq_of_covers 7 (Pieces.GQ (X m c) (W m c)) (by decide +kernel) fun t hf y => ?_
  show fullQ m c (min t.val 7) (win0_7.xinj (grid0.coords t) y) = Pieces.GQ (X m c) (W m c) ((win0_7.blk t).view.emb y)
  have h : 512 * min t.val 7 + ((win0_7.xinj (grid0.coords t) y) 0).val < 3968 := (moved7 t _).mp (win0_7.moved_xinj (grid0.coords t) y)
  unfold fullQ
  rw [dif_pos h]
  congr 1
  funext a
  fin_cases a
  · refine Fin.ext ?_
    show 512 * min t.val 7 + (y (0 : Fin 2)).val = cc0_transform_7 (grid0.coords t) (0 : Fin 2) * 512 + 1 * (y (0 : Fin 2)).val
    rw [index7 t 0]
    show 512 * min t.val 7 + (y (0 : Fin 2)).val = min t.val 7 * 512 + 1 * (y (0 : Fin 2)).val
    omega
  · refine Fin.ext ?_
    show (y (1 : Fin 2)).val = cc0_transform_7 (grid0.coords t) (1 : Fin 2) * 3584 + 1 * (y (1 : Fin 2)).val
    rw [index7 t 1]
    show (y (1 : Fin 2)).val = 0 * 3584 + 1 * (y (1 : Fin 2)).val
    omega

/-- The array of scales after the run. -/
theorem final8 (c : Dev nD) : (dats m 0 c).arrAt 8 cfg0.N = Pieces.GS (X m c) (W m c) := by
  refine (dats m 0 c).arrAt_eq_of_covers 8 (Pieces.GS (X m c) (W m c)) (by decide +kernel) fun t hf y => ?_
  show fullS m c (min t.val 7) (win0_8.xinj (grid0.coords t) y) = Pieces.GS (X m c) (W m c) ((win0_8.blk t).view.emb y)
  have h : 512 * min t.val 7 + ((win0_8.xinj (grid0.coords t) y) 0).val < 3968 := (moved8 t _).mp (win0_8.moved_xinj (grid0.coords t) y)
  unfold fullS
  rw [dif_pos h]
  congr 1
  funext a
  fin_cases a
  · refine Fin.ext ?_
    show 512 * min t.val 7 + (y (0 : Fin 2)).val = cc0_transform_8 (grid0.coords t) (0 : Fin 2) * 512 + 1 * (y (0 : Fin 2)).val
    rw [index8 t 0]
    show 512 * min t.val 7 + (y (0 : Fin 2)).val = min t.val 7 * 512 + 1 * (y (0 : Fin 2)).val
    omega
  · refine Fin.ext ?_
    show (y (1 : Fin 2)).val = cc0_transform_8 (grid0.coords t) (1 : Fin 2) * 28 + 1 * (y (1 : Fin 2)).val
    rw [index8 t 1]
    show (y (1 : Fin 2)).val = 0 * 28 + 1 * (y (1 : Fin 2)).val
    omega

/-- The run's results: the arrays of codes and scales, and the arguments as they were. -/
theorem run (hfit : Fit m) : θ_run defs (onTc (τ := τ) (main (F := Ideal))) ⟨m, fun _ => 0, ρ⟩ (fun r => ∀ c : Dev nD,
      r.2.mem ((c.tc : Thread nD τ).loc main_v0_0) = Pieces.GQ (X m c) (W m c)
      ∧ r.2.mem ((c.tc : Thread nD τ).loc main_v0_1) = Pieces.GS (X m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      (((dats m 0 c).toRForget_arrAt_iff rfl _ _).mp ((h.1 c).1 7)).trans (final7 m c),
      (((dats m 0 c).toRForget_arrAt_iff rfl _ _).mp ((h.1 c).1 8)).trans (final8 m c),
      (h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c)),
      (h.1.arr_in c 6 rfl).trans ((A_eq m c 6).trans (V_main_arg6 m c))⟩) (run_main m ρ hfit)

end Cert.QkvIdeal.Track
end
-- ==== Proof.NormRef.lean ====
/- The reference's normalised rows, their codes and their scales, over the extended reals. -/
module

public import proofs.«01_k».proof.Proof.Gen.NormReferenceIdeal.Value
public import proofs.«01_k».proof.Proof.QkvValue

@[expose] public section

set_option maxRecDepth 16384

noncomputable section

namespace Cert.NormReferenceIdeal.RefNorm

open Idealize.ShloMosaic Idealize.ShloMosaic.TcCoe Idealize.ShloMosaic.Tactic Idealize.ShloMosaic.Pointwise
open Cert.NormReferenceIdeal Cert.NormReferenceIdeal.Gen

/-- A maximum along the last of three axes, at an index, whatever the axes' sizes. -/
theorem max_last {n0 n1 n2 : ℕ} (v : FVec Ideal ⟨3, ![n0, n1, n2]⟩ .f32) (acc : BitVec 32)
    (h : (⟨3, ![n0, n1, n2]⟩ : Shape).Reduces [2] ⟨2, ![n0, n1]⟩) (h1) (h2) (a : Fin n0) (b : Fin n1) :
    multiReduction .maximumf [2] ⟨2, ![n0, n1]⟩ v acc h h1 h2 (ix2 a b)
      = Finset.univ.fold max (Ideal.ofBits FTy.f32 acc) fun j : Fin n2 => v (ix3 a b j) := by
  rw [multiReduction_maximumf_eq_fold]
  exact h.fold_fiber_r3_a2 (ix2 a b) _ _ _

/-- The codes laid out by row. -/
theorem codes_apply (v42 : FVec Ideal S3968x28x128 .f32) (s : Fin 3968) (k : Fin 3584) :
    k0_pay1 (F := Ideal) v42 (Scalar.ofBits (F := Ideal) .f32 0xC3E00000#32) (ix2 s k)
      = min (Ideal.ofBits FTy.f32 1138753536#32) (max (Ideal.ofBits FTy.f32 3286237184#32) (v42 (ix3 s ⟨k.val / 128, by omega⟩ ⟨k.val % 128, by omega⟩))) := by
  pointwise [k0_pay1]

/-- The scales laid out by row. -/
theorem scale_apply (v : FVec Ideal S3968x28x1 .f32) (s : Fin 3968) (g : Fin 28) :
    k0_pay2 v (ix2 s g) = Ideal.exp2 (v (ix3 s g 0)) := by
  pointwise [k0_pay2]
  rfl

/-- An axis of size one added. -/
def row1 (w : FVec Ideal S3968x28 .f32) : FVec Ideal S3968x28x1 .f32 := shapeCast S3968x28x1 w shapeCasts_S3968x28_S3968x28x1

theorem row1_apply (w : FVec Ideal S3968x28 .f32) (s : Fin 3968) (g : Fin 28) : row1 w (ix3 s g 0) = w (ix2 s g) := by
  pointwise [row1]

/-- The maximum over the 128 components of a row. -/
def max128 (v : FVec Ideal S3968x28x128 .f32) : FVec Ideal S3968x28 .f32 :=
  multiReduction .maximumf [2] S3968x28 v 0xFF800000#32 reduces_S3968x28x128_S3968x28 (.inl rfl) rfl

/-- The maximum over the 256 exponents. -/
def max256 (v : FVec Ideal S3968x28x256 .f32) : FVec Ideal S3968x28 .f32 :=
  multiReduction .maximumf [2] S3968x28 v 0xFF800000#32 reduces_S3968x28x256_S3968x28 (.inl rfl) rfl

theorem max128_apply (v : FVec Ideal S3968x28x128 .f32) (s : Fin 3968) (g : Fin 28) :
    max128 v (ix2 s g) = Finset.univ.fold max (Ideal.ofBits FTy.f32 4286578688#32) fun j : Fin 128 => v (ix3 s g j) :=
  max_last v 0xFF800000#32 reduces_S3968x28x128_S3968x28 (.inl rfl) rfl s g

theorem max256_apply (v : FVec Ideal S3968x28x256 .f32) (s : Fin 3968) (g : Fin 28) :
    max256 v (ix2 s g) = Finset.univ.fold max (Ideal.ofBits FTy.f32 4286578688#32) fun j : Fin 256 => v (ix3 s g j) :=
  max_last v 0xFF800000#32 reduces_S3968x28x256_S3968x28 (.inl rfl) rfl s g

/-- The exponents, one per lane. -/
def lane : FVec Ideal S3968x28x256 .f32 :=
  subf (sitofp .f32 (iota .tc S3968x28x256 32 [2] iota_S3968x28x256_d2_w32)) (broadcast S3968x28x256 (Scalar.ofBits (F := Ideal) .f32 0x42FE0000#32))

/-- The exponents whose power of two is at most `x`, each plus one, the others' place taken by -126. -/
def cand (x : FVec Ideal S3968x28x1 .f32) : FVec Ideal S3968x28x256 .f32 :=
  select (cmpf .ole (exp2 lane) (broadcastTo S3968x28x256 x broadcasts_S3968x28x1_S3968x28x256))
    (addf lane (broadcast S3968x28x256 (Scalar.ofBits (F := Ideal) .f32 0x3F800000#32)))
    (broadcast S3968x28x256 (Scalar.ofBits (F := Ideal) .f32 0xC2FC0000#32))

/-- The magnitude over 448. -/
def over (a : FVec Ideal S3968x28x1 .f32) : FVec Ideal S3968x28x1 .f32 :=
  mulf a (broadcast S3968x28x1 (Scalar.ofBits (F := Ideal) .f32 0x3B124925#32))

/-- The exponent, 0 where the magnitude is 0. -/
def orZero (a e : FVec Ideal S3968x28x1 .f32) : FVec Ideal S3968x28x1 .f32 :=
  select (cmpf .oeq a (broadcast S3968x28x1 (Scalar.ofBits (F := Ideal) .f32 0x00000000#32)))
    (broadcast S3968x28x1 (Scalar.ofBits (F := Ideal) .f32 0x00000000#32)) e

/-- The entries over their powers of two. -/
def scaled (x : FVec Ideal S3968x28x128 .f32) (e : FVec Ideal S3968x28x1 .f32) : FVec Ideal S3968x28x128 .f32 :=
  mulf x (broadcastTo S3968x28x128 (exp2 (subf (broadcast S3968x28x1 (Scalar.ofBits (F := Ideal) .f32 0x00000000#32)) e)) broadcasts_S3968x28x1_S3968x28x128)

theorem scaled_apply (x : FVec Ideal S3968x28x128 .f32) (e : FVec Ideal S3968x28x1 .f32) (s : Fin 3968) (g : Fin 28) (d : Fin 128) :
    scaled x e (ix3 s g d) = x (ix3 s g d) * Ideal.exp2 (0 - e (ix3 s g 0)) := by
  pointwise [scaled]
  rfl

theorem lane_apply (s : Fin 3968) (g : Fin 28) (k : Fin 256) :
    lane (ix3 s g k) = ((k.val : ℝ) : EReal) - ((127 : ℝ) : EReal) := by
  pointwise [lane]
  rw [Pow2.w127]
  show (((BitVec.ofNat 32 k.val).toInt : ℝ) : EReal) - _ = _
  have e : (BitVec.ofNat 32 k.val).toInt = (k.val : ℤ) := by
    have := k.isLt
    rw [BitVec.toInt_eq_toNat_cond]
    simp only [BitVec.toNat_ofNat]
    split <;> omega
  rw [e]
  rfl

theorem cand_apply (x : FVec Ideal S3968x28x1 .f32) (s : Fin 3968) (g : Fin 28) (k : Fin 256) :
    cand x (ix3 s g k) = if Ideal.exp2 ((((k.val : ℝ) : EReal)) - ((127 : ℝ) : EReal)) ≤ x (ix3 s g 0) then (((k.val : ℝ) : EReal)) - ((127 : ℝ) : EReal) + 1 else ((-126 : ℝ) : EReal) := by
  rw [← lane_apply s g k]
  pointwise [cand]
  rw [Pow2.wm126]
  rfl

theorem over_apply (a : FVec Ideal S3968x28x1 .f32) (s : Fin 3968) (g : Fin 28) :
    over a (ix3 s g 0) = a (ix3 s g 0) * Pow2.recip := by
  pointwise [over]
  rfl

theorem orZero_apply (a e : FVec Ideal S3968x28x1 .f32) (s : Fin 3968) (g : Fin 28) :
    orZero a e (ix3 s g 0) = if a (ix3 s g 0) = 0 then 0 else e (ix3 s g 0) := by
  pointwise [orZero]

section
variable (a0 : Vec Ideal S3968x3584 .bf16) (a1 : Vec Ideal S1x3584 .f32)

/-- The reference's normalised entries. -/
theorem x_apply (s : Fin 3968) (g : Fin 28) (d : Fin 128) :
    k0_pay3 a0 a1 (ix3 s g d) = Cert.QkvIdeal.Pieces.rowG (fun j => a0 (ix2 s j)) (fun j => a1 (ix2 0 j)) g d := by
  have e : (⟨g.val * 128 + d.val, by omega⟩ : Fin 3584) = ⟨128 * g.val + d.val, by omega⟩ := Fin.ext (by show g.val * 128 + d.val = 128 * g.val + d.val; omega)
  pointwise [k0_pay3]
  rw [e]
  rfl

theorem pay5_eq : k0_pay5 a0 a1 = scaled (k0_pay3 a0 a1) (k0_pay4 a0 a1) := rfl

theorem pay4_eq : k0_pay4 a0 a1
    = orZero (row1 (max128 (absf (k0_pay3 a0 a1)))) (row1 (max256 (cand (over (row1 (max128 (absf (k0_pay3 a0 a1)))))))) := rfl

/-- The exponent of a row's scale. -/
theorem e_apply (s : Fin 3968) (g : Fin 28) :
    k0_pay4 a0 a1 (ix3 s g 0) = Pow2.rowExp fun d => k0_pay3 a0 a1 (ix3 s g d) := by
  have hm : row1 (max128 (absf (k0_pay3 a0 a1))) (ix3 s g 0) = Pow2.mag fun d => k0_pay3 a0 a1 (ix3 s g d) := by
    rw [row1_apply, max128_apply, Pow2.bot_word]
    rfl
  rw [pay4_eq, orZero_apply, hm, row1_apply, max256_apply, Pow2.bot_word]
  simp only [cand_apply, over_apply, hm]
  rfl

theorem exp_eq (s : Fin 3968) (g : Fin 28) :
    k0_pay4 a0 a1 (ix3 s g 0) = Pow2.rowExp (Cert.QkvIdeal.Pieces.rowG (fun j => a0 (ix2 s j)) (fun j => a1 (ix2 0 j)) g) :=
  (e_apply a0 a1 s g).trans (congrArg Pow2.rowExp (funext fun d => x_apply a0 a1 s g d))

theorem pay5_apply (s : Fin 3968) (g : Fin 28) (d : Fin 128) :
    k0_pay5 a0 a1 (ix3 s g d) = k0_pay3 a0 a1 (ix3 s g d) * Ideal.exp2 (0 - k0_pay4 a0 a1 (ix3 s g 0)) := by
  rw [pay5_eq]
  exact scaled_apply _ _ s g d

/-- THE REFERENCE'S CODES. -/
theorem G2_eq : Value.G2 (F := Ideal) a0 a1 = Cert.QkvIdeal.Pieces.GQ a0 a1 := by
  funext y
  obtain ⟨s, k, rfl⟩ : ∃ (s : Fin 3968) (k : Fin 3584), y = ix2 s k := ⟨y 0, y 1, by funext a; fin_cases a <;> rfl⟩
  refine (codes_apply _ s k).trans ?_
  rw [pay5_apply, exp_eq, x_apply]
  have e : (⟨128 * (k.val / 128) + k.val % 128, by omega⟩ : Fin 3584) = k :=
    Fin.ext (by show 128 * (k.val / 128) + k.val % 128 = k.val; omega)
  show Pow2.code (Cert.Norm.entry _ (a1 (ix2 0 ⟨128 * (k.val / 128) + k.val % 128, _⟩)) ⟨128 * (k.val / 128) + k.val % 128, _⟩) _ = _
  rw [e]
  rfl

/-- THE REFERENCE'S SCALES. -/
theorem G3_eq : Value.G3 (F := Ideal) a0 a1 = Cert.QkvIdeal.Pieces.GS a0 a1 := by
  funext y
  obtain ⟨s, g, rfl⟩ : ∃ (s : Fin 3968) (g : Fin 28), y = ix2 s g := ⟨y 0, y 1, by funext a; fin_cases a <;> rfl⟩
  refine (scale_apply _ s g).trans ?_
  rw [exp_eq]
  rfl
end

end Cert.NormReferenceIdeal.RefNorm
end
-- ==== Proof.NormInRange.lean ====
/- What the precondition of the normalising call says of its arguments. -/
module

public import proofs.«01_k».proof.Pre_norm_in_range
public import proofs.«01_k».proof.Proof.InRange

@[expose] public section

noncomputable section

namespace Cert.QkvIdeal.Pre

open Idealize.ShloMosaic Cert.Pre_norm_in_range

instance factsPre : Cert.Pre_norm_in_range.Facts where
  bcast_S_S1x3584 := by decide

variable (a0 : FVec Ideal S3968x3584 .bf16) (a1 : FVec Ideal S1x3584 .f32) (a2 : FVec Ideal S3584x4608 .fp8e4m3)
    (a3 : FVec Ideal S28x4608 .f32) (a4 a5 : FVec Ideal S3968x128 .f32) (a6 : FVec Ideal S2x128 .f32)

/-- The greatest finite number of the format. -/
theorem wmax : Ideal.ofBits FTy.f32 0x7F7FFFFF#32 = ((16777215 * (2 : ℝ) ^ (104 : ℤ) : ℝ) : EReal) := by
  refine (Pow2.ieee_normal 23 32 0x7F7FFFFF#32 false 254 8388607 (by decide) (by decide) (by decide) (by decide) (by decide)).trans ?_
  norm_num

/-- The norm's weights are below 2^128 in magnitude. -/
theorem pre (h : Cert.Pre_norm_in_range.fn (F := Ideal) a0 a1 a2 a3 a4 a5 a6 = fun _ => 1#1) (i) : ∃ r : ℝ, |r| ≤ (2 : ℝ) ^ (128 : ℤ) ∧ a1 i = (r : EReal) := by
  have e : BitVec.ofBool (decide (max (a1 i) (-a1 i) ≤ Ideal.ofBits FTy.f32 0x7F7FFFFF#32)) = 1#1 := congrFun h i
  rw [wmax] at e
  obtain ⟨r, hr, hi⟩ := Cert.KernelIdeal.Array.abs_le_coe (Cert.KernelIdeal.Array.of_bool e)
  exact ⟨r, hr.trans (by norm_num), hi⟩

end Cert.QkvIdeal.Pre
end
-- ==== Proof.OutPiecesIdeal.lean ====
/- What one point of the output projection's grid stores: the activations' rows into the first scratch array at the
   first column block only, the column block of the weights into the second at the first row block only, and one block of
   the result. -/
module

public import proofs.«01_k».proof.Proof.Gen.OutIdeal.Frame
public import proofs.«01_k».proof.Proof.Gen.OutIdeal.Skeleton

@[expose] public section

set_option maxRecDepth 16384

noncomputable section

namespace Cert.OutIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OutIdeal.Gen

variable {F : FTy → Type} [FloatOps F]

local notation "𝕄" => MT nD τ sig Unit (Elt F) ℕ (UR sig nD τ) ℕ

/-- The 32 blocks of the contracted axis, the last first: the order in which the stores are remembered. -/
def blocks : List (Fin 32) := [31, 30, 29, 28, 27, 26, 25, 24, 23, 22, 21, 20, 19, 18, 17, 16, 15, 14, 13, 12, 11, 10, 9, 8, 7, 6, 5, 4, 3, 2, 1, 0]

theorem mem_blocks (k : Fin 32) : k ∈ blocks := by
  revert k
  decide

/-- The first row block: the weights' column block is filled there. -/
abbrev cond2 (i : grid0.Coords) : BitVec 1 :=
  Scalar.cmpi .ne (Scalar.extui (Scalar.cmpi .eq (BitVec.ofNat 32 (i 1).val) 0#32) : BitVec 32) 0#32

theorem inbQ (k : Fin 32) : ∀ a, (![0, 128 * k.val] : Fin 2 → Nat) a + S512x128.size a ≤ S512x4096.size a := by
  revert k
  decide

theorem inbS (k : Fin 32) : ∀ a, (![0, k.val] : Fin 2 → Nat) a + S512x1.size a ≤ S512x32.size a := by
  revert k
  decide

theorem inbW (k : Fin 32) : ∀ a, (![128 * k.val, 0] : Fin 2 → Nat) a + S128x512.size a ≤ S4096x512.size a := by
  revert k
  decide

theorem inbC (k : Fin 32) : ∀ a, (![k.val, 0] : Fin 2 → Nat) a + S1x512.size a ≤ S32x512.size a := by
  revert k
  decide

theorem inbX (i : grid0.Coords) (h1 : k0_cond1 i = 1#1) (k : Fin 32) :
    ∀ a, (![k0_off1 i 0, 128 * k.val] : Fin 2 → Nat) a + S512x128.size a ≤ S4096x4096.size a := by
  intro a
  have hk := k.isLt
  fin_cases a
  · exact k0_off1_inb i h1 0
  · show 128 * k.val + 128 ≤ 4096
    omega

/-- What is stored of the activations for block `k`: their 128 columns times their scale. -/
def payX (arg2 : Memref sig .tc .vmem S512x4096 .fp8e4m3) (harg2 : arg2.IsWhole) (arg3 : Memref sig .tc .vmem S512x32 .f32) (harg3 : arg3.IsWhole)
    (x0 : Vec F S512x4096 .fp8e4m3) (x1 : Vec F S512x32 .f32) (k : Fin 32) : FVec F S512x128 .bf16 :=
  k0_pay1 (arg2.view.readAt (Elt F) (Rect.unit (s := S512x4096) ![0, 128 * k.val] S512x128.size (inbQ k)).toLoadRect (harg2.unread x0))
    (arg3.view.readAt (Elt F) (Rect.unit (s := S512x32) ![0, k.val] S512x1.size (inbS k)).toLoadRect (harg3.unread x1))

/-- What is stored of the weights for block `k`: their 128 rows times their scale. -/
def payW (arg4 : Memref sig .tc .vmem S4096x512 .fp8e4m3) (harg4 : arg4.IsWhole) (arg5 : Memref sig .tc .vmem S32x512 .f32) (harg5 : arg5.IsWhole)
    (x2 : Vec F S4096x512 .fp8e4m3) (x3 : Vec F S32x512 .f32) (k : Fin 32) : FVec F S128x512 .bf16 :=
  k0_pay43 (arg4.view.readAt (Elt F) (Rect.unit (s := S4096x512) ![128 * k.val, 0] S128x512.size (inbW k)).toLoadRect (harg4.unread x2))
    (arg5.view.readAt (Elt F) (Rect.unit (s := S32x512) ![k.val, 0] S1x512.size (inbC k)).toLoadRect (harg5.unread x3))

/-- The stores of one row block of activations. -/
def piecesX (i : grid0.Coords) (h1 : k0_cond1 i = 1#1)
    (arg2 : Memref sig .tc .vmem S512x4096 .fp8e4m3) (harg2 : arg2.IsWhole) (arg3 : Memref sig .tc .vmem S512x32 .f32) (harg3 : arg3.IsWhole)
    (x0 : Vec F S512x4096 .fp8e4m3) (x1 : Vec F S512x32 .f32) : List (View.Piece (Elt F) S4096x4096 .bf16) :=
  blocks.map fun k => ⟨Rect.unit (s := S4096x4096) ![k0_off1 i 0, 128 * k.val] S512x128.size (inbX i h1 k), payX arg2 harg2 arg3 harg3 x0 x1 k⟩

/-- The stores of one column block of weights. -/
def piecesW (arg4 : Memref sig .tc .vmem S4096x512 .fp8e4m3) (harg4 : arg4.IsWhole) (arg5 : Memref sig .tc .vmem S32x512 .f32) (harg5 : arg5.IsWhole)
    (x2 : Vec F S4096x512 .fp8e4m3) (x3 : Vec F S32x512 .f32) : List (View.Piece (Elt F) S4096x512 .bf16) :=
  blocks.map fun k => ⟨Rect.unit (s := S4096x512) ![128 * k.val, 0] S128x512.size (inbW k), payW arg4 harg4 arg5 harg5 x2 x3 k⟩

/-- The first scratch array after the point. -/
def newX (i : grid0.Coords)
    (arg2 : Memref sig .tc .vmem S512x4096 .fp8e4m3) (harg2 : arg2.IsWhole) (arg3 : Memref sig .tc .vmem S512x32 .f32) (harg3 : arg3.IsWhole)
    (arg8 : Memref sig .tc .vmem S4096x4096 .bf16) (harg8 : arg8.IsWhole)
    (x0 : Vec F S512x4096 .fp8e4m3) (x1 : Vec F S512x32 .f32) (d8 : Vec F S4096x4096 .bf16) : Vec F S4096x4096 .bf16 :=
  if h1 : k0_cond1 i = 1#1 then
    arg8.view.read (Elt F) (arg8.view.writes (Elt F) (harg8.unread d8) (piecesX i h1 arg2 harg2 arg3 harg3 x0 x1))
  else d8

/-- The second scratch array after the point. -/
def newW (i : grid0.Coords)
    (arg4 : Memref sig .tc .vmem S4096x512 .fp8e4m3) (harg4 : arg4.IsWhole) (arg5 : Memref sig .tc .vmem S32x512 .f32) (harg5 : arg5.IsWhole)
    (arg9 : Memref sig .tc .vmem S4096x512 .bf16) (harg9 : arg9.IsWhole)
    (x2 : Vec F S4096x512 .fp8e4m3) (x3 : Vec F S32x512 .f32) (d9 : Vec F S4096x512 .bf16) : Vec F S4096x512 .bf16 :=
  if h2 : cond2 i = 1#1 then
    arg9.view.read (Elt F) (arg9.view.writes (Elt F) (harg9.unread d9) (piecesW arg4 harg4 arg5 harg5 x2 x3))
  else d9

/-- The block of the result, from the two scratch arrays and the block of `x`. -/
def outOf (i : grid0.Coords) (arg6 : Memref sig .tc .vmem S512x512 .bf16) (harg6 : arg6.IsWhole)
    (arg8 : Memref sig .tc .vmem S4096x4096 .bf16) (harg8 : arg8.IsWhole) (arg9 : Memref sig .tc .vmem S4096x512 .bf16) (harg9 : arg9.IsWhole)
    (x4 : Vec F S512x512 .bf16) (d8 : Vec F S4096x4096 .bf16) (d9 : Vec F S4096x512 .bf16) : FVec F S512x512 .bf16 :=
  k0_pay4 (arg8.view.readAt (Elt F) (Rect.unit (s := S4096x4096) (k0_off33 i) S512x4096.size (k0_off33_inb i)).toLoadRect (harg8.unread d8))
    (arg9.view.readAt (Elt F) (Rect.unit (s := S4096x512) ![0, 0] S4096x512.size inb_S4096x512_S4096x512_0_0).toLoadRect (harg9.unread d9))
    (arg6.view.readAt (Elt F) (Rect.unit (s := S512x512) ![0, 0] S512x512.size inb_S512x512_S512x512_0_0).toLoadRect (harg6.unread x4))

/-- A store over the whole buffer leaves what was stored. -/
theorem read_whole (a : Memref sig .tc .vmem S512x512 .bf16) (f : BufTy.Contents (Elt F) a.view.ty) (v : FVec F S512x512 .bf16) :
    a.view.read (Elt F) (a.view.writes (Elt F) f [⟨Rect.unit (s := S512x512) ![0, 0] S512x512.size inb_S512x512_S512x512_0_0, v⟩]) = v := by
  funext y
  refine View.read_writes_apply_of_pieces a.view f v _ ?_ y ?_
  · intro p hp x
    obtain rfl := List.mem_singleton.mp hp
    show v x = v _
    congr 1
    funext b
    fin_cases b
    · exact Fin.ext (by show (x 0).val = 0 + 1 * (x 0).val; omega)
    · exact Fin.ext (by show (x 1).val = 0 + 1 * (x 1).val; omega)
  · refine ⟨_, List.mem_singleton.mpr rfl, ?_⟩
    rw [Rect.mem_set_unit]
    intro b
    fin_cases b
    · exact ⟨Nat.zero_le _, by have : (y 0).val < 512 := (y 0).isLt; show (y 0).val < 0 + 512; omega⟩
    · exact ⟨Nat.zero_le _, by have : (y 1).val < 512 := (y 1).isLt; show (y 1).val < 0 + 512; omega⟩

/-- The row block's stores reach every entry the product reads. -/
theorem coverX (i : grid0.Coords) (h1 : k0_cond1 i = 1#1)
    (arg2 : Memref sig .tc .vmem S512x4096 .fp8e4m3) (harg2 : arg2.IsWhole) (arg3 : Memref sig .tc .vmem S512x32 .f32) (harg3 : arg3.IsWhole)
    (x0 : Vec F S512x4096 .fp8e4m3) (x1 : Vec F S512x32 .f32)
    (j : (Rect.unit (s := S4096x4096) (k0_off33 i) S512x4096.size (k0_off33_inb i)).toLoadRect.shape.Idx) :
    ∃ p ∈ piecesX i h1 arg2 harg2 arg3 harg3 x0 x1,
      (Rect.unit (s := S4096x4096) (k0_off33 i) S512x4096.size (k0_off33_inb i)).toLoadRect.idx j ∈ p.1.set := by
  have hj0 : (j 0).val < 512 := (j 0).isLt
  have hj1 : (j 1).val < 4096 := (j 1).isLt
  refine ⟨_, List.mem_map.mpr ⟨⟨(j 1).val / 128, by omega⟩, mem_blocks _, rfl⟩, ?_⟩
  rw [Rect.mem_set_unit]
  intro a
  fin_cases a
  · exact ⟨Nat.le_add_right (k0_off1 i 0) (1 * (j 0).val), by show k0_off1 i 0 + 1 * (j 0).val < k0_off1 i 0 + 512; omega⟩
  · exact ⟨by show 128 * ((j 1).val / 128) ≤ 0 + 1 * (j 1).val; omega, by show 0 + 1 * (j 1).val < 128 * ((j 1).val / 128) + 128; omega⟩

/-- The column block's stores reach every entry. -/
theorem coverW (arg4 : Memref sig .tc .vmem S4096x512 .fp8e4m3) (harg4 : arg4.IsWhole) (arg5 : Memref sig .tc .vmem S32x512 .f32) (harg5 : arg5.IsWhole)
    (x2 : Vec F S4096x512 .fp8e4m3) (x3 : Vec F S32x512 .f32)
    (j : (Rect.unit (s := S4096x512) ![0, 0] S4096x512.size inb_S4096x512_S4096x512_0_0).toLoadRect.shape.Idx) :
    ∃ p ∈ piecesW arg4 harg4 arg5 harg5 x2 x3,
      (Rect.unit (s := S4096x512) ![0, 0] S4096x512.size inb_S4096x512_S4096x512_0_0).toLoadRect.idx j ∈ p.1.set := by
  have hj0 : (j 0).val < 4096 := (j 0).isLt
  have hj1 : (j 1).val < 512 := (j 1).isLt
  refine ⟨_, List.mem_map.mpr ⟨⟨(j 0).val / 128, by omega⟩, mem_blocks _, rfl⟩, ?_⟩
  rw [Rect.mem_set_unit]
  intro a
  fin_cases a
  · exact ⟨by show 128 * ((j 0).val / 128) ≤ 0 + 1 * (j 0).val; omega, by show 0 + 1 * (j 0).val < 128 * ((j 0).val / 128) + 128; omega⟩
  · exact ⟨Nat.zero_le _, by show 0 + 1 * (j 1).val < 0 + 512; omega⟩

end Cert.OutIdeal.Step
end
-- ==== Proof.OutValue.lean ====
/- The output projection's block at a point of the grid, over the extended reals: what each store of the two scratch
   arrays holds, and the block of the result read off them. -/
module

public import proofs.«01_k».proof.Proof.OutPiecesIdeal
public import Idealize.ShloMosaic.Lib.Pointwise
public import Idealize.ShloMosaic.Lib.WholeRead

@[expose] public section

set_option maxRecDepth 16384

noncomputable section

namespace Cert.OutIdeal.Step

open Idealize.ShloMosaic Idealize.ShloMosaic.TcCoe Idealize.ShloMosaic.Tactic Idealize.ShloMosaic.Pointwise
open Cert.OutIdeal.Gen

/-- A product of activations and their scale, at an index. -/
theorem pay1_apply (v : Vec Ideal S512x128 .fp8e4m3) (s : Vec Ideal S512x1 .f32) (r : Fin 512) (k : Fin 128) :
    k0_pay1 v s (ix2 r k) = v (ix2 r k) * s (ix2 r 0) := by
  pointwise [k0_pay1]

/-- A product of weights and their scale, at an index. -/
theorem pay43_apply (v : Vec Ideal S128x512 .fp8e4m3) (s : Vec Ideal S1x512 .f32) (k : Fin 128) (j : Fin 512) :
    k0_pay43 v s (ix2 k j) = v (ix2 k j) * s (ix2 0 j) := by
  pointwise [k0_pay43]

/-- The result's block, at an index. -/
theorem pay4_apply (x : Vec Ideal S512x4096 .bf16) (w : Vec Ideal S4096x512 .bf16) (v : Vec Ideal S512x512 .bf16) (r j : Fin 512) :
    k0_pay4 x w v (ix2 r j)
      = v (ix2 r j) + (∑ k : Fin 4096, x (ix2 r k) * w (ix2 k j)) * Ideal.ofBits FTy.f32 0x3E7D6D54#32 := by
  pointwise [k0_pay4]

/-- The index written out as a pair. -/
theorem ix2_of {a b : ℕ} (y : (⟨2, ![a, b]⟩ : Shape).Idx) : y = ix2 (y 0) (y 1) := by
  funext i
  fin_cases i <;> rfl

section
variable (arg2 : Memref sig .tc .vmem S512x4096 .fp8e4m3) (harg2 : arg2.IsWhole) (arg3 : Memref sig .tc .vmem S512x32 .f32) (harg3 : arg3.IsWhole)
  (arg4 : Memref sig .tc .vmem S4096x512 .fp8e4m3) (harg4 : arg4.IsWhole) (arg5 : Memref sig .tc .vmem S32x512 .f32) (harg5 : arg5.IsWhole)
  (arg6 : Memref sig .tc .vmem S512x512 .bf16) (harg6 : arg6.IsWhole)
  (arg8 : Memref sig .tc .vmem S4096x4096 .bf16) (harg8 : arg8.IsWhole) (arg9 : Memref sig .tc .vmem S4096x512 .bf16) (harg9 : arg9.IsWhole)
  (x0 : Vec Ideal S512x4096 .fp8e4m3) (x1 : Vec Ideal S512x32 .f32) (x2 : Vec Ideal S4096x512 .fp8e4m3) (x3 : Vec Ideal S32x512 .f32)
  (x4 : Vec Ideal S512x512 .bf16) (d8 : Vec Ideal S4096x4096 .bf16) (d9 : Vec Ideal S4096x512 .bf16) (i : grid0.Coords)

/-- The activations stored for block `k`, at an index. -/
theorem payX_apply (k : Fin 32) (r : Fin 512) (j : Fin 128) :
    payX arg2 harg2 arg3 harg3 x0 x1 k (ix2 r j) = x0 (ix2 r ⟨128 * k.val + j.val, by omega⟩) * x1 (ix2 r k) := by
  unfold payX
  rw [pay1_apply]
  congr 1
  · refine (harg2.readAt_unread _ _ _).trans (congrArg x0 ?_)
    funext a
    fin_cases a
    · exact Fin.ext (by show 0 + 1 * r.val = r.val; omega)
    · exact Fin.ext (by show 128 * k.val + 1 * j.val = 128 * k.val + j.val; omega)
  · refine (harg3.readAt_unread _ _ _).trans (congrArg x1 ?_)
    funext a
    fin_cases a
    · exact Fin.ext (by show 0 + 1 * r.val = r.val; omega)
    · exact Fin.ext (by show k.val + 1 * 0 = k.val; omega)

/-- The weights stored for block `k`, at an index. -/
theorem payW_apply (k : Fin 32) (r : Fin 128) (j : Fin 512) :
    payW arg4 harg4 arg5 harg5 x2 x3 k (ix2 r j) = x2 (ix2 ⟨128 * k.val + r.val, by omega⟩ j) * x3 (ix2 k j) := by
  unfold payW
  rw [pay43_apply]
  congr 1
  · refine (harg4.readAt_unread _ _ _).trans (congrArg x2 ?_)
    funext a
    fin_cases a
    · exact Fin.ext (by show 128 * k.val + 1 * r.val = 128 * k.val + r.val; omega)
    · exact Fin.ext (by show 0 + 1 * j.val = j.val; omega)
  · refine (harg5.readAt_unread _ _ _).trans (congrArg x3 ?_)
    funext a
    fin_cases a
    · exact Fin.ext (by show k.val + 1 * 0 = k.val; omega)
    · exact Fin.ext (by show 0 + 1 * j.val = j.val; omega)

/-- A row inside the row block just filled. -/
theorem newX_in (h1 : k0_cond1 i = 1#1) (r : Fin 512) (k : Fin 4096) (r' : Fin 4096) (hr : r'.val = k0_off1 i 0 + r.val) :
    newX i arg2 harg2 arg3 harg3 arg8 harg8 x0 x1 d8 (ix2 r' k)
      = x0 (ix2 r k) * x1 (ix2 r ⟨k.val / 128, by omega⟩) := by
  have hk := k.isLt
  refine (congrFun (dif_pos h1 : newX i arg2 harg2 arg3 harg3 arg8 harg8 x0 x1 d8 = _) _).trans ?_
  refine (View.read_writes_apply_of_pieces arg8.view (harg8.unread d8)
    (fun y => payX arg2 harg2 arg3 harg3 x0 x1 ⟨(y 1).val / 128, by have : (y 1).val < 4096 := (y 1).isLt; omega⟩
      (ix2 ⟨((y 0).val - k0_off1 i 0) % 512, Nat.mod_lt _ (by omega)⟩ ⟨(y 1).val % 128, Nat.mod_lt _ (by omega)⟩)) _ ?_ (ix2 r' k) ?_).trans ?_
  · intro p hp x
    obtain ⟨b, _, rfl⟩ := List.mem_map.mp hp
    show payX arg2 harg2 arg3 harg3 x0 x1 b x = payX arg2 harg2 arg3 harg3 x0 x1 _ _
    have h0 : (x 0).val < 512 := (x 0).isLt
    have h1' : (x 1).val < 128 := (x 1).isLt
    congr 1
    · refine Fin.ext ?_
      show b.val = (128 * b.val + 1 * (x 1).val) / 128
      omega
    · funext a
      fin_cases a
      · refine Fin.ext ?_
        show (x 0).val = (k0_off1 i 0 + 1 * (x 0).val - k0_off1 i 0) % 512
        omega
      · refine Fin.ext ?_
        show (x 1).val = (128 * b.val + 1 * (x 1).val) % 128
        omega
  · refine ⟨_, List.mem_map.mpr ⟨⟨k.val / 128, by omega⟩, mem_blocks _, rfl⟩, ?_⟩
    rw [Rect.mem_set_unit]
    intro a
    fin_cases a
    · exact ⟨by show k0_off1 i 0 ≤ r'.val; omega, by show r'.val < k0_off1 i 0 + 512; omega⟩
    · exact ⟨by show 128 * (k.val / 128) ≤ k.val; omega, by show k.val < 128 * (k.val / 128) + 128; omega⟩
  · refine (payX_apply arg2 harg2 arg3 harg3 x0 x1 _ _ _).trans ?_
    have e0 : (⟨(r'.val - k0_off1 i 0) % 512, Nat.mod_lt _ (by omega)⟩ : Fin 512) = r := Fin.ext (by show (r'.val - k0_off1 i 0) % 512 = r.val; omega)
    have e1 : (⟨128 * (k.val / 128) + k.val % 128, by omega⟩ : Fin 4096) = k := Fin.ext (by show 128 * (k.val / 128) + k.val % 128 = k.val; omega)
    show x0 (ix2 ⟨(r'.val - k0_off1 i 0) % 512, _⟩ ⟨128 * (k.val / 128) + k.val % 128, _⟩) * x1 (ix2 ⟨(r'.val - k0_off1 i 0) % 512, _⟩ ⟨k.val / 128, _⟩) = _
    rw [e0, e1]

/-- A row outside the row block just filled is left as it was. -/
theorem newX_out (r' k : Fin 4096) (hr : ¬(k0_off1 i 0 ≤ r'.val ∧ r'.val < k0_off1 i 0 + 512)) :
    newX i arg2 harg2 arg3 harg3 arg8 harg8 x0 x1 d8 (ix2 r' k) = d8 (ix2 r' k) := by
  by_cases h1 : k0_cond1 i = 1#1
  · refine (congrFun (dif_pos h1 : newX i arg2 harg2 arg3 harg3 arg8 harg8 x0 x1 d8 = _) _).trans ?_
    refine (View.read_writes_apply_of_forall_not_mem arg8.view (harg8.unread d8) (ix2 r' k) _ ?_).trans (congrFun (harg8.read_unread d8) _)
    intro p hp hm
    obtain ⟨b, _, rfl⟩ := List.mem_map.mp hp
    rw [Rect.mem_set_unit] at hm
    exact hr (hm 0)
  · exact congrFun (dif_neg h1 : newX i arg2 harg2 arg3 harg3 arg8 harg8 x0 x1 d8 = d8) _

/-- The column block just filled. -/
theorem newW_in (h2 : cond2 i = 1#1) (k : Fin 4096) (j : Fin 512) :
    newW i arg4 harg4 arg5 harg5 arg9 harg9 x2 x3 d9 (ix2 k j)
      = x2 (ix2 k j) * x3 (ix2 ⟨k.val / 128, by omega⟩ j) := by
  have hk := k.isLt
  refine (congrFun (dif_pos h2 : newW i arg4 harg4 arg5 harg5 arg9 harg9 x2 x3 d9 = _) _).trans ?_
  refine (View.read_writes_apply_of_pieces arg9.view (harg9.unread d9)
    (fun y => payW arg4 harg4 arg5 harg5 x2 x3 ⟨(y 0).val / 128, by have : (y 0).val < 4096 := (y 0).isLt; omega⟩
      (ix2 ⟨(y 0).val % 128, Nat.mod_lt _ (by omega)⟩ (y 1))) _ ?_ (ix2 k j) ?_).trans ?_
  · intro p hp x
    obtain ⟨b, _, rfl⟩ := List.mem_map.mp hp
    show payW arg4 harg4 arg5 harg5 x2 x3 b x = payW arg4 harg4 arg5 harg5 x2 x3 _ _
    have h0 : (x 0).val < 128 := (x 0).isLt
    congr 1
    · refine Fin.ext ?_
      show b.val = (128 * b.val + 1 * (x 0).val) / 128
      omega
    · funext a
      fin_cases a
      · refine Fin.ext ?_
        show (x 0).val = (128 * b.val + 1 * (x 0).val) % 128
        omega
      · refine Fin.ext ?_
        show (x 1).val = 0 + 1 * (x 1).val
        omega
  · refine ⟨_, List.mem_map.mpr ⟨⟨k.val / 128, by omega⟩, mem_blocks _, rfl⟩, ?_⟩
    rw [Rect.mem_set_unit]
    intro a
    fin_cases a
    · exact ⟨by show 128 * (k.val / 128) ≤ k.val; omega, by show k.val < 128 * (k.val / 128) + 128; omega⟩
    · exact ⟨Nat.zero_le _, by show j.val < 0 + 512; omega⟩
  · refine (payW_apply arg4 harg4 arg5 harg5 x2 x3 _ _ _).trans ?_
    have e1 : (⟨128 * (k.val / 128) + k.val % 128, by omega⟩ : Fin 4096) = k := Fin.ext (by show 128 * (k.val / 128) + k.val % 128 = k.val; omega)
    show x2 (ix2 ⟨128 * (k.val / 128) + k.val % 128, _⟩ j) * x3 (ix2 ⟨k.val / 128, _⟩ j) = _
    rw [e1]

/-- Where no column block is filled the second scratch array is left as it was. -/
theorem newW_out (h2 : ¬cond2 i = 1#1) : newW i arg4 harg4 arg5 harg5 arg9 harg9 x2 x3 d9 = d9 := dif_neg h2

/-- The result's block off the two scratch arrays, at an index. -/
theorem outOf_apply (r j : Fin 512) (r' : Fin 4096) (hr : r'.val = k0_off33 i 0 + r.val) :
    outOf i arg6 harg6 arg8 harg8 arg9 harg9 x4 d8 d9 (ix2 r j)
      = x4 (ix2 r j) + (∑ k : Fin 4096, d8 (ix2 r' k) * d9 (ix2 k j)) * Ideal.ofBits FTy.f32 0x3E7D6D54#32 := by
  unfold outOf
  rw [pay4_apply]
  congr 1
  · refine (harg6.readAt_unread _ _ _).trans (congrArg x4 ?_)
    funext a
    fin_cases a
    · exact Fin.ext (by show 0 + 1 * r.val = r.val; omega)
    · exact Fin.ext (by show 0 + 1 * j.val = j.val; omega)
  · congr 1
    refine Finset.sum_congr rfl fun k _ => ?_
    congr 1
    · refine (harg8.readAt_unread _ _ _).trans (congrArg d8 ?_)
      funext a
      fin_cases a
      · exact Fin.ext (by show k0_off33 i 0 + 1 * r.val = r'.val; omega)
      · exact Fin.ext (by show 0 + 1 * k.val = k.val; omega)
    · refine (harg9.readAt_unread _ _ _).trans (congrArg d9 ?_)
      funext a
      fin_cases a
      · exact Fin.ext (by show 0 + 1 * k.val = k.val; omega)
      · exact Fin.ext (by show 0 + 1 * j.val = j.val; omega)
end

end Cert.OutIdeal.Step
end
-- ==== Proof.OutBlocks.lean ====
/- The blocks of the output projection's arrays that its grid points see, element by element, and how the two scratch
   arrays fill up along the grid. -/
module

public import proofs.«01_k».proof.Proof.OutValue
public import Idealize.ShloMosaic.Lib.Pipeline.Value

@[expose] public section

set_option maxRecDepth 16384

noncomputable section

namespace Cert.OutIdeal.Blocks

open Idealize.ShloMosaic Idealize.ShloMosaic.TcCoe Idealize.ShloMosaic.Tactic Idealize.ShloMosaic.Pointwise
open Idealize.ShloMosaic.Pipeline
open Cert.OutIdeal.Gen Cert.OutIdeal.Step

variable (m : (ℓ : Loc nD τ sig) → Buf (Elt Ideal) ℓ) (c : Dev nD)

/-! ## The grid -/

theorem coord0 : ∀ t : Fin grid0.N, (grid0.coords t 0 : Fin 7).val = t.val / 8 := by decide +kernel
theorem coord1 : ∀ t : Fin grid0.N, (grid0.coords t 1 : Fin 8).val = t.val % 8 := by decide +kernel
theorem cond1_iff : ∀ t : Fin grid0.N, k0_cond1 (grid0.coords t) = 1#1 ↔ t.val < 8 := by decide +kernel
theorem cond2_iff : ∀ t : Fin grid0.N, cond2 (grid0.coords t) = 1#1 ↔ t.val % 8 = 0 := by decide +kernel
theorem off1 : ∀ t : Fin grid0.N, k0_off1 (grid0.coords t) 0 = 512 * (t.val % 8) := by decide +kernel
theorem off33 : ∀ t : Fin grid0.N, k0_off33 (grid0.coords t) 0 = 512 * (t.val % 8) := by decide +kernel

theorem index0 : ∀ t : Fin grid0.N, ∀ a : Fin 2, t.val < 8 → cc0_transform_0 (grid0.coords t) a = (![t.val, 0] : Fin 2 → ℕ) a := by decide +kernel
theorem index1 : ∀ t : Fin grid0.N, ∀ a : Fin 2, t.val < 8 → cc0_transform_1 (grid0.coords t) a = (![t.val, 0] : Fin 2 → ℕ) a := by decide +kernel
theorem index2 : ∀ t : Fin grid0.N, ∀ a : Fin 2, cc0_transform_2 (grid0.coords t) a = (![0, t.val / 8] : Fin 2 → ℕ) a := by decide +kernel
theorem index3 : ∀ t : Fin grid0.N, ∀ a : Fin 2, cc0_transform_3 (grid0.coords t) a = (![0, t.val / 8] : Fin 2 → ℕ) a := by decide +kernel
theorem index4 : ∀ t : Fin grid0.N, ∀ a : Fin 2, cc0_transform_4 (grid0.coords t) a = (![t.val % 8, t.val / 8] : Fin 2 → ℕ) a := by decide +kernel
theorem index5 : ∀ t : Fin grid0.N, ∀ a : Fin 2, cc0_transform_5 (grid0.coords t) a = (![t.val % 8, t.val / 8] : Fin 2 → ℕ) a := by decide +kernel

theorem ext0 : ∀ t : Fin grid0.N, ∀ a : Fin 2, t.val < 8 → win0_0.xsize (grid0.coords t) a = (![min 512 (3968 - 512 * t.val), 4096] : Fin 2 → ℕ) a := by decide +kernel
theorem ext1 : ∀ t : Fin grid0.N, ∀ a : Fin 2, t.val < 8 → win0_1.xsize (grid0.coords t) a = (![min 512 (3968 - 512 * t.val), 32] : Fin 2 → ℕ) a := by decide +kernel
theorem ext4 : ∀ t : Fin grid0.N, ∀ a : Fin 2, win0_4.xsize (grid0.coords t) a = (![min 512 (3968 - 512 * (t.val % 8)), 512] : Fin 2 → ℕ) a := by decide +kernel
theorem ext5 : ∀ t : Fin grid0.N, ∀ a : Fin 2, win0_5.xsize (grid0.coords t) a = (![min 512 (3968 - 512 * (t.val % 8)), 512] : Fin 2 → ℕ) a := by decide +kernel

/-! ## The blocks -/

/-- The rows of the activations fetched at a point of the first column block. -/
theorem fill0_apply (t : Fin grid0.N) (ht : t.val < 8) (d : S512x4096.Idx → Elt Ideal .fp8e4m3) (r : Fin 512) (k : Fin 4096) (h : 512 * t.val + r.val < 3968) :
    win0_0.fill (grid0.coords t) d (iblk m c 0 t) (ix2 r k)
      = (m ((c : Thread nD τ).loc main_arg0) : Vec Ideal S3968x4096 .fp8e4m3) (ix2 ⟨512 * t.val + r.val, h⟩ k) := by
  have hm : win0_0.moved (grid0.coords t) (ix2 r k : S512x4096.Idx) = true := (win0_0.moved_iff _ _).mpr fun a => by
    refine lt_of_lt_of_eq ?_ (ext0 t a ht).symm
    fin_cases a
    · show r.val < min 512 (3968 - 512 * t.val); omega
    · exact k.isLt
  unfold Window.fill
  rw [dif_pos hm, ← V_main_arg0 m c]
  show (V m c main_arg0 : Vec Ideal S3968x4096 .fp8e4m3) ((win0_0.blk t).view.emb _) = _
  congr 1
  funext a
  fin_cases a
  · refine Fin.ext ?_
    show cc0_transform_0 (grid0.coords t) (0 : Fin 2) * 512 + 1 * r.val = 512 * t.val + r.val
    rw [index0 t 0 ht]
    show t.val * 512 + 1 * r.val = 512 * t.val + r.val
    omega
  · refine Fin.ext ?_
    show cc0_transform_0 (grid0.coords t) (1 : Fin 2) * 4096 + 1 * k.val = k.val
    rw [index0 t 1 ht]
    show 0 * 4096 + 1 * k.val = k.val
    omega

/-- The rows of the activations' scales fetched at a point of the first column block. -/
theorem fill1_apply (t : Fin grid0.N) (ht : t.val < 8) (d : S512x32.Idx → Elt Ideal .f32) (r : Fin 512) (k : Fin 32) (h : 512 * t.val + r.val < 3968) :
    win0_1.fill (grid0.coords t) d (iblk m c 1 t) (ix2 r k)
      = (m ((c : Thread nD τ).loc main_arg1) : Vec Ideal S3968x32 .f32) (ix2 ⟨512 * t.val + r.val, h⟩ k) := by
  have hm : win0_1.moved (grid0.coords t) (ix2 r k : S512x32.Idx) = true := (win0_1.moved_iff _ _).mpr fun a => by
    refine lt_of_lt_of_eq ?_ (ext1 t a ht).symm
    fin_cases a
    · show r.val < min 512 (3968 - 512 * t.val); omega
    · exact k.isLt
  unfold Window.fill
  rw [dif_pos hm, ← V_main_arg1 m c]
  show (V m c main_arg1 : Vec Ideal S3968x32 .f32) ((win0_1.blk t).view.emb _) = _
  congr 1
  funext a
  fin_cases a
  · refine Fin.ext ?_
    show cc0_transform_1 (grid0.coords t) (0 : Fin 2) * 512 + 1 * r.val = 512 * t.val + r.val
    rw [index1 t 0 ht]
    show t.val * 512 + 1 * r.val = 512 * t.val + r.val
    omega
  · refine Fin.ext ?_
    show cc0_transform_1 (grid0.coords t) (1 : Fin 2) * 32 + 1 * k.val = k.val
    rw [index1 t 1 ht]
    show 0 * 32 + 1 * k.val = k.val
    omega

/-- The column a point's column block puts at `j`. -/
def col (n : Fin 7) (j : Fin 512) : Fin 3584 := ⟨512 * n.val + j.val, by omega⟩

/-- The column block of a grid point. -/
def cb (t : Fin grid0.N) : Fin 7 := grid0.coords t 0

/-- The column block of the weights at a point. -/
theorem iblk2_apply (t : Fin grid0.N) (k : Fin 4096) (j : Fin 512) :
    (iblk m c 2 t : Vec Ideal S4096x512 .fp8e4m3) (ix2 k j)
      = (m ((c : Thread nD τ).loc main_arg2) : Vec Ideal S4096x3584 .fp8e4m3) (ix2 k (col (cb t) j)) := by
  rw [← V_main_arg2 m c]
  show (V m c main_arg2 : Vec Ideal S4096x3584 .fp8e4m3) ((win0_2.blk t).view.emb (ix2 k j)) = _
  congr 1
  funext a
  fin_cases a
  · refine Fin.ext ?_
    show cc0_transform_2 (grid0.coords t) (0 : Fin 2) * 4096 + 1 * k.val = k.val
    rw [index2 t 0]
    show 0 * 4096 + 1 * k.val = k.val
    omega
  · refine Fin.ext ?_
    show cc0_transform_2 (grid0.coords t) (1 : Fin 2) * 512 + 1 * j.val = 512 * (grid0.coords t 0 : Fin 7).val + j.val
    rw [index2 t 1, coord0]
    show t.val / 8 * 512 + 1 * j.val = 512 * (t.val / 8) + j.val
    omega

/-- The column block of the weights' scales, each repeated over its 128 columns, at a point. -/
theorem iblk3_apply (t : Fin grid0.N) (k : Fin 32) (j : Fin 512) :
    (iblk m c 3 t : Vec Ideal S32x512 .f32) (ix2 k j) = (V m c main_v1 : Vec Ideal S32x3584 .f32) (ix2 k (col (cb t) j)) := by
  show (V m c main_v1 : Vec Ideal S32x3584 .f32) ((win0_3.blk t).view.emb (ix2 k j)) = _
  congr 1
  funext a
  fin_cases a
  · refine Fin.ext ?_
    show cc0_transform_3 (grid0.coords t) (0 : Fin 2) * 32 + 1 * k.val = k.val
    rw [index3 t 0]
    show 0 * 32 + 1 * k.val = k.val
    omega
  · refine Fin.ext ?_
    show cc0_transform_3 (grid0.coords t) (1 : Fin 2) * 512 + 1 * j.val = 512 * (grid0.coords t 0 : Fin 7).val + j.val
    rw [index3 t 1, coord0]
    show t.val / 8 * 512 + 1 * j.val = 512 * (t.val / 8) + j.val
    omega

/-- The block of `x` at a point. -/
theorem fill4_apply (t : Fin grid0.N) (d : S512x512.Idx → Elt Ideal .bf16) (r j : Fin 512) (h : 512 * (t.val % 8) + r.val < 3968) :
    win0_4.fill (grid0.coords t) d (iblk m c 4 t) (ix2 r j)
      = (m ((c : Thread nD τ).loc main_arg4) : Vec Ideal S3968x3584 .bf16) (ix2 ⟨512 * (t.val % 8) + r.val, h⟩ (col (cb t) j)) := by
  have hm : win0_4.moved (grid0.coords t) (ix2 r j : S512x512.Idx) = true := (win0_4.moved_iff _ _).mpr fun a => by
    refine lt_of_lt_of_eq ?_ (ext4 t a).symm
    fin_cases a
    · show r.val < min 512 (3968 - 512 * (t.val % 8)); omega
    · exact j.isLt
  unfold Window.fill
  rw [dif_pos hm, ← V_main_arg4 m c]
  show (V m c main_arg4 : Vec Ideal S3968x3584 .bf16) ((win0_4.blk t).view.emb _) = _
  congr 1
  funext a
  fin_cases a
  · refine Fin.ext ?_
    show cc0_transform_4 (grid0.coords t) (0 : Fin 2) * 512 + 1 * r.val = 512 * (t.val % 8) + r.val
    rw [index4 t 0]
    show t.val % 8 * 512 + 1 * r.val = 512 * (t.val % 8) + r.val
    omega
  · refine Fin.ext ?_
    show cc0_transform_4 (grid0.coords t) (1 : Fin 2) * 512 + 1 * j.val = 512 * (grid0.coords t 0 : Fin 7).val + j.val
    rw [index4 t 1, coord0]
    show t.val / 8 * 512 + 1 * j.val = 512 * (t.val / 8) + j.val
    omega

/-- Where the result's block at a point lies in its array. -/
theorem emb5 (t : Fin grid0.N) (r j : Fin 512) (h : 512 * (t.val % 8) + r.val < 3968) (y : (win0_5.xblock (grid0.coords t)).Idx)
    (h0 : (y (0 : Fin 2)).val = r.val) (h1 : (y (1 : Fin 2)).val = j.val) :
    (win0_5.blk t).view.emb y = (ix2 ⟨512 * (t.val % 8) + r.val, h⟩ (col (cb t) j) : S3968x3584.Idx) := by
  funext a
  fin_cases a
  · refine Fin.ext ?_
    show cc0_transform_5 (grid0.coords t) (0 : Fin 2) * 512 + 1 * (y (0 : Fin 2)).val = 512 * (t.val % 8) + r.val
    rw [index5 t 0, h0]
    show t.val % 8 * 512 + 1 * r.val = 512 * (t.val % 8) + r.val
    omega
  · refine Fin.ext ?_
    show cc0_transform_5 (grid0.coords t) (1 : Fin 2) * 512 + 1 * (y (1 : Fin 2)).val = 512 * (grid0.coords t 0 : Fin 7).val + j.val
    rw [index5 t 1, coord0, h1]
    show t.val / 8 * 512 + 1 * j.val = 512 * (t.val / 8) + j.val
    omega

/-! ## The weights' scales repeated -/

/-- A scale repeated over its 128 columns, at an index. -/
theorem repeat_apply (v : Vec Ideal S32x28 .f32) (k : Fin 32) (j : Fin 3584) :
    shapeCast S32x3584 (broadcastInDim S32x28x128 ![0, 1] bcast_S32x28_S32x28x128_0_1 v) shapeCasts_S32x28x128_S32x3584 (ix2 k j)
      = v (ix2 k ⟨j.val / 128, by omega⟩) := by
  pointwise

/-- The scales as the grid finds them: each repeated over its 128 columns. -/
theorem scales_eq : (V m c main_v1 : Vec Ideal S32x3584 .f32)
    = shapeCast S32x3584 (broadcastInDim S32x28x128 ![0, 1] bcast_S32x28_S32x28x128_0_1 (m ((c : Thread nD τ).loc main_arg3) : Vec Ideal S32x28 .f32)) shapeCasts_S32x28x128_S32x3584 := by
  unfold V
  after_results
  rfl

theorem scales_apply (k : Fin 32) (j : Fin 3584) : (V m c main_v1 : Vec Ideal S32x3584 .f32) (ix2 k j)
    = (m ((c : Thread nD τ).loc main_arg3) : Vec Ideal S32x28 .f32) (ix2 k ⟨j.val / 128, by omega⟩) :=
  (congrFun (scales_eq m c) _).trans (repeat_apply _ k j)

end Cert.OutIdeal.Blocks
end
-- ==== Proof.OutStepIdeal.lean ====
/- One point of the output projection's grid: the body's run, whatever the point. -/
module

public import proofs.«01_k».proof.Proof.OutPiecesIdeal

@[expose] public section

set_option maxRecDepth 16384

noncomputable section

namespace Cert.OutIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OutIdeal.Gen

variable {F : FTy → Type} [FloatOps F]

local notation "𝕄" => MT nD τ sig Unit (Elt F) ℕ (UR sig nD τ) ℕ

-- (the run's proof term is large, one step per load and store)
set_option maxHeartbeats 4000000 in
/-- The body at a point: the five inputs' buffers are left as they were, the scratch arrays hold `newX` and `newW`, the
    result's buffer its block. -/
theorem run (c : Dev nD) (i : grid0.Coords) (arg2 : Memref sig .tc .vmem S512x4096 .fp8e4m3) (harg2 : arg2.IsWhole) (arg3 : Memref sig .tc .vmem S512x32 .f32) (harg3 : arg3.IsWhole) (arg4 : Memref sig .tc .vmem S4096x512 .fp8e4m3) (harg4 : arg4.IsWhole) (arg5 : Memref sig .tc .vmem S32x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4096x4096 .bf16) (harg8 : arg8.IsWhole) (arg9 : Memref sig .tc .vmem S4096x512 .bf16) (harg9 : arg9.IsWhole)
    (x0 : Vec F S512x4096 .fp8e4m3) (x1 : Vec F S512x32 .f32) (x2 : Vec F S4096x512 .fp8e4m3) (x3 : Vec F S32x512 .f32) (x4 : Vec F S512x512 .bf16)
    (d8 : Vec F S4096x4096 .bf16) (d9 : Vec F S4096x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d8 ∗ owns (c : Thread nD τ) arg9 fullShare d9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (outOf i arg6 harg6 arg8 harg8 arg9 harg9 x4 (newX i arg2 harg2 arg3 harg3 arg8 harg8 x0 x1 d8) (newW i arg4 harg4 arg5 harg5 arg9 harg9 x2 x3 d9))
            ∗ owns (c : Thread nD τ) arg8 fullShare (newX i arg2 harg2 arg3 harg3 arg8 harg8 x0 x1 d8)
            ∗ owns (c : Thread nD τ) arg9 fullShare (newW i arg4 harg4 arg5 harg5 arg9 harg9 x2 x3 d9)) -∗ K ⟨⟩))
      ⊢ wp frame (wpE (defs₀ (F := F)) Variants.none c none) E (cc0_out_proj i arg2 harg2 arg3 harg3 arg4 harg4 arg5 harg5 arg6 harg6 arg7 harg7 arg8 harg8 arg9 harg9) K := by
  simp only [cc0_out_proj_eq_skeleton]; unfold cc0_out_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  have e8 (f) (h : arg8.view.read (Elt F) f = newX i arg2 harg2 arg3 harg3 arg8 harg8 x0 x1 d8) := harg8.eq_unread h
  have e9 (f) (h : arg9.view.read (Elt F) f = newW i arg4 harg4 arg5 harg5 arg9 harg9 x2 x3 d9) := harg9.eq_unread h
  unfold outOf
  by_cases h1 : k0_cond1 i = 1#1 <;> by_cases h2 : cond2 i = 1#1
  all_goals
    first
      | have n8 : newX i arg2 harg2 arg3 harg3 arg8 harg8 x0 x1 d8 = arg8.view.read (Elt F) (arg8.view.writes (Elt F) (harg8.unread d8) (piecesX i h1 arg2 harg2 arg3 harg3 x0 x1)) := dif_pos h1
      | have n8 : newX i arg2 harg2 arg3 harg3 arg8 harg8 x0 x1 d8 = d8 := dif_neg h1
    first
      | have n9 : newW i arg4 harg4 arg5 harg5 arg9 harg9 x2 x3 d9 = arg9.view.read (Elt F) (arg9.view.writes (Elt F) (harg9.unread d9) (piecesW arg4 harg4 arg5 harg5 x2 x3)) := dif_pos h2
      | have n9 : newW i arg4 harg4 arg5 harg5 arg9 harg9 x2 x3 d9 = d9 := dif_neg h2
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, HS0⟩, ⟨%f9, %hf9, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf8; obtain rfl := harg9.eq_unread hf9
    sl_exec (disch := first | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (read_whole arg7 _ _).trans ?_
      congr 2
      · first
          | exact e8 _ ((harg8.read_unread _).trans n8.symm)
          | exact (View.readAt_writes_of_cover arg8.view (harg8.unread d8) (piecesX i h1 arg2 harg2 arg3 harg3 x0 x1) _ (coverX i h1 _ _ _ _ _ _)).symm.trans
              (congrArg _ (e8 _ n8.symm))
      · first
          | exact e9 _ ((harg9.read_unread _).trans n9.symm)
          | exact (View.readAt_writes_of_cover arg9.view (harg9.unread d9) (piecesW arg4 harg4 arg5 harg5 x2 x3) _ (coverW _ _ _ _ _ _)).symm.trans
              (congrArg _ (e9 _ n9.symm))
    isplitl [HS0]
    · iexists _; isplitr; swap; · iexact HS0
      ipureintro
      rw [n8]
      first
        | exact harg8.read_unread _
        | rfl
    · iexists _; isplitr; swap; · iexact HS1
      ipureintro
      rw [n9]
      first
        | exact harg9.read_unread _
        | rfl

end Cert.OutIdeal.Step
end
-- ==== Proof.OutTrack.lean ====
/- The output projection over exact values: what the two scratch arrays hold at each point of the grid, and so the array
   of results after the whole run. -/
module

public import proofs.«01_k».proof.Proof.OutBlocks
public import proofs.«01_k».proof.Proof.OutStepIdeal
public import Idealize.ShloMosaic.Lib.Pipeline.ValueKit

@[expose] public section

set_option maxRecDepth 16384

noncomputable section

namespace Cert.OutIdeal.Track

open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.OutIdeal.Gen Cert.OutIdeal.Step Cert.OutIdeal.Blocks

local notation "𝕄" => MT nD τ sig Unit (Elt Ideal) ℕ (UR sig nD τ) ℕ

/-- The result at row `r` and column `j`: `x` plus the scaled product of the scaled activations and the scaled weights. -/
def value (a0 : Vec Ideal S3968x4096 .fp8e4m3) (a1 : Vec Ideal S3968x32 .f32) (a2 : Vec Ideal S4096x3584 .fp8e4m3) (a3 : Vec Ideal S32x28 .f32)
    (a4 : Vec Ideal S3968x3584 .bf16) (r : Fin 3968) (j : Fin 3584) : EReal :=
  a4 (ix2 r j) + (∑ k : Fin 4096, (a0 (ix2 r k) * a1 (ix2 r ⟨k.val / 128, by omega⟩)) * (a2 (ix2 k j) * a3 (ix2 ⟨k.val / 128, by omega⟩ ⟨j.val / 128, by omega⟩)))
    * Ideal.ofBits FTy.f32 0x3E7D6D54#32

/-- The array of results. -/
def result (a0 : Vec Ideal S3968x4096 .fp8e4m3) (a1 : Vec Ideal S3968x32 .f32) (a2 : Vec Ideal S4096x3584 .fp8e4m3) (a3 : Vec Ideal S32x28 .f32)
    (a4 : Vec Ideal S3968x3584 .bf16) : Vec Ideal S3968x3584 .bf16 := fun y => value a0 a1 a2 a3 a4 (y 0) (y 1)

variable (m : (ℓ : Loc nD τ sig) → Buf (Elt Ideal) ℓ) (ρ : Dev nD → PrngReg)

section
variable (c : Dev nD)

abbrev a0 : Vec Ideal S3968x4096 .fp8e4m3 := m ((c : Thread nD τ).loc main_arg0)
abbrev a1 : Vec Ideal S3968x32 .f32 := m ((c : Thread nD τ).loc main_arg1)
abbrev a2 : Vec Ideal S4096x3584 .fp8e4m3 := m ((c : Thread nD τ).loc main_arg2)
abbrev a3 : Vec Ideal S32x28 .f32 := m ((c : Thread nD τ).loc main_arg3)
abbrev a4 : Vec Ideal S3968x3584 .bf16 := m ((c : Thread nD τ).loc main_arg4)

abbrev G : Vec Ideal S3968x3584 .bf16 := result (a0 m c) (a1 m c) (a2 m c) (a3 m c) (a4 m c)

/-- The first `n` row blocks of the first scratch array hold the scaled activations. -/
def FilledX (n : ℕ) (d8 : Vec Ideal S4096x4096 .bf16) : Prop :=
  ∀ (r : Fin 3968) (k : Fin 4096), r.val < 512 * n →
    d8 (ix2 ⟨r.val, by omega⟩ k) = a0 m c (ix2 r k) * a1 m c (ix2 r ⟨k.val / 128, by omega⟩)

/-- The second scratch array holds column block `n` of the scaled weights. -/
def FilledW (n : Fin 7) (d9 : Vec Ideal S4096x512 .bf16) : Prop :=
  ∀ (k : Fin 4096) (j : Fin 512),
    d9 (ix2 k j) = a2 m c (ix2 k (col n j)) * a3 m c (ix2 ⟨k.val / 128, by omega⟩ ⟨(col n j).val / 128, by have := (col n j).isLt; omega⟩)

/-- What is known of the two scratch arrays before point `n`. -/
def Inv (n : ℕ) (d8 : Vec Ideal S4096x4096 .bf16) (d9 : Vec Ideal S4096x512 .bf16) : Prop :=
  FilledX m c n d8 ∧ (n % 8 ≠ 0 → ∀ q : Fin 7, q.val = n / 8 → FilledW m c q d9)

theorem inv_zero (d8 : Vec Ideal S4096x4096 .bf16) (d9 : Vec Ideal S4096x512 .bf16) : Inv m c 0 d8 d9 :=
  ⟨fun r k h => absurd h (by omega), fun h => absurd rfl h⟩

section
variable (t : Fin grid0.N)
  (arg2 : Memref sig .tc .vmem S512x4096 .fp8e4m3) (harg2 : arg2.IsWhole) (arg3 : Memref sig .tc .vmem S512x32 .f32) (harg3 : arg3.IsWhole)
  (arg4 : Memref sig .tc .vmem S4096x512 .fp8e4m3) (harg4 : arg4.IsWhole) (arg5 : Memref sig .tc .vmem S32x512 .f32) (harg5 : arg5.IsWhole)
  (arg6 : Memref sig .tc .vmem S512x512 .bf16) (harg6 : arg6.IsWhole)
  (arg8 : Memref sig .tc .vmem S4096x4096 .bf16) (harg8 : arg8.IsWhole) (arg9 : Memref sig .tc .vmem S4096x512 .bf16) (harg9 : arg9.IsWhole)
  (e0 : S512x4096.Idx → Elt Ideal .fp8e4m3) (e1 : S512x32.Idx → Elt Ideal .f32) (e4 : S512x512.Idx → Elt Ideal .bf16)
  (d8 : Vec Ideal S4096x4096 .bf16) (d9 : Vec Ideal S4096x512 .bf16)

/-- A point of the first column block fills its row block; every other point leaves the first scratch array alone. -/
theorem stepX (h : FilledX m c t.val d8) :
    FilledX m c (t.val + 1) (newX (grid0.coords t) arg2 harg2 arg3 harg3 arg8 harg8 (win0_0.fill (grid0.coords t) e0 (iblk m c 0 t))
      (win0_1.fill (grid0.coords t) e1 (iblk m c 1 t)) d8) := fun r k hr => by
  have ho := off1 t
  have hlt := r.isLt
  by_cases ht : t.val < 8
  · by_cases hin : 512 * t.val ≤ r.val
    · have hb : 512 * t.val + (r.val - 512 * t.val) = r.val := by omega
      refine (newX_in arg2 harg2 arg3 harg3 arg8 harg8 _ _ d8 (grid0.coords t) ((cond1_iff t).mpr ht) ⟨r.val - 512 * t.val, by omega⟩ k ⟨r.val, by omega⟩
        (by rw [ho]; show r.val = 512 * (t.val % 8) + (r.val - 512 * t.val); omega)).trans ?_
      rw [fill0_apply m c t ht e0 ⟨r.val - 512 * t.val, by omega⟩ k (by show 512 * t.val + (r.val - 512 * t.val) < 3968; omega),
        fill1_apply m c t ht e1 ⟨r.val - 512 * t.val, by omega⟩ _ (by show 512 * t.val + (r.val - 512 * t.val) < 3968; omega)]
      have e : (⟨512 * t.val + (r.val - 512 * t.val), by omega⟩ : Fin 3968) = r := Fin.ext hb
      show a0 m c (ix2 ⟨512 * t.val + (r.val - 512 * t.val), _⟩ k) * a1 m c (ix2 ⟨512 * t.val + (r.val - 512 * t.val), _⟩ _) = _
      rw [e]
    · exact (newX_out arg2 harg2 arg3 harg3 arg8 harg8 _ _ d8 (grid0.coords t) ⟨r.val, by omega⟩ k (by rw [ho]; show ¬(_ ≤ r.val ∧ _); omega)).trans (h r k (by omega))
  · exact (congrFun (dif_neg (fun h1 => ht ((cond1_iff t).mp h1)) : newX (grid0.coords t) arg2 harg2 arg3 harg3 arg8 harg8 _ _ d8 = d8) _).trans (h r k (by omega))

/-- A point of the first row block fills the second scratch array; every other point leaves it alone. -/
theorem stepW (h : t.val % 8 ≠ 0 → FilledW m c (cb t) d9) :
    FilledW m c (cb t) (newW (grid0.coords t) arg4 harg4 arg5 harg5 arg9 harg9 (iblk m c 2 t) (iblk m c 3 t) d9) := fun k j => by
  by_cases ht : t.val % 8 = 0
  · refine (newW_in arg4 harg4 arg5 harg5 arg9 harg9 _ _ d9 (grid0.coords t) ((cond2_iff t).mpr ht) k j).trans ?_
    rw [iblk2_apply m c t k j, iblk3_apply m c t _ j, scales_apply m c _ _]
  · exact (congrFun (newW_out arg4 harg4 arg5 harg5 arg9 harg9 _ _ d9 (grid0.coords t) (fun h2 => ht ((cond2_iff t).mp h2))) _).trans (h ht k j)

/-- Both scratch arrays after the point. -/
theorem step (h : Inv m c t.val d8 d9) :
    Inv m c (t.val + 1) (newX (grid0.coords t) arg2 harg2 arg3 harg3 arg8 harg8 (win0_0.fill (grid0.coords t) e0 (iblk m c 0 t))
      (win0_1.fill (grid0.coords t) e1 (iblk m c 1 t)) d8) (newW (grid0.coords t) arg4 harg4 arg5 harg5 arg9 harg9 (iblk m c 2 t) (iblk m c 3 t) d9) :=
  ⟨stepX m c t arg2 harg2 arg3 harg3 arg8 harg8 e0 e1 d8 h.1, fun h8 q hq => by
    have e : q = cb t := Fin.ext (by rw [hq]; show (t.val + 1) / 8 = (grid0.coords t 0 : Fin 7).val; rw [coord0]; omega)
    rw [e]
    exact stepW m c t arg4 harg4 arg5 harg5 arg9 harg9 d9 fun h' => h.2 h' (cb t) (coord0 t)⟩

/-- The part inside the array of the block that a point leaves is the results' block there. -/
theorem out_eq (h : Inv m c t.val d8 d9) (y : (win0_5.xblock (grid0.coords t)).Idx) :
    outOf (grid0.coords t) arg6 harg6 arg8 harg8 arg9 harg9 (win0_4.fill (grid0.coords t) e4 (iblk m c 4 t))
        (newX (grid0.coords t) arg2 harg2 arg3 harg3 arg8 harg8 (win0_0.fill (grid0.coords t) e0 (iblk m c 0 t)) (win0_1.fill (grid0.coords t) e1 (iblk m c 1 t)) d8)
        (newW (grid0.coords t) arg4 harg4 arg5 harg5 arg9 harg9 (iblk m c 2 t) (iblk m c 3 t) d9) (win0_5.xinj (grid0.coords t) y)
      = G m c ((win0_5.blk t).view.emb y) := by
  have y0 : (y (0 : Fin 2)).val < min 512 (3968 - 512 * (t.val % 8)) := lt_of_lt_of_eq (y (0 : Fin 2)).isLt (ext5 t 0)
  have y1 : (y (1 : Fin 2)).val < 512 := lt_of_lt_of_eq (y (1 : Fin 2)).isLt (ext5 t 1)
  have hr : 512 * (t.val % 8) + (y (0 : Fin 2)).val < 3968 := by omega
  have hx : (win0_5.xinj (grid0.coords t) y : S512x512.Idx) = ix2 ⟨(y (0 : Fin 2)).val, by omega⟩ ⟨(y (1 : Fin 2)).val, y1⟩ := by
    funext a
    fin_cases a <;> rfl
  rw [emb5 t ⟨(y (0 : Fin 2)).val, by omega⟩ ⟨(y (1 : Fin 2)).val, y1⟩ hr y rfl rfl]
  refine (congrArg _ hx).trans ?_
  refine (outOf_apply arg6 harg6 arg8 harg8 arg9 harg9 _ _ _ (grid0.coords t) _ _ ⟨512 * (t.val % 8) + (y (0 : Fin 2)).val, by omega⟩ (by rw [off33])).trans ?_
  rw [fill4_apply m c t e4 _ _ hr]
  show _ = value _ _ _ _ _ (⟨512 * (t.val % 8) + (y (0 : Fin 2)).val, hr⟩ : Fin 3968) (col (cb t) ⟨(y (1 : Fin 2)).val, y1⟩)
  unfold value
  congr 2
  refine Finset.sum_congr rfl fun k _ => ?_
  rw [stepW m c t arg4 harg4 arg5 harg5 arg9 harg9 d9 (fun h' => h.2 h' (cb t) (coord0 t)) k _]
  congr 1
  exact stepX m c t arg2 harg2 arg3 harg3 arg8 harg8 e0 e1 d8 h.1 ⟨512 * (t.val % 8) + (y (0 : Fin 2)).val, hr⟩ k
    (by show 512 * (t.val % 8) + (y (0 : Fin 2)).val < 512 * (t.val + 1); omega)

end
end

/-- The kernel's two scratch arrays, whole at some contents, and the random register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The scratch arrays before point `n`, with what is known of them. -/
def Phi (c : Dev nD) (n : ℕ) : sProp 𝕄 :=
  iprop(∃ d8 d9, owns (c : Thread nD τ) (Memref.whole cc0_scratch0) fullShare d8 ∗ owns (c : Thread nD τ) (Memref.whole cc0_scratch1) fullShare d9
    ∗ ⌜Inv m c n d8 d9⌝ ∗ (∃ r, prngReg c r))

/-- Zeros, to stand in the part of the result's buffer past the array's end. -/
def zero5 : S512x512.Idx → Elt Ideal .bf16 := fun _ => Scalar.ofBits (F := Ideal) .bf16 0#16

/-- The results' block at a point. -/
def gblk (c : Dev nD) (t : Fin grid0.N) : (win0_5.xblock (grid0.coords t)).Idx → Elt Ideal .bf16 := fun y => G m c ((win0_5.blk t).view.emb y)

/-- The proof data: the inputs' buffers hold their blocks, the result's buffer the results' block. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => Scalar.ofBits (F := Ideal) .fp8e4m3 0#8) (iblk m c 0 t)
    | ⟨1, _⟩ => win0_1.fill (grid0.coords t) (fun _ => Scalar.ofBits (F := Ideal) .f32 0#32) (iblk m c 1 t)
    | ⟨2, _⟩ => iblk m c 2 t
    | ⟨3, _⟩ => iblk m c 3 t
    | ⟨4, _⟩ => win0_4.fill (grid0.coords t) (fun _ => Scalar.ofBits (F := Ideal) .bf16 0#16) (iblk m c 4 t)
    | ⟨5, _⟩ => win0_5.fill (grid0.coords t) zero5 (gblk m c t)
  Φ t := Phi m c t.val
  q _ := fullShare
  owed _ := 0

theorem A_eq (c : Dev nD) (w : Fin cfg0.W) : (dats m 0 c).A w = V m c (Pipeline.arrRef spec0 w) := by
  dsimp only [dats]

theorem blockOf_eq (c : Dev nD) (w : Fin cfg0.W) (t : Fin cfg0.N) : (dats m 0 c).blockOf w t = iblk m c w t := by
  unfold Dat.blockOf iblk
  rw [A_eq]

theorem before_0 (c : Dev nD) (t : Fin cfg0.N) (d) :
    (dats m 0 c).before 0 t d = win0_0.fill (grid0.coords t) d (iblk m c 0 t) := by
  refine ((dats m 0 c).before_in_eq_fetched 0 rfl (fun _ => rfl) (fun a b h => ?_) (fun t => ?_) t d).trans ?_
  · exact congrArg (fun ix : Fin 2 → ℕ => fun a => Pipeline.Clip.of (ix a) (S512x4096.size a) (S3968x4096.size a)) h
  · rw [blockOf_eq]; exact win0_0.cut_fill _ _ _
  · unfold Dat.fetched; rw [blockOf_eq]

theorem before_1 (c : Dev nD) (t : Fin cfg0.N) (d) :
    (dats m 0 c).before 1 t d = win0_1.fill (grid0.coords t) d (iblk m c 1 t) := by
  refine ((dats m 0 c).before_in_eq_fetched 1 rfl (fun _ => rfl) (fun a b h => ?_) (fun t => ?_) t d).trans ?_
  · exact congrArg (fun ix : Fin 2 → ℕ => fun a => Pipeline.Clip.of (ix a) (S512x32.size a) (S3968x32.size a)) h
  · rw [blockOf_eq]; exact win0_1.cut_fill _ _ _
  · unfold Dat.fetched; rw [blockOf_eq]

theorem before_2 (c : Dev nD) (t : Fin cfg0.N) (d) : (dats m 0 c).before 2 t d = iblk m c 2 t :=
  before0_2_of m (dats m 0 c) (A_eq m c 2) (fun _ => by dsimp only [dats]) t d

theorem before_3 (c : Dev nD) (t : Fin cfg0.N) (d) : (dats m 0 c).before 3 t d = iblk m c 3 t :=
  before0_3_of m (dats m 0 c) (A_eq m c 3) (fun _ => by dsimp only [dats]) t d

theorem before_4 (c : Dev nD) (t : Fin cfg0.N) (d) :
    (dats m 0 c).before 4 t d = win0_4.fill (grid0.coords t) d (iblk m c 4 t) := by
  refine ((dats m 0 c).before_fetched 4 t (fetch0_4 t) d).trans ?_
  unfold Dat.fetched; rw [blockOf_eq]

theorem after_2 (c : Dev nD) (t : Fin cfg0.N) : (dats m 0 c).after 2 t = iblk m c 2 t := by dsimp only [dats]

theorem after_3 (c : Dev nD) (t : Fin cfg0.N) : (dats m 0 c).after 3 t = iblk m c 3 t := by dsimp only [dats]

theorem defs₀_row (t : Fin cfg0.N) : defs₀ (F := Ideal) .tc cfg0.body (cfg0.bodyArgs t (cfg0.slots t)) = bodyAt0 t := by
  unfold defs₀; rw [Defs.onTc_tc]

/-- Contents of the result's buffer that agree with the results' block inside the array. -/
theorem leave5 (c : Dev nD) (t : Fin cfg0.N) (X : S512x512.Idx → Elt Ideal .bf16) (h : ∀ y, X (win0_5.xinj (grid0.coords t) y) = gblk m c t y) :
    (owns (c : Thread nD τ) (win0_5.stage (cfg0.slots t 5)) fullShare X : sProp 𝕄)
      ⊢ iprop(∃ d, owns (c : Thread nD τ) (win0_5.stage (cfg0.slots t 5)) fullShare (win0_5.fill (grid0.coords t) d (win0_5.cut (grid0.coords t) (win0_5.fill (grid0.coords t) zero5 (gblk m c t))))) := by
  have e : win0_5.fill (grid0.coords t) X (gblk m c t) = X := by
    rw [← funext h]
    exact win0_5.fill_cut _ X
  iintro H
  iexists X
  rw [win0_5.cut_fill, e]
  iexact H

/-- The body's obligation at every point. -/
theorem body_obligation (c : Dev nD) : BodyObligationLoose (dats m 0 c) (defs₀ (F := Ideal)) Variants.none () Set.univ := fun t => by
  rw [bigSep_W0, bigSep_W0, defs₀_row]
  rw [show (dats m 0 c).Φ t.succ = Phi m c (t.val + 1) from rfl, show (dats m 0 c).Φ t.castSucc = Phi m c t.val from rfl,
    show (dats m 0 c).owesAt () t.succ = (dats m 0 c).owesAt () t.castSucc from rfl]
  unfold bodyAt0 Phi
  iintro ⟨⟨%e8, %e9, HS0, HS1, %hi, Hg⟩, Ho, ⟨%d0, H0⟩, ⟨%d1, H1⟩, ⟨%d2, H2⟩, ⟨%d3, H3⟩, ⟨%d4, H4⟩, ⟨%d5, H5⟩⟩
  rw [before_0, before_1, before_2, before_3, before_4]
  iapply (Step.run c (grid0.coords t) _ _ _ _ _ _ _ _ _ _ _ _ _ _ _ _ (win0_0.fill (grid0.coords t) d0 (iblk m c 0 t))
    (win0_1.fill (grid0.coords t) d1 (iblk m c 1 t)) (iblk m c 2 t) (iblk m c 3 t) (win0_4.fill (grid0.coords t) d4 (iblk m c 4 t)) e8 e9 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · iexists _; iexists _
    isplitl [HS0]; · iexact HS0
    isplitl [HS1]; · iexact HS1
    isplitr
    · ipureintro
      exact step m c t _ _ _ _ _ _ _ _ _ _ _ _ d0 d1 e8 e9 hi
    · iexact Hg
  isplitl [Ho]; · iexact Ho
  isplitl [H0]
  · iexists d0
    change _ ⊢ owns (c : Thread nD τ) (win0_0.stage (cfg0.slots t 0)) fullShare (win0_0.fill (grid0.coords t) d0 (win0_0.cut (grid0.coords t) (win0_0.fill (grid0.coords t) (fun _ => Scalar.ofBits (F := Ideal) .fp8e4m3 0#8) (iblk m c 0 t))))
    rw [win0_0.cut_fill]
  isplitl [H1]
  · iexists d1
    change _ ⊢ owns (c : Thread nD τ) (win0_1.stage (cfg0.slots t 1)) fullShare (win0_1.fill (grid0.coords t) d1 (win0_1.cut (grid0.coords t) (win0_1.fill (grid0.coords t) (fun _ => Scalar.ofBits (F := Ideal) .f32 0#32) (iblk m c 1 t))))
    rw [win0_1.cut_fill]
  isplitl [H2]
  · rw [after_2]; iexact H2
  isplitl [H3]
  · rw [after_3]; iexact H3
  isplitl [H4]
  · iexists d4
    change _ ⊢ owns (c : Thread nD τ) (win0_4.stage (cfg0.slots t 4)) fullShare (win0_4.fill (grid0.coords t) d4 (win0_4.cut (grid0.coords t) (win0_4.fill (grid0.coords t) (fun _ => Scalar.ofBits (F := Ideal) .bf16 0#16) (iblk m c 4 t))))
    rw [win0_4.cut_fill]
  · change _ ⊢ iprop(∃ d, owns (c : Thread nD τ) (win0_5.stage (cfg0.slots t 5)) fullShare (win0_5.fill (grid0.coords t) d (win0_5.cut (grid0.coords t) (win0_5.fill (grid0.coords t) zero5 (gblk m c t)))))
    iapply (leave5 m c t _ (out_eq m c t _ _ _ _ _ _ _ _ _ _ _ _ _ _ d0 d1 d4 e8 e9 hi))

-- the launch theorem's implicit arguments are found by unifying its conclusion with this one
set_option backward.isDefEq.respectTransparency.types false in
/-- The run, tracked. -/
theorem run_main : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m)
    (hin := fun c => by
      rw [PhiA0_eq, show (dats m 0 c).Φ 0 = Phi m c 0 from rfl]
      unfold Phi
      iintro ⟨⟨⟨%d8, HS0⟩, ⟨%d9, HS1⟩⟩, Hg⟩
      iexists d8; iexists d9
      isplitl [HS0]; · iexact HS0
      isplitl [HS1]; · iexact HS1
      isplitr
      · ipureintro; exact inv_zero m c d8 d9
      · iexact Hg)
    (hout := fun c => by
      rw [PhiA0_eq, show (dats m 0 c).Φ (Fin.last cfg0.N) = Phi m c cfg0.N from rfl]
      unfold Phi
      iintro ⟨%d8, %d9, HS0, HS1, -, Hg⟩
      isplitl [HS0 HS1]
      · isplitl [HS0]
        · iexists d8; iexact HS0
        · iexists d9; iexact HS1
      · iexact Hg)

/-- The array of results after the run. -/
theorem final5 (c : Dev nD) : (dats m 0 c).arrAt 5 cfg0.N = G m c := by
  refine (dats m 0 c).arrAt_eq_of_covers 5 (G m c) (by decide +kernel) fun t hf y => ?_
  show win0_5.fill (grid0.coords t) zero5 (gblk m c t) (win0_5.xinj (grid0.coords t) y) = G m c ((win0_5.blk t).view.emb y)
  exact win0_5.fill_xinj _ _ _ y

/-- The run's results: the array of results, the arguments as they were, every counter at zero. -/
theorem run : θ_run defs (onTc (τ := τ) (main (F := Ideal))) ⟨m, fun _ => 0, ρ⟩ (fun r => (∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).1 5).trans (final5 m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).1 4).trans (((dats m 0 c).arrAt_in 4 rfl _).trans ((A_eq m c 4).trans (V_main_arg4 m c)))⟩, h.2⟩) (run_main m ρ)

end Cert.OutIdeal.Track
end
-- ==== Proof.OutRef.lean ====
/- The reference's output projection at an index, over exact values: the same sum. -/
module

public import proofs.«01_k».proof.Proof.OutTrack
public import proofs.«01_k».proof.Proof.Gen.OutReferenceIdeal.Value
public import Idealize.ShloMosaic.Lib.Pointwise

@[expose] public section

set_option maxRecDepth 16384

noncomputable section

namespace Cert.OutReferenceIdeal.RefValue

open Idealize.ShloMosaic Idealize.ShloMosaic.TcCoe Idealize.ShloMosaic.Tactic Idealize.ShloMosaic.Pointwise
open Cert.OutReferenceIdeal Cert.OutReferenceIdeal.Gen

/-- The reference's result at row `r` and column `j`. -/
theorem pay1_apply (a0 : Vec Ideal S3968x4096 .fp8e4m3) (a1 : Vec Ideal S3968x32 .f32) (a2 : Vec Ideal S4096x3584 .fp8e4m3) (a3 : Vec Ideal S32x28 .f32)
    (a4 : Vec Ideal S3968x3584 .bf16) (r : Fin 3968) (j : Fin 3584) :
    k0_pay1 a0 a1 a3 a2 a4 (ix2 r j)
      = a4 (ix2 r j) + (∑ k : Fin 4096, (a0 (ix2 r k) * a1 (ix2 r ⟨k.val / 128, by omega⟩)) * (a2 (ix2 k j) * a3 (ix2 ⟨k.val / 128, by omega⟩ ⟨j.val / 128, by omega⟩)))
        * Ideal.ofBits FTy.f32 0x3E7D6D54#32 := by
  pointwise [k0_pay1]

/-- The reference's array of results is the kernel's. -/
theorem G5_eq (a0 : Vec Ideal S3968x4096 .fp8e4m3) (a1 : Vec Ideal S3968x32 .f32) (a2 : Vec Ideal S4096x3584 .fp8e4m3) (a3 : Vec Ideal S32x28 .f32)
    (a4 : Vec Ideal S3968x3584 .bf16) : Value.G5 a0 a1 a2 a3 a4 = Cert.OutIdeal.Track.result a0 a1 a2 a3 a4 := by
  funext y
  have e : y = ix2 (y 0) (y 1) := by
    funext a
    fin_cases a <;> rfl
  rw [e]
  exact pay1_apply a0 a1 a2 a3 a4 (y 0) (y 1)

end Cert.OutReferenceIdeal.RefValue
end
-- ==== Proof.ScoresStep.lean ====
/- The body of the semantic scores' call at one grid point: its sixteen heads run the same computation on one scratch
   array, so what the scratch holds at the end is a sum over the heads. -/
module

public import proofs.«01_k».proof.Proof.Gen.ScoresIdeal.Value
public import proofs.«01_k».proof.Proof.Flash
public import Idealize.ShloMosaic.Lib.Pointwise
public import Idealize.ShloMosaic.Lib.WholeRead
public import Idealize.ShloMosaic.Lib.VecWindow

@[expose] public section

set_option maxRecDepth 16384

noncomputable section

namespace Cert.ScoresIdeal.Step

open Idealize.ShloMosaic Idealize.ShloMosaic.TcCoe Idealize.ShloMosaic.Tactic Idealize.ShloMosaic.Pointwise
open Cert.ScoresIdeal Cert.ScoresIdeal.Gen

theorem inbQ (h : Fin 16) : ∀ a, (![0, 128 * h.val] : Fin 2 → ℕ) a + S128x128.size a ≤ S128x2048.size a := by
  revert h; decide

section Run
variable (c : Dev nD) (i : grid0.Coords) (arg2 : Memref sig .tc .vmem S128x2048 .bf16) (harg2 : arg2.IsWhole) (arg3 : Memref sig .tc .vmem S1x544x128 .bf16) (harg3 : arg3.IsWhole) (arg4 : Memref sig .tc .vmem S1x544x1 .f32) (harg4 : arg4.IsWhole) (arg5 : Memref sig .tc .vmem S1x128x130 .f32) (harg5 : arg5.IsWhole) (arg6 : Memref sig .tc .vmem S544x128 .f32) (harg6 : arg6.IsWhole)
  (x0 : Vec Ideal S128x2048 .bf16) (x1 : Vec Ideal S1x544x128 .bf16) (x2 : Vec Ideal S1x544x1 .f32)

/-- The queries of head `h`: its 128 columns of the block of queries. -/
def qOf (h : Fin 16) : Vec Ideal S128x128 .bf16 :=
  View.readAt (Elt Ideal) arg2.view (Rect.unit (s := S128x2048) ![0, 128 * h.val] S128x128.size (inbQ h)).toLoadRect (harg2.unread x0)

/-- The compressed keys the body reads. -/
abbrev keys : Vec Ideal S1x544x128 .bf16 :=
  View.readAt (Elt Ideal) arg3.view (Rect.unit (s := S1x544x128) ![0, 0, 0] S1x544x128.size inb_S1x544x128_S1x544x128_0_0_0).toLoadRect (harg3.unread x1)

/-- Their scales. -/
abbrev scales : Vec Ideal S1x544x1 .f32 :=
  View.readAt (Elt Ideal) arg4.view (Rect.unit (s := S1x544x1) ![0, 0, 0] S1x544x1.size inb_S1x544x1_S1x544x1_0_0_0).toLoadRect (harg4.unread x2)

/-- The scratch after the first `n` heads. -/
def acc (n : ℕ) : Vec Ideal S544x128 .f32 :=
  Nat.rec (motive := fun _ => Vec Ideal S544x128 .f32) (k0_pay3 (F := Ideal))
    (fun n a => if h : n < 16 then k0_pay11 (k0_pay2 i) (qOf arg2 harg2 x0 ⟨n, h⟩) (keys arg3 harg3 x1) (scales arg4 harg4 x2) a else a) n

theorem acc_succ (h : Fin 16) : acc i arg2 harg2 arg3 harg3 arg4 harg4 x0 x1 x2 (h.val + 1)
    = k0_pay11 (k0_pay2 i) (qOf arg2 harg2 x0 h) (keys arg3 harg3 x1) (scales arg4 harg4 x2) (acc i arg2 harg2 arg3 harg3 arg4 harg4 x0 x1 x2 h.val) :=
  dif_pos h.isLt

/-- A load of the whole scratch after a store of all of it reads what was stored. -/
theorem whole (w : Vec Ideal S544x128 .f32) (L : List (View.Piece (Elt Ideal) S544x128 .f32)) :
    arg6.view.readCov (⟨Rect.unit ![0, 0] S544x128.size inb_S544x128_S544x128_0_0, w⟩ :: L)
      (Rect.unit ![0, 0] S544x128.size inb_S544x128_S544x128_0_0).toLoadRect = w :=
  View.readCov_full _ _ _ _ _

/-- One head's step: what is loaded after a head has stored is that head's sum, if what it added to was the sum before. -/
theorem next (h : Fin 16) {w a : Vec Ideal S544x128 .f32} (L : List (View.Piece (Elt Ideal) S544x128 .f32))
    (ha : a = acc i arg2 harg2 arg3 harg3 arg4 harg4 x0 x1 x2 h.val)
    (hw : w = k0_pay11 (k0_pay2 i) (qOf arg2 harg2 x0 h) (keys arg3 harg3 x1) (scales arg4 harg4 x2) a) :
    arg6.view.readCov (⟨Rect.unit ![0, 0] S544x128.size inb_S544x128_S544x128_0_0, w⟩ :: L)
      (Rect.unit ![0, 0] S544x128.size inb_S544x128_S544x128_0_0).toLoadRect = acc i arg2 harg2 arg3 harg3 arg4 harg4 x0 x1 x2 (h.val + 1) := by
  rw [whole, hw, acc_succ, ha]

open kernelRun0_A.sl

theorem v50_eq : v50 (F := Ideal) c arg6 = acc i arg2 harg2 arg3 harg3 arg4 harg4 x0 x1 x2 0 := whole arg6 _ _
theorem v77_eq : v77 c i arg2 harg2 arg3 harg3 arg4 harg4 arg6 x0 x1 x2 = acc i arg2 harg2 arg3 harg3 arg4 harg4 x0 x1 x2 1 :=
  next _ _ _ _ _ _ _ arg6 _ _ _ 0 _ (v50_eq c i arg2 harg2 arg3 harg3 arg4 harg4 arg6 x0 x1 x2) rfl
theorem v104_eq : v104 c i arg2 harg2 arg3 harg3 arg4 harg4 arg6 x0 x1 x2 = acc i arg2 harg2 arg3 harg3 arg4 harg4 x0 x1 x2 2 :=
  next _ _ _ _ _ _ _ arg6 _ _ _ 1 _ (v77_eq c i arg2 harg2 arg3 harg3 arg4 harg4 arg6 x0 x1 x2) rfl
theorem v131_eq : v131 c i arg2 harg2 arg3 harg3 arg4 harg4 arg6 x0 x1 x2 = acc i arg2 harg2 arg3 harg3 arg4 harg4 x0 x1 x2 3 :=
  next _ _ _ _ _ _ _ arg6 _ _ _ 2 _ (v104_eq c i arg2 harg2 arg3 harg3 arg4 harg4 arg6 x0 x1 x2) rfl
theorem v158_eq : v158 c i arg2 harg2 arg3 harg3 arg4 harg4 arg6 x0 x1 x2 = acc i arg2 harg2 arg3 harg3 arg4 harg4 x0 x1 x2 4 :=
  next _ _ _ _ _ _ _ arg6 _ _ _ 3 _ (v131_eq c i arg2 harg2 arg3 harg3 arg4 harg4 arg6 x0 x1 x2) rfl
theorem v185_eq : v185 c i arg2 harg2 arg3 harg3 arg4 harg4 arg6 x0 x1 x2 = acc i arg2 harg2 arg3 harg3 arg4 harg4 x0 x1 x2 5 :=
  next _ _ _ _ _ _ _ arg6 _ _ _ 4 _ (v158_eq c i arg2 harg2 arg3 harg3 arg4 harg4 arg6 x0 x1 x2) rfl
theorem v212_eq : v212 c i arg2 harg2 arg3 harg3 arg4 harg4 arg6 x0 x1 x2 = acc i arg2 harg2 arg3 harg3 arg4 harg4 x0 x1 x2 6 :=
  next _ _ _ _ _ _ _ arg6 _ _ _ 5 _ (v185_eq c i arg2 harg2 arg3 harg3 arg4 harg4 arg6 x0 x1 x2) rfl
theorem v239_eq : v239 c i arg2 harg2 arg3 harg3 arg4 harg4 arg6 x0 x1 x2 = acc i arg2 harg2 arg3 harg3 arg4 harg4 x0 x1 x2 7 :=
  next _ _ _ _ _ _ _ arg6 _ _ _ 6 _ (v212_eq c i arg2 harg2 arg3 harg3 arg4 harg4 arg6 x0 x1 x2) rfl
theorem v266_eq : v266 c i arg2 harg2 arg3 harg3 arg4 harg4 arg6 x0 x1 x2 = acc i arg2 harg2 arg3 harg3 arg4 harg4 x0 x1 x2 8 :=
  next _ _ _ _ _ _ _ arg6 _ _ _ 7 _ (v239_eq c i arg2 harg2 arg3 harg3 arg4 harg4 arg6 x0 x1 x2) rfl
theorem v293_eq : v293 c i arg2 harg2 arg3 harg3 arg4 harg4 arg6 x0 x1 x2 = acc i arg2 harg2 arg3 harg3 arg4 harg4 x0 x1 x2 9 :=
  next _ _ _ _ _ _ _ arg6 _ _ _ 8 _ (v266_eq c i arg2 harg2 arg3 harg3 arg4 harg4 arg6 x0 x1 x2) rfl
theorem v320_eq : v320 c i arg2 harg2 arg3 harg3 arg4 harg4 arg6 x0 x1 x2 = acc i arg2 harg2 arg3 harg3 arg4 harg4 x0 x1 x2 10 :=
  next _ _ _ _ _ _ _ arg6 _ _ _ 9 _ (v293_eq c i arg2 harg2 arg3 harg3 arg4 harg4 arg6 x0 x1 x2) rfl
theorem v347_eq : v347 c i arg2 harg2 arg3 harg3 arg4 harg4 arg6 x0 x1 x2 = acc i arg2 harg2 arg3 harg3 arg4 harg4 x0 x1 x2 11 :=
  next _ _ _ _ _ _ _ arg6 _ _ _ 10 _ (v320_eq c i arg2 harg2 arg3 harg3 arg4 harg4 arg6 x0 x1 x2) rfl
theorem v374_eq : v374 c i arg2 harg2 arg3 harg3 arg4 harg4 arg6 x0 x1 x2 = acc i arg2 harg2 arg3 harg3 arg4 harg4 x0 x1 x2 12 :=
  next _ _ _ _ _ _ _ arg6 _ _ _ 11 _ (v347_eq c i arg2 harg2 arg3 harg3 arg4 harg4 arg6 x0 x1 x2) rfl
theorem v401_eq : v401 c i arg2 harg2 arg3 harg3 arg4 harg4 arg6 x0 x1 x2 = acc i arg2 harg2 arg3 harg3 arg4 harg4 x0 x1 x2 13 :=
  next _ _ _ _ _ _ _ arg6 _ _ _ 12 _ (v374_eq c i arg2 harg2 arg3 harg3 arg4 harg4 arg6 x0 x1 x2) rfl
theorem v428_eq : v428 c i arg2 harg2 arg3 harg3 arg4 harg4 arg6 x0 x1 x2 = acc i arg2 harg2 arg3 harg3 arg4 harg4 x0 x1 x2 14 :=
  next _ _ _ _ _ _ _ arg6 _ _ _ 13 _ (v401_eq c i arg2 harg2 arg3 harg3 arg4 harg4 arg6 x0 x1 x2) rfl
theorem v455_eq : v455 c i arg2 harg2 arg3 harg3 arg4 harg4 arg6 x0 x1 x2 = acc i arg2 harg2 arg3 harg3 arg4 harg4 x0 x1 x2 15 :=
  next _ _ _ _ _ _ _ arg6 _ _ _ 14 _ (v428_eq c i arg2 harg2 arg3 harg3 arg4 harg4 arg6 x0 x1 x2) rfl

/-- A load of some rows of the scratch after a store of all of it reads those rows of what was stored. -/
theorem rows (w : Vec Ideal S544x128 .f32) (L : List (View.Piece (Elt Ideal) S544x128 .f32)) (r : LoadRect S544x128) (j : r.shape.Idx) :
    arg6.view.readCov (⟨Rect.unit ![0, 0] S544x128.size inb_S544x128_S544x128_0_0, w⟩ :: L) r j = w (r.idx j) := by
  show arg6.view.read (Elt Ideal) (arg6.view.writes (Elt Ideal) arg6.view.junk (⟨Rect.unit ![0, 0] S544x128.size inb_S544x128_S544x128_0_0, w⟩ :: L)) (r.idx j) = _
  rw [View.read_writes_full]

/-- What the last head stores is the sum over all sixteen. -/
theorem last_eq : k0_pay35 (k0_pay2 i) (qOf arg2 harg2 x0 15) (keys arg3 harg3 x1) (scales arg4 harg4 x2) (v455 c i arg2 harg2 arg3 harg3 arg4 harg4 arg6 x0 x1 x2)
    = acc i arg2 harg2 arg3 harg3 arg4 harg4 x0 x1 x2 16 := by
  rw [v455_eq]
  exact (acc_succ i arg2 harg2 arg3 harg3 arg4 harg4 x0 x1 x2 15).symm

theorem v466_apply (b : Fin 136) (t : Fin 128) : v466 c i arg2 harg2 arg3 harg3 arg4 harg4 arg6 x0 x1 x2 (ix2 b t)
    = acc i arg2 harg2 arg3 harg3 arg4 harg4 x0 x1 x2 16 (ix2 ⟨b.val, by omega⟩ t) := by
  refine (rows arg6 _ _ _ _).trans ((congrFun (last_eq c i arg2 harg2 arg3 harg3 arg4 harg4 arg6 x0 x1 x2) _).trans (congrArg _ ?_))
  funext a
  fin_cases a
  · exact Fin.ext (by show 0 + 1 * b.val = b.val; omega)
  · exact Fin.ext (by show 0 + 1 * t.val = t.val; omega)

theorem v467_apply (b : Fin 136) (t : Fin 128) : v467 c i arg2 harg2 arg3 harg3 arg4 harg4 arg6 x0 x1 x2 (ix2 b t)
    = acc i arg2 harg2 arg3 harg3 arg4 harg4 x0 x1 x2 16 (ix2 ⟨136 + b.val, by omega⟩ t) := by
  refine (rows arg6 _ _ _ _).trans ((congrFun (last_eq c i arg2 harg2 arg3 harg3 arg4 harg4 arg6 x0 x1 x2) _).trans (congrArg _ ?_))
  funext a
  fin_cases a
  · exact Fin.ext (by show 136 + 1 * b.val = 136 + b.val; omega)
  · exact Fin.ext (by show 0 + 1 * t.val = t.val; omega)

theorem v468_apply (b : Fin 136) (t : Fin 128) : v468 c i arg2 harg2 arg3 harg3 arg4 harg4 arg6 x0 x1 x2 (ix2 b t)
    = acc i arg2 harg2 arg3 harg3 arg4 harg4 x0 x1 x2 16 (ix2 ⟨272 + b.val, by omega⟩ t) := by
  refine (rows arg6 _ _ _ _).trans ((congrFun (last_eq c i arg2 harg2 arg3 harg3 arg4 harg4 arg6 x0 x1 x2) _).trans (congrArg _ ?_))
  funext a
  fin_cases a
  · exact Fin.ext (by show 272 + 1 * b.val = 272 + b.val; omega)
  · exact Fin.ext (by show 0 + 1 * t.val = t.val; omega)

theorem v469_apply (b : Fin 136) (t : Fin 128) : v469 c i arg2 harg2 arg3 harg3 arg4 harg4 arg6 x0 x1 x2 (ix2 b t)
    = acc i arg2 harg2 arg3 harg3 arg4 harg4 x0 x1 x2 16 (ix2 ⟨408 + b.val, by omega⟩ t) := by
  refine (rows arg6 _ _ _ _).trans ((congrFun (last_eq c i arg2 harg2 arg3 harg3 arg4 harg4 arg6 x0 x1 x2) _).trans (congrArg _ ?_))
  funext a
  fin_cases a
  · exact Fin.ext (by show 408 + 1 * b.val = 408 + b.val; omega)
  · exact Fin.ext (by show 0 + 1 * t.val = t.val; omega)

/-! ## The loads -/

theorem qOf_apply (h : Fin 16) (t d : Fin 128) : qOf arg2 harg2 x0 h (ix2 t d) = x0 (ix2 t ⟨128 * h.val + d.val, by omega⟩) := by
  unfold qOf
  rw [Memref.IsWhole.readAt_unread]
  congr 1
  funext a
  fin_cases a
  · exact Fin.ext (by show 0 + 1 * t.val = t.val; omega)
  · exact Fin.ext (by show 128 * h.val + 1 * d.val = 128 * h.val + d.val; omega)

theorem keys_apply (r : Fin 544) (d : Fin 128) : keys arg3 harg3 x1 (ix3 0 r d) = x1 (ix3 0 r d) := by
  unfold keys
  rw [Memref.IsWhole.readAt_unread]
  congr 1
  funext a
  fin_cases a
  · exact Subsingleton.elim (α := Fin 1) _ _
  · exact Fin.ext (by show 0 + 1 * r.val = r.val; omega)
  · exact Fin.ext (by show 0 + 1 * d.val = d.val; omega)

theorem scales_apply (r : Fin 544) : scales arg4 harg4 x2 (ix3 0 r 0) = x2 (ix3 0 r 0) := by
  unfold scales
  rw [Memref.IsWhole.readAt_unread]
  congr 1
  funext a
  fin_cases a
  · exact Subsingleton.elim (α := Fin 1) _ _
  · exact Fin.ext (by show 0 + 1 * r.val = r.val; omega)
  · exact Subsingleton.elim (α := Fin 1) _ _

end Run

end Cert.ScoresIdeal.Step
end
-- ==== Proof.ScoresSoft.lean ====
/- The softmax over the compressed keys, apart from any kernel: rows of score -∞ that only pad the array count for nothing. -/
module

public import proofs.«01_k».proof.Proof.Flash

@[expose] public section

noncomputable section

namespace Scores

open Idealize.ShloMosaic Flash

/-- The softmax weight of row `r` among the scores `S`, the exponentials taken at the greatest score rounded up. -/
def share {n : ℕ} (S : Fin n → EReal) (r : Fin n) : EReal :=
  e2 (S r - up (Finset.univ.sup S)) * Ideal.div 1 (∑ x, e2 (S x - up (Finset.univ.sup S)))

/-- A row of score -∞ has no weight. -/
theorem share_bot {n : ℕ} (S : Fin n → EReal) (r : Fin n) (h : S r = ⊥) : share S r = 0 := by
  unfold share; rw [h, e2_bot_sub, zero_mul]

/-- Leaving out rows of score -∞ changes no weight. -/
theorem share_comp {n k : ℕ} (S : Fin n → EReal) (f : Fin k → Fin n) (hf : Function.Injective f) (hS : ∀ r, (∀ c, f c ≠ r) → S r = ⊥) (c : Fin k) :
    share S (f c) = share (fun c => S (f c)) c := by
  have hsup : Finset.univ.sup S = Finset.univ.sup fun c => S (f c) := by
    refine le_antisymm (Finset.sup_le fun r _ => ?_) (Finset.sup_le fun c _ => Finset.le_sup (f := S) (Finset.mem_univ _))
    by_cases h : ∃ c, f c = r
    · obtain ⟨c, rfl⟩ := h
      exact Finset.le_sup (f := fun c => S (f c)) (Finset.mem_univ c)
    · rw [hS r fun c e => h ⟨c, e⟩]; exact bot_le
  have hsum : ∀ m : EReal, ∑ x, e2 (S x - m) = ∑ c, e2 (S (f c) - m) := fun m => by
    symm
    refine Finset.sum_of_injOn f hf.injOn (fun _ _ => Finset.mem_univ _) (fun r _ hr => ?_) (fun _ _ => rfl)
    rw [hS r fun c e => hr ⟨c, Finset.mem_coe.mpr (Finset.mem_univ c), e⟩, e2_bot_sub]
  unfold share
  rw [hsup, hsum]

/-- The row of the padded array that holds compressed key `c` of the array without padding: four runs of 130 keys, each
    padded to 136 rows. -/
def padded (c : Fin 520) : Fin 544 := ⟨136 * (c.val / 130) + c.val % 130, by omega⟩

theorem padded_injective : Function.Injective padded := fun a b h => by
  have := congrArg Fin.val h
  simp only [padded] at this
  exact Fin.ext (by omega)

theorem padded_of (r : Fin 544) (h : r.val % 136 < 130) : padded ⟨130 * (r.val / 136) + r.val % 136, by omega⟩ = r :=
  Fin.ext (by simp only [padded]; omega)

/-- Row `r` of the padded array is visible to query `s`: the window that its compressed key pools ends at or before it. -/
def visible (r s : ℕ) : Prop := 16 * (4 * (r % 136) + r / 136) + 31 ≤ 4352 + s

instance (r s : ℕ) : Decidable (visible r s) := by unfold visible; infer_instance

/-- No query sees a padding row. -/
theorem not_visible_pad (r : Fin 544) (s : ℕ) (hs : s < 3968) (h : ∀ c, padded c ≠ r) : ¬ visible r.val s := by
  have h1 : ¬ r.val % 136 < 130 := fun e => h _ (padded_of r e)
  unfold visible
  omega

/-- The greatest of the five weights that a block of keys meets: that of the last run's previous row, then those of its
    own rows in the four runs. -/
def best {n : ℕ} (P : Fin n → EReal) (prev : EReal) (r0 r1 r2 r3 : Fin n) : EReal := max (max (max (max prev (P r0)) (P r1)) (P r2)) (P r3)

end Scores
end
-- ==== Proof.ScoresValue.lean ====
/- What the body of the semantic scores' call leaves in its block of results, at an index, over the extended reals. -/
module

public import proofs.«01_k».proof.Proof.ScoresStep
public import proofs.«01_k».proof.Proof.ScoresSoft

@[expose] public section

set_option maxRecDepth 16384

noncomputable section

namespace Cert.ScoresIdeal.Value

open Idealize.ShloMosaic Idealize.ShloMosaic.TcCoe Idealize.ShloMosaic.Tactic Idealize.ShloMosaic.Pointwise
open Cert.ScoresIdeal Cert.ScoresIdeal.Gen Cert.ScoresIdeal.Step

theorem ofBits_bot : Ideal.ofBits FTy.f32 4286578688#32 = ⊥ := by
  simp [Ideal.ofBits, Ideal.ieee]

theorem choose (p : Prop) [Decidable p] (x y : EReal) : Scalar.select (BitVec.ofBool (decide p)) x y = if p then x else y := by
  by_cases h : p
  · rw [if_pos h, decide_eq_true h]; rfl
  · rw [if_neg h, decide_eq_false h]; rfl

/-- The end of the window that a row's compressed key pools, as the body computes it from the row's number. -/
def endOf (r : BitVec 32) : BitVec 32 :=
  let ph := IntOp.addi (IntOp.addi ((IntOp.cmpi .sge r 136#32).setWidth 32) ((IntOp.cmpi .sge r 272#32).setWidth 32)) ((IntOp.cmpi .sge r 408#32).setWidth 32)
  IntOp.subi (IntOp.addi (IntOp.muli 16#32 (IntOp.addi (IntOp.muli 4#32 (IntOp.subi r (IntOp.muli ph 136#32))) ph)) 32#32) 1#32

theorem endOf_eq : ∀ r : Fin 544, endOf (BitVec.ofNat 32 r.val) = BitVec.ofNat 32 (16 * (4 * (r.val % 136) + r.val / 136) + 31) := by
  decide +kernel

theorem le_nat (a b : ℕ) (ha : a < 2 ^ 31) (hb : b < 2 ^ 31) : IntOp.cmpi .sle (BitVec.ofNat 32 a) (BitVec.ofNat 32 b) = BitVec.ofBool (decide (a ≤ b)) := by
  show BitVec.ofBool ((BitVec.ofNat 32 a).sle (BitVec.ofNat 32 b)) = _
  congr 1
  unfold BitVec.sle
  have e : ∀ n : ℕ, n < 2 ^ 31 → (BitVec.ofNat 32 n).toInt = n := fun n h => by
    rw [BitVec.toInt_eq_toNat_cond]; simp only [BitVec.toNat_ofNat]; split <;> omega
  rw [e a ha, e b hb]
  simp

/-- Which compressed keys a query sees. -/
theorem pay2_apply (i : grid0.Coords) (r : Fin 544) (t : Fin 128) :
    k0_pay2 i (ix2 r t) = BitVec.ofBool (decide (Scores.visible r.val (128 * (i 1).val + t.val))) := by
  have e : k0_pay2 i (ix2 r t) = IntOp.cmpi .sle (endOf (BitVec.ofNat 32 r.val))
      (IntOp.addi (Scalar.addi 4352#32 (Scalar.muli (BitVec.ofNat 32 (i 1).val) 128#32)) (BitVec.ofNat 32 t.val)) := by
    pointwise [k0_pay2]
    rfl
  have hi : (i 1).val < 31 := (i 1).isLt
  have e2 : IntOp.addi (Scalar.addi 4352#32 (Scalar.muli (BitVec.ofNat 32 (i 1).val) 128#32)) (BitVec.ofNat 32 t.val)
      = BitVec.ofNat 32 (4352 + (128 * (i 1).val + t.val)) := by
    show (4352#32 + BitVec.ofNat 32 (i 1).val * 128#32) + BitVec.ofNat 32 t.val = _
    generalize (i 1).val = n at hi ⊢
    have ht := t.isLt
    apply BitVec.eq_of_toNat_eq
    simp only [BitVec.toNat_add, BitVec.toNat_mul, BitVec.toNat_ofNat]
    omega
  rw [e, e2, endOf_eq, le_nat _ _ (by omega) (by omega)]
  simp only [Scores.visible]

section
variable (i : grid0.Coords) (q : Vec Ideal S128x128 .bf16) (K : Vec Ideal S1x544x128 .bf16) (ks : Vec Ideal S1x544x1 .f32) (a : Vec Ideal S544x128 .f32)

/-- One head adds its softmax weights. -/
theorem pay11_apply (r : Fin 544) (t : Fin 128) :
    k0_pay11 (k0_pay2 i) q K ks a (ix2 r t) = a (ix2 r t)
      + Scores.share (fun x : Fin 544 => if Scores.visible x.val (128 * (i 1).val + t.val) then (∑ d : Fin 128, K (ix3 0 x d) * q (ix2 t d)) * ks (ix3 0 x 0) else ⊥) r := by
  have h : ∀ x : Fin 544, Scalar.select (k0_pay2 i (ix2 x t)) ((∑ d : Fin 128, K (ix3 0 x d) * q (ix2 t d)) * ks (ix3 0 x 0)) (Ideal.ofBits FTy.f32 4286578688#32)
      = if Scores.visible x.val (128 * (i 1).val + t.val) then (∑ d : Fin 128, K (ix3 0 x d) * q (ix2 t d)) * ks (ix3 0 x 0) else ⊥ := fun x => by
    rw [pay2_apply, choose, ofBits_bot]
  generalize k0_pay2 i = v at h ⊢
  pointwise [k0_pay11]
  simp only [h]
  rw [ofBits_bot]
  rfl
end

/-- A row of the block of results. -/
theorem pay1_apply (v0 v1 v2 v3 : Vec Ideal S136x128 .f32) (t : Fin 128) (b : Fin 130) :
    k0_pay1 v0 v1 v2 v3 (ix3 0 t b)
      = max (max (max (max (if h : b.val = 0 then 0 else v3 (ix2 ⟨b.val - 1, by omega⟩ t)) (v0 (ix2 ⟨b.val, by omega⟩ t)))
          (v1 (ix2 ⟨b.val, by omega⟩ t))) (v2 (ix2 ⟨b.val, by omega⟩ t))) (v3 (ix2 ⟨b.val, by omega⟩ t)) := by
  have e : Scalar.select (IntOp.cmpi CmpIPredicate.eq (BitVec.ofNat 32 b.val) 0#32) (0 : EReal) (v3 (ix2 ⟨(b.val + 136 - 1) % 136, by omega⟩ t))
      = if h : b.val = 0 then 0 else v3 (ix2 ⟨b.val - 1, by omega⟩ t) := by
    by_cases h : b.val = 0
    · rw [dif_pos h]
      have e2 : IntOp.cmpi CmpIPredicate.eq (BitVec.ofNat 32 b.val) 0#32 = 1#1 := by rw [h]; rfl
      rw [e2]; rfl
    · have e1 : (⟨(b.val + 136 - 1) % 136, by omega⟩ : Fin 136) = ⟨b.val - 1, by omega⟩ := Fin.ext (by show (b.val + 136 - 1) % 136 = b.val - 1; omega)
      have e2 : IntOp.cmpi CmpIPredicate.eq (BitVec.ofNat 32 b.val) 0#32 = 0#1 := by
        have : (BitVec.ofNat 32 b.val == 0#32) = false := by
          rw [beq_eq_false_iff_ne]
          intro e
          have := congrArg BitVec.toNat e
          simp only [BitVec.toNat_ofNat] at this
          omega
        show BitVec.ofBool (BitVec.ofNat 32 b.val == 0#32) = _
        rw [this]; rfl
      rw [dif_neg h, e1, e2]; rfl
  rw [← e]
  pointwise [k0_pay1]

section
variable (c : Dev nD) (i : grid0.Coords) (arg2 : Memref sig .tc .vmem S128x2048 .bf16) (harg2 : arg2.IsWhole) (arg3 : Memref sig .tc .vmem S1x544x128 .bf16) (harg3 : arg3.IsWhole) (arg4 : Memref sig .tc .vmem S1x544x1 .f32) (harg4 : arg4.IsWhole) (arg5 : Memref sig .tc .vmem S1x128x130 .f32) (harg5 : arg5.IsWhole) (arg6 : Memref sig .tc .vmem S544x128 .f32) (harg6 : arg6.IsWhole)
  (x0 : Vec Ideal S128x2048 .bf16) (x1 : Vec Ideal S1x544x128 .bf16) (x2 : Vec Ideal S1x544x1 .f32)

/-- The scores of head `h` of query `t` of the block against the compressed keys. -/
def scores (h : Fin 16) (t : Fin 128) (x : Fin 544) : EReal :=
  if Scores.visible x.val (128 * (i 1).val + t.val) then (∑ d : Fin 128, x1 (ix3 0 x d) * x0 (ix2 t ⟨128 * h.val + d.val, by omega⟩)) * x2 (ix3 0 x 0) else ⊥

theorem acc_apply (r : Fin 544) (t : Fin 128) : ∀ n, n ≤ 16 → acc i arg2 harg2 arg3 harg3 arg4 harg4 x0 x1 x2 n (ix2 r t)
    = ∑ k ∈ Finset.range n, if h : k < 16 then Scores.share (scores i x0 x1 x2 ⟨k, h⟩ t) r else 0 := by
  intro n
  induction n with
  | zero =>
    intro _
    show k0_pay3 (F := Ideal) (ix2 r t) = _
    pointwise [k0_pay3]
    simp
  | succ n ih =>
    intro hn
    have hn' : n < 16 := by omega
    rw [Finset.sum_range_succ, ← ih (by omega), dif_pos hn']
    refine (congrFun (acc_succ i arg2 harg2 arg3 harg3 arg4 harg4 x0 x1 x2 ⟨n, hn'⟩) _).trans ((pay11_apply _ _ _ _ _ _ _).trans ?_)
    simp only [qOf_apply, keys_apply, scales_apply]
    rfl

/-- The heads' weights of row `r`, summed. -/
theorem acc16_apply (r : Fin 544) (t : Fin 128) : acc i arg2 harg2 arg3 harg3 arg4 harg4 x0 x1 x2 16 (ix2 r t)
    = ∑ h : Fin 16, Scores.share (scores i x0 x1 x2 h t) r := by
  rw [acc_apply _ _ _ _ _ _ _ _ _ _ _ _ 16 le_rfl, Finset.sum_range]
  exact Finset.sum_congr rfl fun h _ => dif_pos h.isLt

/-- THE BODY'S RESULT for query `t` and block of keys `b`. -/
theorem body_apply (t : Fin 128) (b : Fin 130) :
    out0_A_3 c i arg2 harg2 arg3 harg3 arg4 harg4 arg5 harg5 arg6 harg6 x0 x1 x2 (ix3 0 t b)
      = Scores.best (fun r => ∑ h : Fin 16, Scores.share (scores i x0 x1 x2 h t) r)
          (if hb : b.val = 0 then 0 else ∑ h : Fin 16, Scores.share (scores i x0 x1 x2 h t) ⟨408 + (b.val - 1), by omega⟩)
          ⟨b.val, by omega⟩ ⟨136 + b.val, by omega⟩ ⟨272 + b.val, by omega⟩ ⟨408 + b.val, by omega⟩ := by
  have e : out0_A_3 c i arg2 harg2 arg3 harg3 arg4 harg4 arg5 harg5 arg6 harg6 x0 x1 x2
      = k0_pay1 (kernelRun0_A.sl.v466 c i arg2 harg2 arg3 harg3 arg4 harg4 arg6 x0 x1 x2) (kernelRun0_A.sl.v467 c i arg2 harg2 arg3 harg3 arg4 harg4 arg6 x0 x1 x2)
          (kernelRun0_A.sl.v468 c i arg2 harg2 arg3 harg3 arg4 harg4 arg6 x0 x1 x2) (kernelRun0_A.sl.v469 c i arg2 harg2 arg3 harg3 arg4 harg4 arg6 x0 x1 x2) :=
    View.read_writes_full VO0_3 VO0_3.junk _ _ _
  rw [e, pay1_apply]
  simp only [v466_apply, v467_apply, v468_apply, v469_apply, acc16_apply]
  rfl

end

end Cert.ScoresIdeal.Value
end
-- ==== Proof.ScoresArray.lean ====
/- The array of the semantic scores after the whole grid: the block scores of the argument arrays. -/
module

public import proofs.«01_k».proof.Proof.ScoresValue
public import proofs.«01_k».proof.Proof.Gen.ScoresIdeal.Value

@[expose] public section

set_option maxRecDepth 16384

noncomputable section

namespace Cert.ScoresIdeal.Array

open Idealize.ShloMosaic Idealize.ShloMosaic.TcCoe Idealize.ShloMosaic.Tactic Idealize.ShloMosaic.Pointwise
open Idealize.ShloMosaic.Pipeline
open Cert.ScoresIdeal Cert.ScoresIdeal.Gen

variable (m : (ℓ : Loc nD τ sig) → Buf (Elt Ideal) ℓ) (c : Dev nD) (t : Fin cfg0.N)

/-- The group of a grid point, and its tile of the queries. -/
def group : Fin 2 := grid0.coords t 0
def tile : Fin 31 := grid0.coords t 1

theorem point_of : ∀ t : Fin grid0.N, ((grid0.coords t 0 : Fin 2).val) = t.val / 31 ∧ ((grid0.coords t 1 : Fin 31).val) = t.val % 31 := by
  decide +kernel

theorem index0 : ∀ t : Fin grid0.N, ∀ a : Fin 2, win0_0.index t a = (![(grid0.coords t 1 : Fin 31).val, (grid0.coords t 0 : Fin 2).val] : Fin 2 → ℕ) a := by
  decide +kernel
theorem index1 : ∀ t : Fin grid0.N, ∀ a : Fin 3, win0_1.index t a = (![(grid0.coords t 0 : Fin 2).val, 0, 0] : Fin 3 → ℕ) a := by
  decide +kernel
theorem index2 : ∀ t : Fin grid0.N, ∀ a : Fin 3, win0_2.index t a = (![(grid0.coords t 0 : Fin 2).val, 0, 0] : Fin 3 → ℕ) a := by
  decide +kernel
theorem index3 : ∀ t : Fin grid0.N, ∀ a : Fin 3, win0_3.index t a = (![(grid0.coords t 0 : Fin 2).val, (grid0.coords t 1 : Fin 31).val, 0] : Fin 3 → ℕ) a := by
  decide +kernel

/-- The row of the arrays that holds query `r` of a tile. -/
def row (n : Fin 31) (r : Fin 128) : Fin 3968 := ⟨128 * n.val + r.val, by omega⟩
/-- The column of the queries that holds column `k` of a group's block. -/
def col (g : Fin 2) (k : Fin 2048) : Fin 4096 := ⟨2048 * g.val + k.val, by omega⟩

theorem iblk0_apply (r : Fin 128) (k : Fin 2048) :
    (iblk m c 0 t : Vec Ideal S128x2048 .bf16) (ix2 r k)
      = (m ((c : Thread nD τ).loc main_arg0) : Vec Ideal S3968x4096 .bf16) (ix2 (row (tile t) r) (col (group t) k)) := by
  rw [← V_main_arg0 m c]
  show (V m c main_arg0 : Vec Ideal S3968x4096 .bf16) (((cfg0.win 0).blk t).view.emb (ix2 r k)) = _
  congr 1
  funext a
  fin_cases a
  · refine Fin.ext ?_
    show win0_0.index t (0 : Fin 2) * 128 + 1 * r.val = 128 * (tile t).val + r.val
    rw [index0]
    show (tile t).val * 128 + 1 * r.val = 128 * (tile t).val + r.val
    omega
  · refine Fin.ext ?_
    show win0_0.index t (1 : Fin 2) * 2048 + 1 * k.val = 2048 * (group t).val + k.val
    rw [index0]
    show (group t).val * 2048 + 1 * k.val = 2048 * (group t).val + k.val
    omega

theorem iblk1_apply (x : Fin 544) (d : Fin 128) :
    (iblk m c 1 t : Vec Ideal S1x544x128 .bf16) (ix3 0 x d)
      = (m ((c : Thread nD τ).loc main_arg1) : Vec Ideal S2x544x128 .bf16) (ix3 (group t) x d) := by
  rw [← V_main_arg1 m c]
  show (V m c main_arg1 : Vec Ideal S2x544x128 .bf16) (((cfg0.win 1).blk t).view.emb (ix3 0 x d)) = _
  congr 1
  funext a
  fin_cases a
  · refine Fin.ext ?_
    show win0_1.index t (0 : Fin 3) * 1 + 1 * 0 = (group t).val
    rw [index1]
    show (group t).val * 1 + 1 * 0 = (group t).val
    omega
  · refine Fin.ext ?_
    show win0_1.index t (1 : Fin 3) * 544 + 1 * x.val = x.val
    rw [index1]
    show 0 * 544 + 1 * x.val = x.val
    omega
  · refine Fin.ext ?_
    show win0_1.index t (2 : Fin 3) * 128 + 1 * d.val = d.val
    rw [index1]
    show 0 * 128 + 1 * d.val = d.val
    omega

theorem iblk2_apply (x : Fin 544) (z : Fin 1) :
    (iblk m c 2 t : Vec Ideal S1x544x1 .f32) (ix3 0 x z)
      = (m ((c : Thread nD τ).loc main_arg2) : Vec Ideal S2x544x1 .f32) (ix3 (group t) x z) := by
  rw [← V_main_arg2 m c]
  show (V m c main_arg2 : Vec Ideal S2x544x1 .f32) (((cfg0.win 2).blk t).view.emb (ix3 0 x z)) = _
  congr 1
  funext a
  fin_cases a
  · refine Fin.ext ?_
    show win0_2.index t (0 : Fin 3) * 1 + 1 * 0 = (group t).val
    rw [index2]
    show (group t).val * 1 + 1 * 0 = (group t).val
    omega
  · refine Fin.ext ?_
    show win0_2.index t (1 : Fin 3) * 544 + 1 * x.val = x.val
    rw [index2]
    show 0 * 544 + 1 * x.val = x.val
    omega
  · refine Fin.ext ?_
    show win0_2.index t (2 : Fin 3) * 1 + 1 * z.val = z.val
    rw [index2]
    show 0 * 1 + 1 * z.val = z.val
    omega

theorem emb3 (r : Fin 128) (b : Fin 130) :
    ((cfg0.win 3).blk t).view.emb (ix3 0 r b) = (ix3 (group t) (row (tile t) r) b : S2x3968x130.Idx) := by
  funext a
  fin_cases a
  · refine Fin.ext ?_
    show win0_3.index t (0 : Fin 3) * 1 + 1 * 0 = (group t).val
    rw [index3]
    show (group t).val * 1 + 1 * 0 = (group t).val
    omega
  · refine Fin.ext ?_
    show win0_3.index t (1 : Fin 3) * 128 + 1 * r.val = 128 * (tile t).val + r.val
    rw [index3]
    show (tile t).val * 128 + 1 * r.val = 128 * (tile t).val + r.val
    omega
  · refine Fin.ext ?_
    show win0_3.index t (2 : Fin 3) * 130 + 1 * b.val = b.val
    rw [index3]
    show 0 * 130 + 1 * b.val = b.val
    omega

/-! ## The array -/

/-- The scores of head `h` of group `g` of query `s` against the compressed keys, in the argument arrays. -/
def scoresOf (a0 : Vec Ideal S3968x4096 .bf16) (a1 : Vec Ideal S2x544x128 .bf16) (a2 : Vec Ideal S2x544x1 .f32)
    (g : Fin 2) (s : Fin 3968) (h : Fin 16) (x : Fin 544) : EReal :=
  if Scores.visible x.val s.val then
    (∑ d : Fin 128, a1 (ix3 g x d) * a0 (ix2 s ⟨2048 * g.val + 128 * h.val + d.val, by omega⟩)) * a2 (ix3 g x 0)
  else ⊥

/-- The heads' softmax weights of a compressed key, summed. -/
def total (a0 : Vec Ideal S3968x4096 .bf16) (a1 : Vec Ideal S2x544x128 .bf16) (a2 : Vec Ideal S2x544x1 .f32)
    (g : Fin 2) (s : Fin 3968) (r : Fin 544) : EReal := ∑ h : Fin 16, Scores.share (scoresOf a0 a1 a2 g s h) r

/-- THE RESULT for query `s` of group `g` and block of keys `b`. -/
def result (a0 : Vec Ideal S3968x4096 .bf16) (a1 : Vec Ideal S2x544x128 .bf16) (a2 : Vec Ideal S2x544x1 .f32)
    (g : Fin 2) (s : Fin 3968) (b : Fin 130) : EReal :=
  Scores.best (total a0 a1 a2 g s) (if hb : b.val = 0 then 0 else total a0 a1 a2 g s ⟨408 + (b.val - 1), by omega⟩)
    ⟨b.val, by omega⟩ ⟨136 + b.val, by omega⟩ ⟨272 + b.val, by omega⟩ ⟨408 + b.val, by omega⟩

/-- The array of results. -/
def G3 (a0 : Vec Ideal S3968x4096 .bf16) (a1 : Vec Ideal S2x544x128 .bf16) (a2 : Vec Ideal S2x544x1 .f32) : Vec Ideal S2x3968x130 .f32 :=
  fun y => result a0 a1 a2 (y 0) (y 1) (y 2)

abbrev G3m : Vec Ideal S2x3968x130 .f32 :=
  G3 (m ((c : Thread nD τ).loc main_arg0)) (m ((c : Thread nD τ).loc main_arg1)) (m ((c : Thread nD τ).loc main_arg2))

theorem scores_block (h : Fin 16) (r : Fin 128) :
    Value.scores (grid0.coords t) (iblk m c 0 t) (iblk m c 1 t) (iblk m c 2 t) h r
      = scoresOf (m ((c : Thread nD τ).loc main_arg0)) (m ((c : Thread nD τ).loc main_arg1)) (m ((c : Thread nD τ).loc main_arg2))
          (group t) (row (tile t) r) h := by
  funext x
  unfold Value.scores scoresOf
  refine if_congr Iff.rfl ?_ rfl
  rw [iblk2_apply m c t]
  congr 1
  refine Finset.sum_congr rfl fun d _ => ?_
  rw [iblk1_apply m c t, iblk0_apply m c t]
  congr 3
  exact Fin.ext (by show 2048 * (group t).val + (128 * h.val + d.val) = 2048 * (group t).val + 128 * h.val + d.val; omega)

/-- What the body leaves at a grid point is the point's block of the results. -/
theorem block_value (r : Fin 128) (b : Fin 130) :
    (outsAt0 m c t) (ix3 0 r b) = G3m m c (ix3 (group t) (row (tile t) r) b) := by
  refine (Value.body_apply c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) r b).trans ?_
  simp only [scores_block m c t]
  rfl

/-- Every index of the array lies in the block of some grid point. -/
theorem cover3 (y : S2x3968x130.Idx) : ∃ t : Fin cfg0.N, (cfg0.win 3).flush t = true ∧ y ∈ ((cfg0.win 3).blk t).view.set := by
  have h0 : (y 0).val < 2 := (y 0).isLt
  have h1 : (y 1).val < 3968 := (y 1).isLt
  have h2 : (y 2).val < 130 := (y 2).isLt
  have hN : cfg0.N = 62 := N_0
  have hq : 31 * (y 0).val + (y 1).val / 128 < cfg0.N := by
    rw [hN]; generalize (y 0).val = a at h0 ⊢; generalize (y 1).val = b at h1 ⊢; omega
  refine ⟨⟨31 * (y 0).val + (y 1).val / 128, hq⟩, flush0_3 _, ?_⟩
  have h := ((cfg0.win 3).blk ⟨31 * (y 0).val + (y 1).val / 128, hq⟩).view.emb_mem_set
    (ix3 0 ⟨(y 1).val % 128, by omega⟩ ⟨(y 2).val, h2⟩ : S1x128x130.Idx)
  rw [emb3] at h
  have hp := point_of ⟨31 * (y 0).val + (y 1).val / 128, hq⟩
  have e : (ix3 (group ⟨31 * (y 0).val + (y 1).val / 128, hq⟩) (row (tile ⟨31 * (y 0).val + (y 1).val / 128, hq⟩) ⟨(y 1).val % 128, by omega⟩) ⟨(y 2).val, h2⟩ : S2x3968x130.Idx) = y := by
    funext a
    fin_cases a
    · refine Fin.ext (hp.1.trans ?_)
      show (31 * (y 0).val + (y 1).val / 128) / 31 = (y 0).val
      omega
    · refine Fin.ext ((congrArg (fun n => 128 * n + (y 1).val % 128) hp.2).trans ?_)
      show 128 * ((31 * (y 0).val + (y 1).val / 128) % 31) + (y 1).val % 128 = (y 1).val
      omega
    · rfl
  rwa [e] at h

/-- THE ARRAY after the run. -/
theorem final3 : (dats m 0 c).arrAt 3 cfg0.N = G3m m c := by
  refine (dats m 0 c).arrAt_eq_of_cover 3 (G3m m c) (fun t _ => ?_) cover3
  funext j
  show (dats m 0 c).after 3 t j = G3m m c (((cfg0.win 3).blk t).view.emb j)
  rw [after0_3]
  have hj : ∀ j' : S1x128x130.Idx, ∃ (r : Fin 128) (b : Fin 130), j' = ix3 0 r b := fun j' =>
    ⟨j' 1, j' 2, by
      funext a
      fin_cases a
      · exact Subsingleton.elim (α := Fin 1) _ _
      · rfl
      · rfl⟩
  obtain ⟨r, b, rfl⟩ := hj j
  rw [emb3 t]
  exact block_value m c t r b

end Cert.ScoresIdeal.Array
end
-- ==== Proof.ScoresRef.lean ====
/- The semantic scores' reference at an index, over the extended reals: the same softmax weights, summed over the heads. -/
module

public import proofs.«01_k».proof.Proof.ScoresArray
public import proofs.«01_k».proof.Proof.RefValue
public import proofs.«01_k».proof.Proof.Gen.ScoresReferenceIdeal.Value

@[expose] public section

set_option maxRecDepth 16384

noncomputable section

namespace Cert.ScoresReferenceIdeal.RefValue

open Idealize.ShloMosaic Idealize.ShloMosaic.TcCoe Idealize.ShloMosaic.Tactic Idealize.ShloMosaic.Pointwise
open Cert.ScoresReferenceIdeal Cert.ScoresReferenceIdeal.Gen

section
variable (v0 : Vec Ideal S3968x4096 .bf16) (v4 : Vec Ideal S2x544x128 .bf16) (v8 : Vec Ideal S2x544x1 .f32)

/-- The queries by group, one row for each head and query. -/
def qs : FVec Ideal S2x63488x128 .bf16 :=
  shapeCast S2x63488x128 (transpose S2x16x3968x128 [1, 2, 0, 3] (shapeCast S3968x2x16x128 v0 shapeCasts_S3968x4096_S3968x2x16x128) transposes_S3968x2x16x128_p1_2_0_3_S2x16x3968x128) shapeCasts_S2x16x3968x128_S2x63488x128

/-- The compressed keys, without padding. -/
def ks : FVec Ideal S2x520x128 .bf16 :=
  shapeCast S2x520x128 (extractStridedSlice S2x4x130x128 ![0, 0, 0, 0] (shapeCast S2x4x136x128 v4 shapeCasts_S2x544x128_S2x4x136x128) slices_S2x4x136x128_o0_0_0_0_S2x4x130x128) shapeCasts_S2x4x130x128_S2x520x128

/-- Their scales. -/
def kss : FVec Ideal S2x1x1x520 .f32 :=
  shapeCast S2x1x1x520 (extractStridedSlice S2x4x130 ![0, 0, 0] (shapeCast S2x4x136 v8 shapeCasts_S2x544x1_S2x4x136) slices_S2x4x136_o0_0_0_S2x4x130) shapeCasts_S2x4x130_S2x1x1x520

/-- The number of the compressed key that stands at each place. -/
def number : IVec S520 32 :=
  shapeCast S520 (addi (muli (broadcast S4x130 4#32) (iota .tc S4x130 32 [1] iota_S4x130_d1_w32)) (iota .tc S4x130 32 [0] iota_S4x130_d0_w32)) shapeCasts_S4x130_S520

/-- Which compressed keys a query sees. -/
def seen (v17 : IVec S520 32) : IVec S3968x520 1 :=
  cmpi .sle (broadcastTo S3968x520 (subi (addi (muli (broadcast S1x520 16#32) (shapeCast S1x520 v17 shapeCasts_S520_S1x520)) (broadcast S1x520 32#32)) (broadcast S1x520 1#32)) broadcasts_S1x520_S3968x520)
    (addi (broadcast S3968x520 4352#32) (iota .tc S3968x520 32 [0] iota_S3968x520_d0_w32))

/-- The scores. -/
def dots (v3 : FVec Ideal S2x63488x128 .bf16) (v7 : FVec Ideal S2x520x128 .bf16) (v11 : FVec Ideal S2x1x1x520 .f32) : FVec Ideal S2x16x3968x520 .f32 :=
  mulf (shapeCast S2x16x3968x520 (matmul dot_S2x63488x128_S2x520x128_S2x63488x520_2_2_1_1_0_0 none v3 v7 (constant S2x63488x520 .f32 0x00000000#32)) shapeCasts_S2x63488x520_S2x16x3968x520)
    (broadcastTo S2x16x3968x520 v11 broadcasts_S2x1x1x520_S2x16x3968x520)

/-- The scores, -∞ where the key is not seen. -/
def masked (v29 : IVec S3968x520 1) (v33 : FVec Ideal S2x16x3968x520 .f32) : FVec Ideal S2x16x3968x520 .f32 :=
  select (broadcastTo S2x16x3968x520 (shapeCast S1x1x3968x520 v29 shapeCasts_S3968x520_S1x1x3968x520) broadcasts_S1x1x3968x520_S2x16x3968x520) v33
    (broadcast S2x16x3968x520 (Scalar.ofBits .f32 0xFF800000#32 : Ideal .f32))

/-- The largest score of each query. -/
def mx (v37 : FVec Ideal S2x16x3968x520 .f32) : FVec Ideal S2x16x3968 .f32 :=
  multiReduction .maximumf [3] S2x16x3968 v37 0xFF800000#32 reduces_S2x16x3968x520_S2x16x3968 (.inl rfl) rfl

/-- The exponentials at the largest score rounded up. -/
def ex (v37 : FVec Ideal S2x16x3968x520 .f32) (v38 : FVec Ideal S2x16x3968 .f32) : FVec Ideal S2x16x3968x520 .f32 :=
  exp2 (subf v37 (broadcastTo S2x16x3968x520 (ceil (shapeCast S2x16x3968x1 v38 shapeCasts_S2x16x3968_S2x16x3968x1)) broadcasts_S2x16x3968x1_S2x16x3968x520))

theorem pay2_eq : k0_pay2 v0 v4 v8 = ex (masked (seen number) (dots (qs v0) (ks v4) (kss v8))) (mx (masked (seen number) (dots (qs v0) (ks v4) (kss v8)))) := rfl

theorem qs_apply (g : Fin 2) (h : Fin 16) (s : Fin 3968) (d : Fin 128) :
    qs v0 (ix3 g ⟨h.val * 3968 + s.val, by omega⟩ d) = v0 (ix2 s ⟨2048 * g.val + 128 * h.val + d.val, by omega⟩) := by
  pointwise [qs]
  congr 2
  exact Fin.ext (by show g.val * 2048 + h.val * 128 + d.val = 2048 * g.val + 128 * h.val + d.val; omega)

theorem ks_apply (g : Fin 2) (x : Fin 520) (d : Fin 128) : ks v4 (ix3 g x d) = v4 (ix3 g (Scores.padded x) d) := by
  pointwise [ks]
  congr 2
  exact Fin.ext (by show x.val / 130 * 136 + x.val % 130 = 136 * (x.val / 130) + x.val % 130; omega)

theorem kss_apply (g : Fin 2) (x : Fin 520) : kss v8 (ix4 g 0 0 x) = v8 (ix3 g (Scores.padded x) 0) := by
  pointwise [kss]
  congr 2
  exact Fin.ext (by show x.val / 130 * 136 + x.val % 130 = 136 * (x.val / 130) + x.val % 130; omega)

theorem number_apply (x : Fin 520) : number (ix1 x) = BitVec.ofNat 32 (4 * (x.val % 130) + x.val / 130) := by
  have e : number (ix1 x) = 4#32 * BitVec.ofNat 32 (x.val % 130) + BitVec.ofNat 32 (x.val / 130) := by
    pointwise [number]
    rfl
  rw [e]
  have hx := x.isLt
  apply BitVec.eq_of_toNat_eq
  simp only [BitVec.toNat_add, BitVec.toNat_mul, BitVec.toNat_ofNat]
  omega

theorem seen_apply (s : Fin 3968) (x : Fin 520) :
    seen number (ix2 s x) = BitVec.ofBool (decide (Scores.visible (Scores.padded x).val s.val)) := by
  have hn := number_apply x
  generalize number = v at hn ⊢
  have e : seen v (ix2 s x) = IntOp.cmpi .sle (16#32 * v (ix1 x) + 32#32 - 1#32) (4352#32 + BitVec.ofNat 32 s.val) := by
    pointwise [seen]
    rfl
  have hx := x.isLt
  have hs := s.isLt
  have e1 : 16#32 * BitVec.ofNat 32 (4 * (x.val % 130) + x.val / 130) + 32#32 - 1#32 = BitVec.ofNat 32 (16 * (4 * (x.val % 130) + x.val / 130) + 31) := by
    apply BitVec.eq_of_toNat_eq
    simp only [BitVec.toNat_sub, BitVec.toNat_add, BitVec.toNat_mul, BitVec.toNat_ofNat]
    omega
  have e2 : 4352#32 + BitVec.ofNat 32 s.val = BitVec.ofNat 32 (4352 + s.val) := by
    apply BitVec.eq_of_toNat_eq
    simp only [BitVec.toNat_add, BitVec.toNat_ofNat]
    omega
  rw [e, hn, e1, e2, Cert.ScoresIdeal.Value.le_nat _ _ (by omega) (by omega)]
  have p1 : (Scores.padded x).val % 136 = x.val % 130 := by simp only [Scores.padded]; omega
  have p2 : (Scores.padded x).val / 136 = x.val / 130 := by simp only [Scores.padded]; omega
  simp only [Scores.visible, p1, p2]

theorem dots_apply (v3 : FVec Ideal S2x63488x128 .bf16) (v7 : FVec Ideal S2x520x128 .bf16) (v11 : FVec Ideal S2x1x1x520 .f32)
    (g : Fin 2) (h : Fin 16) (s : Fin 3968) (x : Fin 520) :
    dots v3 v7 v11 (ix4 g h s x) = (∑ d : Fin 128, v3 (ix3 g ⟨h.val * 3968 + s.val, by omega⟩ d) * v7 (ix3 g x d)) * v11 (ix4 g 0 0 x) := by
  pointwise [dots]

theorem masked_read (v29 : IVec S3968x520 1) (v33 : FVec Ideal S2x16x3968x520 .f32) (g : Fin 2) (h : Fin 16) (s : Fin 3968) (x : Fin 520) :
    masked v29 v33 (ix4 g h s x) = Scalar.select (v29 (ix2 s x)) (v33 (ix4 g h s x)) (Ideal.ofBits FTy.f32 4286578688#32) := by
  pointwise [masked]

/-- The scores at an index are the kernel's, at the row that holds the compressed key. -/
theorem masked_apply (g : Fin 2) (h : Fin 16) (s : Fin 3968) (x : Fin 520) :
    masked (seen number) (dots (qs v0) (ks v4) (kss v8)) (ix4 g h s x)
      = Cert.ScoresIdeal.Array.scoresOf v0 v4 v8 g s h (Scores.padded x) := by
  rw [masked_read, seen_apply, Cert.ScoresIdeal.Value.choose, Cert.ScoresIdeal.Value.ofBits_bot, dots_apply, kss_apply]
  unfold Cert.ScoresIdeal.Array.scoresOf
  refine if_congr Iff.rfl ?_ rfl
  congr 1
  refine Finset.sum_congr rfl fun d _ => ?_
  rw [qs_apply, ks_apply, mul_comm]

theorem mx_read (v37 : FVec Ideal S2x16x3968x520 .f32) (g : Fin 2) (h : Fin 16) (s : Fin 3968) :
    mx v37 (ix3 g h s) = Finset.univ.fold max (Ideal.ofBits FTy.f32 4286578688#32) fun x : Fin 520 => v37 (ix4 g h s x) :=
  Cert.ReferenceIdeal.RefValue.max_last v37 0xFF800000#32 reduces_S2x16x3968x520_S2x16x3968 (.inl rfl) rfl g h s

theorem ex_read (v37 : FVec Ideal S2x16x3968x520 .f32) (v38 : FVec Ideal S2x16x3968 .f32) (g : Fin 2) (h : Fin 16) (s : Fin 3968) (x : Fin 520) :
    ex v37 v38 (ix4 g h s x) = Flash.e2 (v37 (ix4 g h s x) - Ideal.liftRound Int.ceil (v38 (ix3 g h s))) := by
  pointwise [ex]
  rfl

/-- The exponentials at an index. -/
theorem pay2_apply (g : Fin 2) (h : Fin 16) (s : Fin 3968) (x : Fin 520) :
    k0_pay2 v0 v4 v8 (ix4 g h s x)
      = Flash.e2 (Cert.ScoresIdeal.Array.scoresOf v0 v4 v8 g s h (Scores.padded x)
          - Flash.up (Finset.univ.sup fun x : Fin 520 => Cert.ScoresIdeal.Array.scoresOf v0 v4 v8 g s h (Scores.padded x))) := by
  have e : (fun x : Fin 520 => masked (seen number) (dots (qs v0) (ks v4) (kss v8)) (ix4 g h s x))
      = fun x => Cert.ScoresIdeal.Array.scoresOf v0 v4 v8 g s h (Scores.padded x) := funext (masked_apply v0 v4 v8 g h s)
  rw [pay2_eq, ex_read, mx_read, e, masked_apply, Cert.ReferenceIdeal.RefValue.mx_gen]
end

section
variable (v43 : FVec Ideal S2x16x3968x520 .f32) (v50 : FVec Ideal S2x3968x520 .f32)

/-- The heads' weights, summed. -/
def tot : FVec Ideal S2x3968x520 .f32 :=
  multiReduction .add [1] S2x3968x520 (mulf v43 (broadcastTo S2x16x3968x520 (divf (broadcast S2x16x3968x1 (Scalar.ofBits .f32 0x3F800000#32 : Ideal .f32))
    (shapeCast S2x16x3968x1 (multiReduction .add [3] S2x16x3968 v43 0x00000000#32 reduces_S2x16x3968x520_S2x16x3968 (.inl rfl) rfl) shapeCasts_S2x16x3968_S2x16x3968x1)) broadcasts_S2x16x3968x1_S2x16x3968x520))
    0x00000000#32 reduces_S2x16x3968x520_S2x3968x520 (.inl rfl) rfl

/-- The greatest of the five weights that a block meets. -/
def bst : FVec Ideal S2x3968x130 .f32 :=
  maximumf (maximumf (maximumf (maximumf
    (concatenate S2x3968x130 2 [⟨S2x3968x1, broadcast S2x3968x1 (Scalar.ofBits .f32 0x00000000#32 : Ideal .f32)⟩,
      ⟨S2x3968x129, extractStridedSlice S2x3968x129 ![0, 0, 0] (extractStridedSlice S2x3968x130 ![0, 0, 390] v50 slices_S2x3968x520_o0_0_390_S2x3968x130) slices_S2x3968x130_o0_0_0_S2x3968x129⟩] concatenates_S2x3968x1_S2x3968x129_S2x3968x130_d2)
    (extractStridedSlice S2x3968x130 ![0, 0, 0] v50 slices_S2x3968x520_o0_0_0_S2x3968x130))
    (extractStridedSlice S2x3968x130 ![0, 0, 130] v50 slices_S2x3968x520_o0_0_130_S2x3968x130))
    (extractStridedSlice S2x3968x130 ![0, 0, 260] v50 slices_S2x3968x520_o0_0_260_S2x3968x130))
    (extractStridedSlice S2x3968x130 ![0, 0, 390] v50 slices_S2x3968x520_o0_0_390_S2x3968x130)

theorem pay1_eq : k0_pay1 v43 = bst (tot v43) := rfl

theorem tot_apply (g : Fin 2) (s : Fin 3968) (x : Fin 520) :
    tot v43 (ix3 g s x) = ∑ h : Fin 16, v43 (ix4 g h s x) * Ideal.div 1 (∑ y : Fin 520, v43 (ix4 g h s y)) := by
  pointwise [tot]

theorem bst_apply (g : Fin 2) (s : Fin 3968) (b : Fin 130) :
    bst v50 (ix3 g s b) = max (max (max (max (if hb : b.val = 0 then 0 else v50 (ix3 g s ⟨390 + (b.val - 1), by omega⟩)) (v50 (ix3 g s ⟨b.val, by omega⟩)))
      (v50 (ix3 g s ⟨130 + b.val, by omega⟩))) (v50 (ix3 g s ⟨260 + b.val, by omega⟩))) (v50 (ix3 g s ⟨390 + b.val, by omega⟩)) := by
  pointwise [bst]
  simp only [Nat.lt_one_iff]
end

/-- THE REFERENCE'S RESULT is the kernel's. -/
theorem G3_eq (a0 : Vec Ideal S3968x4096 .bf16) (a1 : Vec Ideal S2x544x128 .bf16) (a2 : Vec Ideal S2x544x1 .f32) :
    Value.G3 a0 a1 a2 = Cert.ScoresIdeal.Array.G3 a0 a1 a2 := by
  have ht : ∀ (g : Fin 2) (s : Fin 3968) (x : Fin 520), tot (k0_pay2 a0 a1 a2) (ix3 g s x) = Cert.ScoresIdeal.Array.total a0 a1 a2 g s (Scores.padded x) := fun g s x => by
    rw [tot_apply]
    refine Finset.sum_congr rfl fun h _ => ?_
    rw [Scores.share_comp (Cert.ScoresIdeal.Array.scoresOf a0 a1 a2 g s h) Scores.padded Scores.padded_injective
      (fun r hr => if_neg (Scores.not_visible_pad r s.val s.isLt hr)) x]
    simp only [pay2_apply]
    rfl
  have hp : ∀ (p : ℕ) (b : ℕ) (hb : b < 130) (hq : 130 * p + b < 520), Scores.padded ⟨130 * p + b, hq⟩ = ⟨136 * p + b, by omega⟩ := fun p b hb hq =>
    Fin.ext (by show 136 * ((130 * p + b) / 130) + (130 * p + b) % 130 = 136 * p + b; omega)
  have hi : ∀ y : S2x3968x130.Idx, ∃ (g : Fin 2) (s : Fin 3968) (b : Fin 130), y = ix3 g s b := fun y =>
    ⟨y 0, y 1, y 2, by funext a; fin_cases a <;> rfl⟩
  funext y
  obtain ⟨g, s, b, rfl⟩ := hi y
  show k0_pay1 (k0_pay2 a0 a1 a2) (ix3 g s b) = Cert.ScoresIdeal.Array.result a0 a1 a2 g s b
  rw [pay1_eq, bst_apply]
  simp only [ht]
  have q0 := hp 0 b.val b.isLt (by omega)
  have q1 := hp 1 b.val b.isLt (by omega)
  have q2 := hp 2 b.val b.isLt (by omega)
  have q3 := hp 3 b.val b.isLt (by omega)
  have q4 := hp 3 (b.val - 1) (by omega) (by omega)
  simp only [Nat.mul_zero, Nat.zero_add, Nat.mul_one, Nat.reduceMul] at q0 q1 q2 q3 q4
  rw [q0, q1, q2, q3, q4]
  rfl

end Cert.ScoresReferenceIdeal.RefValue
end
-- ==== Proof.lean ====
module

public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Loops
public import proofs.«01_k».proof.Proof.Gen.QkvIdeal.Frame
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Loops
public import proofs.«01_k».proof.Proof.Gen.Qkv.Frame
public import proofs.«01_k».proof.Proof.Gen.NormReferenceIdeal
public import proofs.«01_k».proof.Proof.Gen.NormReferenceIdeal.Value
public import proofs.«01_k».proof.Proof.Gen.OutIdeal.Points
public import proofs.«01_k».proof.Proof.Gen.OutIdeal.Skeleton
public import proofs.«01_k».proof.Proof.Gen.Out.Launch
public import proofs.«01_k».proof.Proof.Gen.Out.Points
public import proofs.«01_k».proof.Proof.Gen.Out.Skeleton
public import proofs.«01_k».proof.Proof.Gen.Out
public import proofs.«01_k».proof.Proof.Gen.OutIdeal
public import proofs.«01_k».proof.Proof.Gen.OutIdeal.Launch
public import proofs.«01_k».proof.Proof.Gen.OutIdeal.Frame
public import proofs.«01_k».proof.Proof.Gen.Out.Frame
public import proofs.«01_k».proof.Proof.Gen.OutReferenceIdeal
public import proofs.«01_k».proof.Proof.Gen.OutReferenceIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal.Frame
public import proofs.«01_k».proof.Proof.Gen.ReferenceIdeal.Value
public import proofs.«01_k».proof.Proof.Table
public import proofs.«01_k».proof.Proof.TableIdeal
public import proofs.«01_k».proof.Proof.ArrayIdeal
public import proofs.«01_k».proof.Proof.RefValue
public import proofs.«01_k».proof.Proof.RefQuant
public import proofs.«01_k».proof.Proof.InRange
public import proofs.«01_k».proof.Proof.OutFrame
public import proofs.«01_k».proof.Proof.QkvFrame
public import proofs.«01_k».proof.Proof.QkvFrameIdeal
public import proofs.«01_k».proof.Proof.QkvTrack
public import proofs.«01_k».proof.Proof.NormRef
public import proofs.«01_k».proof.Proof.NormInRange
public import proofs.«01_k».proof.Proof.OutTrack
public import proofs.«01_k».proof.Proof.OutRef
public import proofs.«01_k».proof.Proof.Gen.Scores
public import proofs.«01_k».proof.Proof.Gen.Scores.Frame
public import proofs.«01_k».proof.Proof.Gen.ScoresIdeal.Value
public import proofs.«01_k».proof.Proof.Gen.ScoresReferenceIdeal.Value
public import proofs.«01_k».proof.Proof.ScoresRef
public import Idealize.ShloMosaic.Adequacy
public import Idealize.ShloMosaic.Init

@[expose] public section

noncomputable section

namespace Cert.Proof

open Idealize.ShloMosaic Idealize.SL.Sem Cert.Kernel

/-- The masks: the first result is compared everywhere, the two others nowhere. -/
instance factsOn : Cert.On_attn_only.Facts where
  bcast_S_S3968x4096 := by decide
  bcast_S_S2x3968x16 := by decide

theorem mask1 (a0 a1 a2 a3 a4 a5) (i) : (Cert.On_attn_only.fn (F := Ideal) a0 a1 a2 a3 a4 a5).2.1 i = 0#1 := rfl

theorem mask2 (a0 a1 a2 a3 a4 a5) (i) : (Cert.On_attn_only.fn (F := Ideal) a0 a1 a2 a3 a4 a5).2.2 i = 0#1 := rfl

/-- Under the precondition every row of results fits. -/
theorem fits (m : (ℓ : Loc Cert.KernelIdeal.nD Cert.KernelIdeal.τ Cert.KernelIdeal.sig) → Buf (Elt Ideal) ℓ)
    (hp : Cert.Pre_KernelIdeal_in_range (hPre_in_range := Cert.KernelIdeal.Array.factsPre) m) (c : Dev Cert.KernelIdeal.nD) : Cert.KernelIdeal.Array.Fits m c := by
  obtain ⟨p0, p1, p2, p3, p4⟩ := hp c
  exact Cert.KernelIdeal.Array.row_fits _ _ _ _ _ _ (Cert.KernelIdeal.Array.pre0 _ _ _ _ _ _ p0) (Cert.KernelIdeal.Array.pre1 _ _ _ _ _ _ p1)
    (Cert.KernelIdeal.Array.pre3 _ _ _ _ _ _ p3) (Cert.KernelIdeal.Array.pre2 _ _ _ _ _ _ p2) (Cert.KernelIdeal.Array.pre4 _ _ _ _ _ _ p4)

/-- Under the normalising call's precondition its arguments are what its run asks. -/
theorem norm_fit (m : (ℓ : Loc Cert.QkvIdeal.nD Cert.QkvIdeal.τ Cert.QkvIdeal.sig) → Buf (Elt Ideal) ℓ)
    (hp : Cert.Pre_QkvIdeal_norm_in_range (hPre_norm_in_range := Cert.QkvIdeal.Pre.factsPre) m) : Cert.QkvIdeal.Track.Fit m := fun c =>
  fun j => Cert.QkvIdeal.Pre.pre _ _ _ _ _ _ _ (hp c) _

theorem claim : Cert.Claim := ⟨Cert.Kernel.Gen.facts, Cert.KernelIdeal.Gen.facts, Cert.ReferenceIdeal.Gen.facts,
  Cert.Out.Gen.facts, Cert.OutIdeal.Gen.facts, Cert.OutReferenceIdeal.Gen.facts,
  Cert.Scores.Gen.facts, Cert.ScoresIdeal.Gen.facts, Cert.ScoresReferenceIdeal.Gen.facts,
  Cert.Qkv.Gen.facts, Cert.QkvIdeal.Gen.facts, Cert.NormReferenceIdeal.Gen.facts, Cert.KernelIdeal.Array.factsPre, Cert.QkvIdeal.Pre.factsPre, factsOn,
  fun m g _ => Cert.Kernel.Gen.frame m g (Cert.Kernel.Table.ok m) (Cert.Kernel.Table.hyps m _),
  fun m g _ => Cert.KernelIdeal.Gen.frame m g (Cert.KernelIdeal.Table.ok m) (Cert.KernelIdeal.Table.hyps m _),
  fun m g _ => Cert.KernelIdeal.Gen.frame m g (Cert.KernelIdeal.Table.ok m) (Cert.KernelIdeal.Table.hyps m _),
  fun m g _ => Cert.ReferenceIdeal.Gen.frame m g,
  fun m g _ => Cert.ReferenceIdeal.Gen.frame m g,
  fun m g _ => Cert.Out.Frame.frame m g,
  fun m g _ => (θ_run _ _ _).mono (fun _ h => ⟨fun c => (h.1 c).2, h.2⟩) (Cert.OutIdeal.Track.run m g),
  fun m g _ => Cert.OutReferenceIdeal.Gen.frame m g,
  fun m g _ => Cert.Scores.Gen.frame m g,
  fun m g _ => Cert.ScoresIdeal.Gen.frame m g,
  fun m g _ => Cert.ScoresReferenceIdeal.Gen.frame m g,
  fun m g _ => Cert.Qkv.Frame.frame m g,
  fun m g _ => Cert.QkvIdeal.Frame.frame m g,
  fun m g _ => Cert.QkvIdeal.Frame.frame m g,
  fun m g _ => Cert.NormReferenceIdeal.Gen.frame m g,
  fun m g _ => Cert.NormReferenceIdeal.Gen.frame m g,
  trivial,
  fun m g m' g' _ hargs => by
    have hO := Cert.KernelIdeal.Table.ok m
    have hH := Cert.KernelIdeal.Table.hyps m hO
    refine ⟨fun c => Cert.KernelIdeal.Array.G6m m c, fun c => m _, fun c => m _, ?_, ?_⟩
    · refine (θ_run _ _ _).mono (fun r h c => ?_)
        (θ_run_and (Cert.KernelIdeal.Gen.run_main m g hO hH) (Cert.KernelIdeal.Gen.unchanged m g hO hH))
      refine ⟨fun i _ => ?_, fun i e => ?_, fun i e => ?_, h.2 c⟩
      · exact congrFun (((h.1 c).1 6).trans (Cert.KernelIdeal.Array.final6 m hO hH c)) i
      · exact absurd ((mask1 _ _ _ _ _ _ i).symm.trans e) (by decide)
      · exact absurd ((mask2 _ _ _ _ _ _ i).symm.trans e) (by decide)
    · refine (θ_run _ _ _).mono (fun r h c => ?_) (Cert.ReferenceIdeal.Value.run m' g')
      obtain ⟨h0, _, _, hu⟩ := h c
      refine ⟨fun i _ => ?_, fun i e => ?_, fun i e => ?_, hu⟩
      · obtain ⟨e0, e1, e2, e3, e4, e5⟩ := hargs c
        refine congrFun (h0.trans ?_) i
        rw [Cert.ReferenceIdeal.RefValue.G6_eq, e0, e1, e2, e3, e4, e5]
      · exact absurd ((mask1 _ _ _ _ _ _ i).symm.trans e) (by decide)
      · exact absurd ((mask2 _ _ _ _ _ _ i).symm.trans e) (by decide),
  fun m g m' g' hp hargs => by
    have hO := Cert.KernelIdeal.Table.ok m
    have hH := Cert.KernelIdeal.Table.hyps m hO
    have hf := fits m hp
    refine ⟨fun c => Cert.KernelIdeal.Array.G6m m c, fun c => Cert.KernelIdeal.Array.G7m m c, fun c => Cert.KernelIdeal.Array.G8m m c, ?_, ?_⟩
    · refine (θ_run _ _ _).mono (fun r h c => ?_)
        (θ_run_and (Cert.KernelIdeal.Gen.run_main m g hO hH) (Cert.KernelIdeal.Gen.unchanged m g hO hH))
      exact ⟨((h.1 c).1 6).trans (Cert.KernelIdeal.Array.final6 m hO hH c),
        ((h.1 c).1 7).trans (Cert.KernelIdeal.Array.final7 m hO hH c (hf c)),
        ((h.1 c).1 8).trans (Cert.KernelIdeal.Array.final8 m hO hH c (hf c)), h.2 c⟩
    · refine (θ_run _ _ _).mono (fun r h c => ?_) (Cert.ReferenceIdeal.Value.run m' g')
      obtain ⟨h0, h1, h2, hu⟩ := h c
      obtain ⟨e0, e1, e2, e3, e4, e5⟩ := hargs c
      refine ⟨h0.trans ?_, h1.trans ?_, h2.trans ?_, hu⟩
      · rw [Cert.ReferenceIdeal.RefValue.G6_eq, e0, e1, e2, e3, e4, e5]
      · rw [Cert.ReferenceIdeal.RefQuant.G7_eq, e0, e1, e2, e3, e4, e5]
      · rw [Cert.ReferenceIdeal.RefQuant.G8_eq, e0, e1, e2, e3, e4, e5],
  trivial,
  fun m g m' g' _ hargs => by
    refine ⟨fun c => Cert.OutIdeal.Track.G m c, ?_, ?_⟩
    · exact (θ_run _ _ _).mono (fun _ h => h.1) (Cert.OutIdeal.Track.run m g)
    · refine (θ_run _ _ _).mono (fun r h c => ?_) (Cert.OutReferenceIdeal.Value.run m' g')
      obtain ⟨e0, e1, e2, e3, e4⟩ := hargs c
      refine ⟨(h c).1.trans ?_, (h c).2⟩
      rw [Cert.OutReferenceIdeal.RefValue.G5_eq, e0, e1, e2, e3, e4],
  trivial,
  fun m g m' g' _ hargs => by
    refine ⟨fun c => Cert.ScoresIdeal.Array.G3m m c, ?_, ?_⟩
    · exact (θ_run _ _ _).mono (fun _ h c => ⟨(h c).1.trans (Cert.ScoresIdeal.Array.final3 m c), (h c).2⟩) (Cert.ScoresIdeal.Value.run_blocks m g)
    · refine (θ_run _ _ _).mono (fun r h c => ?_) (Cert.ScoresReferenceIdeal.Value.run m' g')
      obtain ⟨e0, e1, e2⟩ := hargs c
      refine ⟨(h c).1.trans ?_, (h c).2⟩
      rw [Cert.ScoresReferenceIdeal.RefValue.G3_eq, e0, e1, e2],
  trivial,
  fun m g m' g' hp hargs => by
    refine ⟨fun c => Cert.QkvIdeal.Pieces.GQ (Cert.QkvIdeal.Track.X m c) (Cert.QkvIdeal.Track.W m c),
      fun c => Cert.QkvIdeal.Pieces.GS (Cert.QkvIdeal.Track.X m c) (Cert.QkvIdeal.Track.W m c), Cert.QkvIdeal.Track.run m g (norm_fit m hp), ?_⟩
    refine (θ_run _ _ _).mono (fun r h c => ?_) (Cert.NormReferenceIdeal.Value.run m' g')
    obtain ⟨e0, e1, -⟩ := hargs c
    refine ⟨(h c).1.trans ?_, (h c).2.1.trans ?_, (h c).2.2⟩
    · rw [Cert.NormReferenceIdeal.RefNorm.G2_eq, e0, e1]
    · rw [Cert.NormReferenceIdeal.RefNorm.G3_eq, e0, e1]⟩

end Cert.Proof

end
